-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal) (hPre_in_range := hPre_in_range)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S10000x8 : Shape := ⟨2, ![10000, 8]⟩
abbrev S10000x2 : Shape := ⟨2, ![10000, 2]⟩
abbrev S2x320000 : Shape := ⟨2, ![2, 320000]⟩
abbrev S10000 : Shape := ⟨1, ![10000]⟩
abbrev S3x32 : Shape := ⟨2, ![3, 32]⟩
abbrev S7x32 : Shape := ⟨2, ![7, 32]⟩
abbrev S8x64 : Shape := ⟨2, ![8, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_

variable [Facts]

def fn {F : FTy → Type} [FloatOps F] (main_arg0 : FVec F S10000x8 .f32) (main_arg1 : IVec S10000x2 32) (main_arg2 : IVec S2x320000 32) (main_arg3 : IVec S10000 32) (main_arg4 : FVec F S3x32 .f32) (main_arg5 : FVec F S7x32 .f32) (main_arg6 : FVec F S8x64 .f32) (main_arg7 : FVec F S64 .f32) (main_arg8 : FVec F S64x64 .f32) (main_arg9 : FVec F S64 .f32) (main_arg10 : FVec F S128x128 .f32) (main_arg11 : FVec F S128 .f32) (main_arg12 : FVec F S128 .f32) (main_arg13 : FVec F S128 .f32) (main_arg14 : FVec F S256x128 .f32) (main_arg15 : FVec F S128 .f32) (main_arg16 : FVec F S128 .f32) (main_arg17 : FVec F S128 .f32) (main_arg18 : FVec F S128x64 .f32) (main_arg19 : FVec F S64 .f32) (main_arg20 : FVec F S64x1 .f32) (main_arg21 : FVec F S1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg2 main_v0
  let main_c_0 : IVec S_ 32 := constantI S_ 32 10000#32
  let main_v2 : IVec S2x320000 32 := broadcastInDim S2x320000 ![] bcast_S_S2x320000 main_c_0
  let main_v3 : IVec S2x320000 1 := cmpi .slt main_arg2 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_c_2 : IVec S_ 32 := constantI S_ 32 0#32
  let main_v6 : IVec S10000x2 32 := broadcastInDim S10000x2 ![] bcast_S_S10000x2 main_c_2
  let main_v7 : IVec S10000x2 1 := cmpi .sge main_arg1 main_v6
  let main_c_3 : IVec S_ 32 := constantI S_ 32 2#32
  let main_v8 : IVec S10000x2 32 := broadcastInDim S10000x2 ![] bcast_S_S10000x2 main_c_3
  let main_v9 : IVec S10000x2 1 := cmpi .slt main_arg1 main_v8
  let main_v10 : IVec S10000x2 1 := andi main_v7 main_v9
  let main_c_4 : IVec S_ 1 := constantI S_ 1 1#1
  let main_v11 : IVec S_ 1 := (fun x v => Host.reduce IntOp.andi x v reducesTo_S10000x2_S_d0_1 h_S_) main_v10 main_c_4
  let main_v12 : IVec S_ 1 := andi main_v5 main_v11
  main_v12
-- ==== Pre_in_range_finite.lean ====
abbrev S10000x8 : Shape := ⟨2, ![10000, 8]⟩
abbrev S10000x2 : Shape := ⟨2, ![10000, 2]⟩
abbrev S2x320000 : Shape := ⟨2, ![2, 320000]⟩
abbrev S10000 : Shape := ⟨1, ![10000]⟩
abbrev S3x32 : Shape := ⟨2, ![3, 32]⟩
abbrev S7x32 : Shape := ⟨2, ![7, 32]⟩
abbrev S8x64 : Shape := ⟨2, ![8, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg13 : FVec F S128 .f32) (main_arg14 : FVec F S256x128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128 .f32 := Host.absf main_arg13
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S256x128 .f32 := Host.absf main_arg14
  let main_cst_8 : FVec F S_ .f32 := constant S_ .f32 0x7F800000#32
  let main_v24 : FVec F S256x128 .f32 := broadcastInDim S256x128 ![] bcast_S_S256x128 main_cst_8
  let main_v25 : IVec S256x128 1 := cmpf .olt main_v23 main_v24
  let main_c_9 : IVec S_ 1 := constantI S_ 1 1#1
  let main_v26 : IVec S_ 1 := (fun x v => Host.reduce IntOp.andi x v reducesTo_S256x128_S_d0_1 h_S_) main_v25 main_c_9
  let main_v27 : IVec S_ 1 := andi main_v22 main_v26
  main_v27

def fn {F : FTy → Type} [FloatOps F] (main_arg0 : FVec F S10000x8 .f32) (main_arg1 : IVec S10000x2 32) (main_arg2 : IVec S2x320000 32) (main_arg3 : IVec S10000 32) (main_arg4 : FVec F S3x32 .f32) (main_arg5 : FVec F S7x32 .f32) (main_arg6 : FVec F S8x64 .f32) (main_arg7 : FVec F S64 .f32) (main_arg8 : FVec F S64x64 .f32) (main_arg9 : FVec F S64 .f32) (main_arg10 : FVec F S128x128 .f32) (main_arg11 : FVec F S128 .f32) (main_arg12 : FVec F S128 .f32) (main_arg13 : FVec F S128 .f32) (main_arg14 : FVec F S256x128 .f32) (main_arg15 : FVec F S128 .f32) (main_arg16 : FVec F S128 .f32) (main_arg17 : FVec F S128 .f32) (main_arg18 : FVec F S128x64 .f32) (main_arg19 : FVec F S64 .f32) (main_arg20 : FVec F S64x1 .f32) (main_arg21 : FVec F S1 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg2 main_v0
  let main_c_0 : IVec S_ 32 := constantI S_ 32 10000#32
  let main_v2 : IVec S2x320000 32 := broadcastInDim S2x320000 ![] bcast_S_S2x320000 main_c_0
  let main_v3 : IVec S2x320000 1 := cmpi .slt main_arg2 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_c_2 : IVec S_ 32 := constantI S_ 32 0#32
  let main_v6 : IVec S10000x2 32 := broadcastInDim S10000x2 ![] bcast_S_S10000x2 main_c_2
  let main_v7 : IVec S10000x2 1 := cmpi .sge main_arg1 main_v6
  let main_c_3 : IVec S_ 32 := constantI S_ 32 2#32
  let main_v8 : IVec S10000x2 32 := broadcastInDim S10000x2 ![] bcast_S_S10000x2 main_c_3
  let main_v9 : IVec S10000x2 1 := cmpi .slt main_arg1 main_v8
  let main_v10 : IVec S10000x2 1 := andi main_v7 main_v9
  let main_c_4 : IVec S_ 1 := constantI S_ 1 1#1
  let main_v11 : IVec S_ 1 := (fun x v => Host.reduce IntOp.andi x v reducesTo_S10000x2_S_d0_1 h_S_) main_v10 main_c_4
  let main_v12 : IVec S_ 1 := andi main_v5 main_v11
  let main_v13 : FVec F S128 .f32 := Host.absf main_arg12
  let main_cst : FVec F S_ .f32 := constant S_ .f32 0x7F800000#32
  let main_v14 : FVec F S128 .f32 := broadcastInDim S128 ![] bcast_S_S128 main_cst
  let main_v15 : IVec S128 1 := cmpf .olt main_v13 main_v14
  let main_c_5 : IVec S_ 1 := constantI S_ 1 1#1
  fn_part1 (F := F) main_arg13 main_arg14 main_v12 main_v15 main_c_5
-- ==== Kernel.lean ====
abbrev S10000x8 : Shape := ⟨2, ![10000, 8]⟩
abbrev S10000x2 : Shape := ⟨2, ![10000, 2]⟩
abbrev S2x320000 : Shape := ⟨2, ![2, 320000]⟩
abbrev S10000 : Shape := ⟨1, ![10000]⟩
abbrev S3x32 : Shape := ⟨2, ![3, 32]⟩
abbrev S7x32 : Shape := ⟨2, ![7, 32]⟩
abbrev S8x64 : Shape := ⟨2, ![8, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S10000x128 : Shape := ⟨2, ![10000, 128]⟩
abbrev S128x10000 : Shape := ⟨2, ![128, 10000]⟩
abbrev S10000x64 : Shape := ⟨2, ![10000, 64]⟩
abbrev S1x64 : Shape := ⟨2, ![1, 64]⟩
abbrev S10000x1 : Shape := ⟨2, ![10000, 1]⟩
abbrev S10000x32 : Shape := ⟨2, ![10000, 32]⟩
abbrev S1x32 : Shape := ⟨2, ![1, 32]⟩
abbrev S32 : Shape := ⟨1, ![32]⟩
abbrev S32x64 : Shape := ⟨2, ![32, 64]⟩
abbrev S64x128 : Shape := ⟨2, ![64, 128]⟩
abbrev S1x128 : Shape := ⟨2, ![1, 128]⟩
abbrev S4x10000 : Shape := ⟨2, ![4, 10000]⟩
abbrev S2x6400 : Shape := ⟨2, ![2, 6400]⟩
abbrev S_ : Shape := ⟨0, ![]⟩
abbrev S16 : Shape := ⟨1, ![16]⟩
abbrev S1x16 : Shape := ⟨2, ![1, 16]⟩
abbrev S1x1 : Shape := ⟨2, ![1, 1]⟩

abbrev nBuf : Table → Nat
  | .hbm => 27
  | .local .tc .vmem => 27
  | .local .scVector .vmem => 4
  | _ => 0

abbrev bufTy : (tb : Table) → Fin (nBuf tb) → BufTy
  | .hbm, ⟨0, _⟩ => ⟨S10000x8, .f32⟩
  | .hbm, ⟨1, _⟩ => ⟨S10000x2, .i32⟩
  | .hbm, ⟨2, _⟩ => ⟨S2x320000, .i32⟩
  | .hbm, ⟨3, _⟩ => ⟨S10000, .i32⟩
  | .hbm, ⟨4, _⟩ => ⟨S3x32, .f32⟩
  | .hbm, ⟨5, _⟩ => ⟨S7x32, .f32⟩
  | .hbm, ⟨6, _⟩ => ⟨S8x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S64x1, .f32⟩
  | .hbm, ⟨21, _⟩ => ⟨S1, .f32⟩
  | .hbm, ⟨22, _⟩ => ⟨S10000x128, .f32⟩
  | .hbm, ⟨23, _⟩ => ⟨S10000x128, .f32⟩
  | .hbm, ⟨24, _⟩ => ⟨S128x10000, .f32⟩
  | .hbm, ⟨25, _⟩ => ⟨S128x10000, .f32⟩
  | .hbm, ⟨26, _⟩ => ⟨S10000x1, .f32⟩
  | .local .tc .vmem, ⟨0, _⟩ => ⟨S10000x8, .f32⟩
  | .local .tc .vmem, ⟨1, _⟩ => ⟨S10000x2, .i32⟩
  | .local .tc .vmem, ⟨2, _⟩ => ⟨S3x32, .f32⟩
  | .local .tc .vmem, ⟨3, _⟩ => ⟨S7x32, .f32⟩
  | .local .tc .vmem, ⟨4, _⟩ => ⟨S8x64, .f32⟩
  | .local .tc .vmem, ⟨5, _⟩ => ⟨S64, .f32⟩
  | .local .tc .vmem, ⟨6, _⟩ => ⟨S64x64, .f32⟩
  | .local .tc .vmem, ⟨7, _⟩ => ⟨S64, .f32⟩
  | .local .tc .vmem, ⟨8, _⟩ => ⟨S128x128, .f32⟩
  | .local .tc .vmem, ⟨9, _⟩ => ⟨S128, .f32⟩
  | .local .tc .vmem, ⟨10, _⟩ => ⟨S128, .f32⟩
  | .local .tc .vmem, ⟨11, _⟩ => ⟨S128, .f32⟩
  | .local .tc .vmem, ⟨12, _⟩ => ⟨S256x128, .f32⟩
  | .local .tc .vmem, ⟨13, _⟩ => ⟨S128, .f32⟩
  | .local .tc .vmem, ⟨14, _⟩ => ⟨S10000x128, .f32⟩
  | .local .tc .vmem, ⟨15, _⟩ => ⟨S10000x128, .f32⟩
  | .local .tc .vmem, ⟨16, _⟩ => ⟨S128x10000, .f32⟩
  | .local .tc .vmem, ⟨17, _⟩ => ⟨S10000x128, .f32⟩
  | .local .tc .vmem, ⟨18, _⟩ => ⟨S10000x128, .f32⟩
  | .local .tc .vmem, ⟨19, _⟩ => ⟨S128x10000, .f32⟩
  | .local .tc .vmem, ⟨20, _⟩ => ⟨S128, .f32⟩
  | .local .tc .vmem, ⟨21, _⟩ => ⟨S128, .f32⟩
  | .local .tc .vmem, ⟨22, _⟩ => ⟨S128x64, .f32⟩
  | .local .tc .vmem, ⟨23, _⟩ => ⟨S64, .f32⟩
  | .local .tc .vmem, ⟨24, _⟩ => ⟨S64x1, .f32⟩
  | .local .tc .vmem, ⟨25, _⟩ => ⟨S1, .f32⟩
  | .local .tc .vmem, ⟨26, _⟩ => ⟨S10000x1, .f32⟩
  | .local .scVector .vmem, ⟨0, _⟩ => ⟨S4x10000, .f32⟩
  | .local .scVector .vmem, ⟨1, _⟩ => ⟨S4x10000, .f32⟩
  | .local .scVector .vmem, ⟨2, _⟩ => ⟨S2x6400, .i32⟩
  | .local .scVector .vmem, ⟨3, _⟩ => ⟨S2x6400, .i32⟩
  | _, _ => ⟨S10000x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0_0 : Ref sig .tc := ⟨.hbm, 22, rfl⟩
abbrev main_v0_1 : Ref sig .tc := ⟨.hbm, 23, rfl⟩
abbrev main_v0_2 : Ref sig .tc := ⟨.hbm, 24, rfl⟩
abbrev main_v1 : Ref sig .tc := ⟨.hbm, 25, rfl⟩
abbrev main_v2 : Ref sig .tc := ⟨.hbm, 26, rfl⟩
abbrev main_v0_2_scv : Ref sig .scVector := ⟨.hbm, 24, rfl⟩
abbrev main_arg2_scv : Ref sig .scVector := ⟨.hbm, 2, rfl⟩
abbrev main_v1_scv : Ref sig .scVector := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S10000x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S10000x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x10000 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_16_r0 : BitVec 32 := 0#32
  ![v2.toNat, 0]
@[reducible] def k1_t1_loop : Scf.Loop 32 :=
  let c0_i32_0 : BitVec 32 := 0#32
  let c625_i32 : BitVec 32 := 625#32
  let v4 : BitVec 32 := Scalar.addi c0_i32_0 c625_i32
  let c1_i32 : BitVec 32 := 1#32
  ⟨c0_i32_0, v4, c1_i32⟩
def k1_off2 (k1_t1 : Fin k1_t1_loop.trips) : Fin 2 → Nat :=
  let c0_i32_16 : BitVec 32 := 0#32
  let v15 : Index := Scalar.indexCast c0_i32_16
  let c0_i32_0 : BitVec 32 := 0#32
  let c1_i32 : BitVec 32 := 1#32
  let arg11 : BitVec 32 := Scf.iv c0_i32_0 c1_i32 k1_t1
  let c16_i32 : BitVec 32 := 16#32
  let v14 : BitVec 32 := Scalar.muli arg11 c16_i32
  let v16 : Index := Scalar.indexCast v14
  ![0, v16.toNat]
def k1_off3 (k1_t1 : Fin k1_t1_loop.trips) : Fin 2 → Nat :=
  let c1_i32_18 : BitVec 32 := 1#32
  let v19 : Index := Scalar.indexCast c1_i32_18
  let c0_i32_0 : BitVec 32 := 0#32
  let c1_i32 : BitVec 32 := 1#32
  let arg11 : BitVec 32 := Scf.iv c0_i32_0 c1_i32 k1_t1
  let c16_i32_17 : BitVec 32 := 16#32
  let v18 : BitVec 32 := Scalar.muli arg11 c16_i32_17
  let v20 : Index := Scalar.indexCast v18
  ![1, v20.toNat]
def k1_off4 (k1_t1 : Fin k1_t1_loop.trips) : Fin 2 → Nat :=
  let c2_i32_20 : BitVec 32 := 2#32
  let v23 : Index := Scalar.indexCast c2_i32_20
  let c0_i32_0 : BitVec 32 := 0#32
  let c1_i32 : BitVec 32 := 1#32
  let arg11 : BitVec 32 := Scf.iv c0_i32_0 c1_i32 k1_t1
  let c16_i32_19 : BitVec 32 := 16#32
  let v22 : BitVec 32 := Scalar.muli arg11 c16_i32_19
  let v24 : Index := Scalar.indexCast v22
  ![2, v24.toNat]
def k1_off5 (k1_t1 : Fin k1_t1_loop.trips) : Fin 2 → Nat :=
  let c3_i32_22 : BitVec 32 := 3#32
  let v27 : Index := Scalar.indexCast c3_i32_22
  let c0_i32_0 : BitVec 32 := 0#32
  let c1_i32 : BitVec 32 := 1#32
  let arg11 : BitVec 32 := Scf.iv c0_i32_0 c1_i32 k1_t1
  let c16_i32_21 : BitVec 32 := 16#32
  let v26 : BitVec 32 := Scalar.muli arg11 c16_i32_21
  let v28 : Index := Scalar.indexCast v26
  ![3, v28.toNat]
@[reducible] def k1_t2_loop : Scf.Loop 32 :=
  let c0_i32_13 : BitVec 32 := 0#32
  let c25_i32 : BitVec 32 := 25#32
  let v13 : BitVec 32 := Scalar.addi c0_i32_13 c25_i32
  let c1_i32_14 : BitVec 32 := 1#32
  ⟨c0_i32_13, v13, c1_i32_14⟩
def k1_off6 (k1_t2 : Fin k1_t2_loop.trips) : Fin 2 → Nat :=
  let c0_i32_18 : BitVec 32 := 0#32
  let c2_i32_16 : BitVec 32 := 2#32
  let c0_i32_13 : BitVec 32 := 0#32
  let c1_i32_14 : BitVec 32 := 1#32
  let arg11 : BitVec 32 := Scf.iv c0_i32_13 c1_i32_14 k1_t2
  let v14 : BitVec 32 := Scalar.muli c2_i32_16 arg11
  let c6400_i32_17 : BitVec 32 := 6400#32
  let v15 : BitVec 32 := Scalar.muli v14 c6400_i32_17
  ![0, v15.toNat]
@[reducible] def k1_t3_loop : Scf.Loop 32 :=
  let c0_i32_21 : BitVec 32 := 0#32
  let c80_i32 : BitVec 32 := 80#32
  let v18 : BitVec 32 := Scalar.addi c0_i32_21 c80_i32
  let c1_i32_22 : BitVec 32 := 1#32
  ⟨c0_i32_21, v18, c1_i32_22⟩
def k1_off7 (k1_t3 : Fin k1_t3_loop.trips) (c0_i32_37 : BitVec 32) : Fin 2 → Nat :=
  let c1_i32_38 : BitVec 32 := 1#32
  let v32 : Index := Scalar.indexCast c1_i32_38
  let c0_i32_21 : BitVec 32 := 0#32
  let c1_i32_22 : BitVec 32 := 1#32
  let arg12 : BitVec 32 := Scf.iv c0_i32_21 c1_i32_22 k1_t3
  let c80_i32_36 : BitVec 32 := 80#32
  let v30 : BitVec 32 := Scalar.muli arg12 c80_i32_36
  let v31 : BitVec 32 := Scalar.addi v30 c0_i32_37
  let v33 : Index := Scalar.indexCast v31
  ![1, v33.toNat]
def k1_off8 (k1_t3 : Fin k1_t3_loop.trips) (c0_i32_43 : BitVec 32) : Fin 2 → Nat :=
  let c0_i32_44 : BitVec 32 := 0#32
  let v52 : Index := Scalar.indexCast c0_i32_44
  let c0_i32_21 : BitVec 32 := 0#32
  let c1_i32_22 : BitVec 32 := 1#32
  let arg12 : BitVec 32 := Scf.iv c0_i32_21 c1_i32_22 k1_t3
  let c80_i32_36 : BitVec 32 := 80#32
  let v30 : BitVec 32 := Scalar.muli arg12 c80_i32_36
  let v51 : BitVec 32 := Scalar.addi v30 c0_i32_43
  let v53 : Index := Scalar.indexCast v51
  ![0, v53.toNat]

def k1_chk1 (v5 : IVec S16 32) (v6 : IVec S16 32) (v7 : IVec S16 32) (v8 : IVec S16 32) (v54 : IVec S16 32) : Prop :=
  (∀ a x, ((![v5, v54] : Fin 2 → IVec S16 32) a x).toNat < S4x10000.size a) ∧
  (∀ a x, ((![v6, v54] : Fin 2 → IVec S16 32) a x).toNat < S4x10000.size a) ∧
  (∀ a x, ((![v7, v54] : Fin 2 → IVec S16 32) a x).toNat < S4x10000.size a) ∧
  (∀ a x, ((![v8, v54] : Fin 2 → IVec S16 32) a x).toNat < S4x10000.size a)
theorem k1_idx1_inb : ∀ (v5 : IVec S16 32) (v6 : IVec S16 32) (v7 : IVec S16 32) (v8 : IVec S16 32) (v54 : IVec S16 32) (k1_hw1 : k1_chk1 v5 v6 v7 v8 v54), ∀ a x, ((![v5, v54] : Fin 2 → IVec S16 32) a x).toNat < S4x10000.size a := fun v5 v6 v7 v8 v54 k1_hw1 => k1_hw1.1
theorem k1_idx2_inb : ∀ (v5 : IVec S16 32) (v6 : IVec S16 32) (v7 : IVec S16 32) (v8 : IVec S16 32) (v54 : IVec S16 32) (k1_hw1 : k1_chk1 v5 v6 v7 v8 v54), ∀ a x, ((![v6, v54] : Fin 2 → IVec S16 32) a x).toNat < S4x10000.size a := fun v5 v6 v7 v8 v54 k1_hw1 => k1_hw1.2.1
theorem k1_idx3_inb : ∀ (v5 : IVec S16 32) (v6 : IVec S16 32) (v7 : IVec S16 32) (v8 : IVec S16 32) (v54 : IVec S16 32) (k1_hw1 : k1_chk1 v5 v6 v7 v8 v54), ∀ a x, ((![v7, v54] : Fin 2 → IVec S16 32) a x).toNat < S4x10000.size a := fun v5 v6 v7 v8 v54 k1_hw1 => k1_hw1.2.2.1
theorem k1_idx4_inb : ∀ (v5 : IVec S16 32) (v6 : IVec S16 32) (v7 : IVec S16 32) (v8 : IVec S16 32) (v54 : IVec S16 32) (k1_hw1 : k1_chk1 v5 v6 v7 v8 v54), ∀ a x, ((![v8, v54] : Fin 2 → IVec S16 32) a x).toNat < S4x10000.size a := fun v5 v6 v7 v8 v54 k1_hw1 => k1_hw1.2.2.2

def k1_chk2 (v5 : IVec S16 32) (v6 : IVec S16 32) (v7 : IVec S16 32) (v8 : IVec S16 32) (v58 : IVec S16 32) : Prop :=
  (∀ a x, ((![v5, v58] : Fin 2 → IVec S16 32) a x).toNat < S4x10000.size a) ∧
  (∀ a x, ((![v6, v58] : Fin 2 → IVec S16 32) a x).toNat < S4x10000.size a) ∧
  (∀ a x, ((![v7, v58] : Fin 2 → IVec S16 32) a x).toNat < S4x10000.size a) ∧
  (∀ a x, ((![v8, v58] : Fin 2 → IVec S16 32) a x).toNat < S4x10000.size a)
theorem k1_idx5_inb : ∀ (v5 : IVec S16 32) (v6 : IVec S16 32) (v7 : IVec S16 32) (v8 : IVec S16 32) (v58 : IVec S16 32) (k1_hw2 : k1_chk2 v5 v6 v7 v8 v58), ∀ a x, ((![v5, v58] : Fin 2 → IVec S16 32) a x).toNat < S4x10000.size a := fun v5 v6 v7 v8 v58 k1_hw2 => k1_hw2.1
theorem k1_idx6_inb : ∀ (v5 : IVec S16 32) (v6 : IVec S16 32) (v7 : IVec S16 32) (v8 : IVec S16 32) (v58 : IVec S16 32) (k1_hw2 : k1_chk2 v5 v6 v7 v8 v58), ∀ a x, ((![v6, v58] : Fin 2 → IVec S16 32) a x).toNat < S4x10000.size a := fun v5 v6 v7 v8 v58 k1_hw2 => k1_hw2.2.1
theorem k1_idx7_inb : ∀ (v5 : IVec S16 32) (v6 : IVec S16 32) (v7 : IVec S16 32) (v8 : IVec S16 32) (v58 : IVec S16 32) (k1_hw2 : k1_chk2 v5 v6 v7 v8 v58), ∀ a x, ((![v7, v58] : Fin 2 → IVec S16 32) a x).toNat < S4x10000.size a := fun v5 v6 v7 v8 v58 k1_hw2 => k1_hw2.2.2.1
theorem k1_idx8_inb : ∀ (v5 : IVec S16 32) (v6 : IVec S16 32) (v7 : IVec S16 32) (v8 : IVec S16 32) (v58 : IVec S16 32) (k1_hw2 : k1_chk2 v5 v6 v7 v8 v58), ∀ a x, ((![v8, v58] : Fin 2 → IVec S16 32) a x).toNat < S4x10000.size a := fun v5 v6 v7 v8 v58 k1_hw2 => k1_hw2.2.2.2

def k1_chk3 (v5 : IVec S16 32) (v6 : IVec S16 32) (v7 : IVec S16 32) (v8 : IVec S16 32) (v62 : IVec S16 32) : Prop :=
  (∀ a x, ((![v5, v62] : Fin 2 → IVec S16 32) a x).toNat < S4x10000.size a) ∧
  (∀ a x, ((![v6, v62] : Fin 2 → IVec S16 32) a x).toNat < S4x10000.size a) ∧
  (∀ a x, ((![v7, v62] : Fin 2 → IVec S16 32) a x).toNat < S4x10000.size a) ∧
  (∀ a x, ((![v8, v62] : Fin 2 → IVec S16 32) a x).toNat < S4x10000.size a)
theorem k1_idx9_inb : ∀ (v5 : IVec S16 32) (v6 : IVec S16 32) (v7 : IVec S16 32) (v8 : IVec S16 32) (v62 : IVec S16 32) (k1_hw3 : k1_chk3 v5 v6 v7 v8 v62), ∀ a x, ((![v5, v62] : Fin 2 → IVec S16 32) a x).toNat < S4x10000.size a := fun v5 v6 v7 v8 v62 k1_hw3 => k1_hw3.1
theorem k1_idx10_inb : ∀ (v5 : IVec S16 32) (v6 : IVec S16 32) (v7 : IVec S16 32) (v8 : IVec S16 32) (v62 : IVec S16 32) (k1_hw3 : k1_chk3 v5 v6 v7 v8 v62), ∀ a x, ((![v6, v62] : Fin 2 → IVec S16 32) a x).toNat < S4x10000.size a := fun v5 v6 v7 v8 v62 k1_hw3 => k1_hw3.2.1
theorem k1_idx11_inb : ∀ (v5 : IVec S16 32) (v6 : IVec S16 32) (v7 : IVec S16 32) (v8 : IVec S16 32) (v62 : IVec S16 32) (k1_hw3 : k1_chk3 v5 v6 v7 v8 v62), ∀ a x, ((![v7, v62] : Fin 2 → IVec S16 32) a x).toNat < S4x10000.size a := fun v5 v6 v7 v8 v62 k1_hw3 => k1_hw3.2.2.1
theorem k1_idx12_inb : ∀ (v5 : IVec S16 32) (v6 : IVec S16 32) (v7 : IVec S16 32) (v8 : IVec S16 32) (v62 : IVec S16 32) (k1_hw3 : k1_chk3 v5 v6 v7 v8 v62), ∀ a x, ((![v8, v62] : Fin 2 → IVec S16 32) a x).toNat < S4x10000.size a := fun v5 v6 v7 v8 v62 k1_hw3 => k1_hw3.2.2.2

def k1_chk4 (v5 : IVec S16 32) (v6 : IVec S16 32) (v7 : IVec S16 32) (v8 : IVec S16 32) (v66 : IVec S16 32) : Prop :=
  (∀ a x, ((![v5, v66] : Fin 2 → IVec S16 32) a x).toNat < S4x10000.size a) ∧
  (∀ a x, ((![v6, v66] : Fin 2 → IVec S16 32) a x).toNat < S4x10000.size a) ∧
  (∀ a x, ((![v7, v66] : Fin 2 → IVec S16 32) a x).toNat < S4x10000.size a) ∧
  (∀ a x, ((![v8, v66] : Fin 2 → IVec S16 32) a x).toNat < S4x10000.size a)
theorem k1_idx13_inb : ∀ (v5 : IVec S16 32) (v6 : IVec S16 32) (v7 : IVec S16 32) (v8 : IVec S16 32) (v66 : IVec S16 32) (k1_hw4 : k1_chk4 v5 v6 v7 v8 v66), ∀ a x, ((![v5, v66] : Fin 2 → IVec S16 32) a x).toNat < S4x10000.size a := fun v5 v6 v7 v8 v66 k1_hw4 => k1_hw4.1
theorem k1_idx14_inb : ∀ (v5 : IVec S16 32) (v6 : IVec S16 32) (v7 : IVec S16 32) (v8 : IVec S16 32) (v66 : IVec S16 32) (k1_hw4 : k1_chk4 v5 v6 v7 v8 v66), ∀ a x, ((![v6, v66] : Fin 2 → IVec S16 32) a x).toNat < S4x10000.size a := fun v5 v6 v7 v8 v66 k1_hw4 => k1_hw4.2.1
theorem k1_idx15_inb : ∀ (v5 : IVec S16 32) (v6 : IVec S16 32) (v7 : IVec S16 32) (v8 : IVec S16 32) (v66 : IVec S16 32) (k1_hw4 : k1_chk4 v5 v6 v7 v8 v66), ∀ a x, ((![v7, v66] : Fin 2 → IVec S16 32) a x).toNat < S4x10000.size a := fun v5 v6 v7 v8 v66 k1_hw4 => k1_hw4.2.2.1
theorem k1_idx16_inb : ∀ (v5 : IVec S16 32) (v6 : IVec S16 32) (v7 : IVec S16 32) (v8 : IVec S16 32) (v66 : IVec S16 32) (k1_hw4 : k1_chk4 v5 v6 v7 v8 v66), ∀ a x, ((![v8, v66] : Fin 2 → IVec S16 32) a x).toNat < S4x10000.size a := fun v5 v6 v7 v8 v66 k1_hw4 => k1_hw4.2.2.2

def k1_chk5 (v5 : IVec S16 32) (v6 : IVec S16 32) (v7 : IVec S16 32) (v8 : IVec S16 32) (v70 : IVec S16 32) : Prop :=
  (∀ a x, ((![v5, v70] : Fin 2 → IVec S16 32) a x).toNat < S4x10000.size a) ∧
  (∀ a x, ((![v6, v70] : Fin 2 → IVec S16 32) a x).toNat < S4x10000.size a) ∧
  (∀ a x, ((![v7, v70] : Fin 2 → IVec S16 32) a x).toNat < S4x10000.size a) ∧
  (∀ a x, ((![v8, v70] : Fin 2 → IVec S16 32) a x).toNat < S4x10000.size a)
theorem k1_idx17_inb : ∀ (v5 : IVec S16 32) (v6 : IVec S16 32) (v7 : IVec S16 32) (v8 : IVec S16 32) (v70 : IVec S16 32) (k1_hw5 : k1_chk5 v5 v6 v7 v8 v70), ∀ a x, ((![v5, v70] : Fin 2 → IVec S16 32) a x).toNat < S4x10000.size a := fun v5 v6 v7 v8 v70 k1_hw5 => k1_hw5.1
theorem k1_idx18_inb : ∀ (v5 : IVec S16 32) (v6 : IVec S16 32) (v7 : IVec S16 32) (v8 : IVec S16 32) (v70 : IVec S16 32) (k1_hw5 : k1_chk5 v5 v6 v7 v8 v70), ∀ a x, ((![v6, v70] : Fin 2 → IVec S16 32) a x).toNat < S4x10000.size a := fun v5 v6 v7 v8 v70 k1_hw5 => k1_hw5.2.1
theorem k1_idx19_inb : ∀ (v5 : IVec S16 32) (v6 : IVec S16 32) (v7 : IVec S16 32) (v8 : IVec S16 32) (v70 : IVec S16 32) (k1_hw5 : k1_chk5 v5 v6 v7 v8 v70), ∀ a x, ((![v7, v70] : Fin 2 → IVec S16 32) a x).toNat < S4x10000.size a := fun v5 v6 v7 v8 v70 k1_hw5 => k1_hw5.2.2.1
theorem k1_idx20_inb : ∀ (v5 : IVec S16 32) (v6 : IVec S16 32) (v7 : IVec S16 32) (v8 : IVec S16 32) (v70 : IVec S16 32) (k1_hw5 : k1_chk5 v5 v6 v7 v8 v70), ∀ a x, ((![v8, v70] : Fin 2 → IVec S16 32) a x).toNat < S4x10000.size a := fun v5 v6 v7 v8 v70 k1_hw5 => k1_hw5.2.2.2

def k1_chk6 (v5 : IVec S16 32) (v6 : IVec S16 32) (v7 : IVec S16 32) (v8 : IVec S16 32) (v34 : IVec S16 32) : Prop :=
  (∀ a x, ((![v5, v34] : Fin 2 → IVec S16 32) a x).toNat < S4x10000.size a) ∧
  (∀ a x, ((![v5, v34] : Fin 2 → IVec S16 32) a x).toNat < S4x10000.size a) ∧
  (∀ a x, ((![v6, v34] : Fin 2 → IVec S16 32) a x).toNat < S4x10000.size a) ∧
  (∀ a x, ((![v6, v34] : Fin 2 → IVec S16 32) a x).toNat < S4x10000.size a) ∧
  (∀ a x, ((![v7, v34] : Fin 2 → IVec S16 32) a x).toNat < S4x10000.size a) ∧
  (∀ a x, ((![v7, v34] : Fin 2 → IVec S16 32) a x).toNat < S4x10000.size a) ∧
  (∀ a x, ((![v8, v34] : Fin 2 → IVec S16 32) a x).toNat < S4x10000.size a) ∧
  (∀ a x, ((![v8, v34] : Fin 2 → IVec S16 32) a x).toNat < S4x10000.size a)
theorem k1_idx21_inb : ∀ (v5 : IVec S16 32) (v6 : IVec S16 32) (v7 : IVec S16 32) (v8 : IVec S16 32) (v34 : IVec S16 32) (k1_hw6 : k1_chk6 v5 v6 v7 v8 v34), ∀ a x, ((![v5, v34] : Fin 2 → IVec S16 32) a x).toNat < S4x10000.size a := fun v5 v6 v7 v8 v34 k1_hw6 => k1_hw6.1
theorem k1_idx22_inb : ∀ (v5 : IVec S16 32) (v6 : IVec S16 32) (v7 : IVec S16 32) (v8 : IVec S16 32) (v34 : IVec S16 32) (k1_hw6 : k1_chk6 v5 v6 v7 v8 v34), ∀ a x, ((![v5, v34] : Fin 2 → IVec S16 32) a x).toNat < S4x10000.size a := fun v5 v6 v7 v8 v34 k1_hw6 => k1_hw6.2.1
theorem k1_idx23_inb : ∀ (v5 : IVec S16 32) (v6 : IVec S16 32) (v7 : IVec S16 32) (v8 : IVec S16 32) (v34 : IVec S16 32) (k1_hw6 : k1_chk6 v5 v6 v7 v8 v34), ∀ a x, ((![v6, v34] : Fin 2 → IVec S16 32) a x).toNat < S4x10000.size a := fun v5 v6 v7 v8 v34 k1_hw6 => k1_hw6.2.2.1
theorem k1_idx24_inb : ∀ (v5 : IVec S16 32) (v6 : IVec S16 32) (v7 : IVec S16 32) (v8 : IVec S16 32) (v34 : IVec S16 32) (k1_hw6 : k1_chk6 v5 v6 v7 v8 v34), ∀ a x, ((![v6, v34] : Fin 2 → IVec S16 32) a x).toNat < S4x10000.size a := fun v5 v6 v7 v8 v34 k1_hw6 => k1_hw6.2.2.2.1
theorem k1_idx25_inb : ∀ (v5 : IVec S16 32) (v6 : IVec S16 32) (v7 : IVec S16 32) (v8 : IVec S16 32) (v34 : IVec S16 32) (k1_hw6 : k1_chk6 v5 v6 v7 v8 v34), ∀ a x, ((![v7, v34] : Fin 2 → IVec S16 32) a x).toNat < S4x10000.size a := fun v5 v6 v7 v8 v34 k1_hw6 => k1_hw6.2.2.2.2.1
theorem k1_idx26_inb : ∀ (v5 : IVec S16 32) (v6 : IVec S16 32) (v7 : IVec S16 32) (v8 : IVec S16 32) (v34 : IVec S16 32) (k1_hw6 : k1_chk6 v5 v6 v7 v8 v34), ∀ a x, ((![v7, v34] : Fin 2 → IVec S16 32) a x).toNat < S4x10000.size a := fun v5 v6 v7 v8 v34 k1_hw6 => k1_hw6.2.2.2.2.2.1
theorem k1_idx27_inb : ∀ (v5 : IVec S16 32) (v6 : IVec S16 32) (v7 : IVec S16 32) (v8 : IVec S16 32) (v34 : IVec S16 32) (k1_hw6 : k1_chk6 v5 v6 v7 v8 v34), ∀ a x, ((![v8, v34] : Fin 2 → IVec S16 32) a x).toNat < S4x10000.size a := fun v5 v6 v7 v8 v34 k1_hw6 => k1_hw6.2.2.2.2.2.2.1
theorem k1_idx28_inb : ∀ (v5 : IVec S16 32) (v6 : IVec S16 32) (v7 : IVec S16 32) (v8 : IVec S16 32) (v34 : IVec S16 32) (k1_hw6 : k1_chk6 v5 v6 v7 v8 v34), ∀ a x, ((![v8, v34] : Fin 2 → IVec S16 32) a x).toNat < S4x10000.size a := fun v5 v6 v7 v8 v34 k1_hw6 => k1_hw6.2.2.2.2.2.2.2

def k1_chk7 (v5 : IVec S16 32) (v6 : IVec S16 32) (v7 : IVec S16 32) (v8 : IVec S16 32) (v38 : IVec S16 32) : Prop :=
  (∀ a x, ((![v5, v38] : Fin 2 → IVec S16 32) a x).toNat < S4x10000.size a) ∧
  (∀ a x, ((![v5, v38] : Fin 2 → IVec S16 32) a x).toNat < S4x10000.size a) ∧
  (∀ a x, ((![v6, v38] : Fin 2 → IVec S16 32) a x).toNat < S4x10000.size a) ∧
  (∀ a x, ((![v6, v38] : Fin 2 → IVec S16 32) a x).toNat < S4x10000.size a) ∧
  (∀ a x, ((![v7, v38] : Fin 2 → IVec S16 32) a x).toNat < S4x10000.size a) ∧
  (∀ a x, ((![v7, v38] : Fin 2 → IVec S16 32) a x).toNat < S4x10000.size a) ∧
  (∀ a x, ((![v8, v38] : Fin 2 → IVec S16 32) a x).toNat < S4x10000.size a) ∧
  (∀ a x, ((![v8, v38] : Fin 2 → IVec S16 32) a x).toNat < S4x10000.size a)
theorem k1_idx29_inb : ∀ (v5 : IVec S16 32) (v6 : IVec S16 32) (v7 : IVec S16 32) (v8 : IVec S16 32) (v38 : IVec S16 32) (k1_hw7 : k1_chk7 v5 v6 v7 v8 v38), ∀ a x, ((![v5, v38] : Fin 2 → IVec S16 32) a x).toNat < S4x10000.size a := fun v5 v6 v7 v8 v38 k1_hw7 => k1_hw7.1
theorem k1_idx30_inb : ∀ (v5 : IVec S16 32) (v6 : IVec S16 32) (v7 : IVec S16 32) (v8 : IVec S16 32) (v38 : IVec S16 32) (k1_hw7 : k1_chk7 v5 v6 v7 v8 v38), ∀ a x, ((![v5, v38] : Fin 2 → IVec S16 32) a x).toNat < S4x10000.size a := fun v5 v6 v7 v8 v38 k1_hw7 => k1_hw7.2.1
theorem k1_idx31_inb : ∀ (v5 : IVec S16 32) (v6 : IVec S16 32) (v7 : IVec S16 32) (v8 : IVec S16 32) (v38 : IVec S16 32) (k1_hw7 : k1_chk7 v5 v6 v7 v8 v38), ∀ a x, ((![v6, v38] : Fin 2 → IVec S16 32) a x).toNat < S4x10000.size a := fun v5 v6 v7 v8 v38 k1_hw7 => k1_hw7.2.2.1
theorem k1_idx32_inb : ∀ (v5 : IVec S16 32) (v6 : IVec S16 32) (v7 : IVec S16 32) (v8 : IVec S16 32) (v38 : IVec S16 32) (k1_hw7 : k1_chk7 v5 v6 v7 v8 v38), ∀ a x, ((![v6, v38] : Fin 2 → IVec S16 32) a x).toNat < S4x10000.size a := fun v5 v6 v7 v8 v38 k1_hw7 => k1_hw7.2.2.2.1
theorem k1_idx33_inb : ∀ (v5 : IVec S16 32) (v6 : IVec S16 32) (v7 : IVec S16 32) (v8 : IVec S16 32) (v38 : IVec S16 32) (k1_hw7 : k1_chk7 v5 v6 v7 v8 v38), ∀ a x, ((![v7, v38] : Fin 2 → IVec S16 32) a x).toNat < S4x10000.size a := fun v5 v6 v7 v8 v38 k1_hw7 => k1_hw7.2.2.2.2.1
theorem k1_idx34_inb : ∀ (v5 : IVec S16 32) (v6 : IVec S16 32) (v7 : IVec S16 32) (v8 : IVec S16 32) (v38 : IVec S16 32) (k1_hw7 : k1_chk7 v5 v6 v7 v8 v38), ∀ a x, ((![v7, v38] : Fin 2 → IVec S16 32) a x).toNat < S4x10000.size a := fun v5 v6 v7 v8 v38 k1_hw7 => k1_hw7.2.2.2.2.2.1
theorem k1_idx35_inb : ∀ (v5 : IVec S16 32) (v6 : IVec S16 32) (v7 : IVec S16 32) (v8 : IVec S16 32) (v38 : IVec S16 32) (k1_hw7 : k1_chk7 v5 v6 v7 v8 v38), ∀ a x, ((![v8, v38] : Fin 2 → IVec S16 32) a x).toNat < S4x10000.size a := fun v5 v6 v7 v8 v38 k1_hw7 => k1_hw7.2.2.2.2.2.2.1
theorem k1_idx36_inb : ∀ (v5 : IVec S16 32) (v6 : IVec S16 32) (v7 : IVec S16 32) (v8 : IVec S16 32) (v38 : IVec S16 32) (k1_hw7 : k1_chk7 v5 v6 v7 v8 v38), ∀ a x, ((![v8, v38] : Fin 2 → IVec S16 32) a x).toNat < S4x10000.size a := fun v5 v6 v7 v8 v38 k1_hw7 => k1_hw7.2.2.2.2.2.2.2

def k1_chk8 (v5 : IVec S16 32) (v6 : IVec S16 32) (v7 : IVec S16 32) (v8 : IVec S16 32) (v42 : IVec S16 32) : Prop :=
  (∀ a x, ((![v5, v42] : Fin 2 → IVec S16 32) a x).toNat < S4x10000.size a) ∧
  (∀ a x, ((![v5, v42] : Fin 2 → IVec S16 32) a x).toNat < S4x10000.size a) ∧
  (∀ a x, ((![v6, v42] : Fin 2 → IVec S16 32) a x).toNat < S4x10000.size a) ∧
  (∀ a x, ((![v6, v42] : Fin 2 → IVec S16 32) a x).toNat < S4x10000.size a) ∧
  (∀ a x, ((![v7, v42] : Fin 2 → IVec S16 32) a x).toNat < S4x10000.size a) ∧
  (∀ a x, ((![v7, v42] : Fin 2 → IVec S16 32) a x).toNat < S4x10000.size a) ∧
  (∀ a x, ((![v8, v42] : Fin 2 → IVec S16 32) a x).toNat < S4x10000.size a) ∧
  (∀ a x, ((![v8, v42] : Fin 2 → IVec S16 32) a x).toNat < S4x10000.size a)
theorem k1_idx37_inb : ∀ (v5 : IVec S16 32) (v6 : IVec S16 32) (v7 : IVec S16 32) (v8 : IVec S16 32) (v42 : IVec S16 32) (k1_hw8 : k1_chk8 v5 v6 v7 v8 v42), ∀ a x, ((![v5, v42] : Fin 2 → IVec S16 32) a x).toNat < S4x10000.size a := fun v5 v6 v7 v8 v42 k1_hw8 => k1_hw8.1
theorem k1_idx38_inb : ∀ (v5 : IVec S16 32) (v6 : IVec S16 32) (v7 : IVec S16 32) (v8 : IVec S16 32) (v42 : IVec S16 32) (k1_hw8 : k1_chk8 v5 v6 v7 v8 v42), ∀ a x, ((![v5, v42] : Fin 2 → IVec S16 32) a x).toNat < S4x10000.size a := fun v5 v6 v7 v8 v42 k1_hw8 => k1_hw8.2.1
theorem k1_idx39_inb : ∀ (v5 : IVec S16 32) (v6 : IVec S16 32) (v7 : IVec S16 32) (v8 : IVec S16 32) (v42 : IVec S16 32) (k1_hw8 : k1_chk8 v5 v6 v7 v8 v42), ∀ a x, ((![v6, v42] : Fin 2 → IVec S16 32) a x).toNat < S4x10000.size a := fun v5 v6 v7 v8 v42 k1_hw8 => k1_hw8.2.2.1
theorem k1_idx40_inb : ∀ (v5 : IVec S16 32) (v6 : IVec S16 32) (v7 : IVec S16 32) (v8 : IVec S16 32) (v42 : IVec S16 32) (k1_hw8 : k1_chk8 v5 v6 v7 v8 v42), ∀ a x, ((![v6, v42] : Fin 2 → IVec S16 32) a x).toNat < S4x10000.size a := fun v5 v6 v7 v8 v42 k1_hw8 => k1_hw8.2.2.2.1
theorem k1_idx41_inb : ∀ (v5 : IVec S16 32) (v6 : IVec S16 32) (v7 : IVec S16 32) (v8 : IVec S16 32) (v42 : IVec S16 32) (k1_hw8 : k1_chk8 v5 v6 v7 v8 v42), ∀ a x, ((![v7, v42] : Fin 2 → IVec S16 32) a x).toNat < S4x10000.size a := fun v5 v6 v7 v8 v42 k1_hw8 => k1_hw8.2.2.2.2.1
theorem k1_idx42_inb : ∀ (v5 : IVec S16 32) (v6 : IVec S16 32) (v7 : IVec S16 32) (v8 : IVec S16 32) (v42 : IVec S16 32) (k1_hw8 : k1_chk8 v5 v6 v7 v8 v42), ∀ a x, ((![v7, v42] : Fin 2 → IVec S16 32) a x).toNat < S4x10000.size a := fun v5 v6 v7 v8 v42 k1_hw8 => k1_hw8.2.2.2.2.2.1
theorem k1_idx43_inb : ∀ (v5 : IVec S16 32) (v6 : IVec S16 32) (v7 : IVec S16 32) (v8 : IVec S16 32) (v42 : IVec S16 32) (k1_hw8 : k1_chk8 v5 v6 v7 v8 v42), ∀ a x, ((![v8, v42] : Fin 2 → IVec S16 32) a x).toNat < S4x10000.size a := fun v5 v6 v7 v8 v42 k1_hw8 => k1_hw8.2.2.2.2.2.2.1
theorem k1_idx44_inb : ∀ (v5 : IVec S16 32) (v6 : IVec S16 32) (v7 : IVec S16 32) (v8 : IVec S16 32) (v42 : IVec S16 32) (k1_hw8 : k1_chk8 v5 v6 v7 v8 v42), ∀ a x, ((![v8, v42] : Fin 2 → IVec S16 32) a x).toNat < S4x10000.size a := fun v5 v6 v7 v8 v42 k1_hw8 => k1_hw8.2.2.2.2.2.2.2

def k1_chk9 (v5 : IVec S16 32) (v6 : IVec S16 32) (v7 : IVec S16 32) (v8 : IVec S16 32) (v46 : IVec S16 32) : Prop :=
  (∀ a x, ((![v5, v46] : Fin 2 → IVec S16 32) a x).toNat < S4x10000.size a) ∧
  (∀ a x, ((![v5, v46] : Fin 2 → IVec S16 32) a x).toNat < S4x10000.size a) ∧
  (∀ a x, ((![v6, v46] : Fin 2 → IVec S16 32) a x).toNat < S4x10000.size a) ∧
  (∀ a x, ((![v6, v46] : Fin 2 → IVec S16 32) a x).toNat < S4x10000.size a) ∧
  (∀ a x, ((![v7, v46] : Fin 2 → IVec S16 32) a x).toNat < S4x10000.size a) ∧
  (∀ a x, ((![v7, v46] : Fin 2 → IVec S16 32) a x).toNat < S4x10000.size a) ∧
  (∀ a x, ((![v8, v46] : Fin 2 → IVec S16 32) a x).toNat < S4x10000.size a) ∧
  (∀ a x, ((![v8, v46] : Fin 2 → IVec S16 32) a x).toNat < S4x10000.size a)
theorem k1_idx45_inb : ∀ (v5 : IVec S16 32) (v6 : IVec S16 32) (v7 : IVec S16 32) (v8 : IVec S16 32) (v46 : IVec S16 32) (k1_hw9 : k1_chk9 v5 v6 v7 v8 v46), ∀ a x, ((![v5, v46] : Fin 2 → IVec S16 32) a x).toNat < S4x10000.size a := fun v5 v6 v7 v8 v46 k1_hw9 => k1_hw9.1
theorem k1_idx46_inb : ∀ (v5 : IVec S16 32) (v6 : IVec S16 32) (v7 : IVec S16 32) (v8 : IVec S16 32) (v46 : IVec S16 32) (k1_hw9 : k1_chk9 v5 v6 v7 v8 v46), ∀ a x, ((![v5, v46] : Fin 2 → IVec S16 32) a x).toNat < S4x10000.size a := fun v5 v6 v7 v8 v46 k1_hw9 => k1_hw9.2.1
theorem k1_idx47_inb : ∀ (v5 : IVec S16 32) (v6 : IVec S16 32) (v7 : IVec S16 32) (v8 : IVec S16 32) (v46 : IVec S16 32) (k1_hw9 : k1_chk9 v5 v6 v7 v8 v46), ∀ a x, ((![v6, v46] : Fin 2 → IVec S16 32) a x).toNat < S4x10000.size a := fun v5 v6 v7 v8 v46 k1_hw9 => k1_hw9.2.2.1
theorem k1_idx48_inb : ∀ (v5 : IVec S16 32) (v6 : IVec S16 32) (v7 : IVec S16 32) (v8 : IVec S16 32) (v46 : IVec S16 32) (k1_hw9 : k1_chk9 v5 v6 v7 v8 v46), ∀ a x, ((![v6, v46] : Fin 2 → IVec S16 32) a x).toNat < S4x10000.size a := fun v5 v6 v7 v8 v46 k1_hw9 => k1_hw9.2.2.2.1
theorem k1_idx49_inb : ∀ (v5 : IVec S16 32) (v6 : IVec S16 32) (v7 : IVec S16 32) (v8 : IVec S16 32) (v46 : IVec S16 32) (k1_hw9 : k1_chk9 v5 v6 v7 v8 v46), ∀ a x, ((![v7, v46] : Fin 2 → IVec S16 32) a x).toNat < S4x10000.size a := fun v5 v6 v7 v8 v46 k1_hw9 => k1_hw9.2.2.2.2.1
theorem k1_idx50_inb : ∀ (v5 : IVec S16 32) (v6 : IVec S16 32) (v7 : IVec S16 32) (v8 : IVec S16 32) (v46 : IVec S16 32) (k1_hw9 : k1_chk9 v5 v6 v7 v8 v46), ∀ a x, ((![v7, v46] : Fin 2 → IVec S16 32) a x).toNat < S4x10000.size a := fun v5 v6 v7 v8 v46 k1_hw9 => k1_hw9.2.2.2.2.2.1
theorem k1_idx51_inb : ∀ (v5 : IVec S16 32) (v6 : IVec S16 32) (v7 : IVec S16 32) (v8 : IVec S16 32) (v46 : IVec S16 32) (k1_hw9 : k1_chk9 v5 v6 v7 v8 v46), ∀ a x, ((![v8, v46] : Fin 2 → IVec S16 32) a x).toNat < S4x10000.size a := fun v5 v6 v7 v8 v46 k1_hw9 => k1_hw9.2.2.2.2.2.2.1
theorem k1_idx52_inb : ∀ (v5 : IVec S16 32) (v6 : IVec S16 32) (v7 : IVec S16 32) (v8 : IVec S16 32) (v46 : IVec S16 32) (k1_hw9 : k1_chk9 v5 v6 v7 v8 v46), ∀ a x, ((![v8, v46] : Fin 2 → IVec S16 32) a x).toNat < S4x10000.size a := fun v5 v6 v7 v8 v46 k1_hw9 => k1_hw9.2.2.2.2.2.2.2

def k1_chk10 (v5 : IVec S16 32) (v6 : IVec S16 32) (v7 : IVec S16 32) (v8 : IVec S16 32) (v50 : IVec S16 32) : Prop :=
  (∀ a x, ((![v5, v50] : Fin 2 → IVec S16 32) a x).toNat < S4x10000.size a) ∧
  (∀ a x, ((![v5, v50] : Fin 2 → IVec S16 32) a x).toNat < S4x10000.size a) ∧
  (∀ a x, ((![v6, v50] : Fin 2 → IVec S16 32) a x).toNat < S4x10000.size a) ∧
  (∀ a x, ((![v6, v50] : Fin 2 → IVec S16 32) a x).toNat < S4x10000.size a) ∧
  (∀ a x, ((![v7, v50] : Fin 2 → IVec S16 32) a x).toNat < S4x10000.size a) ∧
  (∀ a x, ((![v7, v50] : Fin 2 → IVec S16 32) a x).toNat < S4x10000.size a) ∧
  (∀ a x, ((![v8, v50] : Fin 2 → IVec S16 32) a x).toNat < S4x10000.size a) ∧
  (∀ a x, ((![v8, v50] : Fin 2 → IVec S16 32) a x).toNat < S4x10000.size a)
theorem k1_idx53_inb : ∀ (v5 : IVec S16 32) (v6 : IVec S16 32) (v7 : IVec S16 32) (v8 : IVec S16 32) (v50 : IVec S16 32) (k1_hw10 : k1_chk10 v5 v6 v7 v8 v50), ∀ a x, ((![v5, v50] : Fin 2 → IVec S16 32) a x).toNat < S4x10000.size a := fun v5 v6 v7 v8 v50 k1_hw10 => k1_hw10.1
theorem k1_idx54_inb : ∀ (v5 : IVec S16 32) (v6 : IVec S16 32) (v7 : IVec S16 32) (v8 : IVec S16 32) (v50 : IVec S16 32) (k1_hw10 : k1_chk10 v5 v6 v7 v8 v50), ∀ a x, ((![v5, v50] : Fin 2 → IVec S16 32) a x).toNat < S4x10000.size a := fun v5 v6 v7 v8 v50 k1_hw10 => k1_hw10.2.1
theorem k1_idx55_inb : ∀ (v5 : IVec S16 32) (v6 : IVec S16 32) (v7 : IVec S16 32) (v8 : IVec S16 32) (v50 : IVec S16 32) (k1_hw10 : k1_chk10 v5 v6 v7 v8 v50), ∀ a x, ((![v6, v50] : Fin 2 → IVec S16 32) a x).toNat < S4x10000.size a := fun v5 v6 v7 v8 v50 k1_hw10 => k1_hw10.2.2.1
theorem k1_idx56_inb : ∀ (v5 : IVec S16 32) (v6 : IVec S16 32) (v7 : IVec S16 32) (v8 : IVec S16 32) (v50 : IVec S16 32) (k1_hw10 : k1_chk10 v5 v6 v7 v8 v50), ∀ a x, ((![v6, v50] : Fin 2 → IVec S16 32) a x).toNat < S4x10000.size a := fun v5 v6 v7 v8 v50 k1_hw10 => k1_hw10.2.2.2.1
theorem k1_idx57_inb : ∀ (v5 : IVec S16 32) (v6 : IVec S16 32) (v7 : IVec S16 32) (v8 : IVec S16 32) (v50 : IVec S16 32) (k1_hw10 : k1_chk10 v5 v6 v7 v8 v50), ∀ a x, ((![v7, v50] : Fin 2 → IVec S16 32) a x).toNat < S4x10000.size a := fun v5 v6 v7 v8 v50 k1_hw10 => k1_hw10.2.2.2.2.1
theorem k1_idx58_inb : ∀ (v5 : IVec S16 32) (v6 : IVec S16 32) (v7 : IVec S16 32) (v8 : IVec S16 32) (v50 : IVec S16 32) (k1_hw10 : k1_chk10 v5 v6 v7 v8 v50), ∀ a x, ((![v7, v50] : Fin 2 → IVec S16 32) a x).toNat < S4x10000.size a := fun v5 v6 v7 v8 v50 k1_hw10 => k1_hw10.2.2.2.2.2.1
theorem k1_idx59_inb : ∀ (v5 : IVec S16 32) (v6 : IVec S16 32) (v7 : IVec S16 32) (v8 : IVec S16 32) (v50 : IVec S16 32) (k1_hw10 : k1_chk10 v5 v6 v7 v8 v50), ∀ a x, ((![v8, v50] : Fin 2 → IVec S16 32) a x).toNat < S4x10000.size a := fun v5 v6 v7 v8 v50 k1_hw10 => k1_hw10.2.2.2.2.2.2.1
theorem k1_idx60_inb : ∀ (v5 : IVec S16 32) (v6 : IVec S16 32) (v7 : IVec S16 32) (v8 : IVec S16 32) (v50 : IVec S16 32) (k1_hw10 : k1_chk10 v5 v6 v7 v8 v50), ∀ a x, ((![v8, v50] : Fin 2 → IVec S16 32) a x).toNat < S4x10000.size a := fun v5 v6 v7 v8 v50 k1_hw10 => k1_hw10.2.2.2.2.2.2.2
@[reducible] def k1_t4_loop (v168 : BitVec 32) : Scf.Loop 32 :=
  let c2_i32_80 : BitVec 32 := 2#32
  let c1_i32_78 : BitVec 32 := 1#32
  let v169 : BitVec 32 := Scalar.addi v168 c1_i32_78
  let v170 : BitVec 32 := Scalar.subi v169 c2_i32_80
  let c1_i32_81 : BitVec 32 := 1#32
  let v172 : BitVec 32 := Scalar.divsi v170 c1_i32_81
  let v173 : BitVec 32 := Scalar.muli v172 c1_i32_81
  let v174 : BitVec 32 := Scalar.addi c2_i32_80 v173
  let c1_i32_82 : BitVec 32 := 1#32
  ⟨c2_i32_80, v174, c1_i32_82⟩
def k1_cond1 (v158 : BitVec 32) : BitVec 1 :=
  let c1_i32_73 : BitVec 32 := 1#32
  let v159 : BitVec 1 := Scalar.cmpi .eq v158 c1_i32_73
  let v160 : BitVec 32 := Scalar.extui v159
  let c0_i32_75 : BitVec 32 := 0#32
  let v161 : BitVec 1 := Scalar.cmpi .ne v160 c0_i32_75
  v161

@[reducible] def k1_t5_loop (v168 : BitVec 32) : Scf.Loop 32 :=
  let c2_i32_80 : BitVec 32 := 2#32
  let c1_i32_78 : BitVec 32 := 1#32
  let v169 : BitVec 32 := Scalar.addi v168 c1_i32_78
  let v170 : BitVec 32 := Scalar.subi v169 c2_i32_80
  let c1_i32_81 : BitVec 32 := 1#32
  let v172 : BitVec 32 := Scalar.divsi v170 c1_i32_81
  let v173 : BitVec 32 := Scalar.muli v172 c1_i32_81
  let v174 : BitVec 32 := Scalar.addi c2_i32_80 v173
  let v171 : BitVec 32 := Scalar.addi c2_i32_80 v170
  let c1_i32_83 : BitVec 32 := 1#32
  ⟨v174, v171, c1_i32_83⟩

def k1_chk11 (v5 : IVec S16 32) (v6 : IVec S16 32) (v7 : IVec S16 32) (v8 : IVec S16 32) (v34 : IVec S16 32) (v158 : BitVec 32) (v168 : BitVec 32) : Prop :=
  (∀ (k1_h1 : ¬(k1_cond1 v158 = 1#1)), (k1_t4_loop v168).OK) ∧
  (∀ k1_t4 : Fin (k1_t4_loop v168).trips, ∀ (k1_h1 : ¬(k1_cond1 v158 = 1#1)), ∀ a x, ((![v5, v34] : Fin 2 → IVec S16 32) a x).toNat < S4x10000.size a) ∧
  (∀ k1_t4 : Fin (k1_t4_loop v168).trips, ∀ (k1_h1 : ¬(k1_cond1 v158 = 1#1)), ∀ a x, ((![v5, v34] : Fin 2 → IVec S16 32) a x).toNat < S4x10000.size a) ∧
  (∀ k1_t4 : Fin (k1_t4_loop v168).trips, ∀ (k1_h1 : ¬(k1_cond1 v158 = 1#1)), ∀ a x, ((![v6, v34] : Fin 2 → IVec S16 32) a x).toNat < S4x10000.size a) ∧
  (∀ k1_t4 : Fin (k1_t4_loop v168).trips, ∀ (k1_h1 : ¬(k1_cond1 v158 = 1#1)), ∀ a x, ((![v6, v34] : Fin 2 → IVec S16 32) a x).toNat < S4x10000.size a) ∧
  (∀ k1_t4 : Fin (k1_t4_loop v168).trips, ∀ (k1_h1 : ¬(k1_cond1 v158 = 1#1)), ∀ a x, ((![v7, v34] : Fin 2 → IVec S16 32) a x).toNat < S4x10000.size a) ∧
  (∀ k1_t4 : Fin (k1_t4_loop v168).trips, ∀ (k1_h1 : ¬(k1_cond1 v158 = 1#1)), ∀ a x, ((![v7, v34] : Fin 2 → IVec S16 32) a x).toNat < S4x10000.size a) ∧
  (∀ k1_t4 : Fin (k1_t4_loop v168).trips, ∀ (k1_h1 : ¬(k1_cond1 v158 = 1#1)), ∀ a x, ((![v8, v34] : Fin 2 → IVec S16 32) a x).toNat < S4x10000.size a) ∧
  (∀ k1_t4 : Fin (k1_t4_loop v168).trips, ∀ (k1_h1 : ¬(k1_cond1 v158 = 1#1)), ∀ a x, ((![v8, v34] : Fin 2 → IVec S16 32) a x).toNat < S4x10000.size a) ∧
  (∀ (k1_h1 : ¬(k1_cond1 v158 = 1#1)), (k1_t5_loop v168).OK) ∧
  (∀ k1_t5 : Fin (k1_t5_loop v168).trips, ∀ (k1_h1 : ¬(k1_cond1 v158 = 1#1)), ∀ a x, ((![v5, v34] : Fin 2 → IVec S16 32) a x).toNat < S4x10000.size a) ∧
  (∀ k1_t5 : Fin (k1_t5_loop v168).trips, ∀ (k1_h1 : ¬(k1_cond1 v158 = 1#1)), ∀ a x, ((![v5, v34] : Fin 2 → IVec S16 32) a x).toNat < S4x10000.size a) ∧
  (∀ k1_t5 : Fin (k1_t5_loop v168).trips, ∀ (k1_h1 : ¬(k1_cond1 v158 = 1#1)), ∀ a x, ((![v6, v34] : Fin 2 → IVec S16 32) a x).toNat < S4x10000.size a) ∧
  (∀ k1_t5 : Fin (k1_t5_loop v168).trips, ∀ (k1_h1 : ¬(k1_cond1 v158 = 1#1)), ∀ a x, ((![v6, v34] : Fin 2 → IVec S16 32) a x).toNat < S4x10000.size a) ∧
  (∀ k1_t5 : Fin (k1_t5_loop v168).trips, ∀ (k1_h1 : ¬(k1_cond1 v158 = 1#1)), ∀ a x, ((![v7, v34] : Fin 2 → IVec S16 32) a x).toNat < S4x10000.size a) ∧
  (∀ k1_t5 : Fin (k1_t5_loop v168).trips, ∀ (k1_h1 : ¬(k1_cond1 v158 = 1#1)), ∀ a x, ((![v7, v34] : Fin 2 → IVec S16 32) a x).toNat < S4x10000.size a) ∧
  (∀ k1_t5 : Fin (k1_t5_loop v168).trips, ∀ (k1_h1 : ¬(k1_cond1 v158 = 1#1)), ∀ a x, ((![v8, v34] : Fin 2 → IVec S16 32) a x).toNat < S4x10000.size a) ∧
  (∀ k1_t5 : Fin (k1_t5_loop v168).trips, ∀ (k1_h1 : ¬(k1_cond1 v158 = 1#1)), ∀ a x, ((![v8, v34] : Fin 2 → IVec S16 32) a x).toNat < S4x10000.size a)
theorem k1_t4_ok : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168), ∀ (k1_h1 : ¬(k1_cond1 v158 = 1#1)), (k1_t4_loop v168).OK := fun v5 v6 v7 v8 v34 v158 v168 k1_hw11 k1_h1 => k1_hw11.1 k1_h1
theorem k1_idx61_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v5, v34] : Fin 2 → IVec S16 32) a x).toNat < S4x10000.size a := fun v5 v6 v7 v8 v34 v158 v168 k1_hw11 k1_t4 k1_h1 => k1_hw11.2.1 k1_t4 k1_h1
theorem k1_idx62_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v5, v34] : Fin 2 → IVec S16 32) a x).toNat < S4x10000.size a := fun v5 v6 v7 v8 v34 v158 v168 k1_hw11 k1_t4 k1_h1 => k1_hw11.2.2.1 k1_t4 k1_h1
theorem k1_idx63_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v6, v34] : Fin 2 → IVec S16 32) a x).toNat < S4x10000.size a := fun v5 v6 v7 v8 v34 v158 v168 k1_hw11 k1_t4 k1_h1 => k1_hw11.2.2.2.1 k1_t4 k1_h1
theorem k1_idx64_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v6, v34] : Fin 2 → IVec S16 32) a x).toNat < S4x10000.size a := fun v5 v6 v7 v8 v34 v158 v168 k1_hw11 k1_t4 k1_h1 => k1_hw11.2.2.2.2.1 k1_t4 k1_h1
theorem k1_idx65_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v7, v34] : Fin 2 → IVec S16 32) a x).toNat < S4x10000.size a := fun v5 v6 v7 v8 v34 v158 v168 k1_hw11 k1_t4 k1_h1 => k1_hw11.2.2.2.2.2.1 k1_t4 k1_h1
theorem k1_idx66_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v7, v34] : Fin 2 → IVec S16 32) a x).toNat < S4x10000.size a := fun v5 v6 v7 v8 v34 v158 v168 k1_hw11 k1_t4 k1_h1 => k1_hw11.2.2.2.2.2.2.1 k1_t4 k1_h1
theorem k1_idx67_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v8, v34] : Fin 2 → IVec S16 32) a x).toNat < S4x10000.size a := fun v5 v6 v7 v8 v34 v158 v168 k1_hw11 k1_t4 k1_h1 => k1_hw11.2.2.2.2.2.2.2.1 k1_t4 k1_h1
theorem k1_idx68_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t4 : Fin (k1_t4_loop v168).trips), ∀ (k1_h1 : ¬(k1_cond1 v158 = 1#1)), ∀ a x, ((![v8, v34] : Fin 2 → IVec S16 32) a x).toNat < S4x10000.size a := fun v5 v6 v7 v8 v34 v158 v168 k1_hw11 k1_t4 k1_h1 => k1_hw11.2.2.2.2.2.2.2.2.1 k1_t4 k1_h1
theorem k1_t5_ok : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168), ∀ (k1_h1 : ¬(k1_cond1 v158 = 1#1)), (k1_t5_loop v168).OK := fun v5 v6 v7 v8 v34 v158 v168 k1_hw11 k1_h1 => k1_hw11.2.2.2.2.2.2.2.2.2.1 k1_h1
theorem k1_idx69_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v5, v34] : Fin 2 → IVec S16 32) a x).toNat < S4x10000.size a := fun v5 v6 v7 v8 v34 v158 v168 k1_hw11 k1_t5 k1_h1 => k1_hw11.2.2.2.2.2.2.2.2.2.2.1 k1_t5 k1_h1
theorem k1_idx70_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v5, v34] : Fin 2 → IVec S16 32) a x).toNat < S4x10000.size a := fun v5 v6 v7 v8 v34 v158 v168 k1_hw11 k1_t5 k1_h1 => k1_hw11.2.2.2.2.2.2.2.2.2.2.2.1 k1_t5 k1_h1
theorem k1_idx71_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v6, v34] : Fin 2 → IVec S16 32) a x).toNat < S4x10000.size a := fun v5 v6 v7 v8 v34 v158 v168 k1_hw11 k1_t5 k1_h1 => k1_hw11.2.2.2.2.2.2.2.2.2.2.2.2.1 k1_t5 k1_h1
theorem k1_idx72_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v6, v34] : Fin 2 → IVec S16 32) a x).toNat < S4x10000.size a := fun v5 v6 v7 v8 v34 v158 v168 k1_hw11 k1_t5 k1_h1 => k1_hw11.2.2.2.2.2.2.2.2.2.2.2.2.2.1 k1_t5 k1_h1
theorem k1_idx73_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v7, v34] : Fin 2 → IVec S16 32) a x).toNat < S4x10000.size a := fun v5 v6 v7 v8 v34 v158 v168 k1_hw11 k1_t5 k1_h1 => k1_hw11.2.2.2.2.2.2.2.2.2.2.2.2.2.2.1 k1_t5 k1_h1
theorem k1_idx74_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v7, v34] : Fin 2 → IVec S16 32) a x).toNat < S4x10000.size a := fun v5 v6 v7 v8 v34 v158 v168 k1_hw11 k1_t5 k1_h1 => k1_hw11.2.2.2.2.2.2.2.2.2.2.2.2.2.2.2.1 k1_t5 k1_h1
theorem k1_idx75_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v8, v34] : Fin 2 → IVec S16 32) a x).toNat < S4x10000.size a := fun v5 v6 v7 v8 v34 v158 v168 k1_hw11 k1_t5 k1_h1 => k1_hw11.2.2.2.2.2.2.2.2.2.2.2.2.2.2.2.2.1 k1_t5 k1_h1
theorem k1_idx76_inb : ∀ (v5 : IVec S16 32) (v6 : IVec S16 32) (v7 : IVec S16 32) (v8 : IVec S16 32) (v34 : IVec S16 32) (v158 : BitVec 32) (v168 : BitVec 32) (k1_hw11 : k1_chk11 v5 v6 v7 v8 v34 v158 v168) (k1_t5 : Fin (k1_t5_loop v168).trips), ∀ (k1_h1 : ¬(k1_cond1 v158 = 1#1)), ∀ a x, ((![v8, v34] : Fin 2 → IVec S16 32) a x).toNat < S4x10000.size a := fun v5 v6 v7 v8 v34 v158 v168 k1_hw11 k1_t5 k1_h1 => k1_hw11.2.2.2.2.2.2.2.2.2.2.2.2.2.2.2.2.2 k1_t5 k1_h1
@[reducible] def k1_t6_loop (v180 : BitVec 32) : Scf.Loop 32 :=
  let c2_i32_88 : BitVec 32 := 2#32
  let c1_i32_86 : BitVec 32 := 1#32
  let v181 : BitVec 32 := Scalar.addi v180 c1_i32_86
  let v182 : BitVec 32 := Scalar.subi v181 c2_i32_88
  let c1_i32_89 : BitVec 32 := 1#32
  let v184 : BitVec 32 := Scalar.divsi v182 c1_i32_89
  let v185 : BitVec 32 := Scalar.muli v184 c1_i32_89
  let v186 : BitVec 32 := Scalar.addi c2_i32_88 v185
  let c1_i32_90 : BitVec 32 := 1#32
  ⟨c2_i32_88, v186, c1_i32_90⟩

@[reducible] def k1_t7_loop (v180 : BitVec 32) : Scf.Loop 32 :=
  let c2_i32_88 : BitVec 32 := 2#32
  let c1_i32_86 : BitVec 32 := 1#32
  let v181 : BitVec 32 := Scalar.addi v180 c1_i32_86
  let v182 : BitVec 32 := Scalar.subi v181 c2_i32_88
  let c1_i32_89 : BitVec 32 := 1#32
  let v184 : BitVec 32 := Scalar.divsi v182 c1_i32_89
  let v185 : BitVec 32 := Scalar.muli v184 c1_i32_89
  let v186 : BitVec 32 := Scalar.addi c2_i32_88 v185
  let v183 : BitVec 32 := Scalar.addi c2_i32_88 v182
  let c1_i32_91 : BitVec 32 := 1#32
  ⟨v186, v183, c1_i32_91⟩

def k1_chk12 (v5 : IVec S16 32) (v6 : IVec S16 32) (v7 : IVec S16 32) (v8 : IVec S16 32) (v38 : IVec S16 32) (v158 : BitVec 32) (v180 : BitVec 32) : Prop :=
  (∀ (k1_h1 : ¬(k1_cond1 v158 = 1#1)), (k1_t6_loop v180).OK) ∧
  (∀ k1_t6 : Fin (k1_t6_loop v180).trips, ∀ (k1_h1 : ¬(k1_cond1 v158 = 1#1)), ∀ a x, ((![v5, v38] : Fin 2 → IVec S16 32) a x).toNat < S4x10000.size a) ∧
  (∀ k1_t6 : Fin (k1_t6_loop v180).trips, ∀ (k1_h1 : ¬(k1_cond1 v158 = 1#1)), ∀ a x, ((![v5, v38] : Fin 2 → IVec S16 32) a x).toNat < S4x10000.size a) ∧
  (∀ k1_t6 : Fin (k1_t6_loop v180).trips, ∀ (k1_h1 : ¬(k1_cond1 v158 = 1#1)), ∀ a x, ((![v6, v38] : Fin 2 → IVec S16 32) a x).toNat < S4x10000.size a) ∧
  (∀ k1_t6 : Fin (k1_t6_loop v180).trips, ∀ (k1_h1 : ¬(k1_cond1 v158 = 1#1)), ∀ a x, ((![v6, v38] : Fin 2 → IVec S16 32) a x).toNat < S4x10000.size a) ∧
  (∀ k1_t6 : Fin (k1_t6_loop v180).trips, ∀ (k1_h1 : ¬(k1_cond1 v158 = 1#1)), ∀ a x, ((![v7, v38] : Fin 2 → IVec S16 32) a x).toNat < S4x10000.size a) ∧
  (∀ k1_t6 : Fin (k1_t6_loop v180).trips, ∀ (k1_h1 : ¬(k1_cond1 v158 = 1#1)), ∀ a x, ((![v7, v38] : Fin 2 → IVec S16 32) a x).toNat < S4x10000.size a) ∧
  (∀ k1_t6 : Fin (k1_t6_loop v180).trips, ∀ (k1_h1 : ¬(k1_cond1 v158 = 1#1)), ∀ a x, ((![v8, v38] : Fin 2 → IVec S16 32) a x).toNat < S4x10000.size a) ∧
  (∀ k1_t6 : Fin (k1_t6_loop v180).trips, ∀ (k1_h1 : ¬(k1_cond1 v158 = 1#1)), ∀ a x, ((![v8, v38] : Fin 2 → IVec S16 32) a x).toNat < S4x10000.size a) ∧
  (∀ (k1_h1 : ¬(k1_cond1 v158 = 1#1)), (k1_t7_loop v180).OK) ∧
  (∀ k1_t7 : Fin (k1_t7_loop v180).trips, ∀ (k1_h1 : ¬(k1_cond1 v158 = 1#1)), ∀ a x, ((![v5, v38] : Fin 2 → IVec S16 32) a x).toNat < S4x10000.size a) ∧
  (∀ k1_t7 : Fin (k1_t7_loop v180).trips, ∀ (k1_h1 : ¬(k1_cond1 v158 = 1#1)), ∀ a x, ((![v5, v38] : Fin 2 → IVec S16 32) a x).toNat < S4x10000.size a) ∧
  (∀ k1_t7 : Fin (k1_t7_loop v180).trips, ∀ (k1_h1 : ¬(k1_cond1 v158 = 1#1)), ∀ a x, ((![v6, v38] : Fin 2 → IVec S16 32) a x).toNat < S4x10000.size a) ∧
  (∀ k1_t7 : Fin (k1_t7_loop v180).trips, ∀ (k1_h1 : ¬(k1_cond1 v158 = 1#1)), ∀ a x, ((![v6, v38] : Fin 2 → IVec S16 32) a x).toNat < S4x10000.size a) ∧
  (∀ k1_t7 : Fin (k1_t7_loop v180).trips, ∀ (k1_h1 : ¬(k1_cond1 v158 = 1#1)), ∀ a x, ((![v7, v38] : Fin 2 → IVec S16 32) a x).toNat < S4x10000.size a) ∧
  (∀ k1_t7 : Fin (k1_t7_loop v180).trips, ∀ (k1_h1 : ¬(k1_cond1 v158 = 1#1)), ∀ a x, ((![v7, v38] : Fin 2 → IVec S16 32) a x).toNat < S4x10000.size a) ∧
  (∀ k1_t7 : Fin (k1_t7_loop v180).trips, ∀ (k1_h1 : ¬(k1_cond1 v158 = 1#1)), ∀ a x, ((![v8, v38] : Fin 2 → IVec S16 32) a x).toNat < S4x10000.size a) ∧
  (∀ k1_t7 : Fin (k1_t7_loop v180).trips, ∀ (k1_h1 : ¬(k1_cond1 v158 = 1#1)), ∀ a x, ((![v8, v38] : Fin 2 → IVec S16 32) a x).toNat < S4x10000.size a)
theorem k1_t6_ok : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180), ∀ (k1_h1 : ¬(k1_cond1 v158 = 1#1)), (k1_t6_loop v180).OK := fun v5 v6 v7 v8 v38 v158 v180 k1_hw12 k1_h1 => k1_hw12.1 k1_h1
theorem k1_idx77_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v5, v38] : Fin 2 → IVec S16 32) a x).toNat < S4x10000.size a := fun v5 v6 v7 v8 v38 v158 v180 k1_hw12 k1_t6 k1_h1 => k1_hw12.2.1 k1_t6 k1_h1
theorem k1_idx78_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v5, v38] : Fin 2 → IVec S16 32) a x).toNat < S4x10000.size a := fun v5 v6 v7 v8 v38 v158 v180 k1_hw12 k1_t6 k1_h1 => k1_hw12.2.2.1 k1_t6 k1_h1
theorem k1_idx79_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v6, v38] : Fin 2 → IVec S16 32) a x).toNat < S4x10000.size a := fun v5 v6 v7 v8 v38 v158 v180 k1_hw12 k1_t6 k1_h1 => k1_hw12.2.2.2.1 k1_t6 k1_h1
theorem k1_idx80_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v6, v38] : Fin 2 → IVec S16 32) a x).toNat < S4x10000.size a := fun v5 v6 v7 v8 v38 v158 v180 k1_hw12 k1_t6 k1_h1 => k1_hw12.2.2.2.2.1 k1_t6 k1_h1
theorem k1_idx81_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v7, v38] : Fin 2 → IVec S16 32) a x).toNat < S4x10000.size a := fun v5 v6 v7 v8 v38 v158 v180 k1_hw12 k1_t6 k1_h1 => k1_hw12.2.2.2.2.2.1 k1_t6 k1_h1
theorem k1_idx82_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v7, v38] : Fin 2 → IVec S16 32) a x).toNat < S4x10000.size a := fun v5 v6 v7 v8 v38 v158 v180 k1_hw12 k1_t6 k1_h1 => k1_hw12.2.2.2.2.2.2.1 k1_t6 k1_h1
theorem k1_idx83_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v8, v38] : Fin 2 → IVec S16 32) a x).toNat < S4x10000.size a := fun v5 v6 v7 v8 v38 v158 v180 k1_hw12 k1_t6 k1_h1 => k1_hw12.2.2.2.2.2.2.2.1 k1_t6 k1_h1
theorem k1_idx84_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t6 : Fin (k1_t6_loop v180).trips), ∀ (k1_h1 : ¬(k1_cond1 v158 = 1#1)), ∀ a x, ((![v8, v38] : Fin 2 → IVec S16 32) a x).toNat < S4x10000.size a := fun v5 v6 v7 v8 v38 v158 v180 k1_hw12 k1_t6 k1_h1 => k1_hw12.2.2.2.2.2.2.2.2.1 k1_t6 k1_h1
theorem k1_t7_ok : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180), ∀ (k1_h1 : ¬(k1_cond1 v158 = 1#1)), (k1_t7_loop v180).OK := fun v5 v6 v7 v8 v38 v158 v180 k1_hw12 k1_h1 => k1_hw12.2.2.2.2.2.2.2.2.2.1 k1_h1
theorem k1_idx85_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v5, v38] : Fin 2 → IVec S16 32) a x).toNat < S4x10000.size a := fun v5 v6 v7 v8 v38 v158 v180 k1_hw12 k1_t7 k1_h1 => k1_hw12.2.2.2.2.2.2.2.2.2.2.1 k1_t7 k1_h1
theorem k1_idx86_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v5, v38] : Fin 2 → IVec S16 32) a x).toNat < S4x10000.size a := fun v5 v6 v7 v8 v38 v158 v180 k1_hw12 k1_t7 k1_h1 => k1_hw12.2.2.2.2.2.2.2.2.2.2.2.1 k1_t7 k1_h1
theorem k1_idx87_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v6, v38] : Fin 2 → IVec S16 32) a x).toNat < S4x10000.size a := fun v5 v6 v7 v8 v38 v158 v180 k1_hw12 k1_t7 k1_h1 => k1_hw12.2.2.2.2.2.2.2.2.2.2.2.2.1 k1_t7 k1_h1
theorem k1_idx88_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v6, v38] : Fin 2 → IVec S16 32) a x).toNat < S4x10000.size a := fun v5 v6 v7 v8 v38 v158 v180 k1_hw12 k1_t7 k1_h1 => k1_hw12.2.2.2.2.2.2.2.2.2.2.2.2.2.1 k1_t7 k1_h1
theorem k1_idx89_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v7, v38] : Fin 2 → IVec S16 32) a x).toNat < S4x10000.size a := fun v5 v6 v7 v8 v38 v158 v180 k1_hw12 k1_t7 k1_h1 => k1_hw12.2.2.2.2.2.2.2.2.2.2.2.2.2.2.1 k1_t7 k1_h1
theorem k1_idx90_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v7, v38] : Fin 2 → IVec S16 32) a x).toNat < S4x10000.size a := fun v5 v6 v7 v8 v38 v158 v180 k1_hw12 k1_t7 k1_h1 => k1_hw12.2.2.2.2.2.2.2.2.2.2.2.2.2.2.2.1 k1_t7 k1_h1
theorem k1_idx91_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v8, v38] : Fin 2 → IVec S16 32) a x).toNat < S4x10000.size a := fun v5 v6 v7 v8 v38 v158 v180 k1_hw12 k1_t7 k1_h1 => k1_hw12.2.2.2.2.2.2.2.2.2.2.2.2.2.2.2.2.1 k1_t7 k1_h1
theorem k1_idx92_inb : ∀ (v5 : IVec S16 32) (v6 : IVec S16 32) (v7 : IVec S16 32) (v8 : IVec S16 32) (v38 : IVec S16 32) (v158 : BitVec 32) (v180 : BitVec 32) (k1_hw12 : k1_chk12 v5 v6 v7 v8 v38 v158 v180) (k1_t7 : Fin (k1_t7_loop v180).trips), ∀ (k1_h1 : ¬(k1_cond1 v158 = 1#1)), ∀ a x, ((![v8, v38] : Fin 2 → IVec S16 32) a x).toNat < S4x10000.size a := fun v5 v6 v7 v8 v38 v158 v180 k1_hw12 k1_t7 k1_h1 => k1_hw12.2.2.2.2.2.2.2.2.2.2.2.2.2.2.2.2.2 k1_t7 k1_h1
@[reducible] def k1_t8_loop (v192 : BitVec 32) : Scf.Loop 32 :=
  let c2_i32_96 : BitVec 32 := 2#32
  let c1_i32_94 : BitVec 32 := 1#32
  let v193 : BitVec 32 := Scalar.addi v192 c1_i32_94
  let v194 : BitVec 32 := Scalar.subi v193 c2_i32_96
  let c1_i32_97 : BitVec 32 := 1#32
  let v196 : BitVec 32 := Scalar.divsi v194 c1_i32_97
  let v197 : BitVec 32 := Scalar.muli v196 c1_i32_97
  let v198 : BitVec 32 := Scalar.addi c2_i32_96 v197
  let c1_i32_98 : BitVec 32 := 1#32
  ⟨c2_i32_96, v198, c1_i32_98⟩

@[reducible] def k1_t9_loop (v192 : BitVec 32) : Scf.Loop 32 :=
  let c2_i32_96 : BitVec 32 := 2#32
  let c1_i32_94 : BitVec 32 := 1#32
  let v193 : BitVec 32 := Scalar.addi v192 c1_i32_94
  let v194 : BitVec 32 := Scalar.subi v193 c2_i32_96
  let c1_i32_97 : BitVec 32 := 1#32
  let v196 : BitVec 32 := Scalar.divsi v194 c1_i32_97
  let v197 : BitVec 32 := Scalar.muli v196 c1_i32_97
  let v198 : BitVec 32 := Scalar.addi c2_i32_96 v197
  let v195 : BitVec 32 := Scalar.addi c2_i32_96 v194
  let c1_i32_99 : BitVec 32 := 1#32
  ⟨v198, v195, c1_i32_99⟩

def k1_chk13 (v5 : IVec S16 32) (v6 : IVec S16 32) (v7 : IVec S16 32) (v8 : IVec S16 32) (v42 : IVec S16 32) (v158 : BitVec 32) (v192 : BitVec 32) : Prop :=
  (∀ (k1_h1 : ¬(k1_cond1 v158 = 1#1)), (k1_t8_loop v192).OK) ∧
  (∀ k1_t8 : Fin (k1_t8_loop v192).trips, ∀ (k1_h1 : ¬(k1_cond1 v158 = 1#1)), ∀ a x, ((![v5, v42] : Fin 2 → IVec S16 32) a x).toNat < S4x10000.size a) ∧
  (∀ k1_t8 : Fin (k1_t8_loop v192).trips, ∀ (k1_h1 : ¬(k1_cond1 v158 = 1#1)), ∀ a x, ((![v5, v42] : Fin 2 → IVec S16 32) a x).toNat < S4x10000.size a) ∧
  (∀ k1_t8 : Fin (k1_t8_loop v192).trips, ∀ (k1_h1 : ¬(k1_cond1 v158 = 1#1)), ∀ a x, ((![v6, v42] : Fin 2 → IVec S16 32) a x).toNat < S4x10000.size a) ∧
  (∀ k1_t8 : Fin (k1_t8_loop v192).trips, ∀ (k1_h1 : ¬(k1_cond1 v158 = 1#1)), ∀ a x, ((![v6, v42] : Fin 2 → IVec S16 32) a x).toNat < S4x10000.size a) ∧
  (∀ k1_t8 : Fin (k1_t8_loop v192).trips, ∀ (k1_h1 : ¬(k1_cond1 v158 = 1#1)), ∀ a x, ((![v7, v42] : Fin 2 → IVec S16 32) a x).toNat < S4x10000.size a) ∧
  (∀ k1_t8 : Fin (k1_t8_loop v192).trips, ∀ (k1_h1 : ¬(k1_cond1 v158 = 1#1)), ∀ a x, ((![v7, v42] : Fin 2 → IVec S16 32) a x).toNat < S4x10000.size a) ∧
  (∀ k1_t8 : Fin (k1_t8_loop v192).trips, ∀ (k1_h1 : ¬(k1_cond1 v158 = 1#1)), ∀ a x, ((![v8, v42] : Fin 2 → IVec S16 32) a x).toNat < S4x10000.size a) ∧
  (∀ k1_t8 : Fin (k1_t8_loop v192).trips, ∀ (k1_h1 : ¬(k1_cond1 v158 = 1#1)), ∀ a x, ((![v8, v42] : Fin 2 → IVec S16 32) a x).toNat < S4x10000.size a) ∧
  (∀ (k1_h1 : ¬(k1_cond1 v158 = 1#1)), (k1_t9_loop v192).OK) ∧
  (∀ k1_t9 : Fin (k1_t9_loop v192).trips, ∀ (k1_h1 : ¬(k1_cond1 v158 = 1#1)), ∀ a x, ((![v5, v42] : Fin 2 → IVec S16 32) a x).toNat < S4x10000.size a) ∧
  (∀ k1_t9 : Fin (k1_t9_loop v192).trips, ∀ (k1_h1 : ¬(k1_cond1 v158 = 1#1)), ∀ a x, ((![v5, v42] : Fin 2 → IVec S16 32) a x).toNat < S4x10000.size a) ∧
  (∀ k1_t9 : Fin (k1_t9_loop v192).trips, ∀ (k1_h1 : ¬(k1_cond1 v158 = 1#1)), ∀ a x, ((![v6, v42] : Fin 2 → IVec S16 32) a x).toNat < S4x10000.size a) ∧
  (∀ k1_t9 : Fin (k1_t9_loop v192).trips, ∀ (k1_h1 : ¬(k1_cond1 v158 = 1#1)), ∀ a x, ((![v6, v42] : Fin 2 → IVec S16 32) a x).toNat < S4x10000.size a) ∧
  (∀ k1_t9 : Fin (k1_t9_loop v192).trips, ∀ (k1_h1 : ¬(k1_cond1 v158 = 1#1)), ∀ a x, ((![v7, v42] : Fin 2 → IVec S16 32) a x).toNat < S4x10000.size a) ∧
  (∀ k1_t9 : Fin (k1_t9_loop v192).trips, ∀ (k1_h1 : ¬(k1_cond1 v158 = 1#1)), ∀ a x, ((![v7, v42] : Fin 2 → IVec S16 32) a x).toNat < S4x10000.size a) ∧
  (∀ k1_t9 : Fin (k1_t9_loop v192).trips, ∀ (k1_h1 : ¬(k1_cond1 v158 = 1#1)), ∀ a x, ((![v8, v42] : Fin 2 → IVec S16 32) a x).toNat < S4x10000.size a) ∧
  (∀ k1_t9 : Fin (k1_t9_loop v192).trips, ∀ (k1_h1 : ¬(k1_cond1 v158 = 1#1)), ∀ a x, ((![v8, v42] : Fin 2 → IVec S16 32) a x).toNat < S4x10000.size a)
theorem k1_t8_ok : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192), ∀ (k1_h1 : ¬(k1_cond1 v158 = 1#1)), (k1_t8_loop v192).OK := fun v5 v6 v7 v8 v42 v158 v192 k1_hw13 k1_h1 => k1_hw13.1 k1_h1
theorem k1_idx93_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v5, v42] : Fin 2 → IVec S16 32) a x).toNat < S4x10000.size a := fun v5 v6 v7 v8 v42 v158 v192 k1_hw13 k1_t8 k1_h1 => k1_hw13.2.1 k1_t8 k1_h1
theorem k1_idx94_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v5, v42] : Fin 2 → IVec S16 32) a x).toNat < S4x10000.size a := fun v5 v6 v7 v8 v42 v158 v192 k1_hw13 k1_t8 k1_h1 => k1_hw13.2.2.1 k1_t8 k1_h1
theorem k1_idx95_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v6, v42] : Fin 2 → IVec S16 32) a x).toNat < S4x10000.size a := fun v5 v6 v7 v8 v42 v158 v192 k1_hw13 k1_t8 k1_h1 => k1_hw13.2.2.2.1 k1_t8 k1_h1
theorem k1_idx96_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v6, v42] : Fin 2 → IVec S16 32) a x).toNat < S4x10000.size a := fun v5 v6 v7 v8 v42 v158 v192 k1_hw13 k1_t8 k1_h1 => k1_hw13.2.2.2.2.1 k1_t8 k1_h1
theorem k1_idx97_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v7, v42] : Fin 2 → IVec S16 32) a x).toNat < S4x10000.size a := fun v5 v6 v7 v8 v42 v158 v192 k1_hw13 k1_t8 k1_h1 => k1_hw13.2.2.2.2.2.1 k1_t8 k1_h1
theorem k1_idx98_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v7, v42] : Fin 2 → IVec S16 32) a x).toNat < S4x10000.size a := fun v5 v6 v7 v8 v42 v158 v192 k1_hw13 k1_t8 k1_h1 => k1_hw13.2.2.2.2.2.2.1 k1_t8 k1_h1
theorem k1_idx99_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v8, v42] : Fin 2 → IVec S16 32) a x).toNat < S4x10000.size a := fun v5 v6 v7 v8 v42 v158 v192 k1_hw13 k1_t8 k1_h1 => k1_hw13.2.2.2.2.2.2.2.1 k1_t8 k1_h1
theorem k1_idx100_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t8 : Fin (k1_t8_loop v192).trips), ∀ (k1_h1 : ¬(k1_cond1 v158 = 1#1)), ∀ a x, ((![v8, v42] : Fin 2 → IVec S16 32) a x).toNat < S4x10000.size a := fun v5 v6 v7 v8 v42 v158 v192 k1_hw13 k1_t8 k1_h1 => k1_hw13.2.2.2.2.2.2.2.2.1 k1_t8 k1_h1
theorem k1_t9_ok : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192), ∀ (k1_h1 : ¬(k1_cond1 v158 = 1#1)), (k1_t9_loop v192).OK := fun v5 v6 v7 v8 v42 v158 v192 k1_hw13 k1_h1 => k1_hw13.2.2.2.2.2.2.2.2.2.1 k1_h1
theorem k1_idx101_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v5, v42] : Fin 2 → IVec S16 32) a x).toNat < S4x10000.size a := fun v5 v6 v7 v8 v42 v158 v192 k1_hw13 k1_t9 k1_h1 => k1_hw13.2.2.2.2.2.2.2.2.2.2.1 k1_t9 k1_h1
theorem k1_idx102_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v5, v42] : Fin 2 → IVec S16 32) a x).toNat < S4x10000.size a := fun v5 v6 v7 v8 v42 v158 v192 k1_hw13 k1_t9 k1_h1 => k1_hw13.2.2.2.2.2.2.2.2.2.2.2.1 k1_t9 k1_h1
theorem k1_idx103_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v6, v42] : Fin 2 → IVec S16 32) a x).toNat < S4x10000.size a := fun v5 v6 v7 v8 v42 v158 v192 k1_hw13 k1_t9 k1_h1 => k1_hw13.2.2.2.2.2.2.2.2.2.2.2.2.1 k1_t9 k1_h1
theorem k1_idx104_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v6, v42] : Fin 2 → IVec S16 32) a x).toNat < S4x10000.size a := fun v5 v6 v7 v8 v42 v158 v192 k1_hw13 k1_t9 k1_h1 => k1_hw13.2.2.2.2.2.2.2.2.2.2.2.2.2.1 k1_t9 k1_h1
theorem k1_idx105_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v7, v42] : Fin 2 → IVec S16 32) a x).toNat < S4x10000.size a := fun v5 v6 v7 v8 v42 v158 v192 k1_hw13 k1_t9 k1_h1 => k1_hw13.2.2.2.2.2.2.2.2.2.2.2.2.2.2.1 k1_t9 k1_h1
theorem k1_idx106_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v7, v42] : Fin 2 → IVec S16 32) a x).toNat < S4x10000.size a := fun v5 v6 v7 v8 v42 v158 v192 k1_hw13 k1_t9 k1_h1 => k1_hw13.2.2.2.2.2.2.2.2.2.2.2.2.2.2.2.1 k1_t9 k1_h1
theorem k1_idx107_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v8, v42] : Fin 2 → IVec S16 32) a x).toNat < S4x10000.size a := fun v5 v6 v7 v8 v42 v158 v192 k1_hw13 k1_t9 k1_h1 => k1_hw13.2.2.2.2.2.2.2.2.2.2.2.2.2.2.2.2.1 k1_t9 k1_h1
theorem k1_idx108_inb : ∀ (v5 : IVec S16 32) (v6 : IVec S16 32) (v7 : IVec S16 32) (v8 : IVec S16 32) (v42 : IVec S16 32) (v158 : BitVec 32) (v192 : BitVec 32) (k1_hw13 : k1_chk13 v5 v6 v7 v8 v42 v158 v192) (k1_t9 : Fin (k1_t9_loop v192).trips), ∀ (k1_h1 : ¬(k1_cond1 v158 = 1#1)), ∀ a x, ((![v8, v42] : Fin 2 → IVec S16 32) a x).toNat < S4x10000.size a := fun v5 v6 v7 v8 v42 v158 v192 k1_hw13 k1_t9 k1_h1 => k1_hw13.2.2.2.2.2.2.2.2.2.2.2.2.2.2.2.2.2 k1_t9 k1_h1
@[reducible] def k1_t10_loop (v204 : BitVec 32) : Scf.Loop 32 :=
  let c2_i32_104 : BitVec 32 := 2#32
  let c1_i32_102 : BitVec 32 := 1#32
  let v205 : BitVec 32 := Scalar.addi v204 c1_i32_102
  let v206 : BitVec 32 := Scalar.subi v205 c2_i32_104
  let c1_i32_105 : BitVec 32 := 1#32
  let v208 : BitVec 32 := Scalar.divsi v206 c1_i32_105
  let v209 : BitVec 32 := Scalar.muli v208 c1_i32_105
  let v210 : BitVec 32 := Scalar.addi c2_i32_104 v209
  let c1_i32_106 : BitVec 32 := 1#32
  ⟨c2_i32_104, v210, c1_i32_106⟩

@[reducible] def k1_t11_loop (v204 : BitVec 32) : Scf.Loop 32 :=
  let c2_i32_104 : BitVec 32 := 2#32
  let c1_i32_102 : BitVec 32 := 1#32
  let v205 : BitVec 32 := Scalar.addi v204 c1_i32_102
  let v206 : BitVec 32 := Scalar.subi v205 c2_i32_104
  let c1_i32_105 : BitVec 32 := 1#32
  let v208 : BitVec 32 := Scalar.divsi v206 c1_i32_105
  let v209 : BitVec 32 := Scalar.muli v208 c1_i32_105
  let v210 : BitVec 32 := Scalar.addi c2_i32_104 v209
  let v207 : BitVec 32 := Scalar.addi c2_i32_104 v206
  let c1_i32_107 : BitVec 32 := 1#32
  ⟨v210, v207, c1_i32_107⟩

def k1_chk14 (v5 : IVec S16 32) (v6 : IVec S16 32) (v7 : IVec S16 32) (v8 : IVec S16 32) (v46 : IVec S16 32) (v158 : BitVec 32) (v204 : BitVec 32) : Prop :=
  (∀ (k1_h1 : ¬(k1_cond1 v158 = 1#1)), (k1_t10_loop v204).OK) ∧
  (∀ k1_t10 : Fin (k1_t10_loop v204).trips, ∀ (k1_h1 : ¬(k1_cond1 v158 = 1#1)), ∀ a x, ((![v5, v46] : Fin 2 → IVec S16 32) a x).toNat < S4x10000.size a) ∧
  (∀ k1_t10 : Fin (k1_t10_loop v204).trips, ∀ (k1_h1 : ¬(k1_cond1 v158 = 1#1)), ∀ a x, ((![v5, v46] : Fin 2 → IVec S16 32) a x).toNat < S4x10000.size a) ∧
  (∀ k1_t10 : Fin (k1_t10_loop v204).trips, ∀ (k1_h1 : ¬(k1_cond1 v158 = 1#1)), ∀ a x, ((![v6, v46] : Fin 2 → IVec S16 32) a x).toNat < S4x10000.size a) ∧
  (∀ k1_t10 : Fin (k1_t10_loop v204).trips, ∀ (k1_h1 : ¬(k1_cond1 v158 = 1#1)), ∀ a x, ((![v6, v46] : Fin 2 → IVec S16 32) a x).toNat < S4x10000.size a) ∧
  (∀ k1_t10 : Fin (k1_t10_loop v204).trips, ∀ (k1_h1 : ¬(k1_cond1 v158 = 1#1)), ∀ a x, ((![v7, v46] : Fin 2 → IVec S16 32) a x).toNat < S4x10000.size a) ∧
  (∀ k1_t10 : Fin (k1_t10_loop v204).trips, ∀ (k1_h1 : ¬(k1_cond1 v158 = 1#1)), ∀ a x, ((![v7, v46] : Fin 2 → IVec S16 32) a x).toNat < S4x10000.size a) ∧
  (∀ k1_t10 : Fin (k1_t10_loop v204).trips, ∀ (k1_h1 : ¬(k1_cond1 v158 = 1#1)), ∀ a x, ((![v8, v46] : Fin 2 → IVec S16 32) a x).toNat < S4x10000.size a) ∧
  (∀ k1_t10 : Fin (k1_t10_loop v204).trips, ∀ (k1_h1 : ¬(k1_cond1 v158 = 1#1)), ∀ a x, ((![v8, v46] : Fin 2 → IVec S16 32) a x).toNat < S4x10000.size a) ∧
  (∀ (k1_h1 : ¬(k1_cond1 v158 = 1#1)), (k1_t11_loop v204).OK) ∧
  (∀ k1_t11 : Fin (k1_t11_loop v204).trips, ∀ (k1_h1 : ¬(k1_cond1 v158 = 1#1)), ∀ a x, ((![v5, v46] : Fin 2 → IVec S16 32) a x).toNat < S4x10000.size a) ∧
  (∀ k1_t11 : Fin (k1_t11_loop v204).trips, ∀ (k1_h1 : ¬(k1_cond1 v158 = 1#1)), ∀ a x, ((![v5, v46] : Fin 2 → IVec S16 32) a x).toNat < S4x10000.size a) ∧
  (∀ k1_t11 : Fin (k1_t11_loop v204).trips, ∀ (k1_h1 : ¬(k1_cond1 v158 = 1#1)), ∀ a x, ((![v6, v46] : Fin 2 → IVec S16 32) a x).toNat < S4x10000.size a) ∧
  (∀ k1_t11 : Fin (k1_t11_loop v204).trips, ∀ (k1_h1 : ¬(k1_cond1 v158 = 1#1)), ∀ a x, ((![v6, v46] : Fin 2 → IVec S16 32) a x).toNat < S4x10000.size a) ∧
  (∀ k1_t11 : Fin (k1_t11_loop v204).trips, ∀ (k1_h1 : ¬(k1_cond1 v158 = 1#1)), ∀ a x, ((![v7, v46] : Fin 2 → IVec S16 32) a x).toNat < S4x10000.size a) ∧
  (∀ k1_t11 : Fin (k1_t11_loop v204).trips, ∀ (k1_h1 : ¬(k1_cond1 v158 = 1#1)), ∀ a x, ((![v7, v46] : Fin 2 → IVec S16 32) a x).toNat < S4x10000.size a) ∧
  (∀ k1_t11 : Fin (k1_t11_loop v204).trips, ∀ (k1_h1 : ¬(k1_cond1 v158 = 1#1)), ∀ a x, ((![v8, v46] : Fin 2 → IVec S16 32) a x).toNat < S4x10000.size a) ∧
  (∀ k1_t11 : Fin (k1_t11_loop v204).trips, ∀ (k1_h1 : ¬(k1_cond1 v158 = 1#1)), ∀ a x, ((![v8, v46] : Fin 2 → IVec S16 32) a x).toNat < S4x10000.size a)
theorem k1_t10_ok : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204), ∀ (k1_h1 : ¬(k1_cond1 v158 = 1#1)), (k1_t10_loop v204).OK := fun v5 v6 v7 v8 v46 v158 v204 k1_hw14 k1_h1 => k1_hw14.1 k1_h1
theorem k1_idx109_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v5, v46] : Fin 2 → IVec S16 32) a x).toNat < S4x10000.size a := fun v5 v6 v7 v8 v46 v158 v204 k1_hw14 k1_t10 k1_h1 => k1_hw14.2.1 k1_t10 k1_h1
theorem k1_idx110_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v5, v46] : Fin 2 → IVec S16 32) a x).toNat < S4x10000.size a := fun v5 v6 v7 v8 v46 v158 v204 k1_hw14 k1_t10 k1_h1 => k1_hw14.2.2.1 k1_t10 k1_h1
theorem k1_idx111_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v6, v46] : Fin 2 → IVec S16 32) a x).toNat < S4x10000.size a := fun v5 v6 v7 v8 v46 v158 v204 k1_hw14 k1_t10 k1_h1 => k1_hw14.2.2.2.1 k1_t10 k1_h1
theorem k1_idx112_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v6, v46] : Fin 2 → IVec S16 32) a x).toNat < S4x10000.size a := fun v5 v6 v7 v8 v46 v158 v204 k1_hw14 k1_t10 k1_h1 => k1_hw14.2.2.2.2.1 k1_t10 k1_h1
theorem k1_idx113_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v7, v46] : Fin 2 → IVec S16 32) a x).toNat < S4x10000.size a := fun v5 v6 v7 v8 v46 v158 v204 k1_hw14 k1_t10 k1_h1 => k1_hw14.2.2.2.2.2.1 k1_t10 k1_h1
theorem k1_idx114_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v7, v46] : Fin 2 → IVec S16 32) a x).toNat < S4x10000.size a := fun v5 v6 v7 v8 v46 v158 v204 k1_hw14 k1_t10 k1_h1 => k1_hw14.2.2.2.2.2.2.1 k1_t10 k1_h1
theorem k1_idx115_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v8, v46] : Fin 2 → IVec S16 32) a x).toNat < S4x10000.size a := fun v5 v6 v7 v8 v46 v158 v204 k1_hw14 k1_t10 k1_h1 => k1_hw14.2.2.2.2.2.2.2.1 k1_t10 k1_h1
theorem k1_idx116_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t10 : Fin (k1_t10_loop v204).trips), ∀ (k1_h1 : ¬(k1_cond1 v158 = 1#1)), ∀ a x, ((![v8, v46] : Fin 2 → IVec S16 32) a x).toNat < S4x10000.size a := fun v5 v6 v7 v8 v46 v158 v204 k1_hw14 k1_t10 k1_h1 => k1_hw14.2.2.2.2.2.2.2.2.1 k1_t10 k1_h1
theorem k1_t11_ok : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204), ∀ (k1_h1 : ¬(k1_cond1 v158 = 1#1)), (k1_t11_loop v204).OK := fun v5 v6 v7 v8 v46 v158 v204 k1_hw14 k1_h1 => k1_hw14.2.2.2.2.2.2.2.2.2.1 k1_h1
theorem k1_idx117_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v5, v46] : Fin 2 → IVec S16 32) a x).toNat < S4x10000.size a := fun v5 v6 v7 v8 v46 v158 v204 k1_hw14 k1_t11 k1_h1 => k1_hw14.2.2.2.2.2.2.2.2.2.2.1 k1_t11 k1_h1
theorem k1_idx118_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v5, v46] : Fin 2 → IVec S16 32) a x).toNat < S4x10000.size a := fun v5 v6 v7 v8 v46 v158 v204 k1_hw14 k1_t11 k1_h1 => k1_hw14.2.2.2.2.2.2.2.2.2.2.2.1 k1_t11 k1_h1
theorem k1_idx119_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v6, v46] : Fin 2 → IVec S16 32) a x).toNat < S4x10000.size a := fun v5 v6 v7 v8 v46 v158 v204 k1_hw14 k1_t11 k1_h1 => k1_hw14.2.2.2.2.2.2.2.2.2.2.2.2.1 k1_t11 k1_h1
theorem k1_idx120_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v6, v46] : Fin 2 → IVec S16 32) a x).toNat < S4x10000.size a := fun v5 v6 v7 v8 v46 v158 v204 k1_hw14 k1_t11 k1_h1 => k1_hw14.2.2.2.2.2.2.2.2.2.2.2.2.2.1 k1_t11 k1_h1
theorem k1_idx121_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v7, v46] : Fin 2 → IVec S16 32) a x).toNat < S4x10000.size a := fun v5 v6 v7 v8 v46 v158 v204 k1_hw14 k1_t11 k1_h1 => k1_hw14.2.2.2.2.2.2.2.2.2.2.2.2.2.2.1 k1_t11 k1_h1
theorem k1_idx122_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v7, v46] : Fin 2 → IVec S16 32) a x).toNat < S4x10000.size a := fun v5 v6 v7 v8 v46 v158 v204 k1_hw14 k1_t11 k1_h1 => k1_hw14.2.2.2.2.2.2.2.2.2.2.2.2.2.2.2.1 k1_t11 k1_h1
theorem k1_idx123_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v8, v46] : Fin 2 → IVec S16 32) a x).toNat < S4x10000.size a := fun v5 v6 v7 v8 v46 v158 v204 k1_hw14 k1_t11 k1_h1 => k1_hw14.2.2.2.2.2.2.2.2.2.2.2.2.2.2.2.2.1 k1_t11 k1_h1
theorem k1_idx124_inb : ∀ (v5 : IVec S16 32) (v6 : IVec S16 32) (v7 : IVec S16 32) (v8 : IVec S16 32) (v46 : IVec S16 32) (v158 : BitVec 32) (v204 : BitVec 32) (k1_hw14 : k1_chk14 v5 v6 v7 v8 v46 v158 v204) (k1_t11 : Fin (k1_t11_loop v204).trips), ∀ (k1_h1 : ¬(k1_cond1 v158 = 1#1)), ∀ a x, ((![v8, v46] : Fin 2 → IVec S16 32) a x).toNat < S4x10000.size a := fun v5 v6 v7 v8 v46 v158 v204 k1_hw14 k1_t11 k1_h1 => k1_hw14.2.2.2.2.2.2.2.2.2.2.2.2.2.2.2.2.2 k1_t11 k1_h1
@[reducible] def k1_t12_loop (v216 : BitVec 32) : Scf.Loop 32 :=
  let c2_i32_112 : BitVec 32 := 2#32
  let c1_i32_110 : BitVec 32 := 1#32
  let v217 : BitVec 32 := Scalar.addi v216 c1_i32_110
  let v218 : BitVec 32 := Scalar.subi v217 c2_i32_112
  let c1_i32_113 : BitVec 32 := 1#32
  let v220 : BitVec 32 := Scalar.divsi v218 c1_i32_113
  let v221 : BitVec 32 := Scalar.muli v220 c1_i32_113
  let v222 : BitVec 32 := Scalar.addi c2_i32_112 v221
  let c1_i32_114 : BitVec 32 := 1#32
  ⟨c2_i32_112, v222, c1_i32_114⟩

@[reducible] def k1_t13_loop (v216 : BitVec 32) : Scf.Loop 32 :=
  let c2_i32_112 : BitVec 32 := 2#32
  let c1_i32_110 : BitVec 32 := 1#32
  let v217 : BitVec 32 := Scalar.addi v216 c1_i32_110
  let v218 : BitVec 32 := Scalar.subi v217 c2_i32_112
  let c1_i32_113 : BitVec 32 := 1#32
  let v220 : BitVec 32 := Scalar.divsi v218 c1_i32_113
  let v221 : BitVec 32 := Scalar.muli v220 c1_i32_113
  let v222 : BitVec 32 := Scalar.addi c2_i32_112 v221
  let v219 : BitVec 32 := Scalar.addi c2_i32_112 v218
  let c1_i32_115 : BitVec 32 := 1#32
  ⟨v222, v219, c1_i32_115⟩

def k1_chk15 (v5 : IVec S16 32) (v6 : IVec S16 32) (v7 : IVec S16 32) (v8 : IVec S16 32) (v50 : IVec S16 32) (v158 : BitVec 32) (v216 : BitVec 32) : Prop :=
  (∀ (k1_h1 : ¬(k1_cond1 v158 = 1#1)), (k1_t12_loop v216).OK) ∧
  (∀ k1_t12 : Fin (k1_t12_loop v216).trips, ∀ (k1_h1 : ¬(k1_cond1 v158 = 1#1)), ∀ a x, ((![v5, v50] : Fin 2 → IVec S16 32) a x).toNat < S4x10000.size a) ∧
  (∀ k1_t12 : Fin (k1_t12_loop v216).trips, ∀ (k1_h1 : ¬(k1_cond1 v158 = 1#1)), ∀ a x, ((![v5, v50] : Fin 2 → IVec S16 32) a x).toNat < S4x10000.size a) ∧
  (∀ k1_t12 : Fin (k1_t12_loop v216).trips, ∀ (k1_h1 : ¬(k1_cond1 v158 = 1#1)), ∀ a x, ((![v6, v50] : Fin 2 → IVec S16 32) a x).toNat < S4x10000.size a) ∧
  (∀ k1_t12 : Fin (k1_t12_loop v216).trips, ∀ (k1_h1 : ¬(k1_cond1 v158 = 1#1)), ∀ a x, ((![v6, v50] : Fin 2 → IVec S16 32) a x).toNat < S4x10000.size a) ∧
  (∀ k1_t12 : Fin (k1_t12_loop v216).trips, ∀ (k1_h1 : ¬(k1_cond1 v158 = 1#1)), ∀ a x, ((![v7, v50] : Fin 2 → IVec S16 32) a x).toNat < S4x10000.size a) ∧
  (∀ k1_t12 : Fin (k1_t12_loop v216).trips, ∀ (k1_h1 : ¬(k1_cond1 v158 = 1#1)), ∀ a x, ((![v7, v50] : Fin 2 → IVec S16 32) a x).toNat < S4x10000.size a) ∧
  (∀ k1_t12 : Fin (k1_t12_loop v216).trips, ∀ (k1_h1 : ¬(k1_cond1 v158 = 1#1)), ∀ a x, ((![v8, v50] : Fin 2 → IVec S16 32) a x).toNat < S4x10000.size a) ∧
  (∀ k1_t12 : Fin (k1_t12_loop v216).trips, ∀ (k1_h1 : ¬(k1_cond1 v158 = 1#1)), ∀ a x, ((![v8, v50] : Fin 2 → IVec S16 32) a x).toNat < S4x10000.size a) ∧
  (∀ (k1_h1 : ¬(k1_cond1 v158 = 1#1)), (k1_t13_loop v216).OK) ∧
  (∀ k1_t13 : Fin (k1_t13_loop v216).trips, ∀ (k1_h1 : ¬(k1_cond1 v158 = 1#1)), ∀ a x, ((![v5, v50] : Fin 2 → IVec S16 32) a x).toNat < S4x10000.size a) ∧
  (∀ k1_t13 : Fin (k1_t13_loop v216).trips, ∀ (k1_h1 : ¬(k1_cond1 v158 = 1#1)), ∀ a x, ((![v5, v50] : Fin 2 → IVec S16 32) a x).toNat < S4x10000.size a) ∧
  (∀ k1_t13 : Fin (k1_t13_loop v216).trips, ∀ (k1_h1 : ¬(k1_cond1 v158 = 1#1)), ∀ a x, ((![v6, v50] : Fin 2 → IVec S16 32) a x).toNat < S4x10000.size a) ∧
  (∀ k1_t13 : Fin (k1_t13_loop v216).trips, ∀ (k1_h1 : ¬(k1_cond1 v158 = 1#1)), ∀ a x, ((![v6, v50] : Fin 2 → IVec S16 32) a x).toNat < S4x10000.size a) ∧
  (∀ k1_t13 : Fin (k1_t13_loop v216).trips, ∀ (k1_h1 : ¬(k1_cond1 v158 = 1#1)), ∀ a x, ((![v7, v50] : Fin 2 → IVec S16 32) a x).toNat < S4x10000.size a) ∧
  (∀ k1_t13 : Fin (k1_t13_loop v216).trips, ∀ (k1_h1 : ¬(k1_cond1 v158 = 1#1)), ∀ a x, ((![v7, v50] : Fin 2 → IVec S16 32) a x).toNat < S4x10000.size a) ∧
  (∀ k1_t13 : Fin (k1_t13_loop v216).trips, ∀ (k1_h1 : ¬(k1_cond1 v158 = 1#1)), ∀ a x, ((![v8, v50] : Fin 2 → IVec S16 32) a x).toNat < S4x10000.size a) ∧
  (∀ k1_t13 : Fin (k1_t13_loop v216).trips, ∀ (k1_h1 : ¬(k1_cond1 v158 = 1#1)), ∀ a x, ((![v8, v50] : Fin 2 → IVec S16 32) a x).toNat < S4x10000.size a)
theorem k1_t12_ok : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216), ∀ (k1_h1 : ¬(k1_cond1 v158 = 1#1)), (k1_t12_loop v216).OK := fun v5 v6 v7 v8 v50 v158 v216 k1_hw15 k1_h1 => k1_hw15.1 k1_h1
theorem k1_idx125_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v5, v50] : Fin 2 → IVec S16 32) a x).toNat < S4x10000.size a := fun v5 v6 v7 v8 v50 v158 v216 k1_hw15 k1_t12 k1_h1 => k1_hw15.2.1 k1_t12 k1_h1
theorem k1_idx126_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v5, v50] : Fin 2 → IVec S16 32) a x).toNat < S4x10000.size a := fun v5 v6 v7 v8 v50 v158 v216 k1_hw15 k1_t12 k1_h1 => k1_hw15.2.2.1 k1_t12 k1_h1
theorem k1_idx127_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v6, v50] : Fin 2 → IVec S16 32) a x).toNat < S4x10000.size a := fun v5 v6 v7 v8 v50 v158 v216 k1_hw15 k1_t12 k1_h1 => k1_hw15.2.2.2.1 k1_t12 k1_h1
theorem k1_idx128_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v6, v50] : Fin 2 → IVec S16 32) a x).toNat < S4x10000.size a := fun v5 v6 v7 v8 v50 v158 v216 k1_hw15 k1_t12 k1_h1 => k1_hw15.2.2.2.2.1 k1_t12 k1_h1
theorem k1_idx129_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v7, v50] : Fin 2 → IVec S16 32) a x).toNat < S4x10000.size a := fun v5 v6 v7 v8 v50 v158 v216 k1_hw15 k1_t12 k1_h1 => k1_hw15.2.2.2.2.2.1 k1_t12 k1_h1
theorem k1_idx130_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v7, v50] : Fin 2 → IVec S16 32) a x).toNat < S4x10000.size a := fun v5 v6 v7 v8 v50 v158 v216 k1_hw15 k1_t12 k1_h1 => k1_hw15.2.2.2.2.2.2.1 k1_t12 k1_h1
theorem k1_idx131_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v8, v50] : Fin 2 → IVec S16 32) a x).toNat < S4x10000.size a := fun v5 v6 v7 v8 v50 v158 v216 k1_hw15 k1_t12 k1_h1 => k1_hw15.2.2.2.2.2.2.2.1 k1_t12 k1_h1
theorem k1_idx132_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t12 : Fin (k1_t12_loop v216).trips), ∀ (k1_h1 : ¬(k1_cond1 v158 = 1#1)), ∀ a x, ((![v8, v50] : Fin 2 → IVec S16 32) a x).toNat < S4x10000.size a := fun v5 v6 v7 v8 v50 v158 v216 k1_hw15 k1_t12 k1_h1 => k1_hw15.2.2.2.2.2.2.2.2.1 k1_t12 k1_h1
theorem k1_t13_ok : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216), ∀ (k1_h1 : ¬(k1_cond1 v158 = 1#1)), (k1_t13_loop v216).OK := fun v5 v6 v7 v8 v50 v158 v216 k1_hw15 k1_h1 => k1_hw15.2.2.2.2.2.2.2.2.2.1 k1_h1
theorem k1_idx133_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v5, v50] : Fin 2 → IVec S16 32) a x).toNat < S4x10000.size a := fun v5 v6 v7 v8 v50 v158 v216 k1_hw15 k1_t13 k1_h1 => k1_hw15.2.2.2.2.2.2.2.2.2.2.1 k1_t13 k1_h1
theorem k1_idx134_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v5, v50] : Fin 2 → IVec S16 32) a x).toNat < S4x10000.size a := fun v5 v6 v7 v8 v50 v158 v216 k1_hw15 k1_t13 k1_h1 => k1_hw15.2.2.2.2.2.2.2.2.2.2.2.1 k1_t13 k1_h1
theorem k1_idx135_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v6, v50] : Fin 2 → IVec S16 32) a x).toNat < S4x10000.size a := fun v5 v6 v7 v8 v50 v158 v216 k1_hw15 k1_t13 k1_h1 => k1_hw15.2.2.2.2.2.2.2.2.2.2.2.2.1 k1_t13 k1_h1
theorem k1_idx136_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v6, v50] : Fin 2 → IVec S16 32) a x).toNat < S4x10000.size a := fun v5 v6 v7 v8 v50 v158 v216 k1_hw15 k1_t13 k1_h1 => k1_hw15.2.2.2.2.2.2.2.2.2.2.2.2.2.1 k1_t13 k1_h1
theorem k1_idx137_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v7, v50] : Fin 2 → IVec S16 32) a x).toNat < S4x10000.size a := fun v5 v6 v7 v8 v50 v158 v216 k1_hw15 k1_t13 k1_h1 => k1_hw15.2.2.2.2.2.2.2.2.2.2.2.2.2.2.1 k1_t13 k1_h1
theorem k1_idx138_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v7, v50] : Fin 2 → IVec S16 32) a x).toNat < S4x10000.size a := fun v5 v6 v7 v8 v50 v158 v216 k1_hw15 k1_t13 k1_h1 => k1_hw15.2.2.2.2.2.2.2.2.2.2.2.2.2.2.2.1 k1_t13 k1_h1
theorem k1_idx139_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v8, v50] : Fin 2 → IVec S16 32) a x).toNat < S4x10000.size a := fun v5 v6 v7 v8 v50 v158 v216 k1_hw15 k1_t13 k1_h1 => k1_hw15.2.2.2.2.2.2.2.2.2.2.2.2.2.2.2.2.1 k1_t13 k1_h1
theorem k1_idx140_inb : ∀ (v5 : IVec S16 32) (v6 : IVec S16 32) (v7 : IVec S16 32) (v8 : IVec S16 32) (v50 : IVec S16 32) (v158 : BitVec 32) (v216 : BitVec 32) (k1_hw15 : k1_chk15 v5 v6 v7 v8 v50 v158 v216) (k1_t13 : Fin (k1_t13_loop v216).trips), ∀ (k1_h1 : ¬(k1_cond1 v158 = 1#1)), ∀ a x, ((![v8, v50] : Fin 2 → IVec S16 32) a x).toNat < S4x10000.size a := fun v5 v6 v7 v8 v50 v158 v216 k1_hw15 k1_t13 k1_h1 => k1_hw15.2.2.2.2.2.2.2.2.2.2.2.2.2.2.2.2.2 k1_t13 k1_h1
def k1_cond2 (k1_t2 : Fin k1_t2_loop.trips) : BitVec 1 :=
  let c0_i32_13 : BitVec 32 := 0#32
  let c1_i32_14 : BitVec 32 := 1#32
  let arg11 : BitVec 32 := Scf.iv c0_i32_13 c1_i32_14 k1_t2
  let c24_i32 : BitVec 32 := 24#32
  let v19 : BitVec 1 := Scalar.cmpi .slt arg11 c24_i32
  let v20 : BitVec 32 := Scalar.extui v19
  let c0_i32_24 : BitVec 32 := 0#32
  let v21 : BitVec 1 := Scalar.cmpi .ne v20 c0_i32_24
  v21

def k1_off9 (k1_t2 : Fin k1_t2_loop.trips) : Fin 2 → Nat :=
  let c0_i32_38 : BitVec 32 := 0#32
  let c2_i32_16 : BitVec 32 := 2#32
  let c0_i32_13 : BitVec 32 := 0#32
  let c1_i32_14 : BitVec 32 := 1#32
  let arg11 : BitVec 32 := Scf.iv c0_i32_13 c1_i32_14 k1_t2
  let v14 : BitVec 32 := Scalar.muli c2_i32_16 arg11
  let c2_i32_36 : BitVec 32 := 2#32
  let v30 : BitVec 32 := Scalar.addi v14 c2_i32_36
  let c6400_i32_37 : BitVec 32 := 6400#32
  let v31 : BitVec 32 := Scalar.muli v30 c6400_i32_37
  ![0, v31.toNat]
def k1_off10 (k1_t2 : Fin k1_t2_loop.trips) : Fin 2 → Nat :=
  let c0_i32_27 : BitVec 32 := 0#32
  let c2_i32_16 : BitVec 32 := 2#32
  let c0_i32_13 : BitVec 32 := 0#32
  let c1_i32_14 : BitVec 32 := 1#32
  let arg11 : BitVec 32 := Scf.iv c0_i32_13 c1_i32_14 k1_t2
  let v14 : BitVec 32 := Scalar.muli c2_i32_16 arg11
  let c1_i32_25 : BitVec 32 := 1#32
  let v22 : BitVec 32 := Scalar.addi v14 c1_i32_25
  let c6400_i32_26 : BitVec 32 := 6400#32
  let v23 : BitVec 32 := Scalar.muli v22 c6400_i32_26
  ![0, v23.toNat]
@[reducible] def k1_t14_loop : Scf.Loop 32 :=
  let c0_i32_30 : BitVec 32 := 0#32
  let c80_i32_31 : BitVec 32 := 80#32
  let v26 : BitVec 32 := Scalar.addi c0_i32_30 c80_i32_31
  let c1_i32_32 : BitVec 32 := 1#32
  ⟨c0_i32_30, v26, c1_i32_32⟩
def k1_off11 (k1_t14 : Fin k1_t14_loop.trips) (c0_i32_37 : BitVec 32) : Fin 2 → Nat :=
  let c1_i32_38 : BitVec 32 := 1#32
  let v32 : Index := Scalar.indexCast c1_i32_38
  let c0_i32_30 : BitVec 32 := 0#32
  let c1_i32_32 : BitVec 32 := 1#32
  let arg12 : BitVec 32 := Scf.iv c0_i32_30 c1_i32_32 k1_t14
  let c80_i32_36 : BitVec 32 := 80#32
  let v30 : BitVec 32 := Scalar.muli arg12 c80_i32_36
  let v31 : BitVec 32 := Scalar.addi v30 c0_i32_37
  let v33 : Index := Scalar.indexCast v31
  ![1, v33.toNat]
def k1_off12 (k1_t14 : Fin k1_t14_loop.trips) (c0_i32_43 : BitVec 32) : Fin 2 → Nat :=
  let c0_i32_44 : BitVec 32 := 0#32
  let v52 : Index := Scalar.indexCast c0_i32_44
  let c0_i32_30 : BitVec 32 := 0#32
  let c1_i32_32 : BitVec 32 := 1#32
  let arg12 : BitVec 32 := Scf.iv c0_i32_30 c1_i32_32 k1_t14
  let c80_i32_36 : BitVec 32 := 80#32
  let v30 : BitVec 32 := Scalar.muli arg12 c80_i32_36
  let v51 : BitVec 32 := Scalar.addi v30 c0_i32_43
  let v53 : Index := Scalar.indexCast v51
  ![0, v53.toNat]

def k1_chk16 (v5 : IVec S16 32) (v6 : IVec S16 32) (v7 : IVec S16 32) (v8 : IVec S16 32) (v54 : IVec S16 32) : Prop :=
  (∀ a x, ((![v5, v54] : Fin 2 → IVec S16 32) a x).toNat < S4x10000.size a) ∧
  (∀ a x, ((![v6, v54] : Fin 2 → IVec S16 32) a x).toNat < S4x10000.size a) ∧
  (∀ a x, ((![v7, v54] : Fin 2 → IVec S16 32) a x).toNat < S4x10000.size a) ∧
  (∀ a x, ((![v8, v54] : Fin 2 → IVec S16 32) a x).toNat < S4x10000.size a)
theorem k1_idx141_inb : ∀ (v5 : IVec S16 32) (v6 : IVec S16 32) (v7 : IVec S16 32) (v8 : IVec S16 32) (v54 : IVec S16 32) (k1_hw16 : k1_chk16 v5 v6 v7 v8 v54), ∀ a x, ((![v5, v54] : Fin 2 → IVec S16 32) a x).toNat < S4x10000.size a := fun v5 v6 v7 v8 v54 k1_hw16 => k1_hw16.1
theorem k1_idx142_inb : ∀ (v5 : IVec S16 32) (v6 : IVec S16 32) (v7 : IVec S16 32) (v8 : IVec S16 32) (v54 : IVec S16 32) (k1_hw16 : k1_chk16 v5 v6 v7 v8 v54), ∀ a x, ((![v6, v54] : Fin 2 → IVec S16 32) a x).toNat < S4x10000.size a := fun v5 v6 v7 v8 v54 k1_hw16 => k1_hw16.2.1
theorem k1_idx143_inb : ∀ (v5 : IVec S16 32) (v6 : IVec S16 32) (v7 : IVec S16 32) (v8 : IVec S16 32) (v54 : IVec S16 32) (k1_hw16 : k1_chk16 v5 v6 v7 v8 v54), ∀ a x, ((![v7, v54] : Fin 2 → IVec S16 32) a x).toNat < S4x10000.size a := fun v5 v6 v7 v8 v54 k1_hw16 => k1_hw16.2.2.1
theorem k1_idx144_inb : ∀ (v5 : IVec S16 32) (v6 : IVec S16 32) (v7 : IVec S16 32) (v8 : IVec S16 32) (v54 : IVec S16 32) (k1_hw16 : k1_chk16 v5 v6 v7 v8 v54), ∀ a x, ((![v8, v54] : Fin 2 → IVec S16 32) a x).toNat < S4x10000.size a := fun v5 v6 v7 v8 v54 k1_hw16 => k1_hw16.2.2.2

def k1_chk17 (v5 : IVec S16 32) (v6 : IVec S16 32) (v7 : IVec S16 32) (v8 : IVec S16 32) (v58 : IVec S16 32) : Prop :=
  (∀ a x, ((![v5, v58] : Fin 2 → IVec S16 32) a x).toNat < S4x10000.size a) ∧
  (∀ a x, ((![v6, v58] : Fin 2 → IVec S16 32) a x).toNat < S4x10000.size a) ∧
  (∀ a x, ((![v7, v58] : Fin 2 → IVec S16 32) a x).toNat < S4x10000.size a) ∧
  (∀ a x, ((![v8, v58] : Fin 2 → IVec S16 32) a x).toNat < S4x10000.size a)
theorem k1_idx145_inb : ∀ (v5 : IVec S16 32) (v6 : IVec S16 32) (v7 : IVec S16 32) (v8 : IVec S16 32) (v58 : IVec S16 32) (k1_hw17 : k1_chk17 v5 v6 v7 v8 v58), ∀ a x, ((![v5, v58] : Fin 2 → IVec S16 32) a x).toNat < S4x10000.size a := fun v5 v6 v7 v8 v58 k1_hw17 => k1_hw17.1
theorem k1_idx146_inb : ∀ (v5 : IVec S16 32) (v6 : IVec S16 32) (v7 : IVec S16 32) (v8 : IVec S16 32) (v58 : IVec S16 32) (k1_hw17 : k1_chk17 v5 v6 v7 v8 v58), ∀ a x, ((![v6, v58] : Fin 2 → IVec S16 32) a x).toNat < S4x10000.size a := fun v5 v6 v7 v8 v58 k1_hw17 => k1_hw17.2.1
theorem k1_idx147_inb : ∀ (v5 : IVec S16 32) (v6 : IVec S16 32) (v7 : IVec S16 32) (v8 : IVec S16 32) (v58 : IVec S16 32) (k1_hw17 : k1_chk17 v5 v6 v7 v8 v58), ∀ a x, ((![v7, v58] : Fin 2 → IVec S16 32) a x).toNat < S4x10000.size a := fun v5 v6 v7 v8 v58 k1_hw17 => k1_hw17.2.2.1
theorem k1_idx148_inb : ∀ (v5 : IVec S16 32) (v6 : IVec S16 32) (v7 : IVec S16 32) (v8 : IVec S16 32) (v58 : IVec S16 32) (k1_hw17 : k1_chk17 v5 v6 v7 v8 v58), ∀ a x, ((![v8, v58] : Fin 2 → IVec S16 32) a x).toNat < S4x10000.size a := fun v5 v6 v7 v8 v58 k1_hw17 => k1_hw17.2.2.2

def k1_chk18 (v5 : IVec S16 32) (v6 : IVec S16 32) (v7 : IVec S16 32) (v8 : IVec S16 32) (v62 : IVec S16 32) : Prop :=
  (∀ a x, ((![v5, v62] : Fin 2 → IVec S16 32) a x).toNat < S4x10000.size a) ∧
  (∀ a x, ((![v6, v62] : Fin 2 → IVec S16 32) a x).toNat < S4x10000.size a) ∧
  (∀ a x, ((![v7, v62] : Fin 2 → IVec S16 32) a x).toNat < S4x10000.size a) ∧
  (∀ a x, ((![v8, v62] : Fin 2 → IVec S16 32) a x).toNat < S4x10000.size a)
theorem k1_idx149_inb : ∀ (v5 : IVec S16 32) (v6 : IVec S16 32) (v7 : IVec S16 32) (v8 : IVec S16 32) (v62 : IVec S16 32) (k1_hw18 : k1_chk18 v5 v6 v7 v8 v62), ∀ a x, ((![v5, v62] : Fin 2 → IVec S16 32) a x).toNat < S4x10000.size a := fun v5 v6 v7 v8 v62 k1_hw18 => k1_hw18.1
theorem k1_idx150_inb : ∀ (v5 : IVec S16 32) (v6 : IVec S16 32) (v7 : IVec S16 32) (v8 : IVec S16 32) (v62 : IVec S16 32) (k1_hw18 : k1_chk18 v5 v6 v7 v8 v62), ∀ a x, ((![v6, v62] : Fin 2 → IVec S16 32) a x).toNat < S4x10000.size a := fun v5 v6 v7 v8 v62 k1_hw18 => k1_hw18.2.1
theorem k1_idx151_inb : ∀ (v5 : IVec S16 32) (v6 : IVec S16 32) (v7 : IVec S16 32) (v8 : IVec S16 32) (v62 : IVec S16 32) (k1_hw18 : k1_chk18 v5 v6 v7 v8 v62), ∀ a x, ((![v7, v62] : Fin 2 → IVec S16 32) a x).toNat < S4x10000.size a := fun v5 v6 v7 v8 v62 k1_hw18 => k1_hw18.2.2.1
theorem k1_idx152_inb : ∀ (v5 : IVec S16 32) (v6 : IVec S16 32) (v7 : IVec S16 32) (v8 : IVec S16 32) (v62 : IVec S16 32) (k1_hw18 : k1_chk18 v5 v6 v7 v8 v62), ∀ a x, ((![v8, v62] : Fin 2 → IVec S16 32) a x).toNat < S4x10000.size a := fun v5 v6 v7 v8 v62 k1_hw18 => k1_hw18.2.2.2

def k1_chk19 (v5 : IVec S16 32) (v6 : IVec S16 32) (v7 : IVec S16 32) (v8 : IVec S16 32) (v66 : IVec S16 32) : Prop :=
  (∀ a x, ((![v5, v66] : Fin 2 → IVec S16 32) a x).toNat < S4x10000.size a) ∧
  (∀ a x, ((![v6, v66] : Fin 2 → IVec S16 32) a x).toNat < S4x10000.size a) ∧
  (∀ a x, ((![v7, v66] : Fin 2 → IVec S16 32) a x).toNat < S4x10000.size a) ∧
  (∀ a x, ((![v8, v66] : Fin 2 → IVec S16 32) a x).toNat < S4x10000.size a)
theorem k1_idx153_inb : ∀ (v5 : IVec S16 32) (v6 : IVec S16 32) (v7 : IVec S16 32) (v8 : IVec S16 32) (v66 : IVec S16 32) (k1_hw19 : k1_chk19 v5 v6 v7 v8 v66), ∀ a x, ((![v5, v66] : Fin 2 → IVec S16 32) a x).toNat < S4x10000.size a := fun v5 v6 v7 v8 v66 k1_hw19 => k1_hw19.1
theorem k1_idx154_inb : ∀ (v5 : IVec S16 32) (v6 : IVec S16 32) (v7 : IVec S16 32) (v8 : IVec S16 32) (v66 : IVec S16 32) (k1_hw19 : k1_chk19 v5 v6 v7 v8 v66), ∀ a x, ((![v6, v66] : Fin 2 → IVec S16 32) a x).toNat < S4x10000.size a := fun v5 v6 v7 v8 v66 k1_hw19 => k1_hw19.2.1
theorem k1_idx155_inb : ∀ (v5 : IVec S16 32) (v6 : IVec S16 32) (v7 : IVec S16 32) (v8 : IVec S16 32) (v66 : IVec S16 32) (k1_hw19 : k1_chk19 v5 v6 v7 v8 v66), ∀ a x, ((![v7, v66] : Fin 2 → IVec S16 32) a x).toNat < S4x10000.size a := fun v5 v6 v7 v8 v66 k1_hw19 => k1_hw19.2.2.1
theorem k1_idx156_inb : ∀ (v5 : IVec S16 32) (v6 : IVec S16 32) (v7 : IVec S16 32) (v8 : IVec S16 32) (v66 : IVec S16 32) (k1_hw19 : k1_chk19 v5 v6 v7 v8 v66), ∀ a x, ((![v8, v66] : Fin 2 → IVec S16 32) a x).toNat < S4x10000.size a := fun v5 v6 v7 v8 v66 k1_hw19 => k1_hw19.2.2.2

def k1_chk20 (v5 : IVec S16 32) (v6 : IVec S16 32) (v7 : IVec S16 32) (v8 : IVec S16 32) (v70 : IVec S16 32) : Prop :=
  (∀ a x, ((![v5, v70] : Fin 2 → IVec S16 32) a x).toNat < S4x10000.size a) ∧
  (∀ a x, ((![v6, v70] : Fin 2 → IVec S16 32) a x).toNat < S4x10000.size a) ∧
  (∀ a x, ((![v7, v70] : Fin 2 → IVec S16 32) a x).toNat < S4x10000.size a) ∧
  (∀ a x, ((![v8, v70] : Fin 2 → IVec S16 32) a x).toNat < S4x10000.size a)
theorem k1_idx157_inb : ∀ (v5 : IVec S16 32) (v6 : IVec S16 32) (v7 : IVec S16 32) (v8 : IVec S16 32) (v70 : IVec S16 32) (k1_hw20 : k1_chk20 v5 v6 v7 v8 v70), ∀ a x, ((![v5, v70] : Fin 2 → IVec S16 32) a x).toNat < S4x10000.size a := fun v5 v6 v7 v8 v70 k1_hw20 => k1_hw20.1
theorem k1_idx158_inb : ∀ (v5 : IVec S16 32) (v6 : IVec S16 32) (v7 : IVec S16 32) (v8 : IVec S16 32) (v70 : IVec S16 32) (k1_hw20 : k1_chk20 v5 v6 v7 v8 v70), ∀ a x, ((![v6, v70] : Fin 2 → IVec S16 32) a x).toNat < S4x10000.size a := fun v5 v6 v7 v8 v70 k1_hw20 => k1_hw20.2.1
theorem k1_idx159_inb : ∀ (v5 : IVec S16 32) (v6 : IVec S16 32) (v7 : IVec S16 32) (v8 : IVec S16 32) (v70 : IVec S16 32) (k1_hw20 : k1_chk20 v5 v6 v7 v8 v70), ∀ a x, ((![v7, v70] : Fin 2 → IVec S16 32) a x).toNat < S4x10000.size a := fun v5 v6 v7 v8 v70 k1_hw20 => k1_hw20.2.2.1
theorem k1_idx160_inb : ∀ (v5 : IVec S16 32) (v6 : IVec S16 32) (v7 : IVec S16 32) (v8 : IVec S16 32) (v70 : IVec S16 32) (k1_hw20 : k1_chk20 v5 v6 v7 v8 v70), ∀ a x, ((![v8, v70] : Fin 2 → IVec S16 32) a x).toNat < S4x10000.size a := fun v5 v6 v7 v8 v70 k1_hw20 => k1_hw20.2.2.2

def k1_chk21 (v5 : IVec S16 32) (v6 : IVec S16 32) (v7 : IVec S16 32) (v8 : IVec S16 32) (v34 : IVec S16 32) : Prop :=
  (∀ a x, ((![v5, v34] : Fin 2 → IVec S16 32) a x).toNat < S4x10000.size a) ∧
  (∀ a x, ((![v5, v34] : Fin 2 → IVec S16 32) a x).toNat < S4x10000.size a) ∧
  (∀ a x, ((![v6, v34] : Fin 2 → IVec S16 32) a x).toNat < S4x10000.size a) ∧
  (∀ a x, ((![v6, v34] : Fin 2 → IVec S16 32) a x).toNat < S4x10000.size a) ∧
  (∀ a x, ((![v7, v34] : Fin 2 → IVec S16 32) a x).toNat < S4x10000.size a) ∧
  (∀ a x, ((![v7, v34] : Fin 2 → IVec S16 32) a x).toNat < S4x10000.size a) ∧
  (∀ a x, ((![v8, v34] : Fin 2 → IVec S16 32) a x).toNat < S4x10000.size a) ∧
  (∀ a x, ((![v8, v34] : Fin 2 → IVec S16 32) a x).toNat < S4x10000.size a)
theorem k1_idx161_inb : ∀ (v5 : IVec S16 32) (v6 : IVec S16 32) (v7 : IVec S16 32) (v8 : IVec S16 32) (v34 : IVec S16 32) (k1_hw21 : k1_chk21 v5 v6 v7 v8 v34), ∀ a x, ((![v5, v34] : Fin 2 → IVec S16 32) a x).toNat < S4x10000.size a := fun v5 v6 v7 v8 v34 k1_hw21 => k1_hw21.1
theorem k1_idx162_inb : ∀ (v5 : IVec S16 32) (v6 : IVec S16 32) (v7 : IVec S16 32) (v8 : IVec S16 32) (v34 : IVec S16 32) (k1_hw21 : k1_chk21 v5 v6 v7 v8 v34), ∀ a x, ((![v5, v34] : Fin 2 → IVec S16 32) a x).toNat < S4x10000.size a := fun v5 v6 v7 v8 v34 k1_hw21 => k1_hw21.2.1
theorem k1_idx163_inb : ∀ (v5 : IVec S16 32) (v6 : IVec S16 32) (v7 : IVec S16 32) (v8 : IVec S16 32) (v34 : IVec S16 32) (k1_hw21 : k1_chk21 v5 v6 v7 v8 v34), ∀ a x, ((![v6, v34] : Fin 2 → IVec S16 32) a x).toNat < S4x10000.size a := fun v5 v6 v7 v8 v34 k1_hw21 => k1_hw21.2.2.1
theorem k1_idx164_inb : ∀ (v5 : IVec S16 32) (v6 : IVec S16 32) (v7 : IVec S16 32) (v8 : IVec S16 32) (v34 : IVec S16 32) (k1_hw21 : k1_chk21 v5 v6 v7 v8 v34), ∀ a x, ((![v6, v34] : Fin 2 → IVec S16 32) a x).toNat < S4x10000.size a := fun v5 v6 v7 v8 v34 k1_hw21 => k1_hw21.2.2.2.1
theorem k1_idx165_inb : ∀ (v5 : IVec S16 32) (v6 : IVec S16 32) (v7 : IVec S16 32) (v8 : IVec S16 32) (v34 : IVec S16 32) (k1_hw21 : k1_chk21 v5 v6 v7 v8 v34), ∀ a x, ((![v7, v34] : Fin 2 → IVec S16 32) a x).toNat < S4x10000.size a := fun v5 v6 v7 v8 v34 k1_hw21 => k1_hw21.2.2.2.2.1
theorem k1_idx166_inb : ∀ (v5 : IVec S16 32) (v6 : IVec S16 32) (v7 : IVec S16 32) (v8 : IVec S16 32) (v34 : IVec S16 32) (k1_hw21 : k1_chk21 v5 v6 v7 v8 v34), ∀ a x, ((![v7, v34] : Fin 2 → IVec S16 32) a x).toNat < S4x10000.size a := fun v5 v6 v7 v8 v34 k1_hw21 => k1_hw21.2.2.2.2.2.1
theorem k1_idx167_inb : ∀ (v5 : IVec S16 32) (v6 : IVec S16 32) (v7 : IVec S16 32) (v8 : IVec S16 32) (v34 : IVec S16 32) (k1_hw21 : k1_chk21 v5 v6 v7 v8 v34), ∀ a x, ((![v8, v34] : Fin 2 → IVec S16 32) a x).toNat < S4x10000.size a := fun v5 v6 v7 v8 v34 k1_hw21 => k1_hw21.2.2.2.2.2.2.1
theorem k1_idx168_inb : ∀ (v5 : IVec S16 32) (v6 : IVec S16 32) (v7 : IVec S16 32) (v8 : IVec S16 32) (v34 : IVec S16 32) (k1_hw21 : k1_chk21 v5 v6 v7 v8 v34), ∀ a x, ((![v8, v34] : Fin 2 → IVec S16 32) a x).toNat < S4x10000.size a := fun v5 v6 v7 v8 v34 k1_hw21 => k1_hw21.2.2.2.2.2.2.2

def k1_chk22 (v5 : IVec S16 32) (v6 : IVec S16 32) (v7 : IVec S16 32) (v8 : IVec S16 32) (v38 : IVec S16 32) : Prop :=
  (∀ a x, ((![v5, v38] : Fin 2 → IVec S16 32) a x).toNat < S4x10000.size a) ∧
  (∀ a x, ((![v5, v38] : Fin 2 → IVec S16 32) a x).toNat < S4x10000.size a) ∧
  (∀ a x, ((![v6, v38] : Fin 2 → IVec S16 32) a x).toNat < S4x10000.size a) ∧
  (∀ a x, ((![v6, v38] : Fin 2 → IVec S16 32) a x).toNat < S4x10000.size a) ∧
  (∀ a x, ((![v7, v38] : Fin 2 → IVec S16 32) a x).toNat < S4x10000.size a) ∧
  (∀ a x, ((![v7, v38] : Fin 2 → IVec S16 32) a x).toNat < S4x10000.size a) ∧
  (∀ a x, ((![v8, v38] : Fin 2 → IVec S16 32) a x).toNat < S4x10000.size a) ∧
  (∀ a x, ((![v8, v38] : Fin 2 → IVec S16 32) a x).toNat < S4x10000.size a)
theorem k1_idx169_inb : ∀ (v5 : IVec S16 32) (v6 : IVec S16 32) (v7 : IVec S16 32) (v8 : IVec S16 32) (v38 : IVec S16 32) (k1_hw22 : k1_chk22 v5 v6 v7 v8 v38), ∀ a x, ((![v5, v38] : Fin 2 → IVec S16 32) a x).toNat < S4x10000.size a := fun v5 v6 v7 v8 v38 k1_hw22 => k1_hw22.1
theorem k1_idx170_inb : ∀ (v5 : IVec S16 32) (v6 : IVec S16 32) (v7 : IVec S16 32) (v8 : IVec S16 32) (v38 : IVec S16 32) (k1_hw22 : k1_chk22 v5 v6 v7 v8 v38), ∀ a x, ((![v5, v38] : Fin 2 → IVec S16 32) a x).toNat < S4x10000.size a := fun v5 v6 v7 v8 v38 k1_hw22 => k1_hw22.2.1
theorem k1_idx171_inb : ∀ (v5 : IVec S16 32) (v6 : IVec S16 32) (v7 : IVec S16 32) (v8 : IVec S16 32) (v38 : IVec S16 32) (k1_hw22 : k1_chk22 v5 v6 v7 v8 v38), ∀ a x, ((![v6, v38] : Fin 2 → IVec S16 32) a x).toNat < S4x10000.size a := fun v5 v6 v7 v8 v38 k1_hw22 => k1_hw22.2.2.1
theorem k1_idx172_inb : ∀ (v5 : IVec S16 32) (v6 : IVec S16 32) (v7 : IVec S16 32) (v8 : IVec S16 32) (v38 : IVec S16 32) (k1_hw22 : k1_chk22 v5 v6 v7 v8 v38), ∀ a x, ((![v6, v38] : Fin 2 → IVec S16 32) a x).toNat < S4x10000.size a := fun v5 v6 v7 v8 v38 k1_hw22 => k1_hw22.2.2.2.1
theorem k1_idx173_inb : ∀ (v5 : IVec S16 32) (v6 : IVec S16 32) (v7 : IVec S16 32) (v8 : IVec S16 32) (v38 : IVec S16 32) (k1_hw22 : k1_chk22 v5 v6 v7 v8 v38), ∀ a x, ((![v7, v38] : Fin 2 → IVec S16 32) a x).toNat < S4x10000.size a := fun v5 v6 v7 v8 v38 k1_hw22 => k1_hw22.2.2.2.2.1
theorem k1_idx174_inb : ∀ (v5 : IVec S16 32) (v6 : IVec S16 32) (v7 : IVec S16 32) (v8 : IVec S16 32) (v38 : IVec S16 32) (k1_hw22 : k1_chk22 v5 v6 v7 v8 v38), ∀ a x, ((![v7, v38] : Fin 2 → IVec S16 32) a x).toNat < S4x10000.size a := fun v5 v6 v7 v8 v38 k1_hw22 => k1_hw22.2.2.2.2.2.1
theorem k1_idx175_inb : ∀ (v5 : IVec S16 32) (v6 : IVec S16 32) (v7 : IVec S16 32) (v8 : IVec S16 32) (v38 : IVec S16 32) (k1_hw22 : k1_chk22 v5 v6 v7 v8 v38), ∀ a x, ((![v8, v38] : Fin 2 → IVec S16 32) a x).toNat < S4x10000.size a := fun v5 v6 v7 v8 v38 k1_hw22 => k1_hw22.2.2.2.2.2.2.1
theorem k1_idx176_inb : ∀ (v5 : IVec S16 32) (v6 : IVec S16 32) (v7 : IVec S16 32) (v8 : IVec S16 32) (v38 : IVec S16 32) (k1_hw22 : k1_chk22 v5 v6 v7 v8 v38), ∀ a x, ((![v8, v38] : Fin 2 → IVec S16 32) a x).toNat < S4x10000.size a := fun v5 v6 v7 v8 v38 k1_hw22 => k1_hw22.2.2.2.2.2.2.2

def k1_chk23 (v5 : IVec S16 32) (v6 : IVec S16 32) (v7 : IVec S16 32) (v8 : IVec S16 32) (v42 : IVec S16 32) : Prop :=
  (∀ a x, ((![v5, v42] : Fin 2 → IVec S16 32) a x).toNat < S4x10000.size a) ∧
  (∀ a x, ((![v5, v42] : Fin 2 → IVec S16 32) a x).toNat < S4x10000.size a) ∧
  (∀ a x, ((![v6, v42] : Fin 2 → IVec S16 32) a x).toNat < S4x10000.size a) ∧
  (∀ a x, ((![v6, v42] : Fin 2 → IVec S16 32) a x).toNat < S4x10000.size a) ∧
  (∀ a x, ((![v7, v42] : Fin 2 → IVec S16 32) a x).toNat < S4x10000.size a) ∧
  (∀ a x, ((![v7, v42] : Fin 2 → IVec S16 32) a x).toNat < S4x10000.size a) ∧
  (∀ a x, ((![v8, v42] : Fin 2 → IVec S16 32) a x).toNat < S4x10000.size a) ∧
  (∀ a x, ((![v8, v42] : Fin 2 → IVec S16 32) a x).toNat < S4x10000.size a)
theorem k1_idx177_inb : ∀ (v5 : IVec S16 32) (v6 : IVec S16 32) (v7 : IVec S16 32) (v8 : IVec S16 32) (v42 : IVec S16 32) (k1_hw23 : k1_chk23 v5 v6 v7 v8 v42), ∀ a x, ((![v5, v42] : Fin 2 → IVec S16 32) a x).toNat < S4x10000.size a := fun v5 v6 v7 v8 v42 k1_hw23 => k1_hw23.1
theorem k1_idx178_inb : ∀ (v5 : IVec S16 32) (v6 : IVec S16 32) (v7 : IVec S16 32) (v8 : IVec S16 32) (v42 : IVec S16 32) (k1_hw23 : k1_chk23 v5 v6 v7 v8 v42), ∀ a x, ((![v5, v42] : Fin 2 → IVec S16 32) a x).toNat < S4x10000.size a := fun v5 v6 v7 v8 v42 k1_hw23 => k1_hw23.2.1
theorem k1_idx179_inb : ∀ (v5 : IVec S16 32) (v6 : IVec S16 32) (v7 : IVec S16 32) (v8 : IVec S16 32) (v42 : IVec S16 32) (k1_hw23 : k1_chk23 v5 v6 v7 v8 v42), ∀ a x, ((![v6, v42] : Fin 2 → IVec S16 32) a x).toNat < S4x10000.size a := fun v5 v6 v7 v8 v42 k1_hw23 => k1_hw23.2.2.1
theorem k1_idx180_inb : ∀ (v5 : IVec S16 32) (v6 : IVec S16 32) (v7 : IVec S16 32) (v8 : IVec S16 32) (v42 : IVec S16 32) (k1_hw23 : k1_chk23 v5 v6 v7 v8 v42), ∀ a x, ((![v6, v42] : Fin 2 → IVec S16 32) a x).toNat < S4x10000.size a := fun v5 v6 v7 v8 v42 k1_hw23 => k1_hw23.2.2.2.1
theorem k1_idx181_inb : ∀ (v5 : IVec S16 32) (v6 : IVec S16 32) (v7 : IVec S16 32) (v8 : IVec S16 32) (v42 : IVec S16 32) (k1_hw23 : k1_chk23 v5 v6 v7 v8 v42), ∀ a x, ((![v7, v42] : Fin 2 → IVec S16 32) a x).toNat < S4x10000.size a := fun v5 v6 v7 v8 v42 k1_hw23 => k1_hw23.2.2.2.2.1
theorem k1_idx182_inb : ∀ (v5 : IVec S16 32) (v6 : IVec S16 32) (v7 : IVec S16 32) (v8 : IVec S16 32) (v42 : IVec S16 32) (k1_hw23 : k1_chk23 v5 v6 v7 v8 v42), ∀ a x, ((![v7, v42] : Fin 2 → IVec S16 32) a x).toNat < S4x10000.size a := fun v5 v6 v7 v8 v42 k1_hw23 => k1_hw23.2.2.2.2.2.1
theorem k1_idx183_inb : ∀ (v5 : IVec S16 32) (v6 : IVec S16 32) (v7 : IVec S16 32) (v8 : IVec S16 32) (v42 : IVec S16 32) (k1_hw23 : k1_chk23 v5 v6 v7 v8 v42), ∀ a x, ((![v8, v42] : Fin 2 → IVec S16 32) a x).toNat < S4x10000.size a := fun v5 v6 v7 v8 v42 k1_hw23 => k1_hw23.2.2.2.2.2.2.1
theorem k1_idx184_inb : ∀ (v5 : IVec S16 32) (v6 : IVec S16 32) (v7 : IVec S16 32) (v8 : IVec S16 32) (v42 : IVec S16 32) (k1_hw23 : k1_chk23 v5 v6 v7 v8 v42), ∀ a x, ((![v8, v42] : Fin 2 → IVec S16 32) a x).toNat < S4x10000.size a := fun v5 v6 v7 v8 v42 k1_hw23 => k1_hw23.2.2.2.2.2.2.2

def k1_chk24 (v5 : IVec S16 32) (v6 : IVec S16 32) (v7 : IVec S16 32) (v8 : IVec S16 32) (v46 : IVec S16 32) : Prop :=
  (∀ a x, ((![v5, v46] : Fin 2 → IVec S16 32) a x).toNat < S4x10000.size a) ∧
  (∀ a x, ((![v5, v46] : Fin 2 → IVec S16 32) a x).toNat < S4x10000.size a) ∧
  (∀ a x, ((![v6, v46] : Fin 2 → IVec S16 32) a x).toNat < S4x10000.size a) ∧
  (∀ a x, ((![v6, v46] : Fin 2 → IVec S16 32) a x).toNat < S4x10000.size a) ∧
  (∀ a x, ((![v7, v46] : Fin 2 → IVec S16 32) a x).toNat < S4x10000.size a) ∧
  (∀ a x, ((![v7, v46] : Fin 2 → IVec S16 32) a x).toNat < S4x10000.size a) ∧
  (∀ a x, ((![v8, v46] : Fin 2 → IVec S16 32) a x).toNat < S4x10000.size a) ∧
  (∀ a x, ((![v8, v46] : Fin 2 → IVec S16 32) a x).toNat < S4x10000.size a)
theorem k1_idx185_inb : ∀ (v5 : IVec S16 32) (v6 : IVec S16 32) (v7 : IVec S16 32) (v8 : IVec S16 32) (v46 : IVec S16 32) (k1_hw24 : k1_chk24 v5 v6 v7 v8 v46), ∀ a x, ((![v5, v46] : Fin 2 → IVec S16 32) a x).toNat < S4x10000.size a := fun v5 v6 v7 v8 v46 k1_hw24 => k1_hw24.1
theorem k1_idx186_inb : ∀ (v5 : IVec S16 32) (v6 : IVec S16 32) (v7 : IVec S16 32) (v8 : IVec S16 32) (v46 : IVec S16 32) (k1_hw24 : k1_chk24 v5 v6 v7 v8 v46), ∀ a x, ((![v5, v46] : Fin 2 → IVec S16 32) a x).toNat < S4x10000.size a := fun v5 v6 v7 v8 v46 k1_hw24 => k1_hw24.2.1
theorem k1_idx187_inb : ∀ (v5 : IVec S16 32) (v6 : IVec S16 32) (v7 : IVec S16 32) (v8 : IVec S16 32) (v46 : IVec S16 32) (k1_hw24 : k1_chk24 v5 v6 v7 v8 v46), ∀ a x, ((![v6, v46] : Fin 2 → IVec S16 32) a x).toNat < S4x10000.size a := fun v5 v6 v7 v8 v46 k1_hw24 => k1_hw24.2.2.1
theorem k1_idx188_inb : ∀ (v5 : IVec S16 32) (v6 : IVec S16 32) (v7 : IVec S16 32) (v8 : IVec S16 32) (v46 : IVec S16 32) (k1_hw24 : k1_chk24 v5 v6 v7 v8 v46), ∀ a x, ((![v6, v46] : Fin 2 → IVec S16 32) a x).toNat < S4x10000.size a := fun v5 v6 v7 v8 v46 k1_hw24 => k1_hw24.2.2.2.1
theorem k1_idx189_inb : ∀ (v5 : IVec S16 32) (v6 : IVec S16 32) (v7 : IVec S16 32) (v8 : IVec S16 32) (v46 : IVec S16 32) (k1_hw24 : k1_chk24 v5 v6 v7 v8 v46), ∀ a x, ((![v7, v46] : Fin 2 → IVec S16 32) a x).toNat < S4x10000.size a := fun v5 v6 v7 v8 v46 k1_hw24 => k1_hw24.2.2.2.2.1
theorem k1_idx190_inb : ∀ (v5 : IVec S16 32) (v6 : IVec S16 32) (v7 : IVec S16 32) (v8 : IVec S16 32) (v46 : IVec S16 32) (k1_hw24 : k1_chk24 v5 v6 v7 v8 v46), ∀ a x, ((![v7, v46] : Fin 2 → IVec S16 32) a x).toNat < S4x10000.size a := fun v5 v6 v7 v8 v46 k1_hw24 => k1_hw24.2.2.2.2.2.1
theorem k1_idx191_inb : ∀ (v5 : IVec S16 32) (v6 : IVec S16 32) (v7 : IVec S16 32) (v8 : IVec S16 32) (v46 : IVec S16 32) (k1_hw24 : k1_chk24 v5 v6 v7 v8 v46), ∀ a x, ((![v8, v46] : Fin 2 → IVec S16 32) a x).toNat < S4x10000.size a := fun v5 v6 v7 v8 v46 k1_hw24 => k1_hw24.2.2.2.2.2.2.1
theorem k1_idx192_inb : ∀ (v5 : IVec S16 32) (v6 : IVec S16 32) (v7 : IVec S16 32) (v8 : IVec S16 32) (v46 : IVec S16 32) (k1_hw24 : k1_chk24 v5 v6 v7 v8 v46), ∀ a x, ((![v8, v46] : Fin 2 → IVec S16 32) a x).toNat < S4x10000.size a := fun v5 v6 v7 v8 v46 k1_hw24 => k1_hw24.2.2.2.2.2.2.2

def k1_chk25 (v5 : IVec S16 32) (v6 : IVec S16 32) (v7 : IVec S16 32) (v8 : IVec S16 32) (v50 : IVec S16 32) : Prop :=
  (∀ a x, ((![v5, v50] : Fin 2 → IVec S16 32) a x).toNat < S4x10000.size a) ∧
  (∀ a x, ((![v5, v50] : Fin 2 → IVec S16 32) a x).toNat < S4x10000.size a) ∧
  (∀ a x, ((![v6, v50] : Fin 2 → IVec S16 32) a x).toNat < S4x10000.size a) ∧
  (∀ a x, ((![v6, v50] : Fin 2 → IVec S16 32) a x).toNat < S4x10000.size a) ∧
  (∀ a x, ((![v7, v50] : Fin 2 → IVec S16 32) a x).toNat < S4x10000.size a) ∧
  (∀ a x, ((![v7, v50] : Fin 2 → IVec S16 32) a x).toNat < S4x10000.size a) ∧
  (∀ a x, ((![v8, v50] : Fin 2 → IVec S16 32) a x).toNat < S4x10000.size a) ∧
  (∀ a x, ((![v8, v50] : Fin 2 → IVec S16 32) a x).toNat < S4x10000.size a)
theorem k1_idx193_inb : ∀ (v5 : IVec S16 32) (v6 : IVec S16 32) (v7 : IVec S16 32) (v8 : IVec S16 32) (v50 : IVec S16 32) (k1_hw25 : k1_chk25 v5 v6 v7 v8 v50), ∀ a x, ((![v5, v50] : Fin 2 → IVec S16 32) a x).toNat < S4x10000.size a := fun v5 v6 v7 v8 v50 k1_hw25 => k1_hw25.1
theorem k1_idx194_inb : ∀ (v5 : IVec S16 32) (v6 : IVec S16 32) (v7 : IVec S16 32) (v8 : IVec S16 32) (v50 : IVec S16 32) (k1_hw25 : k1_chk25 v5 v6 v7 v8 v50), ∀ a x, ((![v5, v50] : Fin 2 → IVec S16 32) a x).toNat < S4x10000.size a := fun v5 v6 v7 v8 v50 k1_hw25 => k1_hw25.2.1
theorem k1_idx195_inb : ∀ (v5 : IVec S16 32) (v6 : IVec S16 32) (v7 : IVec S16 32) (v8 : IVec S16 32) (v50 : IVec S16 32) (k1_hw25 : k1_chk25 v5 v6 v7 v8 v50), ∀ a x, ((![v6, v50] : Fin 2 → IVec S16 32) a x).toNat < S4x10000.size a := fun v5 v6 v7 v8 v50 k1_hw25 => k1_hw25.2.2.1
theorem k1_idx196_inb : ∀ (v5 : IVec S16 32) (v6 : IVec S16 32) (v7 : IVec S16 32) (v8 : IVec S16 32) (v50 : IVec S16 32) (k1_hw25 : k1_chk25 v5 v6 v7 v8 v50), ∀ a x, ((![v6, v50] : Fin 2 → IVec S16 32) a x).toNat < S4x10000.size a := fun v5 v6 v7 v8 v50 k1_hw25 => k1_hw25.2.2.2.1
theorem k1_idx197_inb : ∀ (v5 : IVec S16 32) (v6 : IVec S16 32) (v7 : IVec S16 32) (v8 : IVec S16 32) (v50 : IVec S16 32) (k1_hw25 : k1_chk25 v5 v6 v7 v8 v50), ∀ a x, ((![v7, v50] : Fin 2 → IVec S16 32) a x).toNat < S4x10000.size a := fun v5 v6 v7 v8 v50 k1_hw25 => k1_hw25.2.2.2.2.1
theorem k1_idx198_inb : ∀ (v5 : IVec S16 32) (v6 : IVec S16 32) (v7 : IVec S16 32) (v8 : IVec S16 32) (v50 : IVec S16 32) (k1_hw25 : k1_chk25 v5 v6 v7 v8 v50), ∀ a x, ((![v7, v50] : Fin 2 → IVec S16 32) a x).toNat < S4x10000.size a := fun v5 v6 v7 v8 v50 k1_hw25 => k1_hw25.2.2.2.2.2.1
theorem k1_idx199_inb : ∀ (v5 : IVec S16 32) (v6 : IVec S16 32) (v7 : IVec S16 32) (v8 : IVec S16 32) (v50 : IVec S16 32) (k1_hw25 : k1_chk25 v5 v6 v7 v8 v50), ∀ a x, ((![v8, v50] : Fin 2 → IVec S16 32) a x).toNat < S4x10000.size a := fun v5 v6 v7 v8 v50 k1_hw25 => k1_hw25.2.2.2.2.2.2.1
theorem k1_idx200_inb : ∀ (v5 : IVec S16 32) (v6 : IVec S16 32) (v7 : IVec S16 32) (v8 : IVec S16 32) (v50 : IVec S16 32) (k1_hw25 : k1_chk25 v5 v6 v7 v8 v50), ∀ a x, ((![v8, v50] : Fin 2 → IVec S16 32) a x).toNat < S4x10000.size a := fun v5 v6 v7 v8 v50 k1_hw25 => k1_hw25.2.2.2.2.2.2.2
@[reducible] def k1_t15_loop (v168 : BitVec 32) : Scf.Loop 32 :=
  let c2_i32_80 : BitVec 32 := 2#32
  let c1_i32_78 : BitVec 32 := 1#32
  let v169 : BitVec 32 := Scalar.addi v168 c1_i32_78
  let v170 : BitVec 32 := Scalar.subi v169 c2_i32_80
  let c1_i32_81 : BitVec 32 := 1#32
  let v172 : BitVec 32 := Scalar.divsi v170 c1_i32_81
  let v173 : BitVec 32 := Scalar.muli v172 c1_i32_81
  let v174 : BitVec 32 := Scalar.addi c2_i32_80 v173
  let c1_i32_82 : BitVec 32 := 1#32
  ⟨c2_i32_80, v174, c1_i32_82⟩
def k1_cond3 (v158 : BitVec 32) : BitVec 1 :=
  let c1_i32_73 : BitVec 32 := 1#32
  let v159 : BitVec 1 := Scalar.cmpi .eq v158 c1_i32_73
  let v160 : BitVec 32 := Scalar.extui v159
  let c0_i32_75 : BitVec 32 := 0#32
  let v161 : BitVec 1 := Scalar.cmpi .ne v160 c0_i32_75
  v161

@[reducible] def k1_t16_loop (v168 : BitVec 32) : Scf.Loop 32 :=
  let c2_i32_80 : BitVec 32 := 2#32
  let c1_i32_78 : BitVec 32 := 1#32
  let v169 : BitVec 32 := Scalar.addi v168 c1_i32_78
  let v170 : BitVec 32 := Scalar.subi v169 c2_i32_80
  let c1_i32_81 : BitVec 32 := 1#32
  let v172 : BitVec 32 := Scalar.divsi v170 c1_i32_81
  let v173 : BitVec 32 := Scalar.muli v172 c1_i32_81
  let v174 : BitVec 32 := Scalar.addi c2_i32_80 v173
  let v171 : BitVec 32 := Scalar.addi c2_i32_80 v170
  let c1_i32_83 : BitVec 32 := 1#32
  ⟨v174, v171, c1_i32_83⟩

def k1_chk26 (v5 : IVec S16 32) (v6 : IVec S16 32) (v7 : IVec S16 32) (v8 : IVec S16 32) (v34 : IVec S16 32) (v158 : BitVec 32) (v168 : BitVec 32) : Prop :=
  (∀ (k1_h3 : ¬(k1_cond3 v158 = 1#1)), (k1_t15_loop v168).OK) ∧
  (∀ k1_t15 : Fin (k1_t15_loop v168).trips, ∀ (k1_h3 : ¬(k1_cond3 v158 = 1#1)), ∀ a x, ((![v5, v34] : Fin 2 → IVec S16 32) a x).toNat < S4x10000.size a) ∧
  (∀ k1_t15 : Fin (k1_t15_loop v168).trips, ∀ (k1_h3 : ¬(k1_cond3 v158 = 1#1)), ∀ a x, ((![v5, v34] : Fin 2 → IVec S16 32) a x).toNat < S4x10000.size a) ∧
  (∀ k1_t15 : Fin (k1_t15_loop v168).trips, ∀ (k1_h3 : ¬(k1_cond3 v158 = 1#1)), ∀ a x, ((![v6, v34] : Fin 2 → IVec S16 32) a x).toNat < S4x10000.size a) ∧
  (∀ k1_t15 : Fin (k1_t15_loop v168).trips, ∀ (k1_h3 : ¬(k1_cond3 v158 = 1#1)), ∀ a x, ((![v6, v34] : Fin 2 → IVec S16 32) a x).toNat < S4x10000.size a) ∧
  (∀ k1_t15 : Fin (k1_t15_loop v168).trips, ∀ (k1_h3 : ¬(k1_cond3 v158 = 1#1)), ∀ a x, ((![v7, v34] : Fin 2 → IVec S16 32) a x).toNat < S4x10000.size a) ∧
  (∀ k1_t15 : Fin (k1_t15_loop v168).trips, ∀ (k1_h3 : ¬(k1_cond3 v158 = 1#1)), ∀ a x, ((![v7, v34] : Fin 2 → IVec S16 32) a x).toNat < S4x10000.size a) ∧
  (∀ k1_t15 : Fin (k1_t15_loop v168).trips, ∀ (k1_h3 : ¬(k1_cond3 v158 = 1#1)), ∀ a x, ((![v8, v34] : Fin 2 → IVec S16 32) a x).toNat < S4x10000.size a) ∧
  (∀ k1_t15 : Fin (k1_t15_loop v168).trips, ∀ (k1_h3 : ¬(k1_cond3 v158 = 1#1)), ∀ a x, ((![v8, v34] : Fin 2 → IVec S16 32) a x).toNat < S4x10000.size a) ∧
  (∀ (k1_h3 : ¬(k1_cond3 v158 = 1#1)), (k1_t16_loop v168).OK) ∧
  (∀ k1_t16 : Fin (k1_t16_loop v168).trips, ∀ (k1_h3 : ¬(k1_cond3 v158 = 1#1)), ∀ a x, ((![v5, v34] : Fin 2 → IVec S16 32) a x).toNat < S4x10000.size a) ∧
  (∀ k1_t16 : Fin (k1_t16_loop v168).trips, ∀ (k1_h3 : ¬(k1_cond3 v158 = 1#1)), ∀ a x, ((![v5, v34] : Fin 2 → IVec S16 32) a x).toNat < S4x10000.size a) ∧
  (∀ k1_t16 : Fin (k1_t16_loop v168).trips, ∀ (k1_h3 : ¬(k1_cond3 v158 = 1#1)), ∀ a x, ((![v6, v34] : Fin 2 → IVec S16 32) a x).toNat < S4x10000.size a) ∧
  (∀ k1_t16 : Fin (k1_t16_loop v168).trips, ∀ (k1_h3 : ¬(k1_cond3 v158 = 1#1)), ∀ a x, ((![v6, v34] : Fin 2 → IVec S16 32) a x).toNat < S4x10000.size a) ∧
  (∀ k1_t16 : Fin (k1_t16_loop v168).trips, ∀ (k1_h3 : ¬(k1_cond3 v158 = 1#1)), ∀ a x, ((![v7, v34] : Fin 2 → IVec S16 32) a x).toNat < S4x10000.size a) ∧
  (∀ k1_t16 : Fin (k1_t16_loop v168).trips, ∀ (k1_h3 : ¬(k1_cond3 v158 = 1#1)), ∀ a x, ((![v7, v34] : Fin 2 → IVec S16 32) a x).toNat < S4x10000.size a) ∧
  (∀ k1_t16 : Fin (k1_t16_loop v168).trips, ∀ (k1_h3 : ¬(k1_cond3 v158 = 1#1)), ∀ a x, ((![v8, v34] : Fin 2 → IVec S16 32) a x).toNat < S4x10000.size a) ∧
  (∀ k1_t16 : Fin (k1_t16_loop v168).trips, ∀ (k1_h3 : ¬(k1_cond3 v158 = 1#1)), ∀ a x, ((![v8, v34] : Fin 2 → IVec S16 32) a x).toNat < S4x10000.size a)
theorem k1_t15_ok : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168), ∀ (k1_h3 : ¬(k1_cond3 v158 = 1#1)), (k1_t15_loop v168).OK := fun v5 v6 v7 v8 v34 v158 v168 k1_hw26 k1_h3 => k1_hw26.1 k1_h3
theorem k1_idx201_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v5, v34] : Fin 2 → IVec S16 32) a x).toNat < S4x10000.size a := fun v5 v6 v7 v8 v34 v158 v168 k1_hw26 k1_t15 k1_h3 => k1_hw26.2.1 k1_t15 k1_h3
theorem k1_idx202_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v5, v34] : Fin 2 → IVec S16 32) a x).toNat < S4x10000.size a := fun v5 v6 v7 v8 v34 v158 v168 k1_hw26 k1_t15 k1_h3 => k1_hw26.2.2.1 k1_t15 k1_h3
theorem k1_idx203_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v6, v34] : Fin 2 → IVec S16 32) a x).toNat < S4x10000.size a := fun v5 v6 v7 v8 v34 v158 v168 k1_hw26 k1_t15 k1_h3 => k1_hw26.2.2.2.1 k1_t15 k1_h3
theorem k1_idx204_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v6, v34] : Fin 2 → IVec S16 32) a x).toNat < S4x10000.size a := fun v5 v6 v7 v8 v34 v158 v168 k1_hw26 k1_t15 k1_h3 => k1_hw26.2.2.2.2.1 k1_t15 k1_h3
theorem k1_idx205_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v7, v34] : Fin 2 → IVec S16 32) a x).toNat < S4x10000.size a := fun v5 v6 v7 v8 v34 v158 v168 k1_hw26 k1_t15 k1_h3 => k1_hw26.2.2.2.2.2.1 k1_t15 k1_h3
theorem k1_idx206_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v7, v34] : Fin 2 → IVec S16 32) a x).toNat < S4x10000.size a := fun v5 v6 v7 v8 v34 v158 v168 k1_hw26 k1_t15 k1_h3 => k1_hw26.2.2.2.2.2.2.1 k1_t15 k1_h3
theorem k1_idx207_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v8, v34] : Fin 2 → IVec S16 32) a x).toNat < S4x10000.size a := fun v5 v6 v7 v8 v34 v158 v168 k1_hw26 k1_t15 k1_h3 => k1_hw26.2.2.2.2.2.2.2.1 k1_t15 k1_h3
theorem k1_idx208_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t15 : Fin (k1_t15_loop v168).trips), ∀ (k1_h3 : ¬(k1_cond3 v158 = 1#1)), ∀ a x, ((![v8, v34] : Fin 2 → IVec S16 32) a x).toNat < S4x10000.size a := fun v5 v6 v7 v8 v34 v158 v168 k1_hw26 k1_t15 k1_h3 => k1_hw26.2.2.2.2.2.2.2.2.1 k1_t15 k1_h3
theorem k1_t16_ok : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168), ∀ (k1_h3 : ¬(k1_cond3 v158 = 1#1)), (k1_t16_loop v168).OK := fun v5 v6 v7 v8 v34 v158 v168 k1_hw26 k1_h3 => k1_hw26.2.2.2.2.2.2.2.2.2.1 k1_h3
theorem k1_idx209_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v5, v34] : Fin 2 → IVec S16 32) a x).toNat < S4x10000.size a := fun v5 v6 v7 v8 v34 v158 v168 k1_hw26 k1_t16 k1_h3 => k1_hw26.2.2.2.2.2.2.2.2.2.2.1 k1_t16 k1_h3
theorem k1_idx210_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v5, v34] : Fin 2 → IVec S16 32) a x).toNat < S4x10000.size a := fun v5 v6 v7 v8 v34 v158 v168 k1_hw26 k1_t16 k1_h3 => k1_hw26.2.2.2.2.2.2.2.2.2.2.2.1 k1_t16 k1_h3
theorem k1_idx211_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v6, v34] : Fin 2 → IVec S16 32) a x).toNat < S4x10000.size a := fun v5 v6 v7 v8 v34 v158 v168 k1_hw26 k1_t16 k1_h3 => k1_hw26.2.2.2.2.2.2.2.2.2.2.2.2.1 k1_t16 k1_h3
theorem k1_idx212_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v6, v34] : Fin 2 → IVec S16 32) a x).toNat < S4x10000.size a := fun v5 v6 v7 v8 v34 v158 v168 k1_hw26 k1_t16 k1_h3 => k1_hw26.2.2.2.2.2.2.2.2.2.2.2.2.2.1 k1_t16 k1_h3
theorem k1_idx213_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v7, v34] : Fin 2 → IVec S16 32) a x).toNat < S4x10000.size a := fun v5 v6 v7 v8 v34 v158 v168 k1_hw26 k1_t16 k1_h3 => k1_hw26.2.2.2.2.2.2.2.2.2.2.2.2.2.2.1 k1_t16 k1_h3
theorem k1_idx214_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v7, v34] : Fin 2 → IVec S16 32) a x).toNat < S4x10000.size a := fun v5 v6 v7 v8 v34 v158 v168 k1_hw26 k1_t16 k1_h3 => k1_hw26.2.2.2.2.2.2.2.2.2.2.2.2.2.2.2.1 k1_t16 k1_h3
theorem k1_idx215_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v8, v34] : Fin 2 → IVec S16 32) a x).toNat < S4x10000.size a := fun v5 v6 v7 v8 v34 v158 v168 k1_hw26 k1_t16 k1_h3 => k1_hw26.2.2.2.2.2.2.2.2.2.2.2.2.2.2.2.2.1 k1_t16 k1_h3
theorem k1_idx216_inb : ∀ (v5 : IVec S16 32) (v6 : IVec S16 32) (v7 : IVec S16 32) (v8 : IVec S16 32) (v34 : IVec S16 32) (v158 : BitVec 32) (v168 : BitVec 32) (k1_hw26 : k1_chk26 v5 v6 v7 v8 v34 v158 v168) (k1_t16 : Fin (k1_t16_loop v168).trips), ∀ (k1_h3 : ¬(k1_cond3 v158 = 1#1)), ∀ a x, ((![v8, v34] : Fin 2 → IVec S16 32) a x).toNat < S4x10000.size a := fun v5 v6 v7 v8 v34 v158 v168 k1_hw26 k1_t16 k1_h3 => k1_hw26.2.2.2.2.2.2.2.2.2.2.2.2.2.2.2.2.2 k1_t16 k1_h3
@[reducible] def k1_t17_loop (v180 : BitVec 32) : Scf.Loop 32 :=
  let c2_i32_88 : BitVec 32 := 2#32
  let c1_i32_86 : BitVec 32 := 1#32
  let v181 : BitVec 32 := Scalar.addi v180 c1_i32_86
  let v182 : BitVec 32 := Scalar.subi v181 c2_i32_88
  let c1_i32_89 : BitVec 32 := 1#32
  let v184 : BitVec 32 := Scalar.divsi v182 c1_i32_89
  let v185 : BitVec 32 := Scalar.muli v184 c1_i32_89
  let v186 : BitVec 32 := Scalar.addi c2_i32_88 v185
  let c1_i32_90 : BitVec 32 := 1#32
  ⟨c2_i32_88, v186, c1_i32_90⟩

@[reducible] def k1_t18_loop (v180 : BitVec 32) : Scf.Loop 32 :=
  let c2_i32_88 : BitVec 32 := 2#32
  let c1_i32_86 : BitVec 32 := 1#32
  let v181 : BitVec 32 := Scalar.addi v180 c1_i32_86
  let v182 : BitVec 32 := Scalar.subi v181 c2_i32_88
  let c1_i32_89 : BitVec 32 := 1#32
  let v184 : BitVec 32 := Scalar.divsi v182 c1_i32_89
  let v185 : BitVec 32 := Scalar.muli v184 c1_i32_89
  let v186 : BitVec 32 := Scalar.addi c2_i32_88 v185
  let v183 : BitVec 32 := Scalar.addi c2_i32_88 v182
  let c1_i32_91 : BitVec 32 := 1#32
  ⟨v186, v183, c1_i32_91⟩

def k1_chk27 (v5 : IVec S16 32) (v6 : IVec S16 32) (v7 : IVec S16 32) (v8 : IVec S16 32) (v38 : IVec S16 32) (v158 : BitVec 32) (v180 : BitVec 32) : Prop :=
  (∀ (k1_h3 : ¬(k1_cond3 v158 = 1#1)), (k1_t17_loop v180).OK) ∧
  (∀ k1_t17 : Fin (k1_t17_loop v180).trips, ∀ (k1_h3 : ¬(k1_cond3 v158 = 1#1)), ∀ a x, ((![v5, v38] : Fin 2 → IVec S16 32) a x).toNat < S4x10000.size a) ∧
  (∀ k1_t17 : Fin (k1_t17_loop v180).trips, ∀ (k1_h3 : ¬(k1_cond3 v158 = 1#1)), ∀ a x, ((![v5, v38] : Fin 2 → IVec S16 32) a x).toNat < S4x10000.size a) ∧
  (∀ k1_t17 : Fin (k1_t17_loop v180).trips, ∀ (k1_h3 : ¬(k1_cond3 v158 = 1#1)), ∀ a x, ((![v6, v38] : Fin 2 → IVec S16 32) a x).toNat < S4x10000.size a) ∧
  (∀ k1_t17 : Fin (k1_t17_loop v180).trips, ∀ (k1_h3 : ¬(k1_cond3 v158 = 1#1)), ∀ a x, ((![v6, v38] : Fin 2 → IVec S16 32) a x).toNat < S4x10000.size a) ∧
  (∀ k1_t17 : Fin (k1_t17_loop v180).trips, ∀ (k1_h3 : ¬(k1_cond3 v158 = 1#1)), ∀ a x, ((![v7, v38] : Fin 2 → IVec S16 32) a x).toNat < S4x10000.size a) ∧
  (∀ k1_t17 : Fin (k1_t17_loop v180).trips, ∀ (k1_h3 : ¬(k1_cond3 v158 = 1#1)), ∀ a x, ((![v7, v38] : Fin 2 → IVec S16 32) a x).toNat < S4x10000.size a) ∧
  (∀ k1_t17 : Fin (k1_t17_loop v180).trips, ∀ (k1_h3 : ¬(k1_cond3 v158 = 1#1)), ∀ a x, ((![v8, v38] : Fin 2 → IVec S16 32) a x).toNat < S4x10000.size a) ∧
  (∀ k1_t17 : Fin (k1_t17_loop v180).trips, ∀ (k1_h3 : ¬(k1_cond3 v158 = 1#1)), ∀ a x, ((![v8, v38] : Fin 2 → IVec S16 32) a x).toNat < S4x10000.size a) ∧
  (∀ (k1_h3 : ¬(k1_cond3 v158 = 1#1)), (k1_t18_loop v180).OK) ∧
  (∀ k1_t18 : Fin (k1_t18_loop v180).trips, ∀ (k1_h3 : ¬(k1_cond3 v158 = 1#1)), ∀ a x, ((![v5, v38] : Fin 2 → IVec S16 32) a x).toNat < S4x10000.size a) ∧
  (∀ k1_t18 : Fin (k1_t18_loop v180).trips, ∀ (k1_h3 : ¬(k1_cond3 v158 = 1#1)), ∀ a x, ((![v5, v38] : Fin 2 → IVec S16 32) a x).toNat < S4x10000.size a) ∧
  (∀ k1_t18 : Fin (k1_t18_loop v180).trips, ∀ (k1_h3 : ¬(k1_cond3 v158 = 1#1)), ∀ a x, ((![v6, v38] : Fin 2 → IVec S16 32) a x).toNat < S4x10000.size a) ∧
  (∀ k1_t18 : Fin (k1_t18_loop v180).trips, ∀ (k1_h3 : ¬(k1_cond3 v158 = 1#1)), ∀ a x, ((![v6, v38] : Fin 2 → IVec S16 32) a x).toNat < S4x10000.size a) ∧
  (∀ k1_t18 : Fin (k1_t18_loop v180).trips, ∀ (k1_h3 : ¬(k1_cond3 v158 = 1#1)), ∀ a x, ((![v7, v38] : Fin 2 → IVec S16 32) a x).toNat < S4x10000.size a) ∧
  (∀ k1_t18 : Fin (k1_t18_loop v180).trips, ∀ (k1_h3 : ¬(k1_cond3 v158 = 1#1)), ∀ a x, ((![v7, v38] : Fin 2 → IVec S16 32) a x).toNat < S4x10000.size a) ∧
  (∀ k1_t18 : Fin (k1_t18_loop v180).trips, ∀ (k1_h3 : ¬(k1_cond3 v158 = 1#1)), ∀ a x, ((![v8, v38] : Fin 2 → IVec S16 32) a x).toNat < S4x10000.size a) ∧
  (∀ k1_t18 : Fin (k1_t18_loop v180).trips, ∀ (k1_h3 : ¬(k1_cond3 v158 = 1#1)), ∀ a x, ((![v8, v38] : Fin 2 → IVec S16 32) a x).toNat < S4x10000.size a)
theorem k1_t17_ok : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180), ∀ (k1_h3 : ¬(k1_cond3 v158 = 1#1)), (k1_t17_loop v180).OK := fun v5 v6 v7 v8 v38 v158 v180 k1_hw27 k1_h3 => k1_hw27.1 k1_h3
theorem k1_idx217_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v5, v38] : Fin 2 → IVec S16 32) a x).toNat < S4x10000.size a := fun v5 v6 v7 v8 v38 v158 v180 k1_hw27 k1_t17 k1_h3 => k1_hw27.2.1 k1_t17 k1_h3
theorem k1_idx218_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v5, v38] : Fin 2 → IVec S16 32) a x).toNat < S4x10000.size a := fun v5 v6 v7 v8 v38 v158 v180 k1_hw27 k1_t17 k1_h3 => k1_hw27.2.2.1 k1_t17 k1_h3
theorem k1_idx219_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v6, v38] : Fin 2 → IVec S16 32) a x).toNat < S4x10000.size a := fun v5 v6 v7 v8 v38 v158 v180 k1_hw27 k1_t17 k1_h3 => k1_hw27.2.2.2.1 k1_t17 k1_h3
theorem k1_idx220_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v6, v38] : Fin 2 → IVec S16 32) a x).toNat < S4x10000.size a := fun v5 v6 v7 v8 v38 v158 v180 k1_hw27 k1_t17 k1_h3 => k1_hw27.2.2.2.2.1 k1_t17 k1_h3
theorem k1_idx221_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v7, v38] : Fin 2 → IVec S16 32) a x).toNat < S4x10000.size a := fun v5 v6 v7 v8 v38 v158 v180 k1_hw27 k1_t17 k1_h3 => k1_hw27.2.2.2.2.2.1 k1_t17 k1_h3
theorem k1_idx222_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v7, v38] : Fin 2 → IVec S16 32) a x).toNat < S4x10000.size a := fun v5 v6 v7 v8 v38 v158 v180 k1_hw27 k1_t17 k1_h3 => k1_hw27.2.2.2.2.2.2.1 k1_t17 k1_h3
theorem k1_idx223_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v8, v38] : Fin 2 → IVec S16 32) a x).toNat < S4x10000.size a := fun v5 v6 v7 v8 v38 v158 v180 k1_hw27 k1_t17 k1_h3 => k1_hw27.2.2.2.2.2.2.2.1 k1_t17 k1_h3
theorem k1_idx224_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t17 : Fin (k1_t17_loop v180).trips), ∀ (k1_h3 : ¬(k1_cond3 v158 = 1#1)), ∀ a x, ((![v8, v38] : Fin 2 → IVec S16 32) a x).toNat < S4x10000.size a := fun v5 v6 v7 v8 v38 v158 v180 k1_hw27 k1_t17 k1_h3 => k1_hw27.2.2.2.2.2.2.2.2.1 k1_t17 k1_h3
theorem k1_t18_ok : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180), ∀ (k1_h3 : ¬(k1_cond3 v158 = 1#1)), (k1_t18_loop v180).OK := fun v5 v6 v7 v8 v38 v158 v180 k1_hw27 k1_h3 => k1_hw27.2.2.2.2.2.2.2.2.2.1 k1_h3
theorem k1_idx225_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v5, v38] : Fin 2 → IVec S16 32) a x).toNat < S4x10000.size a := fun v5 v6 v7 v8 v38 v158 v180 k1_hw27 k1_t18 k1_h3 => k1_hw27.2.2.2.2.2.2.2.2.2.2.1 k1_t18 k1_h3
theorem k1_idx226_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v5, v38] : Fin 2 → IVec S16 32) a x).toNat < S4x10000.size a := fun v5 v6 v7 v8 v38 v158 v180 k1_hw27 k1_t18 k1_h3 => k1_hw27.2.2.2.2.2.2.2.2.2.2.2.1 k1_t18 k1_h3
theorem k1_idx227_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v6, v38] : Fin 2 → IVec S16 32) a x).toNat < S4x10000.size a := fun v5 v6 v7 v8 v38 v158 v180 k1_hw27 k1_t18 k1_h3 => k1_hw27.2.2.2.2.2.2.2.2.2.2.2.2.1 k1_t18 k1_h3
theorem k1_idx228_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v6, v38] : Fin 2 → IVec S16 32) a x).toNat < S4x10000.size a := fun v5 v6 v7 v8 v38 v158 v180 k1_hw27 k1_t18 k1_h3 => k1_hw27.2.2.2.2.2.2.2.2.2.2.2.2.2.1 k1_t18 k1_h3
theorem k1_idx229_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v7, v38] : Fin 2 → IVec S16 32) a x).toNat < S4x10000.size a := fun v5 v6 v7 v8 v38 v158 v180 k1_hw27 k1_t18 k1_h3 => k1_hw27.2.2.2.2.2.2.2.2.2.2.2.2.2.2.1 k1_t18 k1_h3
theorem k1_idx230_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v7, v38] : Fin 2 → IVec S16 32) a x).toNat < S4x10000.size a := fun v5 v6 v7 v8 v38 v158 v180 k1_hw27 k1_t18 k1_h3 => k1_hw27.2.2.2.2.2.2.2.2.2.2.2.2.2.2.2.1 k1_t18 k1_h3
theorem k1_idx231_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v8, v38] : Fin 2 → IVec S16 32) a x).toNat < S4x10000.size a := fun v5 v6 v7 v8 v38 v158 v180 k1_hw27 k1_t18 k1_h3 => k1_hw27.2.2.2.2.2.2.2.2.2.2.2.2.2.2.2.2.1 k1_t18 k1_h3
theorem k1_idx232_inb : ∀ (v5 : IVec S16 32) (v6 : IVec S16 32) (v7 : IVec S16 32) (v8 : IVec S16 32) (v38 : IVec S16 32) (v158 : BitVec 32) (v180 : BitVec 32) (k1_hw27 : k1_chk27 v5 v6 v7 v8 v38 v158 v180) (k1_t18 : Fin (k1_t18_loop v180).trips), ∀ (k1_h3 : ¬(k1_cond3 v158 = 1#1)), ∀ a x, ((![v8, v38] : Fin 2 → IVec S16 32) a x).toNat < S4x10000.size a := fun v5 v6 v7 v8 v38 v158 v180 k1_hw27 k1_t18 k1_h3 => k1_hw27.2.2.2.2.2.2.2.2.2.2.2.2.2.2.2.2.2 k1_t18 k1_h3
@[reducible] def k1_t19_loop (v192 : BitVec 32) : Scf.Loop 32 :=
  let c2_i32_96 : BitVec 32 := 2#32
  let c1_i32_94 : BitVec 32 := 1#32
  let v193 : BitVec 32 := Scalar.addi v192 c1_i32_94
  let v194 : BitVec 32 := Scalar.subi v193 c2_i32_96
  let c1_i32_97 : BitVec 32 := 1#32
  let v196 : BitVec 32 := Scalar.divsi v194 c1_i32_97
  let v197 : BitVec 32 := Scalar.muli v196 c1_i32_97
  let v198 : BitVec 32 := Scalar.addi c2_i32_96 v197
  let c1_i32_98 : BitVec 32 := 1#32
  ⟨c2_i32_96, v198, c1_i32_98⟩

@[reducible] def k1_t20_loop (v192 : BitVec 32) : Scf.Loop 32 :=
  let c2_i32_96 : BitVec 32 := 2#32
  let c1_i32_94 : BitVec 32 := 1#32
  let v193 : BitVec 32 := Scalar.addi v192 c1_i32_94
  let v194 : BitVec 32 := Scalar.subi v193 c2_i32_96
  let c1_i32_97 : BitVec 32 := 1#32
  let v196 : BitVec 32 := Scalar.divsi v194 c1_i32_97
  let v197 : BitVec 32 := Scalar.muli v196 c1_i32_97
  let v198 : BitVec 32 := Scalar.addi c2_i32_96 v197
  let v195 : BitVec 32 := Scalar.addi c2_i32_96 v194
  let c1_i32_99 : BitVec 32 := 1#32
  ⟨v198, v195, c1_i32_99⟩

def k1_chk28 (v5 : IVec S16 32) (v6 : IVec S16 32) (v7 : IVec S16 32) (v8 : IVec S16 32) (v42 : IVec S16 32) (v158 : BitVec 32) (v192 : BitVec 32) : Prop :=
  (∀ (k1_h3 : ¬(k1_cond3 v158 = 1#1)), (k1_t19_loop v192).OK) ∧
  (∀ k1_t19 : Fin (k1_t19_loop v192).trips, ∀ (k1_h3 : ¬(k1_cond3 v158 = 1#1)), ∀ a x, ((![v5, v42] : Fin 2 → IVec S16 32) a x).toNat < S4x10000.size a) ∧
  (∀ k1_t19 : Fin (k1_t19_loop v192).trips, ∀ (k1_h3 : ¬(k1_cond3 v158 = 1#1)), ∀ a x, ((![v5, v42] : Fin 2 → IVec S16 32) a x).toNat < S4x10000.size a) ∧
  (∀ k1_t19 : Fin (k1_t19_loop v192).trips, ∀ (k1_h3 : ¬(k1_cond3 v158 = 1#1)), ∀ a x, ((![v6, v42] : Fin 2 → IVec S16 32) a x).toNat < S4x10000.size a) ∧
  (∀ k1_t19 : Fin (k1_t19_loop v192).trips, ∀ (k1_h3 : ¬(k1_cond3 v158 = 1#1)), ∀ a x, ((![v6, v42] : Fin 2 → IVec S16 32) a x).toNat < S4x10000.size a) ∧
  (∀ k1_t19 : Fin (k1_t19_loop v192).trips, ∀ (k1_h3 : ¬(k1_cond3 v158 = 1#1)), ∀ a x, ((![v7, v42] : Fin 2 → IVec S16 32) a x).toNat < S4x10000.size a) ∧
  (∀ k1_t19 : Fin (k1_t19_loop v192).trips, ∀ (k1_h3 : ¬(k1_cond3 v158 = 1#1)), ∀ a x, ((![v7, v42] : Fin 2 → IVec S16 32) a x).toNat < S4x10000.size a) ∧
  (∀ k1_t19 : Fin (k1_t19_loop v192).trips, ∀ (k1_h3 : ¬(k1_cond3 v158 = 1#1)), ∀ a x, ((![v8, v42] : Fin 2 → IVec S16 32) a x).toNat < S4x10000.size a) ∧
  (∀ k1_t19 : Fin (k1_t19_loop v192).trips, ∀ (k1_h3 : ¬(k1_cond3 v158 = 1#1)), ∀ a x, ((![v8, v42] : Fin 2 → IVec S16 32) a x).toNat < S4x10000.size a) ∧
  (∀ (k1_h3 : ¬(k1_cond3 v158 = 1#1)), (k1_t20_loop v192).OK) ∧
  (∀ k1_t20 : Fin (k1_t20_loop v192).trips, ∀ (k1_h3 : ¬(k1_cond3 v158 = 1#1)), ∀ a x, ((![v5, v42] : Fin 2 → IVec S16 32) a x).toNat < S4x10000.size a) ∧
  (∀ k1_t20 : Fin (k1_t20_loop v192).trips, ∀ (k1_h3 : ¬(k1_cond3 v158 = 1#1)), ∀ a x, ((![v5, v42] : Fin 2 → IVec S16 32) a x).toNat < S4x10000.size a) ∧
  (∀ k1_t20 : Fin (k1_t20_loop v192).trips, ∀ (k1_h3 : ¬(k1_cond3 v158 = 1#1)), ∀ a x, ((![v6, v42] : Fin 2 → IVec S16 32) a x).toNat < S4x10000.size a) ∧
  (∀ k1_t20 : Fin (k1_t20_loop v192).trips, ∀ (k1_h3 : ¬(k1_cond3 v158 = 1#1)), ∀ a x, ((![v6, v42] : Fin 2 → IVec S16 32) a x).toNat < S4x10000.size a) ∧
  (∀ k1_t20 : Fin (k1_t20_loop v192).trips, ∀ (k1_h3 : ¬(k1_cond3 v158 = 1#1)), ∀ a x, ((![v7, v42] : Fin 2 → IVec S16 32) a x).toNat < S4x10000.size a) ∧
  (∀ k1_t20 : Fin (k1_t20_loop v192).trips, ∀ (k1_h3 : ¬(k1_cond3 v158 = 1#1)), ∀ a x, ((![v7, v42] : Fin 2 → IVec S16 32) a x).toNat < S4x10000.size a) ∧
  (∀ k1_t20 : Fin (k1_t20_loop v192).trips, ∀ (k1_h3 : ¬(k1_cond3 v158 = 1#1)), ∀ a x, ((![v8, v42] : Fin 2 → IVec S16 32) a x).toNat < S4x10000.size a) ∧
  (∀ k1_t20 : Fin (k1_t20_loop v192).trips, ∀ (k1_h3 : ¬(k1_cond3 v158 = 1#1)), ∀ a x, ((![v8, v42] : Fin 2 → IVec S16 32) a x).toNat < S4x10000.size a)
theorem k1_t19_ok : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192), ∀ (k1_h3 : ¬(k1_cond3 v158 = 1#1)), (k1_t19_loop v192).OK := fun v5 v6 v7 v8 v42 v158 v192 k1_hw28 k1_h3 => k1_hw28.1 k1_h3
theorem k1_idx233_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v5, v42] : Fin 2 → IVec S16 32) a x).toNat < S4x10000.size a := fun v5 v6 v7 v8 v42 v158 v192 k1_hw28 k1_t19 k1_h3 => k1_hw28.2.1 k1_t19 k1_h3
theorem k1_idx234_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v5, v42] : Fin 2 → IVec S16 32) a x).toNat < S4x10000.size a := fun v5 v6 v7 v8 v42 v158 v192 k1_hw28 k1_t19 k1_h3 => k1_hw28.2.2.1 k1_t19 k1_h3
theorem k1_idx235_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v6, v42] : Fin 2 → IVec S16 32) a x).toNat < S4x10000.size a := fun v5 v6 v7 v8 v42 v158 v192 k1_hw28 k1_t19 k1_h3 => k1_hw28.2.2.2.1 k1_t19 k1_h3
theorem k1_idx236_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v6, v42] : Fin 2 → IVec S16 32) a x).toNat < S4x10000.size a := fun v5 v6 v7 v8 v42 v158 v192 k1_hw28 k1_t19 k1_h3 => k1_hw28.2.2.2.2.1 k1_t19 k1_h3
theorem k1_idx237_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v7, v42] : Fin 2 → IVec S16 32) a x).toNat < S4x10000.size a := fun v5 v6 v7 v8 v42 v158 v192 k1_hw28 k1_t19 k1_h3 => k1_hw28.2.2.2.2.2.1 k1_t19 k1_h3
theorem k1_idx238_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v7, v42] : Fin 2 → IVec S16 32) a x).toNat < S4x10000.size a := fun v5 v6 v7 v8 v42 v158 v192 k1_hw28 k1_t19 k1_h3 => k1_hw28.2.2.2.2.2.2.1 k1_t19 k1_h3
theorem k1_idx239_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v8, v42] : Fin 2 → IVec S16 32) a x).toNat < S4x10000.size a := fun v5 v6 v7 v8 v42 v158 v192 k1_hw28 k1_t19 k1_h3 => k1_hw28.2.2.2.2.2.2.2.1 k1_t19 k1_h3
theorem k1_idx240_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t19 : Fin (k1_t19_loop v192).trips), ∀ (k1_h3 : ¬(k1_cond3 v158 = 1#1)), ∀ a x, ((![v8, v42] : Fin 2 → IVec S16 32) a x).toNat < S4x10000.size a := fun v5 v6 v7 v8 v42 v158 v192 k1_hw28 k1_t19 k1_h3 => k1_hw28.2.2.2.2.2.2.2.2.1 k1_t19 k1_h3
theorem k1_t20_ok : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192), ∀ (k1_h3 : ¬(k1_cond3 v158 = 1#1)), (k1_t20_loop v192).OK := fun v5 v6 v7 v8 v42 v158 v192 k1_hw28 k1_h3 => k1_hw28.2.2.2.2.2.2.2.2.2.1 k1_h3
theorem k1_idx241_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v5, v42] : Fin 2 → IVec S16 32) a x).toNat < S4x10000.size a := fun v5 v6 v7 v8 v42 v158 v192 k1_hw28 k1_t20 k1_h3 => k1_hw28.2.2.2.2.2.2.2.2.2.2.1 k1_t20 k1_h3
theorem k1_idx242_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v5, v42] : Fin 2 → IVec S16 32) a x).toNat < S4x10000.size a := fun v5 v6 v7 v8 v42 v158 v192 k1_hw28 k1_t20 k1_h3 => k1_hw28.2.2.2.2.2.2.2.2.2.2.2.1 k1_t20 k1_h3
theorem k1_idx243_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v6, v42] : Fin 2 → IVec S16 32) a x).toNat < S4x10000.size a := fun v5 v6 v7 v8 v42 v158 v192 k1_hw28 k1_t20 k1_h3 => k1_hw28.2.2.2.2.2.2.2.2.2.2.2.2.1 k1_t20 k1_h3
theorem k1_idx244_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v6, v42] : Fin 2 → IVec S16 32) a x).toNat < S4x10000.size a := fun v5 v6 v7 v8 v42 v158 v192 k1_hw28 k1_t20 k1_h3 => k1_hw28.2.2.2.2.2.2.2.2.2.2.2.2.2.1 k1_t20 k1_h3
theorem k1_idx245_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v7, v42] : Fin 2 → IVec S16 32) a x).toNat < S4x10000.size a := fun v5 v6 v7 v8 v42 v158 v192 k1_hw28 k1_t20 k1_h3 => k1_hw28.2.2.2.2.2.2.2.2.2.2.2.2.2.2.1 k1_t20 k1_h3
theorem k1_idx246_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v7, v42] : Fin 2 → IVec S16 32) a x).toNat < S4x10000.size a := fun v5 v6 v7 v8 v42 v158 v192 k1_hw28 k1_t20 k1_h3 => k1_hw28.2.2.2.2.2.2.2.2.2.2.2.2.2.2.2.1 k1_t20 k1_h3
theorem k1_idx247_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v8, v42] : Fin 2 → IVec S16 32) a x).toNat < S4x10000.size a := fun v5 v6 v7 v8 v42 v158 v192 k1_hw28 k1_t20 k1_h3 => k1_hw28.2.2.2.2.2.2.2.2.2.2.2.2.2.2.2.2.1 k1_t20 k1_h3
theorem k1_idx248_inb : ∀ (v5 : IVec S16 32) (v6 : IVec S16 32) (v7 : IVec S16 32) (v8 : IVec S16 32) (v42 : IVec S16 32) (v158 : BitVec 32) (v192 : BitVec 32) (k1_hw28 : k1_chk28 v5 v6 v7 v8 v42 v158 v192) (k1_t20 : Fin (k1_t20_loop v192).trips), ∀ (k1_h3 : ¬(k1_cond3 v158 = 1#1)), ∀ a x, ((![v8, v42] : Fin 2 → IVec S16 32) a x).toNat < S4x10000.size a := fun v5 v6 v7 v8 v42 v158 v192 k1_hw28 k1_t20 k1_h3 => k1_hw28.2.2.2.2.2.2.2.2.2.2.2.2.2.2.2.2.2 k1_t20 k1_h3
@[reducible] def k1_t21_loop (v204 : BitVec 32) : Scf.Loop 32 :=
  let c2_i32_104 : BitVec 32 := 2#32
  let c1_i32_102 : BitVec 32 := 1#32
  let v205 : BitVec 32 := Scalar.addi v204 c1_i32_102
  let v206 : BitVec 32 := Scalar.subi v205 c2_i32_104
  let c1_i32_105 : BitVec 32 := 1#32
  let v208 : BitVec 32 := Scalar.divsi v206 c1_i32_105
  let v209 : BitVec 32 := Scalar.muli v208 c1_i32_105
  let v210 : BitVec 32 := Scalar.addi c2_i32_104 v209
  let c1_i32_106 : BitVec 32 := 1#32
  ⟨c2_i32_104, v210, c1_i32_106⟩

@[reducible] def k1_t22_loop (v204 : BitVec 32) : Scf.Loop 32 :=
  let c2_i32_104 : BitVec 32 := 2#32
  let c1_i32_102 : BitVec 32 := 1#32
  let v205 : BitVec 32 := Scalar.addi v204 c1_i32_102
  let v206 : BitVec 32 := Scalar.subi v205 c2_i32_104
  let c1_i32_105 : BitVec 32 := 1#32
  let v208 : BitVec 32 := Scalar.divsi v206 c1_i32_105
  let v209 : BitVec 32 := Scalar.muli v208 c1_i32_105
  let v210 : BitVec 32 := Scalar.addi c2_i32_104 v209
  let v207 : BitVec 32 := Scalar.addi c2_i32_104 v206
  let c1_i32_107 : BitVec 32 := 1#32
  ⟨v210, v207, c1_i32_107⟩

def k1_chk29 (v5 : IVec S16 32) (v6 : IVec S16 32) (v7 : IVec S16 32) (v8 : IVec S16 32) (v46 : IVec S16 32) (v158 : BitVec 32) (v204 : BitVec 32) : Prop :=
  (∀ (k1_h3 : ¬(k1_cond3 v158 = 1#1)), (k1_t21_loop v204).OK) ∧
  (∀ k1_t21 : Fin (k1_t21_loop v204).trips, ∀ (k1_h3 : ¬(k1_cond3 v158 = 1#1)), ∀ a x, ((![v5, v46] : Fin 2 → IVec S16 32) a x).toNat < S4x10000.size a) ∧
  (∀ k1_t21 : Fin (k1_t21_loop v204).trips, ∀ (k1_h3 : ¬(k1_cond3 v158 = 1#1)), ∀ a x, ((![v5, v46] : Fin 2 → IVec S16 32) a x).toNat < S4x10000.size a) ∧
  (∀ k1_t21 : Fin (k1_t21_loop v204).trips, ∀ (k1_h3 : ¬(k1_cond3 v158 = 1#1)), ∀ a x, ((![v6, v46] : Fin 2 → IVec S16 32) a x).toNat < S4x10000.size a) ∧
  (∀ k1_t21 : Fin (k1_t21_loop v204).trips, ∀ (k1_h3 : ¬(k1_cond3 v158 = 1#1)), ∀ a x, ((![v6, v46] : Fin 2 → IVec S16 32) a x).toNat < S4x10000.size a) ∧
  (∀ k1_t21 : Fin (k1_t21_loop v204).trips, ∀ (k1_h3 : ¬(k1_cond3 v158 = 1#1)), ∀ a x, ((![v7, v46] : Fin 2 → IVec S16 32) a x).toNat < S4x10000.size a) ∧
  (∀ k1_t21 : Fin (k1_t21_loop v204).trips, ∀ (k1_h3 : ¬(k1_cond3 v158 = 1#1)), ∀ a x, ((![v7, v46] : Fin 2 → IVec S16 32) a x).toNat < S4x10000.size a) ∧
  (∀ k1_t21 : Fin (k1_t21_loop v204).trips, ∀ (k1_h3 : ¬(k1_cond3 v158 = 1#1)), ∀ a x, ((![v8, v46] : Fin 2 → IVec S16 32) a x).toNat < S4x10000.size a) ∧
  (∀ k1_t21 : Fin (k1_t21_loop v204).trips, ∀ (k1_h3 : ¬(k1_cond3 v158 = 1#1)), ∀ a x, ((![v8, v46] : Fin 2 → IVec S16 32) a x).toNat < S4x10000.size a) ∧
  (∀ (k1_h3 : ¬(k1_cond3 v158 = 1#1)), (k1_t22_loop v204).OK) ∧
  (∀ k1_t22 : Fin (k1_t22_loop v204).trips, ∀ (k1_h3 : ¬(k1_cond3 v158 = 1#1)), ∀ a x, ((![v5, v46] : Fin 2 → IVec S16 32) a x).toNat < S4x10000.size a) ∧
  (∀ k1_t22 : Fin (k1_t22_loop v204).trips, ∀ (k1_h3 : ¬(k1_cond3 v158 = 1#1)), ∀ a x, ((![v5, v46] : Fin 2 → IVec S16 32) a x).toNat < S4x10000.size a) ∧
  (∀ k1_t22 : Fin (k1_t22_loop v204).trips, ∀ (k1_h3 : ¬(k1_cond3 v158 = 1#1)), ∀ a x, ((![v6, v46] : Fin 2 → IVec S16 32) a x).toNat < S4x10000.size a) ∧
  (∀ k1_t22 : Fin (k1_t22_loop v204).trips, ∀ (k1_h3 : ¬(k1_cond3 v158 = 1#1)), ∀ a x, ((![v6, v46] : Fin 2 → IVec S16 32) a x).toNat < S4x10000.size a) ∧
  (∀ k1_t22 : Fin (k1_t22_loop v204).trips, ∀ (k1_h3 : ¬(k1_cond3 v158 = 1#1)), ∀ a x, ((![v7, v46] : Fin 2 → IVec S16 32) a x).toNat < S4x10000.size a) ∧
  (∀ k1_t22 : Fin (k1_t22_loop v204).trips, ∀ (k1_h3 : ¬(k1_cond3 v158 = 1#1)), ∀ a x, ((![v7, v46] : Fin 2 → IVec S16 32) a x).toNat < S4x10000.size a) ∧
  (∀ k1_t22 : Fin (k1_t22_loop v204).trips, ∀ (k1_h3 : ¬(k1_cond3 v158 = 1#1)), ∀ a x, ((![v8, v46] : Fin 2 → IVec S16 32) a x).toNat < S4x10000.size a) ∧
  (∀ k1_t22 : Fin (k1_t22_loop v204).trips, ∀ (k1_h3 : ¬(k1_cond3 v158 = 1#1)), ∀ a x, ((![v8, v46] : Fin 2 → IVec S16 32) a x).toNat < S4x10000.size a)
theorem k1_t21_ok : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204), ∀ (k1_h3 : ¬(k1_cond3 v158 = 1#1)), (k1_t21_loop v204).OK := fun v5 v6 v7 v8 v46 v158 v204 k1_hw29 k1_h3 => k1_hw29.1 k1_h3
theorem k1_idx249_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v5, v46] : Fin 2 → IVec S16 32) a x).toNat < S4x10000.size a := fun v5 v6 v7 v8 v46 v158 v204 k1_hw29 k1_t21 k1_h3 => k1_hw29.2.1 k1_t21 k1_h3
theorem k1_idx250_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v5, v46] : Fin 2 → IVec S16 32) a x).toNat < S4x10000.size a := fun v5 v6 v7 v8 v46 v158 v204 k1_hw29 k1_t21 k1_h3 => k1_hw29.2.2.1 k1_t21 k1_h3
theorem k1_idx251_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v6, v46] : Fin 2 → IVec S16 32) a x).toNat < S4x10000.size a := fun v5 v6 v7 v8 v46 v158 v204 k1_hw29 k1_t21 k1_h3 => k1_hw29.2.2.2.1 k1_t21 k1_h3
theorem k1_idx252_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v6, v46] : Fin 2 → IVec S16 32) a x).toNat < S4x10000.size a := fun v5 v6 v7 v8 v46 v158 v204 k1_hw29 k1_t21 k1_h3 => k1_hw29.2.2.2.2.1 k1_t21 k1_h3
theorem k1_idx253_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v7, v46] : Fin 2 → IVec S16 32) a x).toNat < S4x10000.size a := fun v5 v6 v7 v8 v46 v158 v204 k1_hw29 k1_t21 k1_h3 => k1_hw29.2.2.2.2.2.1 k1_t21 k1_h3
theorem k1_idx254_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v7, v46] : Fin 2 → IVec S16 32) a x).toNat < S4x10000.size a := fun v5 v6 v7 v8 v46 v158 v204 k1_hw29 k1_t21 k1_h3 => k1_hw29.2.2.2.2.2.2.1 k1_t21 k1_h3
theorem k1_idx255_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v8, v46] : Fin 2 → IVec S16 32) a x).toNat < S4x10000.size a := fun v5 v6 v7 v8 v46 v158 v204 k1_hw29 k1_t21 k1_h3 => k1_hw29.2.2.2.2.2.2.2.1 k1_t21 k1_h3
theorem k1_idx256_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t21 : Fin (k1_t21_loop v204).trips), ∀ (k1_h3 : ¬(k1_cond3 v158 = 1#1)), ∀ a x, ((![v8, v46] : Fin 2 → IVec S16 32) a x).toNat < S4x10000.size a := fun v5 v6 v7 v8 v46 v158 v204 k1_hw29 k1_t21 k1_h3 => k1_hw29.2.2.2.2.2.2.2.2.1 k1_t21 k1_h3
theorem k1_t22_ok : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204), ∀ (k1_h3 : ¬(k1_cond3 v158 = 1#1)), (k1_t22_loop v204).OK := fun v5 v6 v7 v8 v46 v158 v204 k1_hw29 k1_h3 => k1_hw29.2.2.2.2.2.2.2.2.2.1 k1_h3
theorem k1_idx257_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v5, v46] : Fin 2 → IVec S16 32) a x).toNat < S4x10000.size a := fun v5 v6 v7 v8 v46 v158 v204 k1_hw29 k1_t22 k1_h3 => k1_hw29.2.2.2.2.2.2.2.2.2.2.1 k1_t22 k1_h3
theorem k1_idx258_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v5, v46] : Fin 2 → IVec S16 32) a x).toNat < S4x10000.size a := fun v5 v6 v7 v8 v46 v158 v204 k1_hw29 k1_t22 k1_h3 => k1_hw29.2.2.2.2.2.2.2.2.2.2.2.1 k1_t22 k1_h3
theorem k1_idx259_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v6, v46] : Fin 2 → IVec S16 32) a x).toNat < S4x10000.size a := fun v5 v6 v7 v8 v46 v158 v204 k1_hw29 k1_t22 k1_h3 => k1_hw29.2.2.2.2.2.2.2.2.2.2.2.2.1 k1_t22 k1_h3
theorem k1_idx260_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v6, v46] : Fin 2 → IVec S16 32) a x).toNat < S4x10000.size a := fun v5 v6 v7 v8 v46 v158 v204 k1_hw29 k1_t22 k1_h3 => k1_hw29.2.2.2.2.2.2.2.2.2.2.2.2.2.1 k1_t22 k1_h3
theorem k1_idx261_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v7, v46] : Fin 2 → IVec S16 32) a x).toNat < S4x10000.size a := fun v5 v6 v7 v8 v46 v158 v204 k1_hw29 k1_t22 k1_h3 => k1_hw29.2.2.2.2.2.2.2.2.2.2.2.2.2.2.1 k1_t22 k1_h3
theorem k1_idx262_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v7, v46] : Fin 2 → IVec S16 32) a x).toNat < S4x10000.size a := fun v5 v6 v7 v8 v46 v158 v204 k1_hw29 k1_t22 k1_h3 => k1_hw29.2.2.2.2.2.2.2.2.2.2.2.2.2.2.2.1 k1_t22 k1_h3
theorem k1_idx263_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v8, v46] : Fin 2 → IVec S16 32) a x).toNat < S4x10000.size a := fun v5 v6 v7 v8 v46 v158 v204 k1_hw29 k1_t22 k1_h3 => k1_hw29.2.2.2.2.2.2.2.2.2.2.2.2.2.2.2.2.1 k1_t22 k1_h3
theorem k1_idx264_inb : ∀ (v5 : IVec S16 32) (v6 : IVec S16 32) (v7 : IVec S16 32) (v8 : IVec S16 32) (v46 : IVec S16 32) (v158 : BitVec 32) (v204 : BitVec 32) (k1_hw29 : k1_chk29 v5 v6 v7 v8 v46 v158 v204) (k1_t22 : Fin (k1_t22_loop v204).trips), ∀ (k1_h3 : ¬(k1_cond3 v158 = 1#1)), ∀ a x, ((![v8, v46] : Fin 2 → IVec S16 32) a x).toNat < S4x10000.size a := fun v5 v6 v7 v8 v46 v158 v204 k1_hw29 k1_t22 k1_h3 => k1_hw29.2.2.2.2.2.2.2.2.2.2.2.2.2.2.2.2.2 k1_t22 k1_h3
@[reducible] def k1_t23_loop (v216 : BitVec 32) : Scf.Loop 32 :=
  let c2_i32_112 : BitVec 32 := 2#32
  let c1_i32_110 : BitVec 32 := 1#32
  let v217 : BitVec 32 := Scalar.addi v216 c1_i32_110
  let v218 : BitVec 32 := Scalar.subi v217 c2_i32_112
  let c1_i32_113 : BitVec 32 := 1#32
  let v220 : BitVec 32 := Scalar.divsi v218 c1_i32_113
  let v221 : BitVec 32 := Scalar.muli v220 c1_i32_113
  let v222 : BitVec 32 := Scalar.addi c2_i32_112 v221
  let c1_i32_114 : BitVec 32 := 1#32
  ⟨c2_i32_112, v222, c1_i32_114⟩

@[reducible] def k1_t24_loop (v216 : BitVec 32) : Scf.Loop 32 :=
  let c2_i32_112 : BitVec 32 := 2#32
  let c1_i32_110 : BitVec 32 := 1#32
  let v217 : BitVec 32 := Scalar.addi v216 c1_i32_110
  let v218 : BitVec 32 := Scalar.subi v217 c2_i32_112
  let c1_i32_113 : BitVec 32 := 1#32
  let v220 : BitVec 32 := Scalar.divsi v218 c1_i32_113
  let v221 : BitVec 32 := Scalar.muli v220 c1_i32_113
  let v222 : BitVec 32 := Scalar.addi c2_i32_112 v221
  let v219 : BitVec 32 := Scalar.addi c2_i32_112 v218
  let c1_i32_115 : BitVec 32 := 1#32
  ⟨v222, v219, c1_i32_115⟩

def k1_chk30 (v5 : IVec S16 32) (v6 : IVec S16 32) (v7 : IVec S16 32) (v8 : IVec S16 32) (v50 : IVec S16 32) (v158 : BitVec 32) (v216 : BitVec 32) : Prop :=
  (∀ (k1_h3 : ¬(k1_cond3 v158 = 1#1)), (k1_t23_loop v216).OK) ∧
  (∀ k1_t23 : Fin (k1_t23_loop v216).trips, ∀ (k1_h3 : ¬(k1_cond3 v158 = 1#1)), ∀ a x, ((![v5, v50] : Fin 2 → IVec S16 32) a x).toNat < S4x10000.size a) ∧
  (∀ k1_t23 : Fin (k1_t23_loop v216).trips, ∀ (k1_h3 : ¬(k1_cond3 v158 = 1#1)), ∀ a x, ((![v5, v50] : Fin 2 → IVec S16 32) a x).toNat < S4x10000.size a) ∧
  (∀ k1_t23 : Fin (k1_t23_loop v216).trips, ∀ (k1_h3 : ¬(k1_cond3 v158 = 1#1)), ∀ a x, ((![v6, v50] : Fin 2 → IVec S16 32) a x).toNat < S4x10000.size a) ∧
  (∀ k1_t23 : Fin (k1_t23_loop v216).trips, ∀ (k1_h3 : ¬(k1_cond3 v158 = 1#1)), ∀ a x, ((![v6, v50] : Fin 2 → IVec S16 32) a x).toNat < S4x10000.size a) ∧
  (∀ k1_t23 : Fin (k1_t23_loop v216).trips, ∀ (k1_h3 : ¬(k1_cond3 v158 = 1#1)), ∀ a x, ((![v7, v50] : Fin 2 → IVec S16 32) a x).toNat < S4x10000.size a) ∧
  (∀ k1_t23 : Fin (k1_t23_loop v216).trips, ∀ (k1_h3 : ¬(k1_cond3 v158 = 1#1)), ∀ a x, ((![v7, v50] : Fin 2 → IVec S16 32) a x).toNat < S4x10000.size a) ∧
  (∀ k1_t23 : Fin (k1_t23_loop v216).trips, ∀ (k1_h3 : ¬(k1_cond3 v158 = 1#1)), ∀ a x, ((![v8, v50] : Fin 2 → IVec S16 32) a x).toNat < S4x10000.size a) ∧
  (∀ k1_t23 : Fin (k1_t23_loop v216).trips, ∀ (k1_h3 : ¬(k1_cond3 v158 = 1#1)), ∀ a x, ((![v8, v50] : Fin 2 → IVec S16 32) a x).toNat < S4x10000.size a) ∧
  (∀ (k1_h3 : ¬(k1_cond3 v158 = 1#1)), (k1_t24_loop v216).OK) ∧
  (∀ k1_t24 : Fin (k1_t24_loop v216).trips, ∀ (k1_h3 : ¬(k1_cond3 v158 = 1#1)), ∀ a x, ((![v5, v50] : Fin 2 → IVec S16 32) a x).toNat < S4x10000.size a) ∧
  (∀ k1_t24 : Fin (k1_t24_loop v216).trips, ∀ (k1_h3 : ¬(k1_cond3 v158 = 1#1)), ∀ a x, ((![v5, v50] : Fin 2 → IVec S16 32) a x).toNat < S4x10000.size a) ∧
  (∀ k1_t24 : Fin (k1_t24_loop v216).trips, ∀ (k1_h3 : ¬(k1_cond3 v158 = 1#1)), ∀ a x, ((![v6, v50] : Fin 2 → IVec S16 32) a x).toNat < S4x10000.size a) ∧
  (∀ k1_t24 : Fin (k1_t24_loop v216).trips, ∀ (k1_h3 : ¬(k1_cond3 v158 = 1#1)), ∀ a x, ((![v6, v50] : Fin 2 → IVec S16 32) a x).toNat < S4x10000.size a) ∧
  (∀ k1_t24 : Fin (k1_t24_loop v216).trips, ∀ (k1_h3 : ¬(k1_cond3 v158 = 1#1)), ∀ a x, ((![v7, v50] : Fin 2 → IVec S16 32) a x).toNat < S4x10000.size a) ∧
  (∀ k1_t24 : Fin (k1_t24_loop v216).trips, ∀ (k1_h3 : ¬(k1_cond3 v158 = 1#1)), ∀ a x, ((![v7, v50] : Fin 2 → IVec S16 32) a x).toNat < S4x10000.size a) ∧
  (∀ k1_t24 : Fin (k1_t24_loop v216).trips, ∀ (k1_h3 : ¬(k1_cond3 v158 = 1#1)), ∀ a x, ((![v8, v50] : Fin 2 → IVec S16 32) a x).toNat < S4x10000.size a) ∧
  (∀ k1_t24 : Fin (k1_t24_loop v216).trips, ∀ (k1_h3 : ¬(k1_cond3 v158 = 1#1)), ∀ a x, ((![v8, v50] : Fin 2 → IVec S16 32) a x).toNat < S4x10000.size a)
theorem k1_t23_ok : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216), ∀ (k1_h3 : ¬(k1_cond3 v158 = 1#1)), (k1_t23_loop v216).OK := fun v5 v6 v7 v8 v50 v158 v216 k1_hw30 k1_h3 => k1_hw30.1 k1_h3
theorem k1_idx265_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v5, v50] : Fin 2 → IVec S16 32) a x).toNat < S4x10000.size a := fun v5 v6 v7 v8 v50 v158 v216 k1_hw30 k1_t23 k1_h3 => k1_hw30.2.1 k1_t23 k1_h3
theorem k1_idx266_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v5, v50] : Fin 2 → IVec S16 32) a x).toNat < S4x10000.size a := fun v5 v6 v7 v8 v50 v158 v216 k1_hw30 k1_t23 k1_h3 => k1_hw30.2.2.1 k1_t23 k1_h3
theorem k1_idx267_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v6, v50] : Fin 2 → IVec S16 32) a x).toNat < S4x10000.size a := fun v5 v6 v7 v8 v50 v158 v216 k1_hw30 k1_t23 k1_h3 => k1_hw30.2.2.2.1 k1_t23 k1_h3
theorem k1_idx268_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v6, v50] : Fin 2 → IVec S16 32) a x).toNat < S4x10000.size a := fun v5 v6 v7 v8 v50 v158 v216 k1_hw30 k1_t23 k1_h3 => k1_hw30.2.2.2.2.1 k1_t23 k1_h3
theorem k1_idx269_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v7, v50] : Fin 2 → IVec S16 32) a x).toNat < S4x10000.size a := fun v5 v6 v7 v8 v50 v158 v216 k1_hw30 k1_t23 k1_h3 => k1_hw30.2.2.2.2.2.1 k1_t23 k1_h3
theorem k1_idx270_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v7, v50] : Fin 2 → IVec S16 32) a x).toNat < S4x10000.size a := fun v5 v6 v7 v8 v50 v158 v216 k1_hw30 k1_t23 k1_h3 => k1_hw30.2.2.2.2.2.2.1 k1_t23 k1_h3
theorem k1_idx271_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v8, v50] : Fin 2 → IVec S16 32) a x).toNat < S4x10000.size a := fun v5 v6 v7 v8 v50 v158 v216 k1_hw30 k1_t23 k1_h3 => k1_hw30.2.2.2.2.2.2.2.1 k1_t23 k1_h3
theorem k1_idx272_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t23 : Fin (k1_t23_loop v216).trips), ∀ (k1_h3 : ¬(k1_cond3 v158 = 1#1)), ∀ a x, ((![v8, v50] : Fin 2 → IVec S16 32) a x).toNat < S4x10000.size a := fun v5 v6 v7 v8 v50 v158 v216 k1_hw30 k1_t23 k1_h3 => k1_hw30.2.2.2.2.2.2.2.2.1 k1_t23 k1_h3
theorem k1_t24_ok : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216), ∀ (k1_h3 : ¬(k1_cond3 v158 = 1#1)), (k1_t24_loop v216).OK := fun v5 v6 v7 v8 v50 v158 v216 k1_hw30 k1_h3 => k1_hw30.2.2.2.2.2.2.2.2.2.1 k1_h3
theorem k1_idx273_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v5, v50] : Fin 2 → IVec S16 32) a x).toNat < S4x10000.size a := fun v5 v6 v7 v8 v50 v158 v216 k1_hw30 k1_t24 k1_h3 => k1_hw30.2.2.2.2.2.2.2.2.2.2.1 k1_t24 k1_h3
theorem k1_idx274_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v5, v50] : Fin 2 → IVec S16 32) a x).toNat < S4x10000.size a := fun v5 v6 v7 v8 v50 v158 v216 k1_hw30 k1_t24 k1_h3 => k1_hw30.2.2.2.2.2.2.2.2.2.2.2.1 k1_t24 k1_h3
theorem k1_idx275_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v6, v50] : Fin 2 → IVec S16 32) a x).toNat < S4x10000.size a := fun v5 v6 v7 v8 v50 v158 v216 k1_hw30 k1_t24 k1_h3 => k1_hw30.2.2.2.2.2.2.2.2.2.2.2.2.1 k1_t24 k1_h3
theorem k1_idx276_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v6, v50] : Fin 2 → IVec S16 32) a x).toNat < S4x10000.size a := fun v5 v6 v7 v8 v50 v158 v216 k1_hw30 k1_t24 k1_h3 => k1_hw30.2.2.2.2.2.2.2.2.2.2.2.2.2.1 k1_t24 k1_h3
theorem k1_idx277_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v7, v50] : Fin 2 → IVec S16 32) a x).toNat < S4x10000.size a := fun v5 v6 v7 v8 v50 v158 v216 k1_hw30 k1_t24 k1_h3 => k1_hw30.2.2.2.2.2.2.2.2.2.2.2.2.2.2.1 k1_t24 k1_h3
theorem k1_idx278_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v7, v50] : Fin 2 → IVec S16 32) a x).toNat < S4x10000.size a := fun v5 v6 v7 v8 v50 v158 v216 k1_hw30 k1_t24 k1_h3 => k1_hw30.2.2.2.2.2.2.2.2.2.2.2.2.2.2.2.1 k1_t24 k1_h3
theorem k1_idx279_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v8, v50] : Fin 2 → IVec S16 32) a x).toNat < S4x10000.size a := fun v5 v6 v7 v8 v50 v158 v216 k1_hw30 k1_t24 k1_h3 => k1_hw30.2.2.2.2.2.2.2.2.2.2.2.2.2.2.2.2.1 k1_t24 k1_h3
theorem k1_idx280_inb : ∀ (v5 : IVec S16 32) (v6 : IVec S16 32) (v7 : IVec S16 32) (v8 : IVec S16 32) (v50 : IVec S16 32) (v158 : BitVec 32) (v216 : BitVec 32) (k1_hw30 : k1_chk30 v5 v6 v7 v8 v50 v158 v216) (k1_t24 : Fin (k1_t24_loop v216).trips), ∀ (k1_h3 : ¬(k1_cond3 v158 = 1#1)), ∀ a x, ((![v8, v50] : Fin 2 → IVec S16 32) a x).toNat < S4x10000.size a := fun v5 v6 v7 v8 v50 v158 v216 k1_hw30 k1_t24 k1_h3 => k1_hw30.2.2.2.2.2.2.2.2.2.2.2.2.2.2.2.2.2 k1_t24 k1_h3
def k1_cond4 (k1_t2 : Fin k1_t2_loop.trips) : BitVec 1 :=
  let c0_i32_13 : BitVec 32 := 0#32
  let c1_i32_14 : BitVec 32 := 1#32
  let arg11 : BitVec 32 := Scf.iv c0_i32_13 c1_i32_14 k1_t2
  let c24_i32_34 : BitVec 32 := 24#32
  let v27 : BitVec 1 := Scalar.cmpi .slt arg11 c24_i32_34
  let v28 : BitVec 32 := Scalar.extui v27
  let c0_i32_35 : BitVec 32 := 0#32
  let v29 : BitVec 1 := Scalar.cmpi .ne v28 c0_i32_35
  v29

def k1_off13 (k1_t2 : Fin k1_t2_loop.trips) : Fin 2 → Nat :=
  let c0_i32_38 : BitVec 32 := 0#32
  let c2_i32_16 : BitVec 32 := 2#32
  let c0_i32_13 : BitVec 32 := 0#32
  let c1_i32_14 : BitVec 32 := 1#32
  let arg11 : BitVec 32 := Scf.iv c0_i32_13 c1_i32_14 k1_t2
  let v14 : BitVec 32 := Scalar.muli c2_i32_16 arg11
  let c3_i32_36 : BitVec 32 := 3#32
  let v30 : BitVec 32 := Scalar.addi v14 c3_i32_36
  let c6400_i32_37 : BitVec 32 := 6400#32
  let v31 : BitVec 32 := Scalar.muli v30 c6400_i32_37
  ![0, v31.toNat]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_16_r1 : BitVec 32 := 0#32
  ![v2.toNat, 0]
abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S10000x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x8 : Shape := ⟨2, ![10000, 8]⟩
abbrev S10000x2 : Shape := ⟨2, ![10000, 2]⟩
abbrev S2x320000 : Shape := ⟨2, ![2, 320000]⟩
abbrev S10000 : Shape := ⟨1, ![10000]⟩
abbrev S3x32 : Shape := ⟨2, ![3, 32]⟩
abbrev S7x32 : Shape := ⟨2, ![7, 32]⟩
abbrev S8x64 : Shape := ⟨2, ![8, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S10000x32 : Shape := ⟨2, ![10000, 32]⟩
abbrev S10000x128 : Shape := ⟨2, ![10000, 128]⟩
abbrev S1x128 : Shape := ⟨2, ![1, 128]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S320000x256 : Shape := ⟨2, ![320000, 256]⟩
abbrev S10000x320000 : Shape := ⟨2, ![10000, 320000]⟩
abbrev S10000x320000x1 : Shape := ⟨3, ![10000, 320000, 1]⟩
abbrev S1x320000x128 : Shape := ⟨3, ![1, 320000, 128]⟩
abbrev S10000x320000x128 : Shape := ⟨3, ![10000, 320000, 128]⟩
abbrev S1x1 : Shape := ⟨2, ![1, 1]⟩

abbrev nBuf : Space → Nat
  | .hbm => 273
  | .vmem => 0
  | .smem => 0
  | _ => 0

abbrev hbmTy0_0 (i : Nat) : BufTy := match i % 128 with
  | 0 => ⟨S10000x8, .f32⟩
  | 1 => ⟨S10000x2, .i32⟩
  | 2 => ⟨S2x320000, .i32⟩
  | 3 => ⟨S10000, .i32⟩
  | 4 => ⟨S3x32, .f32⟩
  | 5 => ⟨S7x32, .f32⟩
  | 6 => ⟨S8x64, .f32⟩
  | 7 => ⟨S64, .f32⟩
  | 8 => ⟨S64x64, .f32⟩
  | 9 => ⟨S64, .f32⟩
  | 10 => ⟨S128x128, .f32⟩
  | 11 => ⟨S128, .f32⟩
  | 12 => ⟨S128, .f32⟩
  | 13 => ⟨S128, .f32⟩
  | 14 => ⟨S256x128, .f32⟩
  | 15 => ⟨S128, .f32⟩
  | 16 => ⟨S128, .f32⟩
  | 17 => ⟨S128, .f32⟩
  | 18 => ⟨S128x64, .f32⟩
  | 19 => ⟨S64, .f32⟩
  | 20 => ⟨S64x1, .f32⟩
  | 21 => ⟨S1, .f32⟩
  | 22 => ⟨S10000x64, .f32⟩
  | 23 => ⟨S1x64, .f32⟩
  | 24 => ⟨S10000x64, .f32⟩
  | 25 => ⟨S10000x64, .f32⟩
  | 26 => ⟨S_, .f32⟩
  | 27 => ⟨S10000x64, .f32⟩
  | 28 => ⟨S10000x64, .i1⟩
  | 29 => ⟨S_, .f32⟩
  | 30 => ⟨S10000x64, .f32⟩
  | 31 => ⟨S10000x64, .i1⟩
  | 32 => ⟨S_, .f32⟩
  | 33 => ⟨S_, .f32⟩
  | 34 => ⟨S10000x64, .f32⟩
  | 35 => ⟨S10000x64, .f32⟩
  | 36 => ⟨S10000x64, .f32⟩
  | 37 => ⟨S10000x64, .f32⟩
  | 38 => ⟨S10000x1, .i32⟩
  | 39 => ⟨S10000, .i32⟩
  | 40 => ⟨S_, .i32⟩
  | 41 => ⟨S10000, .i32⟩
  | 42 => ⟨S10000, .i32⟩
  | 43 => ⟨S_, .i32⟩
  | 44 => ⟨S10000, .i32⟩
  | 45 => ⟨S10000, .i1⟩
  | 46 => ⟨S_, .i32⟩
  | 47 => ⟨S10000, .i32⟩
  | 48 => ⟨S10000, .i32⟩
  | 49 => ⟨S10000, .i32⟩
  | 50 => ⟨S10000x1, .i32⟩
  | 51 => ⟨S10000x32, .f32⟩
  | 52 => ⟨S10000x1, .i32⟩
  | 53 => ⟨S10000, .i32⟩
  | 54 => ⟨S10000, .i32⟩
  | 55 => ⟨S_, .i32⟩
  | 56 => ⟨S10000, .i32⟩
  | 57 => ⟨S10000, .i1⟩
  | 58 => ⟨S_, .i32⟩
  | 59 => ⟨S10000, .i32⟩
  | 60 => ⟨S10000, .i32⟩
  | 61 => ⟨S_, .i32⟩
  | 62 => ⟨S10000, .i32⟩
  | 63 => ⟨S10000, .i1⟩
  | 64 => ⟨S_, .i32⟩
  | 65 => ⟨S10000, .i32⟩
  | 66 => ⟨S10000, .i32⟩
  | 67 => ⟨S_, .i32⟩
  | 68 => ⟨S10000, .i32⟩
  | 69 => ⟨S10000, .i1⟩
  | 70 => ⟨S_, .i32⟩
  | 71 => ⟨S10000, .i32⟩
  | 72 => ⟨S10000, .i32⟩
  | 73 => ⟨S_, .i32⟩
  | 74 => ⟨S10000, .i32⟩
  | 75 => ⟨S10000, .i1⟩
  | 76 => ⟨S_, .i32⟩
  | 77 => ⟨S10000, .i32⟩
  | 78 => ⟨S10000, .i32⟩
  | 79 => ⟨S_, .i32⟩
  | 80 => ⟨S10000, .i32⟩
  | 81 => ⟨S10000, .i1⟩
  | 82 => ⟨S_, .i32⟩
  | 83 => ⟨S10000, .i32⟩
  | 84 => ⟨S10000, .i32⟩
  | 85 => ⟨S_, .i32⟩
  | 86 => ⟨S10000, .i32⟩
  | 87 => ⟨S10000, .i1⟩
  | 88 => ⟨S_, .i32⟩
  | 89 => ⟨S10000, .i32⟩
  | 90 => ⟨S10000, .i32⟩
  | 91 => ⟨S_, .i32⟩
  | 92 => ⟨S10000, .i32⟩
  | 93 => ⟨S10000, .i1⟩
  | 94 => ⟨S_, .i32⟩
  | 95 => ⟨S10000, .i32⟩
  | 96 => ⟨S10000, .i32⟩
  | 97 => ⟨S_, .i32⟩
  | 98 => ⟨S10000, .i32⟩
  | 99 => ⟨S10000, .i1⟩
  | 100 => ⟨S_, .i32⟩
  | 101 => ⟨S10000, .i32⟩
  | 102 => ⟨S10000, .i32⟩
  | 103 => ⟨S10000, .i32⟩
  | 104 => ⟨S10000x1, .i32⟩
  | 105 => ⟨S10000x32, .f32⟩
  | 106 => ⟨S10000x64, .f32⟩
  | 107 => ⟨S10000x64, .f32⟩
  | 108 => ⟨S1x64, .f32⟩
  | 109 => ⟨S10000x64, .f32⟩
  | 110 => ⟨S10000x64, .f32⟩
  | 111 => ⟨S_, .f32⟩
  | 112 => ⟨S10000x64, .f32⟩
  | 113 => ⟨S10000x64, .i1⟩
  | 114 => ⟨S_, .f32⟩
  | 115 => ⟨S10000x64, .f32⟩
  | 116 => ⟨S10000x64, .i1⟩
  | 117 => ⟨S_, .f32⟩
  | 118 => ⟨S_, .f32⟩
  | 119 => ⟨S10000x64, .f32⟩
  | 120 => ⟨S10000x64, .f32⟩
  | 121 => ⟨S10000x64, .f32⟩
  | 122 => ⟨S10000x64, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S10000x8, .f32⟩

abbrev hbmTy0_1 (i : Nat) : BufTy := match i % 128 with
  | 0 => ⟨S_, .f32⟩
  | 1 => ⟨S10000x128, .f32⟩
  | 2 => ⟨S10000x128, .i1⟩
  | 3 => ⟨S_, .f32⟩
  | 4 => ⟨S10000x128, .f32⟩
  | 5 => ⟨S10000x128, .i1⟩
  | 6 => ⟨S_, .f32⟩
  | 7 => ⟨S_, .f32⟩
  | 8 => ⟨S10000x128, .f32⟩
  | 9 => ⟨S10000x128, .f32⟩
  | 10 => ⟨S10000x128, .f32⟩
  | 11 => ⟨S10000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S10000x128, .f32⟩
  | 19 => ⟨S10000x128, .f32⟩
  | 20 => ⟨S10000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S10000x128, .f32⟩
  | 28 => ⟨S10000x128, .f32⟩
  | 29 => ⟨S1x128, .f32⟩
  | 30 => ⟨S10000x128, .f32⟩
  | 31 => ⟨S10000x128, .f32⟩
  | 32 => ⟨S_, .f32⟩
  | 33 => ⟨S128, .f32⟩
  | 34 => ⟨S128, .f32⟩
  | 35 => ⟨S128, .f32⟩
  | 36 => ⟨S1x128, .f32⟩
  | 37 => ⟨S10000x128, .f32⟩
  | 38 => ⟨S10000x128, .f32⟩
  | 39 => ⟨S1x128, .f32⟩
  | 40 => ⟨S10000x128, .f32⟩
  | 41 => ⟨S10000x128, .f32⟩
  | 42 => ⟨S1x320000, .i32⟩
  | 43 => ⟨S320000, .i32⟩
  | 44 => ⟨S1x320000, .i32⟩
  | 45 => ⟨S320000, .i32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000x128, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x128, .f32⟩
  | 64 => ⟨S320000x128, .f32⟩
  | 65 => ⟨S320000x256, .f32⟩
  | 66 => ⟨S320000x128, .f32⟩
  | 67 => ⟨S1x128, .f32⟩
  | 68 => ⟨S320000x128, .f32⟩
  | 69 => ⟨S320000x128, .f32⟩
  | 70 => ⟨S1x320000, .i32⟩
  | 71 => ⟨S10000, .i32⟩
  | 72 => ⟨S10000x1, .i32⟩
  | 73 => ⟨S10000x320000, .i32⟩
  | 74 => ⟨S10000x320000, .i32⟩
  | 75 => ⟨S10000x320000, .i1⟩
  | 76 => ⟨S10000x320000x1, .i1⟩
  | 77 => ⟨S1x320000x128, .f32⟩
  | 78 => ⟨S_, .f32⟩
  | 79 => ⟨S_, .f32⟩
  | 80 => ⟨S10000x320000x128, .i1⟩
  | 81 => ⟨S10000x320000x128, .f32⟩
  | 82 => ⟨S10000x320000x128, .f32⟩
  | 83 => ⟨S10000x320000x128, .f32⟩
  | 84 => ⟨S_, .f32⟩
  | 85 => ⟨S10000x128, .f32⟩
  | 86 => ⟨S10000x128, .f32⟩
  | 87 => ⟨S_, .f32⟩
  | 88 => ⟨S10000x128, .f32⟩
  | 89 => ⟨S10000x128, .i1⟩
  | 90 => ⟨S_, .f32⟩
  | 91 => ⟨S_, .f32⟩
  | 92 => ⟨S10000x128, .f32⟩
  | 93 => ⟨S10000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S10000x128, .f32⟩
  | 101 => ⟨S10000x128, .f32⟩
  | 102 => ⟨S10000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S_, .f32⟩
  | 115 => ⟨S128, .f32⟩
  | 116 => ⟨S128, .f32⟩
  | 117 => ⟨S128, .f32⟩
  | 118 => ⟨S1x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S10000x128, .f32⟩
  | 125 => ⟨S10000x64, .f32⟩
  | 126 => ⟨S1x64, .f32⟩
  | 127 => ⟨S10000x64, .f32⟩
  | _ => ⟨S10000x8, .f32⟩

abbrev hbmTy0_2 (i : Nat) : BufTy := match i % 128 with
  | 0 => ⟨S10000x64, .f32⟩
  | 1 => ⟨S_, .f32⟩
  | 2 => ⟨S10000x64, .f32⟩
  | 3 => ⟨S10000x64, .i1⟩
  | 4 => ⟨S_, .f32⟩
  | 5 => ⟨S10000x64, .f32⟩
  | 6 => ⟨S10000x64, .i1⟩
  | 7 => ⟨S_, .f32⟩
  | 8 => ⟨S_, .f32⟩
  | 9 => ⟨S10000x64, .f32⟩
  | 10 => ⟨S10000x64, .f32⟩
  | 11 => ⟨S10000x64, .f32⟩
  | 12 => ⟨S10000x64, .f32⟩
  | 13 => ⟨S10000x1, .f32⟩
  | 14 => ⟨S1x1, .f32⟩
  | 15 => ⟨S10000x1, .f32⟩
  | 16 => ⟨S10000x1, .f32⟩
  | _ => ⟨S10000x8, .f32⟩

abbrev hbmTy (i : Nat) : BufTy := match i / 128 with
  | 0 => hbmTy0_0 i
  | 1 => hbmTy0_1 i
  | 2 => hbmTy0_2 i
  | _ => ⟨S10000x8, .f32⟩

abbrev bufTy : (tb : Table) → Fin (tcTables nBuf tb) → BufTy
  | .hbm, ⟨i, _⟩ => hbmTy i
  | _, _ => ⟨S10000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_c_9 : Ref sig .tc := ⟨.hbm, 70, rfl⟩
abbrev main_v35 : Ref sig .tc := ⟨.hbm, 71, rfl⟩
abbrev main_v36 : Ref sig .tc := ⟨.hbm, 72, rfl⟩
abbrev main_c_10 : Ref sig .tc := ⟨.hbm, 73, rfl⟩
abbrev main_v37 : Ref sig .tc := ⟨.hbm, 74, rfl⟩
abbrev main_v38 : Ref sig .tc := ⟨.hbm, 75, rfl⟩
abbrev main_c_11 : Ref sig .tc := ⟨.hbm, 76, rfl⟩
abbrev main_v39 : Ref sig .tc := ⟨.hbm, 77, rfl⟩
abbrev main_v40 : Ref sig .tc := ⟨.hbm, 78, rfl⟩
abbrev main_c_12 : Ref sig .tc := ⟨.hbm, 79, rfl⟩
abbrev main_v41 : Ref sig .tc := ⟨.hbm, 80, rfl⟩
abbrev main_v42 : Ref sig .tc := ⟨.hbm, 81, rfl⟩
abbrev main_c_13 : Ref sig .tc := ⟨.hbm, 82, rfl⟩
abbrev main_v43 : Ref sig .tc := ⟨.hbm, 83, rfl⟩
abbrev main_v44 : Ref sig .tc := ⟨.hbm, 84, rfl⟩
abbrev main_c_14 : Ref sig .tc := ⟨.hbm, 85, rfl⟩
abbrev main_v45 : Ref sig .tc := ⟨.hbm, 86, rfl⟩
abbrev main_v46 : Ref sig .tc := ⟨.hbm, 87, rfl⟩
abbrev main_c_15 : Ref sig .tc := ⟨.hbm, 88, rfl⟩
abbrev main_v47 : Ref sig .tc := ⟨.hbm, 89, rfl⟩
abbrev main_v48 : Ref sig .tc := ⟨.hbm, 90, rfl⟩
abbrev main_c_16 : Ref sig .tc := ⟨.hbm, 91, rfl⟩
abbrev main_v49 : Ref sig .tc := ⟨.hbm, 92, rfl⟩
abbrev main_v50 : Ref sig .tc := ⟨.hbm, 93, rfl⟩
abbrev main_c_17 : Ref sig .tc := ⟨.hbm, 94, rfl⟩
abbrev main_v51 : Ref sig .tc := ⟨.hbm, 95, rfl⟩
abbrev main_v52 : Ref sig .tc := ⟨.hbm, 96, rfl⟩
abbrev main_c_18 : Ref sig .tc := ⟨.hbm, 97, rfl⟩
abbrev main_v53 : Ref sig .tc := ⟨.hbm, 98, rfl⟩
abbrev main_v54 : Ref sig .tc := ⟨.hbm, 99, rfl⟩
abbrev main_c_19 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_20 : Ref sig .tc := ⟨.hbm, 111, rfl⟩
abbrev main_v65 : Ref sig .tc := ⟨.hbm, 112, rfl⟩
abbrev main_v66 : Ref sig .tc := ⟨.hbm, 113, rfl⟩
abbrev main_cst_21 : Ref sig .tc := ⟨.hbm, 114, rfl⟩
abbrev main_v67 : Ref sig .tc := ⟨.hbm, 115, rfl⟩
abbrev main_v68 : Ref sig .tc := ⟨.hbm, 116, rfl⟩
abbrev main_cst_22 : Ref sig .tc := ⟨.hbm, 117, rfl⟩
abbrev main_call9_v0 : Ref sig .tc := ⟨.hbm, 118, rfl⟩
abbrev main_call9_v1 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_23 : Ref sig .tc := ⟨.hbm, 128, rfl⟩
abbrev main_v77 : Ref sig .tc := ⟨.hbm, 129, rfl⟩
abbrev main_v78 : Ref sig .tc := ⟨.hbm, 130, rfl⟩
abbrev main_cst_24 : Ref sig .tc := ⟨.hbm, 131, rfl⟩
abbrev main_v79 : Ref sig .tc := ⟨.hbm, 132, rfl⟩
abbrev main_v80 : Ref sig .tc := ⟨.hbm, 133, rfl⟩
abbrev main_cst_25 : Ref sig .tc := ⟨.hbm, 134, rfl⟩
abbrev main_call11_v0 : Ref sig .tc := ⟨.hbm, 135, rfl⟩
abbrev main_call11_v1 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_26 : Ref sig .tc := ⟨.hbm, 140, rfl⟩
abbrev main_v84 : Ref sig .tc := ⟨.hbm, 141, rfl⟩
abbrev main_cst_27 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_28 : Ref sig .tc := ⟨.hbm, 149, rfl⟩
abbrev main_v91 : Ref sig .tc := ⟨.hbm, 150, rfl⟩
abbrev main_cst_29 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_30 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_31 : Ref sig .tc := ⟨.hbm, 174, rfl⟩
abbrev main_v113 : Ref sig .tc := ⟨.hbm, 175, rfl⟩
abbrev main_v114 : Ref sig .tc := ⟨.hbm, 176, rfl⟩
abbrev main_c_32 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_33 : Ref sig .tc := ⟨.hbm, 183, rfl⟩
abbrev main_v120 : Ref sig .tc := ⟨.hbm, 184, rfl⟩
abbrev main_v121 : Ref sig .tc := ⟨.hbm, 185, rfl⟩
abbrev main_c_34 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_35 : Ref sig .tc := ⟨.hbm, 206, rfl⟩
abbrev main_call13_v0 : Ref sig .tc := ⟨.hbm, 207, rfl⟩
abbrev main_call13_v1 : Ref sig .tc := ⟨.hbm, 208, rfl⟩
abbrev main_call13_v2 : Ref sig .tc := ⟨.hbm, 209, rfl⟩
abbrev main_call13_v3 : Ref sig .tc := ⟨.hbm, 210, rfl⟩
abbrev main_v141 : Ref sig .tc := ⟨.hbm, 211, rfl⟩
abbrev main_cst_36 : Ref sig .tc := ⟨.hbm, 212, rfl⟩
abbrev main_v142 : Ref sig .tc := ⟨.hbm, 213, rfl⟩
abbrev main_v143 : Ref sig .tc := ⟨.hbm, 214, rfl⟩
abbrev main_cst_37 : Ref sig .tc := ⟨.hbm, 215, rfl⟩
abbrev main_v144 : Ref sig .tc := ⟨.hbm, 216, rfl⟩
abbrev main_v145 : Ref sig .tc := ⟨.hbm, 217, rfl⟩
abbrev main_cst_38 : Ref sig .tc := ⟨.hbm, 218, rfl⟩
abbrev main_call14_v0 : Ref sig .tc := ⟨.hbm, 219, rfl⟩
abbrev main_call14_v1 : Ref sig .tc := ⟨.hbm, 220, rfl⟩
abbrev main_v146 : Ref sig .tc := ⟨.hbm, 221, rfl⟩
abbrev main_cst_39 : Ref sig .tc := ⟨.hbm, 222, rfl⟩
abbrev main_v147 : Ref sig .tc := ⟨.hbm, 223, rfl⟩
abbrev main_cst_40 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_41 : Ref sig .tc := ⟨.hbm, 231, rfl⟩
abbrev main_v154 : Ref sig .tc := ⟨.hbm, 232, rfl⟩
abbrev main_cst_42 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_cst_43 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_cst_44 : Ref sig .tc := ⟨.hbm, 257, rfl⟩
abbrev main_v177 : Ref sig .tc := ⟨.hbm, 258, rfl⟩
abbrev main_v178 : Ref sig .tc := ⟨.hbm, 259, rfl⟩
abbrev main_cst_45 : Ref sig .tc := ⟨.hbm, 260, rfl⟩
abbrev main_v179 : Ref sig .tc := ⟨.hbm, 261, rfl⟩
abbrev main_v180 : Ref sig .tc := ⟨.hbm, 262, rfl⟩
abbrev main_cst_46 : Ref sig .tc := ⟨.hbm, 263, rfl⟩
abbrev main_call15_v0 : Ref sig .tc := ⟨.hbm, 264, rfl⟩
abbrev main_call15_v1 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩

abbrev nD : Nat := 1
abbrev τ : Topo := Topo.v7x

variable {F : FTy → Type} [FloatOps F]
-- ==== Proof.Seg.lean ====
/-
  Facts about one vector step of the segment maximum, over any floats: what a masked scatter of running maxima does to the
  table of running maxima, what `scan_count` counts, and what the largest count bounds. Nothing here mentions a program.
-/
module

public import proofs.«01_k».proof.Proof.Gen.KernelIdeal.Skeleton

@[expose] public section

noncomputable section

namespace Cert.Proof.Seg

open Cert.KernelIdeal Cert.KernelIdeal.Gen
open Idealize.ShloMosaic

variable {F : FTy → Type} [FloatOps F]

/-- Minus infinity, as the kernel writes it. -/
def ninf : F .f32 := FloatOps.ofBits .f32 0xFF800000#32

/-- `x` is the running maximum, taken in some order and starting at minus infinity, of the values of the edges in `S`. -/
inductive Reach (val : ℕ → F .f32) : Set ℕ → F .f32 → Prop
  | init : Reach val ∅ ninf
  | step {S : Set ℕ} {x : F .f32} (e : ℕ) : Reach val S x → Reach val (insert e S) (FloatOps.maximumf x (val e))

/-- The table `f` holds, at feature row `k` and node `n`, the running maximum of the edges of `D k` that end in `n`. -/
def Holds (val : Fin 4 → ℕ → F .f32) (dst : ℕ → ℕ) (D : Fin 4 → Set ℕ) (f : Vec F S4x10000 .f32) : Prop :=
  ∀ j : S4x10000.Idx, Reach (val (j 0)) {e | e ∈ D (j 0) ∧ dst e = (j 1).val} (f j)

/-- The edges done, row `k` having also done those of `S`. -/
def add (D : Fin 4 → Set ℕ) (k : Fin 4) (S : Set ℕ) : Fin 4 → Set ℕ := fun k' => if k' = k then D k' ∪ S else D k'

omit [FloatOps F] in
theorem mem_add (D : Fin 4 → Set ℕ) (k k' : Fin 4) (S : Set ℕ) (e : ℕ) : e ∈ add D k S k' ↔ e ∈ D k' ∨ (k' = k ∧ e ∈ S) := by
  unfold add; split
  · rename_i h; simp [h]
  · rename_i h; simp [h]

/-- A lane's number. -/
def lane (x : S16.Idx) : ℕ := (x 0).val

omit [FloatOps F] in
theorem lane_lt (x : S16.Idx) : lane x < 16 := (x 0).isLt

omit [FloatOps F] in
theorem lane_ext {x y : S16.Idx} (h : lane x = lane y) : x = y := by
  funext a; obtain rfl : a = 0 := Fin.eq_zero a; exact Fin.ext h

/-- The index of lane `k`. -/
def ofl (k : Fin 16) : S16.Idx := Shape.ofLane (d := ![16]) k

/-- A lane's number, as one below sixteen. -/
def cell (x : S16.Idx) : Fin 16 := ⟨lane x, lane_lt x⟩

omit [FloatOps F] in
theorem ofl_cell (x : S16.Idx) : ofl (cell x) = x := lane_ext rfl

omit [FloatOps F] in
theorem fold_store {I α : Type} (P : S16.Idx → I → Prop) [∀ x j, Decidable (P x j)] (L : List (Fin 16)) (hL : L.Nodup) (v : S16.Idx → α)
    (mask : S16.Idx → BitVec 1) (j : I) (hinj : ∀ x y, mask x = 1 → mask y = 1 → P x j → P y j → x = y) (f : I → α) :
    (∀ x : S16.Idx, cell x ∈ L → mask x = 1 → P x j →
      (L.foldl (fun g k => if mask (ofl k) = 1 then fun j => if P (ofl k) j then v (ofl k) else g j else g) f) j = v x) ∧
    ((∀ x : S16.Idx, cell x ∈ L → mask x = 1 → ¬ P x j) →
      (L.foldl (fun g k => if mask (ofl k) = 1 then fun j => if P (ofl k) j then v (ofl k) else g j else g) f) j = f j) := by
  induction L generalizing f with
  | nil => exact ⟨fun x hx => absurd hx List.not_mem_nil, fun _ => rfl⟩
  | cons k L ih =>
    obtain ⟨hk, hL⟩ := List.nodup_cons.1 hL
    rw [List.foldl_cons]
    refine ⟨fun x hx hm hj => ?_, fun h => ?_⟩
    · rcases List.mem_cons.1 hx with hxk | hxL
      · have hxe : x = ofl k := by rw [← hxk]; exact (ofl_cell x).symm
        rw [((ih hL _).2 fun y hy hmy hyj => hk ?_)]
        · rw [if_pos (hxe ▸ hm), if_pos (hxe ▸ hj), hxe]
        · have : x = y := hinj x y hm hmy hj hyj
          rw [← hxk, this]; exact hy
      · exact (ih hL _).1 x hxL hm hj
    · rw [(ih hL _).2 fun y hy => h y (List.mem_cons_of_mem _ hy)]
      by_cases hm : mask (ofl k) = 1
      · rw [if_pos hm, if_neg (h (ofl k) (List.mem_cons.2 (Or.inl rfl)) hm)]
      · rw [if_neg hm]

omit [FloatOps F] in
theorem val_eq_iff {s : Shape} (i j : s.Idx) : (∀ a, (j a).val = (i a).val) ↔ i = j :=
  ⟨fun h => funext fun a => Fin.ext (h a).symm, fun h a => by rw [h]⟩

omit [FloatOps F] in
/-- A scatter whose set lanes name different elements: the element a set lane names. -/
theorem storeIdx_hit {s : Shape} {e : EltTy} [FloatOps F] (f : Vec F s e) (idxs : Fin s.rank → IVec S16 32) (v : Vec F S16 e) (mask : IVec S16 1)
    (h : ∀ a x, (idxs a x).toNat < s.size a) (hinj : ∀ x y, mask x = 1 → mask y = 1 → idxAt idxs h x = idxAt idxs h y → x = y)
    (x : S16.Idx) (hm : mask x = 1) : storeIdx f idxs v mask false h (idxAt idxs h x) = v x := by
  have := (fold_store (fun x (j : s.Idx) => ∀ a, (j a).val = (idxAt idxs h x a).val) (List.finRange 16) (List.nodup_finRange 16) v mask (idxAt idxs h x)
    (fun x y hx hy hi hj => hinj x y hx hy (((val_eq_iff _ _).1 hi).trans ((val_eq_iff _ _).1 hj).symm)) f).1 x (List.mem_finRange _) hm (fun _ => rfl)
  unfold storeIdx
  simp only [Bool.false_eq_true, if_false]
  exact this

omit [FloatOps F] in
/-- A scatter whose set lanes name different elements: an element none names. -/
theorem storeIdx_miss {s : Shape} {e : EltTy} [FloatOps F] (f : Vec F s e) (idxs : Fin s.rank → IVec S16 32) (v : Vec F S16 e) (mask : IVec S16 1)
    (h : ∀ a x, (idxs a x).toNat < s.size a) (hinj : ∀ x y, mask x = 1 → mask y = 1 → idxAt idxs h x = idxAt idxs h y → x = y)
    (j : s.Idx) (hj : ∀ x, mask x = 1 → idxAt idxs h x ≠ j) : storeIdx f idxs v mask false h j = f j := by
  have := (fold_store (fun x (j : s.Idx) => ∀ a, (j a).val = (idxAt idxs h x a).val) (List.finRange 16) (List.nodup_finRange 16) v mask j
    (fun x y hx hy hi hj => hinj x y hx hy (((val_eq_iff _ _).1 hi).trans ((val_eq_iff _ _).1 hj).symm)) f).2 fun x _ hm hx => hj x hm ((val_eq_iff _ _).1 hx)
  unfold storeIdx
  simp only [Bool.false_eq_true, if_false]
  exact this

omit [FloatOps F] in
theorem idxAt_val (idxs : Fin 2 → IVec S16 32) (hin : ∀ a x, (idxs a x).toNat < S4x10000.size a) (x : S16.Idx) (a : Fin 2) :
    (idxAt (s := S4x10000) idxs hin x a).val = (idxs a x).toNat := rfl

/-- ONE VECTOR STEP. The lanes the mask sets end in different nodes; each puts there the larger of what is there and its
    edge's value. Row `k` then has those edges too. -/
theorem Holds.store {val : Fin 4 → ℕ → F .f32} {dst : ℕ → ℕ} {D : Fin 4 → Set ℕ} {f : Vec F S4x10000 .f32} (H : Holds val dst D f)
    (k : Fin 4) (idxs : Fin 2 → IVec S16 32) (hin : ∀ a x, (idxs a x).toNat < S4x10000.size a) (hk : ∀ x, (idxs 0 x).toNat = k.val)
    (e0 : ℕ) (hd : ∀ x, (idxs 1 x).toNat = dst (e0 + lane x)) (mask : IVec S16 1)
    (hinj : ∀ x y, mask x = 1 → mask y = 1 → idxs 1 x = idxs 1 y → x = y) (v : Vec F S16 .f32)
    (hv : ∀ x, v x = FloatOps.maximumf (f (idxAt idxs hin x)) (val k (e0 + lane x))) :
    Holds val dst (add D k {e | ∃ x, mask x = 1 ∧ e = e0 + lane x}) (storeIdx f idxs v mask false hin) := by
  have hinj' : ∀ x y, mask x = 1 → mask y = 1 → idxAt (s := S4x10000) idxs hin x = idxAt (s := S4x10000) idxs hin y → x = y := fun x y hx hy hxy =>
    hinj x y hx hy (BitVec.eq_of_toNat_eq (by rw [← idxAt_val idxs hin x 1, ← idxAt_val idxs hin y 1, hxy]))
  intro j
  by_cases hex : ∃ x, mask x = 1 ∧ idxAt idxs hin x = j
  · obtain ⟨x, hm, rfl⟩ := hex
    have h0 : (idxAt (s := S4x10000) idxs hin x (0 : Fin 2) : Fin 4) = k := Fin.ext (hk x)
    have h1 : (idxAt (s := S4x10000) idxs hin x (1 : Fin 2)).val = dst (e0 + lane x) := hd x
    rw [storeIdx_hit f idxs v mask hin hinj' x hm, hv x]
    have := Reach.step (e0 + lane x) (H (idxAt idxs hin x))
    rw [h0] at this ⊢
    refine cast (congrArg (fun S => Reach (val k) S _) ?_) this
    ext e
    simp only [Set.mem_insert_iff, Set.mem_setOf_eq, add, if_true, Set.mem_union]
    constructor
    · rintro (rfl | ⟨he, hde⟩)
      · exact ⟨Or.inr ⟨x, hm, rfl⟩, h1.symm⟩
      · exact ⟨Or.inl he, hde⟩
    · rintro ⟨he | ⟨y, hy, rfl⟩, hde⟩
      · exact Or.inr ⟨he, hde⟩
      · refine Or.inl ?_
        rw [hinj y x hy hm (BitVec.eq_of_toNat_eq ((hd y).trans (hde.trans rfl)))]
  · rw [storeIdx_miss f idxs v mask hin hinj' j fun x hm hj => hex ⟨x, hm, hj⟩]
    refine cast (congrArg (fun S => Reach (val (j 0)) S (f j)) ?_) (H j)
    ext e
    refine Iff.trans ?_ (and_congr_left' (mem_add D k (j (0 : Fin 2)) _ e)).symm
    constructor
    · rintro ⟨he, hde⟩; exact ⟨Or.inl he, hde⟩
    · rintro ⟨he | ⟨hjk, y, hy, rfl⟩, hde⟩
      · exact ⟨he, hde⟩
      · refine absurd ⟨y, hy, ?_⟩ hex
        funext a
        match a with
        | 0 => exact Fin.ext ((hk y).trans (congrArg Fin.val hjk.symm))
        | 1 => exact Fin.ext ((hd y).trans hde)

/-! ## Which edges are done inside one trip -/

/-- The edges done inside a trip whose first edge is `E0`: all before it, and of its five groups of sixteen, in row `k` and
    group `g`, those whose count is at most `c k g`. -/
def lev (E0 : ℕ) (cnt : Fin 5 → S16.Idx → ℕ) (c : Fin 4 → Fin 5 → ℕ) : Fin 4 → Set ℕ :=
  fun k => {e | e < E0 ∨ ∃ g x, e = E0 + 16 * g.val + lane x ∧ cnt g x ≤ c k g}

/-- `c` with `r` at row `k` and group `g`. -/
def upd (c : Fin 4 → Fin 5 → ℕ) (k : Fin 4) (g : Fin 5) (r : ℕ) : Fin 4 → Fin 5 → ℕ := fun k' g' => if k' = k ∧ g' = g then r else c k' g'

/-- `c` with `r` at group `g` of every row. -/
def setg (c : Fin 4 → Fin 5 → ℕ) (g : Fin 5) (r : ℕ) : Fin 4 → Fin 5 → ℕ := fun k' g' => if g' = g then r else c k' g'

omit [FloatOps F] in
theorem upd4 (c : Fin 4 → Fin 5 → ℕ) (g : Fin 5) (r : ℕ) : upd (upd (upd (upd c 0 g r) 1 g r) 2 g r) 3 g r = setg c g r := by
  funext k g'
  by_cases hg : g' = g
  · subst hg; fin_cases k <;> simp [upd, setg]
  · simp [upd, setg, hg]

omit [FloatOps F] in
theorem lev_add (E0 : ℕ) (cnt : Fin 5 → S16.Idx → ℕ) (c : Fin 4 → Fin 5 → ℕ) (k : Fin 4) (g : Fin 5) (r : ℕ) (mask : IVec S16 1)
    (hm : ∀ x, mask x = 1 ↔ cnt g x = r) (hr : ∀ x, cnt g x ≤ c k g ∨ cnt g x = r ↔ cnt g x ≤ upd c k g r k g) :
    add (lev E0 cnt c) k {e | ∃ x, mask x = 1 ∧ e = E0 + 16 * g.val + lane x} = lev E0 cnt (upd c k g r) := by
  funext k'
  by_cases hk : k' = k
  · subst hk
    ext e
    simp only [add, if_true, lev, Set.mem_union, Set.mem_setOf_eq]
    constructor
    · rintro ((he | ⟨g', x, he, hc⟩) | ⟨x, hx, he⟩)
      · exact Or.inl he
      · refine Or.inr ⟨g', x, he, ?_⟩
        by_cases hg : g' = g
        · subst hg; exact (hr x).1 (Or.inl hc)
        · simpa [upd, hg] using hc
      · exact Or.inr ⟨g, x, he, (hr x).1 (Or.inr ((hm x).1 hx))⟩
    · rintro (he | ⟨g', x, he, hc⟩)
      · exact Or.inl (Or.inl he)
      · by_cases hg : g' = g
        · subst hg
          rcases (hr x).2 hc with h | h
          · exact Or.inl (Or.inr ⟨g', x, he, h⟩)
          · exact Or.inr ⟨x, (hm x).2 h, he⟩
        · exact Or.inl (Or.inr ⟨g', x, he, by simpa [upd, hg] using hc⟩)
  · simp [add, lev, upd, hk]

omit [FloatOps F] in
/-- Nothing of the trip is done while every level is zero and every count is positive. -/
theorem lev_zero (E0 : ℕ) (cnt : Fin 5 → S16.Idx → ℕ) (hc : ∀ g x, 1 ≤ cnt g x) : lev E0 cnt (fun _ _ => 0) = fun _ => {e | e < E0} := by
  funext k; ext e
  simp only [lev, Set.mem_setOf_eq]
  exact ⟨fun h => h.elim id fun ⟨g, x, _, h⟩ => by have := hc g x; omega, Or.inl⟩

omit [FloatOps F] in
/-- The whole trip is done once every count is within its level. -/
theorem lev_all (E0 : ℕ) (cnt : Fin 5 → S16.Idx → ℕ) (c : Fin 4 → Fin 5 → ℕ) (hc : ∀ k g x, cnt g x ≤ c k g) :
    lev E0 cnt c = fun _ => {e | e < E0 + 80} := by
  funext k; ext e
  simp only [lev, Set.mem_setOf_eq]
  constructor
  · rintro (h | ⟨g, x, rfl, _⟩)
    · omega
    · have := lane_lt x; have := g.isLt; omega
  · intro h
    by_cases he : e < E0
    · exact Or.inl he
    · refine Or.inr ⟨⟨(e - E0) / 16, by omega⟩, fun a => ⟨(e - E0) % 16, ?_⟩, ?_, hc _ _ _⟩
      · obtain rfl : a = 0 := Fin.eq_zero a; exact Nat.mod_lt _ (show 0 < 16 by omega)
      · show e = E0 + 16 * ((e - E0) / 16) + (e - E0) % 16
        omega

/-! ## `scan_count` -/

/-- The counts, as numbers. -/
def cntOf (v : IVec S16 32) (x : S16.Idx) : ℕ := ((scanCount (fun _ => (1 : BitVec 1)) v).2 x).toNat

omit [FloatOps F] in
theorem card16 : (Finset.univ : Finset S16.Idx).card = 16 := by decide

omit [FloatOps F] in
theorem cnt_eq (v : IVec S16 32) (x : S16.Idx) : cntOf v x
    = (Finset.univ.filter fun j : S16.Idx => (S16.rowMajor j).val ≤ (S16.rowMajor x).val ∧ v j = v x).card := by
  have h := Finset.card_le_univ (Finset.univ.filter fun j : S16.Idx => (S16.rowMajor j).val ≤ (S16.rowMajor x).val ∧ v j = v x)
  rw [← Finset.card_univ, card16] at h
  simp only [cntOf, scanCount, if_true, true_and, BitVec.toNat_ofNat]
  exact Nat.mod_eq_of_lt (by omega)

omit [FloatOps F] in
theorem cnt_pos (v : IVec S16 32) (x : S16.Idx) : 1 ≤ cntOf v x := by
  rw [cnt_eq]; exact Finset.card_pos.2 ⟨x, by simp⟩

omit [FloatOps F] in
theorem cnt_le (v : IVec S16 32) (x : S16.Idx) : cntOf v x ≤ 16 := by
  rw [cnt_eq]; exact (Finset.card_le_univ _).trans (by rw [← Finset.card_univ, card16])

omit [FloatOps F] in
theorem cnt_lt (v : IVec S16 32) (x y : S16.Idx) (hv : v x = v y) (h : (S16.rowMajor x).val < (S16.rowMajor y).val) : cntOf v x < cntOf v y := by
  rw [cnt_eq, cnt_eq]
  refine Finset.card_lt_card (Finset.ssubset_iff_of_subset (fun j hj => ?_) |>.2 ⟨y, by simp, fun hm => absurd (Finset.mem_filter.1 hm).2.1 (by omega)⟩)
  simp only [Finset.mem_filter, Finset.mem_univ, true_and] at hj ⊢
  exact ⟨hj.1.trans h.le, hj.2.trans hv⟩

omit [FloatOps F] in
/-- Lanes of one value have different counts. -/
theorem cnt_inj (v : IVec S16 32) (x y : S16.Idx) (hc : cntOf v x = cntOf v y) (hv : v x = v y) : x = y := by
  rcases lt_trichotomy (S16.rowMajor x).val (S16.rowMajor y).val with h | h | h
  · exact absurd hc (cnt_lt v x y hv h).ne
  · exact S16.rowMajor.injective (Fin.ext h)
  · exact absurd hc (cnt_lt v y x hv.symm h).ne'

omit [FloatOps F] in
/-- Where every lane is its value's last, every count is one. -/
theorem cnt_clean (v : IVec S16 32) (h : ∀ x, (scanCount (fun _ => (1 : BitVec 1)) v).1 x = 1) (x : S16.Idx) : cntOf v x = 1 := by
  rw [cnt_eq, Finset.card_eq_one]
  refine ⟨x, ?_⟩
  ext j
  simp only [Finset.mem_filter, Finset.mem_univ, true_and, Finset.mem_singleton]
  refine ⟨fun ⟨hj, hv⟩ => ?_, fun h => h ▸ ⟨le_rfl, rfl⟩⟩
  by_contra hne
  have hlt : (S16.rowMajor j).val < (S16.rowMajor x).val := lt_of_le_of_ne hj fun e => hne (S16.rowMajor.injective (Fin.ext e))
  have h1 := h j
  simp only [scanCount, true_and] at h1
  split at h1
  · rename_i hh; exact hh x hlt hv.symm
  · exact absurd h1 (by decide)

/-! ## The largest count, and the test for a clean trip -/

omit [FloatOps F] in
theorem fold_max (L : List (Fin 16)) (w : Fin 16 → BitVec 32) (a : BitVec 32) :
    (a.toNat ≤ (L.foldl (fun r k => IntOp.maxui r (w k)) a).toNat ∧ ∀ k ∈ L, (w k).toNat ≤ (L.foldl (fun r k => IntOp.maxui r (w k)) a).toNat)
    ∧ (L.foldl (fun r k => IntOp.maxui r (w k)) a = a ∨ ∃ k, L.foldl (fun r k => IntOp.maxui r (w k)) a = w k) := by
  induction L generalizing a with
  | nil => exact ⟨⟨le_rfl, fun k hk => by simp at hk⟩, Or.inl rfl⟩
  | cons b L ih =>
    have hm : a.toNat ≤ (IntOp.maxui a (w b)).toNat ∧ (w b).toNat ≤ (IntOp.maxui a (w b)).toNat ∧ (IntOp.maxui a (w b) = a ∨ IntOp.maxui a (w b) = w b) := by
      unfold IntOp.maxui
      simp only [BitVec.ule, BitVec.ult, decide_eq_true_eq]
      split
      · refine ⟨by omega, by omega, by simp⟩
      · refine ⟨by omega, by omega, by simp⟩
    obtain ⟨⟨h1, h2⟩, h3⟩ := ih (IntOp.maxui a (w b))
    simp only [List.foldl_cons]
    refine ⟨⟨hm.1.trans h1, fun k hk => ?_⟩, ?_⟩
    · rcases List.mem_cons.1 hk with rfl | hk
      · exact hm.2.1.trans h1
      · exact h2 k hk
    · rcases h3 with h3 | h3
      · rcases hm.2.2 with h | h
        · exact Or.inl (h3.trans h)
        · exact Or.inr ⟨b, h3.trans h⟩
      · exact Or.inr h3

omit [FloatOps F] in
theorem fold_min (L : List (Fin 16)) (w : Fin 16 → BitVec 32) (a : BitVec 32) :
    (L.foldl (fun r k => IntOp.minui r (w k)) a).toNat ≤ a.toNat ∧ ∀ k ∈ L, (L.foldl (fun r k => IntOp.minui r (w k)) a).toNat ≤ (w k).toNat := by
  induction L generalizing a with
  | nil => exact ⟨le_rfl, fun k hk => absurd hk List.not_mem_nil⟩
  | cons b L ih =>
    have hm : (IntOp.minui a (w b)).toNat ≤ a.toNat ∧ (IntOp.minui a (w b)).toNat ≤ (w b).toNat := by
      unfold IntOp.minui
      simp only [BitVec.ult, decide_eq_true_eq]
      split
      · omega
      · omega
    obtain ⟨h1, h2⟩ := ih (IntOp.minui a (w b))
    rw [List.foldl_cons]
    refine ⟨h1.trans hm.1, fun k hk => ?_⟩
    rcases List.mem_cons.1 hk with rfl | hk
    · exact h1.trans hm.2
    · exact h2 k hk

omit [FloatOps F] in
theorem flip_toNat (x : BitVec 32) (h : x.toNat ≤ 16) : (x ^^^ 2147483648#32).toNat = x.toNat + 2147483648 := by
  have key : ∀ n : Fin 17, (BitVec.ofNat 32 n.val ^^^ 2147483648#32).toNat = n.val + 2147483648 := by decide
  have := key ⟨x.toNat, by omega⟩
  rwa [BitVec.ofNat_toNat, BitVec.setWidth_eq] at this

omit [FloatOps F] in
theorem flip_flip (x : BitVec 32) : x ^^^ 2147483648#32 ^^^ 2147483648#32 = x := by
  rw [BitVec.xor_assoc, BitVec.xor_self, BitVec.xor_zero]

/-- The largest of the counts, as the kernel takes it: a running unsigned maximum of the words with their top bits flipped. -/
def nmax (counts : IVec S16 32) : BitVec 32 :=
  extractAt ![15] (xori (scan .max (xori counts (broadcast S16 2147483648#32))) (broadcast S16 2147483648#32)) inpos_S16_p15

/-- The least of the words `select m 1 0`, taken the same way. -/
def allm (m : IVec S16 1) : BitVec 32 :=
  extractAt ![15] (xori (scan .min (xori (select m (broadcast S16 1#32) (broadcast S16 0#32)) (broadcast S16 2147483648#32))) (broadcast S16 2147483648#32)) inpos_S16_p15

/-- The lanes a running maximum to lane 15 takes after the first. -/
def tailL : List (Fin 16) := (List.finRange 16).filter fun k => decide (0 < k.val ∧ k.val ≤ 15)

omit [FloatOps F] in
theorem mem_tailL : ∀ k : Fin 16, k = 0 ∨ k ∈ tailL := by decide

omit [FloatOps F] in
theorem nmax_eq (counts : IVec S16 32) : nmax counts
    = tailL.foldl (fun r k => IntOp.maxui r (counts (ofl k) ^^^ 2147483648#32)) (counts (ofl 0) ^^^ 2147483648#32) ^^^ 2147483648#32 := rfl

omit [FloatOps F] in
theorem allm_eq (m : IVec S16 1) : allm m
    = tailL.foldl (fun r k => IntOp.minui r ((if m (ofl k) = 1 then 1#32 else 0#32) ^^^ 2147483648#32)) ((if m (ofl 0) = 1 then 1#32 else 0#32) ^^^ 2147483648#32) ^^^ 2147483648#32 := rfl

omit [FloatOps F] in
theorem nmax_mem (counts : IVec S16 32) : ∃ x, nmax counts = counts x := by
  rw [nmax_eq]
  rcases (fold_max tailL (fun k => counts (ofl k) ^^^ 2147483648#32) (counts (ofl 0) ^^^ 2147483648#32)).2 with h | ⟨k, h⟩
  · exact ⟨ofl 0, by rw [h, flip_flip]⟩
  · exact ⟨ofl k, by rw [h, flip_flip]⟩

omit [FloatOps F] in
theorem le_nmax (counts : IVec S16 32) (hc : ∀ x, (counts x).toNat ≤ 16) (x : S16.Idx) : (counts x).toNat ≤ (nmax counts).toNat := by
  have hle : (counts x ^^^ 2147483648#32).toNat
      ≤ (tailL.foldl (fun r k => IntOp.maxui r (counts (ofl k) ^^^ 2147483648#32)) (counts (ofl 0) ^^^ 2147483648#32)).toNat := by
    have h := (fold_max tailL (fun k => counts (ofl k) ^^^ 2147483648#32) (counts (ofl 0) ^^^ 2147483648#32)).1
    rw [← ofl_cell x]
    rcases mem_tailL (cell x) with h0 | hk
    · rw [h0]; exact h.1
    · exact h.2 _ hk
  obtain ⟨y, hy⟩ := nmax_mem counts
  have h2 : (nmax counts ^^^ 2147483648#32) = tailL.foldl (fun r k => IntOp.maxui r (counts (ofl k) ^^^ 2147483648#32)) (counts (ofl 0) ^^^ 2147483648#32) := by
    rw [nmax_eq, flip_flip]
  rw [← h2, flip_toNat _ (hc x), hy, flip_toNat _ (hc y)] at hle
  rw [hy]; omega

omit [FloatOps F] in
/-- The test that every lane is its value's last occurrence. -/
theorem all_of_allm (m : IVec S16 1) (h : allm m = 1#32) (x : S16.Idx) : m x = 1 := by
  have hle : (tailL.foldl (fun r k => IntOp.minui r ((if m (ofl k) = 1 then 1#32 else 0#32) ^^^ 2147483648#32)) ((if m (ofl 0) = 1 then 1#32 else 0#32) ^^^ 2147483648#32)).toNat
      ≤ ((if m x = 1 then 1#32 else 0#32) ^^^ 2147483648#32 : BitVec 32).toNat := by
    have h := fold_min tailL (fun k => (if m (ofl k) = 1 then 1#32 else 0#32) ^^^ 2147483648#32) ((if m (ofl 0) = 1 then 1#32 else 0#32) ^^^ 2147483648#32)
    rw [← ofl_cell x]
    rcases mem_tailL (cell x) with h0 | hk
    · rw [h0]; exact h.1
    · exact h.2 _ hk
  have h2 : 1#32 ^^^ 2147483648#32 = tailL.foldl (fun r k => IntOp.minui r ((if m (ofl k) = 1 then 1#32 else 0#32) ^^^ 2147483648#32)) ((if m (ofl 0) = 1 then 1#32 else 0#32) ^^^ 2147483648#32) := by
    have h3 := allm_eq m
    rw [h] at h3
    exact (congrArg (· ^^^ 2147483648#32) h3).trans (flip_flip _)
  rw [← h2] at hle
  by_contra hx
  rw [if_neg hx] at hle
  exact absurd hle (by decide)

/-! ## The rounds' loops -/

omit [FloatOps F] in
/-- The two loops over the rounds of a group whose largest count is `n`: the first takes `n - 1` trips, and neither wraps. -/
theorem rounds_ok (n : BitVec 32) (h1 : 1 ≤ n.toNat) (h16 : n.toNat ≤ 16) :
    (k1_t4_loop n).OK ∧ (k1_t5_loop n).OK ∧ (k1_t4_loop n).trips = n.toNat - 1 := by
  have key : ∀ k : Fin 17, 1 ≤ k.val → (k1_t4_loop (BitVec.ofNat 32 k.val)).OK ∧ (k1_t5_loop (BitVec.ofNat 32 k.val)).OK
      ∧ (k1_t4_loop (BitVec.ofNat 32 k.val)).trips = k.val - 1 := by decide +kernel
  have := key ⟨n.toNat, by omega⟩ h1
  rwa [BitVec.ofNat_toNat, BitVec.setWidth_eq] at this

omit [FloatOps F] in
/-- The round's number, at its trip. -/
theorem round_iv (t : ℕ) (ht : t < 16) : (Scf.iv 2#32 1#32 t).toNat = 2 + t := by
  have key : ∀ k : Fin 16, (Scf.iv 2#32 1#32 k.val).toNat = 2 + k.val := by decide
  exact key ⟨t, ht⟩

omit [FloatOps F] in
theorem cmpi_eq_one (counts : IVec S16 32) (r : BitVec 32) (x : S16.Idx) : cmpi .eq counts (broadcast S16 r) x = 1 ↔ (counts x).toNat = r.toNat := by
  rw [show cmpi .eq counts (broadcast S16 r) x = BitVec.ofBool (counts x == r) from rfl]
  constructor
  · intro h
    by_contra hne
    have : (counts x == r) = false := by simpa using fun e => hne (by rw [e])
    rw [this] at h; exact absurd h (by decide)
  · intro h
    rw [BitVec.eq_of_toNat_eq h]; simp

omit [FloatOps F] in
theorem andi_eq_one (a b : IVec S16 1) (x : S16.Idx) (h : andi a b x = 1) : a x = 1 ∧ b x = 1 := by
  have key : ∀ p q : BitVec 1, p &&& q = 1 → p = 1 ∧ q = 1 := by decide
  exact key _ _ h

omit [FloatOps F] in
theorem cond1_eq (v : BitVec 32) (h : k1_cond1 v = 1#1) : v = 1#32 := by
  by_contra hne
  have : (v == 1#32) = false := by simpa using hne
  have h2 : k1_cond1 v = Scalar.cmpi .ne (Scalar.extui (BitVec.ofBool (v == 1#32))) 0#32 := rfl
  rw [h2, this] at h
  exact absurd h (by decide)

end Cert.Proof.Seg

end
-- ==== Proof.Base.lean ====
/-
  The vocabulary of the tile's run — the thread, its buffers, the table of running maxima as a resource — and the rule of one
  vector step: an indexed load of the table, the larger of it and the edges' values, a masked indexed store back.
-/
module

public import proofs.«01_k».proof.Proof.Seg
public import Idealize.ShloMosaic.Lib.SparseCore.Quiescent
public import Idealize.ShloMosaic.Lib.SparseCore.Ops
public import Idealize.ShloMosaic.Lib.Tactic

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UP : Type := URounds (GSem nD τ sig) Unit
abbrev UU : Type := UH × UP × Counters

local notation "𝕄" => MT nD τ sig (HIx 1) (Elt F) ℕ UU ℕ

abbrev 𝒱₀ : Variants := Variants.none

abbrev cV (L : grid1.Coords) : Fin τ.nSC := (L 0).castLE hcore1
abbrev jV (L : grid1.Coords) : Fin τ.nSub := (L 1).castLE hsub1

local notation "xV" => (Memref.whole Cert.KernelIdeal.main_v0_2_scv : Memref Cert.KernelIdeal.sig Kind.scVector Space.hbm Cert.KernelIdeal.S128x10000 EltTy.f32)
local notation "eV" => (Memref.whole Cert.KernelIdeal.main_arg2_scv : Memref Cert.KernelIdeal.sig Kind.scVector Space.hbm Cert.KernelIdeal.S2x320000 EltTy.i32)
local notation "oV" => (Memref.whole Cert.KernelIdeal.main_v1_scv : Memref Cert.KernelIdeal.sig Kind.scVector Space.hbm Cert.KernelIdeal.S128x10000 EltTy.f32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)

variable [FloatOps F] (d : Dev nD) (i : grid1.Coords)

/-- The tile. -/
abbrev thr : Thread nD τ := V d (cV i) (jV i)

variable (val : Fin 4 → ℕ → F .f32) (dst : ℕ → ℕ)

/-- The table of running maxima, the edges of `D k` done in row `k`. -/
def Mb (D : Fin 4 → Set ℕ) : sProp 𝕄 :=
  iprop(∃ f : Buf (Elt F) ((thr d i).loc cc1_scratch1), ⌜Holds val dst D f⌝ ∗ (thr d i).loc cc1_scratch1 ↦{fullShare} f)

theorem pts_acc (b : Ref sig .scVector) (q : PosShare TreeShare) (f : Buf (Elt F) ((thr d i).loc b)) :
    (((Memref.whole b).access (.whole _)).loc (thr d i) ↦[((Memref.whole b).access (.whole _)).set]{q} f : sProp 𝕄)
      = (thr d i).loc b ↦{q} f := by
  rw [Memref.set_access_whole]

variable {val dst}

/-- ONE VECTOR STEP of the table. -/
theorem wp_pair {D : Fin 4 → Set ℕ} (k : Fin 4) (e0 : ℕ) {row dv : IVec S16 32} (hrow : ∀ x, (row x).toNat = k.val)
    (hdv : ∀ x, (dv x).toNat = dst (e0 + lane x)) {b : Vec F S16 .f32} (hb : ∀ x, b x = val k (e0 + lane x)) {mask : IVec S16 1}
    (hinj : ∀ x y, mask x = 1 → mask y = 1 → dv x = dv y → x = y)
    {w : Vec F S16 .f32 → Vec F S16 .f32} (hw : ∀ cur, w cur = maximumf cur b)
    {h1 h2 : ∀ a x, ((![row, dv] : Fin 2 → IVec S16 32) a x).toNat < S4x10000.size a}
    {hl : (mV).view.Loads} {hs : ((mV).access (.whole _)).Stores Finset.univ}
    {α : Type} {kk : PUnit → Prog (TpuEff nD τ sig (Elt F) Λ₀ (thr d i).2) α} {Q : α → sProp 𝕄} :
    Mb d i val dst D ⊢ iprop((Mb d i val dst (add D k {e | ∃ x, mask x = 1 ∧ e = e0 + lane x})
          -∗ wp frame (wpE (defs₀ (F := F)) 𝒱₀ (thr d i) none) Set.univ (kk ⟨⟩) Q)
        -∗ wp frame (wpE (defs₀ (F := F)) 𝒱₀ (thr d i) none) Set.univ
            (SparseCore.vectorLoadIdx mV ![row, dv] h1 hl >>= fun cur => SparseCore.vectorStoreIdx mV ![row, dv] (w cur) mask false h2 hs >>= kk) Q) := by
  unfold Mb
  iintro ⟨%f, %hf, H⟩ Hk
  ihave H := (Entails.of_eq (pts_acc (F := F) d i cc1_scratch1 fullShare f).symm) $$ H
  iapply (SparseCore.wp_vectorLoadIdx 𝒱₀ (thr d i) none Set.univ (base := mV) (q := fullShare) (f := f) (Finset.Subset.refl _)) $$ H
  iintro H
  iapply (SparseCore.wp_vectorStoreIdx 𝒱₀ (thr d i) none Set.univ (base := mV) (f := f)) $$ H
  iintro H
  iapply Hk
  rw [Memref.write_access_whole_univ, Memref.read_access_whole]
  ihave H := (Entails.of_eq (pts_acc (F := F) d i cc1_scratch1 fullShare _)) $$ H
  iexists _
  isplitr
  swap; · iexact H
  ipureintro
  refine hf.store k ![row, dv] h2 hrow e0 hdv mask hinj _ fun x => ?_
  rw [hw]
  show FloatOps.maximumf _ _ = _
  rw [hb]; rfl

end Cert.Proof.Seg

end
-- ==== Proof.Step.lean ====
/-
  One group of sixteen edges at every row of the table, and the rounds over a group whose destinations repeat.
-/
module

public import proofs.«01_k».proof.Proof.Base

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

omit [FloatOps F] in
theorem row_nat (k : Fin 4) (n : BitVec 32) (hn : n.toNat = k.val) : ∀ x, (broadcast S16 n x).toNat = k.val := fun _ => hn

omit [FloatOps F] in
theorem ix (n : BitVec 32) (hn : n.toNat < 4) (dv : IVec S16 32) (h : ∀ x, (dv x).toNat < 10000) :
    ∀ a x, ((![broadcast S16 n, dv] : Fin 2 → IVec S16 32) a x).toNat < S4x10000.size a := by
  intro a x
  fin_cases a
  · exact hn
  · exact h x

variable (d : Dev nD) (i : grid1.Coords)

/-- The larger of the table's entries and the group's values, stored under a mask, at each of the four rows. -/
def four (dv : IVec S16 32) (mask : IVec S16 1) (b0 b1 b2 b3 : Vec F S16 .f32)
    (h0 : ∀ a x, ((![r0, dv] : Fin 2 → IVec S16 32) a x).toNat < S4x10000.size a)
    (h1 : ∀ a x, ((![r1, dv] : Fin 2 → IVec S16 32) a x).toNat < S4x10000.size a)
    (h2 : ∀ a x, ((![r2, dv] : Fin 2 → IVec S16 32) a x).toNat < S4x10000.size a)
    (h3 : ∀ a x, ((![r3, dv] : Fin 2 → IVec S16 32) a x).toNat < S4x10000.size a) :
    Prog (TpuEff nD τ sig (Elt F) Λ₀ (.scVector ((i 0).castLE hcore1) ((i 1).castLE hsub1))) Unit := do
  let c0 : Vec F S16 .f32 ← SparseCore.vectorLoadIdx mV ![r0, dv] h0 (View.loads_vmem h_S4x10000)
  SparseCore.vectorStoreIdx mV ![r0, dv] (maximumf c0 b0) mask false h0 (View.stores_vmem_bits_univ h_S4x10000 rfl)
  let c1 : Vec F S16 .f32 ← SparseCore.vectorLoadIdx mV ![r1, dv] h1 (View.loads_vmem h_S4x10000)
  SparseCore.vectorStoreIdx mV ![r1, dv] (maximumf c1 b1) mask false h1 (View.stores_vmem_bits_univ h_S4x10000 rfl)
  let c2 : Vec F S16 .f32 ← SparseCore.vectorLoadIdx mV ![r2, dv] h2 (View.loads_vmem h_S4x10000)
  SparseCore.vectorStoreIdx mV ![r2, dv] (maximumf c2 b2) mask false h2 (View.stores_vmem_bits_univ h_S4x10000 rfl)
  let c3 : Vec F S16 .f32 ← SparseCore.vectorLoadIdx mV ![r3, dv] h3 (View.loads_vmem h_S4x10000)
  SparseCore.vectorStoreIdx mV ![r3, dv] (maximumf c3 b3) mask false h3 (View.stores_vmem_bits_univ h_S4x10000 rfl)
  pure ⟨⟩

/-- What one trip knows of group `g`: its destinations, its values at each row. -/
structure Grp (val : Fin 4 → ℕ → F .f32) (dst : ℕ → ℕ) (e0 : ℕ) (dv : IVec S16 32) (b : Fin 4 → Vec F S16 .f32) : Prop where
  hd : ∀ x, (dv x).toNat = dst (e0 + lane x)
  hb : ∀ k x, b k x = val k (e0 + lane x)
  hlt : ∀ x, (dv x).toNat < 10000

variable {val : Fin 4 → ℕ → F .f32} {dst : ℕ → ℕ} {E0 : ℕ} {cnt : Fin 5 → S16.Idx → ℕ}

omit [FloatOps F] in
theorem inj_of {v : IVec S16 32} {mask : IVec S16 1} {r : ℕ} (hm : ∀ x, mask x = 1 ↔ cntOf v x = r) (x y : S16.Idx)
    (hx : mask x = 1) (hy : mask y = 1) (hv : v x = v y) : x = y :=
  cnt_inj v x y (((hm x).1 hx).trans ((hm y).1 hy).symm) hv

/-- One step of one group at one row: its level goes from `r - 1` to `r`. -/
theorem wp_fast {c : Fin 4 → Fin 5 → ℕ} (k : Fin 4) (g : Fin 5) {n : BitVec 32} (hn : n.toNat = k.val) {dv : IVec S16 32} {B : Fin 4 → Vec F S16 .f32}
    (G : Grp val dst (E0 + 16 * g.val) dv B) (hcnt : cnt g = cntOf dv) {mask : IVec S16 1} (r : ℕ) (hm : ∀ x, mask x = 1 ↔ cntOf dv x = r)
    (hc : c k g + 1 = r) {w : Vec F S16 .f32 → Vec F S16 .f32} (hw : ∀ cur, w cur = maximumf cur (B k))
    {h1 h2 : ∀ a x, ((![broadcast S16 n, dv] : Fin 2 → IVec S16 32) a x).toNat < S4x10000.size a}
    {hl : (mV).view.Loads} {hs : ((mV).access (.whole _)).Stores Finset.univ}
    {α : Type} {kk : PUnit → Prog (TpuEff nD τ sig (Elt F) Λ₀ (thr d i).2) α} {Q : α → sProp 𝕄} :
    Mb d i val dst (lev E0 cnt c) ⊢ iprop((Mb d i val dst (lev E0 cnt (upd c k g r))
          -∗ wp frame (wpE (defs₀ (F := F)) 𝒱₀ (thr d i) none) Set.univ (kk ⟨⟩) Q)
        -∗ wp frame (wpE (defs₀ (F := F)) 𝒱₀ (thr d i) none) Set.univ
            (SparseCore.vectorLoadIdx mV ![broadcast S16 n, dv] h1 hl >>= fun cur => SparseCore.vectorStoreIdx mV ![broadcast S16 n, dv] (w cur) mask false h2 hs >>= kk) Q) := by
  rw [← lev_add E0 cnt c k g r mask (fun x => by rw [hm, hcnt]) (fun x => by simp [upd]; omega)]
  exact wp_pair d i k (E0 + 16 * g.val) (row_nat k n hn) G.hd (G.hb k) (inj_of hm) hw

theorem wp_four {c : Fin 4 → Fin 5 → ℕ} (g : Fin 5) {dv : IVec S16 32} {b0 b1 b2 b3 : Vec F S16 .f32}
    (G : Grp val dst (E0 + 16 * g.val) dv ![b0, b1, b2, b3]) (hcnt : cnt g = cntOf dv) {mask : IVec S16 1} (r : ℕ) (hm : ∀ x, mask x = 1 ↔ cntOf dv x = r)
    (hc : ∀ k, c k g + 1 = r) {h0 h1 h2 h3} {Q : Unit → sProp 𝕄} :
    Mb d i val dst (lev E0 cnt c) ⊢ iprop((Mb d i val dst (lev E0 cnt (setg c g r)) -∗ Q ⟨⟩)
        -∗ wp frame (wpE (defs₀ (F := F)) 𝒱₀ (thr d i) none) Set.univ (four i dv mask b0 b1 b2 b3 h0 h1 h2 h3) Q) := by
  unfold four
  iintro HM Hk
  iapply (wp_fast d i 0 g (by rfl) G hcnt r hm (hc 0) (fun _ => rfl)) $$ HM
  iintro HM
  iapply (wp_fast d i 1 g (by rfl) G hcnt r hm (by simp [upd, hc]) (fun _ => rfl)) $$ HM
  iintro HM
  iapply (wp_fast d i 2 g (by rfl) G hcnt r hm (by simp [upd, hc]) (fun _ => rfl)) $$ HM
  iintro HM
  iapply (wp_fast d i 3 g (by rfl) G hcnt r hm (by simp [upd, hc]) (fun _ => rfl)) $$ HM
  rw [upd4]
  iintro HM
  rw [wp_pure]
  iapply Hk $$ HM

omit [FloatOps F] in
theorem no_rest (n : BitVec 32) (h1 : 1 ≤ n.toNat) (h16 : n.toNat ≤ 16) : (k1_t5_loop n).trips = 0 := by
  have key : ∀ k : Fin 17, 1 ≤ k.val → (k1_t5_loop (BitVec.ofNat 32 k.val)).trips = 0 := by decide +kernel
  have := key ⟨n.toNat, by omega⟩ h1
  rwa [BitVec.ofNat_toNat, BitVec.setWidth_eq] at this

omit [FloatOps F] in
theorem setg_setg (c : Fin 4 → Fin 5 → ℕ) (g : Fin 5) (r r' : ℕ) : setg (setg c g r) g r' = setg c g r' := by
  funext k g'; by_cases h : g' = g <;> simp [setg, h]

omit [FloatOps F] in
theorem setg_self (c : Fin 4 → Fin 5 → ℕ) (g : Fin 5) (r : ℕ) (h : ∀ k, c k g = r) : setg c g r = c := by
  funext k g'; by_cases hg : g' = g
  · subst hg; simp [setg, h]
  · simp [setg, hg]

/-- THE ROUNDS over one group, from the second to the largest count. -/
theorem wp_rounds {c : Fin 4 → Fin 5 → ℕ} (g : Fin 5) {dv : IVec S16 32} {b0 b1 b2 b3 : Vec F S16 .f32}
    (G : Grp val dst (E0 + 16 * g.val) dv ![b0, b1, b2, b3]) (hcnt : cnt g = cntOf dv) (n : BitVec 32) (hn1 : 1 ≤ n.toNat) (hn16 : n.toNat ≤ 16)
    (hc : ∀ k, c k g = 1) (cs : IVec S16 32) (hcs : ∀ x, (cs x).toNat = cntOf dv x) {h0 h1 h2 h3}
    {hA : (k1_t4_loop n).OK} {hB : (k1_t5_loop n).OK}
    {bB : Fin (k1_t5_loop n).trips → Unit → Prog (TpuEff nD τ sig (Elt F) Λ₀ (.scVector ((i 0).castLE hcore1) ((i 1).castLE hsub1))) Unit}
    {α : Type} {kk : Unit → Prog (TpuEff nD τ sig (Elt F) Λ₀ (.scVector ((i 0).castLE hcore1) ((i 1).castLE hsub1))) α} {Q : α → sProp 𝕄} :
    Mb d i val dst (lev E0 cnt c) ⊢ iprop((Mb d i val dst (lev E0 cnt (setg c g n.toNat))
          -∗ wp frame (wpE (defs₀ (F := F)) 𝒱₀ (thr d i) none) Set.univ (kk ⟨⟩) Q)
        -∗ wp frame (wpE (defs₀ (F := F)) 𝒱₀ (thr d i) none) Set.univ
          (Scf.Loop.for (k1_t4_loop n) hA ⟨⟩ (fun t _ => four i dv (cmpi .eq cs (broadcast S16 (Scf.iv 2#32 1#32 t))) b0 b1 b2 b3 h0 h1 h2 h3)
            >>= fun _ => Scf.Loop.for (k1_t5_loop n) hB ⟨⟩ bB >>= kk) Q) := by
  have htr := (rounds_ok n hn1 hn16).2.2
  iintro HM Hk
  iapply (Scf.wp_for_bind frame (wpE (defs₀ (F := F)) 𝒱₀ (thr d i) none) Set.univ (k1_t4_loop n).lb (k1_t4_loop n).ub (k1_t4_loop n).st hA ⟨⟩ _
    (fun t _ => Mb d i val dst (lev E0 cnt (setg c g (1 + t)))) ?hb) $$ [HM]
  case hb =>
    intro t _
    have ht : t.val < n.toNat - 1 := htr ▸ t.isLt
    have h := wp_four (cnt := cnt) (c := setg c g (1 + t.val)) d i g G hcnt (mask := cmpi .eq cs (broadcast S16 (Scf.iv 2#32 1#32 t))) (2 + t.val)
      (fun x => by rw [cmpi_eq_one, round_iv _ (by omega), hcs]) (fun k => by simp [setg]; omega) (h0 := h0) (h1 := h1) (h2 := h2) (h3 := h3)
      (Q := fun _ => Mb d i val dst (lev E0 cnt (setg c g (1 + (t.val + 1)))))
    rw [setg_setg] at h
    refine BIBase.Entails.trans ?_ (Laws.wand_elim h)
    iintro H
    isplitl [H]; · iexact H
    rw [show 2 + t.val = 1 + (t.val + 1) by omega]
    iintro H; iexact H
  · rw [setg_self c g (1 + 0) hc]; iexact HM
  iintro %_
  rw [show 1 + Scf.trips (k1_t4_loop n).lb (k1_t4_loop n).ub (k1_t4_loop n).st = n.toNat by have : Scf.trips (k1_t4_loop n).lb (k1_t4_loop n).ub (k1_t4_loop n).st = n.toNat - 1 := htr
                                                                                            omega]
  iintro HM
  iapply (Scf.wp_for_bind frame (wpE (defs₀ (F := F)) 𝒱₀ (thr d i) none) Set.univ (k1_t5_loop n).lb (k1_t5_loop n).ub (k1_t5_loop n).st hB ⟨⟩ _
    (fun _ _ => Mb d i val dst (lev E0 cnt (setg c g n.toNat))) ?hb2) $$ HM
  case hb2 =>
    intro t _
    have ht : t.val < 0 := no_rest n hn1 hn16 ▸ t.isLt
    omega
  iintro %_ HM
  iapply Hk $$ HM

end Cert.Proof.Seg

end
-- ==== Proof.Trip.lean ====
/-
  ONE TRIP of the loop over a chunk: eighty edges in five groups of sixteen. Every part of the printed body is run once, at a
  symbolic trip, over the memref that holds the chunk.
-/
module

public import proofs.«01_k».proof.Proof.Step

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

theorem pure_intro (d : Dev nD) (i : grid1.Coords) {α : Type} {a : α} {Q : α → sProp 𝕄} :
    Q a ⊢ wp frame (wpE (defs₀ (F := F)) 𝒱₀ (thr d i) none) Set.univ (.ret a : Prog (TpuEff nD τ sig (Elt F) Λ₀ (.scVector ((i 0).castLE hcore1) ((i 1).castLE hsub1))) α) Q := by
  rw [wp_ret]; iintro H; imodintro; iexact H

section Trip

variable (d : Dev nD) (i : grid1.Coords)
  {arg2 : Memref sig .scVector .hbm S128x10000 .f32} {harg2 : arg2.IsWhole} {arg3 : Memref sig .scVector .hbm S2x320000 .i32} {harg3 : arg3.IsWhole}
  {arg4 : Memref sig .scVector .hbm S128x10000 .f32} {harg4 : arg4.IsWhole}
  {arg7 : Memref sig .scVector .vmem S2x6400 .i32} {harg7 : arg7.IsWhole} {arg8 : Memref sig .scVector .vmem S2x6400 .i32} {harg8 : arg8.IsWhole}
  {arg9 arg10 v14_r0 v14_r1 : DmaSems sig S_}

/-- Sixteen words of the chunk's buffer, as a vector. -/
abbrev ldv (arg7 : Memref sig .scVector .vmem S2x6400 .i32) (fe : Buf (Elt F) (arg7.view.loc (thr d i))) (off : Fin 2 → ℕ)
    (h : ∀ a, off a + S1x16.size a ≤ S2x6400.size a) : IVec S16 32 :=
  shapeCast S16 (arg7.view.readAt (Elt F) (Rect.unit (s := S2x6400) off S1x16.size h).toLoadRect fe) shapeCasts_S1x16_S16

/-- The destinations and the sources of group `g`. -/
abbrev dvv (arg7 : Memref sig .scVector .vmem S2x6400 .i32) (fe : Buf (Elt F) (arg7.view.loc (thr d i))) (t : Fin k1_t3_loop.trips) (g : Fin 5) : IVec S16 32 :=
  ldv d i arg7 fe (k1_off7 t (BitVec.ofNat 32 (16 * g.val))) (k1_off7_inb t g)
abbrev svv (arg7 : Memref sig .scVector .vmem S2x6400 .i32) (fe : Buf (Elt F) (arg7.view.loc (thr d i))) (t : Fin k1_t3_loop.trips) (g : Fin 5) : IVec S16 32 :=
  ldv d i arg7 fe (k1_off8 t (BitVec.ofNat 32 (16 * g.val))) (k1_off8_inb t g)

/-- What the chunk's buffer and the tile's rows hold, as the trip from edge `E0` reads them. -/
structure TripFacts (val : Fin 4 → ℕ → F .f32) (src dst : ℕ → ℕ) (E0 : ℕ) (arg7 : Memref sig .scVector .vmem S2x6400 .i32)
    (fe : Buf (Elt F) (arg7.view.loc (thr d i))) (fb : Vec F S4x10000 .f32) (t : Fin k1_t3_loop.trips) : Prop where
  hD : ∀ (g : Fin 5) x, (dvv d i arg7 fe t g x).toNat = dst (E0 + 16 * g.val + lane x)
  hS : ∀ (g : Fin 5) x, (svv d i arg7 fe t g x).toNat = src (E0 + 16 * g.val + lane x)
  hdst : ∀ e, dst e < 10000
  hsrc : ∀ e, src e < 10000
  hval : ∀ (k : Fin 4) e (j : S4x10000.Idx), (j (0 : Fin 2)).val = k.val → (j (1 : Fin 2)).val = src e → fb j = val k e

variable {val : Fin 4 → ℕ → F .f32} {src dst : ℕ → ℕ} {E0 : ℕ} {fe : Buf (Elt F) (arg7.view.loc (thr d i))} {fb : Vec F S4x10000 .f32} {t : Fin k1_t3_loop.trips}

theorem dlt (H : TripFacts d i val src dst E0 arg7 fe fb t) (g : Fin 5) (x) : (dvv d i arg7 fe t g x).toNat < 10000 := by rw [H.hD]; exact H.hdst _
theorem slt (H : TripFacts d i val src dst E0 arg7 fe fb t) (g : Fin 5) (x) : (svv d i arg7 fe t g x).toNat < 10000 := by rw [H.hS]; exact H.hsrc _

theorem dck6 (H : TripFacts d i val src dst E0 arg7 fe fb t) : k1_chk6 r0 r1 r2 r3 (dvv d i arg7 fe t 0) :=
  ⟨ix _ (by decide) _ (dlt d i H 0), ix _ (by decide) _ (dlt d i H 0), ix _ (by decide) _ (dlt d i H 0), ix _ (by decide) _ (dlt d i H 0), ix _ (by decide) _ (dlt d i H 0), ix _ (by decide) _ (dlt d i H 0), ix _ (by decide) _ (dlt d i H 0), ix _ (by decide) _ (dlt d i H 0)⟩
theorem dck7 (H : TripFacts d i val src dst E0 arg7 fe fb t) : k1_chk7 r0 r1 r2 r3 (dvv d i arg7 fe t 1) :=
  ⟨ix _ (by decide) _ (dlt d i H 1), ix _ (by decide) _ (dlt d i H 1), ix _ (by decide) _ (dlt d i H 1), ix _ (by decide) _ (dlt d i H 1), ix _ (by decide) _ (dlt d i H 1), ix _ (by decide) _ (dlt d i H 1), ix _ (by decide) _ (dlt d i H 1), ix _ (by decide) _ (dlt d i H 1)⟩
theorem dck8 (H : TripFacts d i val src dst E0 arg7 fe fb t) : k1_chk8 r0 r1 r2 r3 (dvv d i arg7 fe t 2) :=
  ⟨ix _ (by decide) _ (dlt d i H 2), ix _ (by decide) _ (dlt d i H 2), ix _ (by decide) _ (dlt d i H 2), ix _ (by decide) _ (dlt d i H 2), ix _ (by decide) _ (dlt d i H 2), ix _ (by decide) _ (dlt d i H 2), ix _ (by decide) _ (dlt d i H 2), ix _ (by decide) _ (dlt d i H 2)⟩
theorem dck9 (H : TripFacts d i val src dst E0 arg7 fe fb t) : k1_chk9 r0 r1 r2 r3 (dvv d i arg7 fe t 3) :=
  ⟨ix _ (by decide) _ (dlt d i H 3), ix _ (by decide) _ (dlt d i H 3), ix _ (by decide) _ (dlt d i H 3), ix _ (by decide) _ (dlt d i H 3), ix _ (by decide) _ (dlt d i H 3), ix _ (by decide) _ (dlt d i H 3), ix _ (by decide) _ (dlt d i H 3), ix _ (by decide) _ (dlt d i H 3)⟩
theorem dck10 (H : TripFacts d i val src dst E0 arg7 fe fb t) : k1_chk10 r0 r1 r2 r3 (dvv d i arg7 fe t 4) :=
  ⟨ix _ (by decide) _ (dlt d i H 4), ix _ (by decide) _ (dlt d i H 4), ix _ (by decide) _ (dlt d i H 4), ix _ (by decide) _ (dlt d i H 4), ix _ (by decide) _ (dlt d i H 4), ix _ (by decide) _ (dlt d i H 4), ix _ (by decide) _ (dlt d i H 4), ix _ (by decide) _ (dlt d i H 4)⟩
theorem sck1 (H : TripFacts d i val src dst E0 arg7 fe fb t) : k1_chk1 r0 r1 r2 r3 (svv d i arg7 fe t 0) :=
  ⟨ix _ (by decide) _ (slt d i H 0), ix _ (by decide) _ (slt d i H 0), ix _ (by decide) _ (slt d i H 0), ix _ (by decide) _ (slt d i H 0)⟩
theorem sck2 (H : TripFacts d i val src dst E0 arg7 fe fb t) : k1_chk2 r0 r1 r2 r3 (svv d i arg7 fe t 1) :=
  ⟨ix _ (by decide) _ (slt d i H 1), ix _ (by decide) _ (slt d i H 1), ix _ (by decide) _ (slt d i H 1), ix _ (by decide) _ (slt d i H 1)⟩
theorem sck3 (H : TripFacts d i val src dst E0 arg7 fe fb t) : k1_chk3 r0 r1 r2 r3 (svv d i arg7 fe t 2) :=
  ⟨ix _ (by decide) _ (slt d i H 2), ix _ (by decide) _ (slt d i H 2), ix _ (by decide) _ (slt d i H 2), ix _ (by decide) _ (slt d i H 2)⟩
theorem sck4 (H : TripFacts d i val src dst E0 arg7 fe fb t) : k1_chk4 r0 r1 r2 r3 (svv d i arg7 fe t 3) :=
  ⟨ix _ (by decide) _ (slt d i H 3), ix _ (by decide) _ (slt d i H 3), ix _ (by decide) _ (slt d i H 3), ix _ (by decide) _ (slt d i H 3)⟩
theorem sck5 (H : TripFacts d i val src dst E0 arg7 fe fb t) : k1_chk5 r0 r1 r2 r3 (svv d i arg7 fe t 4) :=
  ⟨ix _ (by decide) _ (slt d i H 4), ix _ (by decide) _ (slt d i H 4), ix _ (by decide) _ (slt d i H 4), ix _ (by decide) _ (slt d i H 4)⟩

/-- Row `k`'s entries at the group's sources. -/
abbrev gath (H : TripFacts d i val src dst E0 arg7 fe fb t) (n : BitVec 32) (hn : n.toNat < 4) (g : Fin 5) : Vec F S16 .f32 :=
  loadIdx fb ![broadcast S16 n, svv d i arg7 fe t g] (ix n hn _ (slt d i H g))

theorem grp (H : TripFacts d i val src dst E0 arg7 fe fb t) (g : Fin 5) :
    Grp val dst (E0 + 16 * g.val) (dvv d i arg7 fe t g)
      ![gath d i H 0#32 (by decide) g, gath d i H 1#32 (by decide) g, gath d i H 2#32 (by decide) g, gath d i H 3#32 (by decide) g] where
  hd := H.hD g
  hlt := dlt d i H g
  hb k x := by
    fin_cases k
    · exact H.hval 0 _ _ rfl (H.hS g x)
    · exact H.hval 1 _ _ rfl (H.hS g x)
    · exact H.hval 2 _ _ rfl (H.hS g x)
    · exact H.hval 3 _ _ rfl (H.hS g x)

theorem wp_part2 (H : TripFacts d i val src dst E0 arg7 fe fb t) {α : Type} {kk : _ → Prog (TpuEff nD τ sig (Elt F) Λ₀ (.scVector ((i 0).castLE hcore1) ((i 1).castLE hsub1))) α} {Q : α → sProp 𝕄} :
    iprop((arg7.view.loc (thr d i) ↦{fullShare} fe : sProp 𝕄)) ⊢ iprop(((arg7.view.loc (thr d i) ↦{fullShare} fe : sProp 𝕄) -∗ wp frame (wpE (defs₀ (F := F)) 𝒱₀ (thr d i) none) Set.univ (kk ⟨Scalar.muli (Scf.iv 0#32 1#32 t) 80#32, (dvv d i arg7 fe t 0), dck6 d i H, (dvv d i arg7 fe t 1), dck7 d i H, (dvv d i arg7 fe t 2), dck8 d i H, (dvv d i arg7 fe t 3), dck9 d i H, (dvv d i arg7 fe t 4), dck10 d i H, (svv d i arg7 fe t 0), sck1 d i H, (svv d i arg7 fe t 1), sck2 d i H, 32#32⟩) Q)
      -∗ wp frame (wpE (defs₀ (F := F)) 𝒱₀ (thr d i) none) Set.univ (k1_part2 (F := F) i arg2 harg2 arg3 harg3 arg4 harg4 bV (Memref.isWhole_whole _) mV (Memref.isWhole_whole _) arg7 harg7 arg8 harg8 arg9 arg10 v14_r0 v14_r1 r0 r1 r2 r3 0#32 1#32 t >>= kk) Q) := by
  rw [wp_bind, k1_part2_eq_skeleton]
  unfold k1_part2_skel
  iintro HE Hk
  iapply (wp_load 𝒱₀ (thr d i) none Set.univ (m := arg7) (S := Finset.univ) (Finset.subset_univ _)) $$ HE; iintro HE
  iapply (wp_assume 𝒱₀ (thr d i) none Set.univ (dck6 d i H))
  iapply (wp_load 𝒱₀ (thr d i) none Set.univ (m := arg7) (S := Finset.univ) (Finset.subset_univ _)) $$ HE; iintro HE
  iapply (wp_assume 𝒱₀ (thr d i) none Set.univ (dck7 d i H))
  iapply (wp_load 𝒱₀ (thr d i) none Set.univ (m := arg7) (S := Finset.univ) (Finset.subset_univ _)) $$ HE; iintro HE
  iapply (wp_assume 𝒱₀ (thr d i) none Set.univ (dck8 d i H))
  iapply (wp_load 𝒱₀ (thr d i) none Set.univ (m := arg7) (S := Finset.univ) (Finset.subset_univ _)) $$ HE; iintro HE
  iapply (wp_assume 𝒱₀ (thr d i) none Set.univ (dck9 d i H))
  iapply (wp_load 𝒱₀ (thr d i) none Set.univ (m := arg7) (S := Finset.univ) (Finset.subset_univ _)) $$ HE; iintro HE
  iapply (wp_assume 𝒱₀ (thr d i) none Set.univ (dck10 d i H))
  iapply (wp_load 𝒱₀ (thr d i) none Set.univ (m := arg7) (S := Finset.univ) (Finset.subset_univ _)) $$ HE; iintro HE
  iapply (wp_assume 𝒱₀ (thr d i) none Set.univ (sck1 d i H))
  iapply (wp_load 𝒱₀ (thr d i) none Set.univ (m := arg7) (S := Finset.univ) (Finset.subset_univ _)) $$ HE; iintro HE
  iapply (wp_assume 𝒱₀ (thr d i) none Set.univ (sck2 d i H))
  iapply (pure_intro d i)
  iapply Hk $$ HE

theorem wp_gather (H : TripFacts d i val src dst E0 arg7 fe fb t) (n : BitVec 32) (hn : n.toNat < 4) (g : Fin 5)

    {α : Type} {kk : _ → Prog (TpuEff nD τ sig (Elt F) Λ₀ (.scVector ((i 0).castLE hcore1) ((i 1).castLE hsub1))) α} {Q : α → sProp 𝕄} :
    ((thr d i).loc cc1_scratch0 ↦{fullShare} fb : sProp 𝕄) ⊢ iprop((((thr d i).loc cc1_scratch0 ↦{fullShare} fb : sProp 𝕄) -∗ wp frame (wpE (defs₀ (F := F)) 𝒱₀ (thr d i) none) Set.univ (kk (gath d i H n hn g)) Q)
      -∗ wp frame (wpE (defs₀ (F := F)) 𝒱₀ (thr d i) none) Set.univ (SparseCore.vectorLoadIdx bV ![broadcast S16 n, svv d i arg7 fe t g] (ix n hn _ (slt d i H g)) (View.loads_vmem h_S4x10000) >>= kk) Q) := by
  iintro HB Hk
  ihave HB := (Entails.of_eq (pts_acc (F := F) d i cc1_scratch0 fullShare fb).symm) $$ HB
  iapply (SparseCore.wp_vectorLoadIdx 𝒱₀ (thr d i) none Set.univ (base := bV) (q := fullShare) (f := fb) (Finset.Subset.refl _)) $$ HB
  iintro HB
  ihave HB := (Entails.of_eq (pts_acc (F := F) d i cc1_scratch0 fullShare fb)) $$ HB
  rw [Memref.read_access_whole]
  iapply Hk $$ HB

theorem wp_part3 (H : TripFacts d i val src dst E0 arg7 fe fb t) {α : Type} {kk : _ → Prog (TpuEff nD τ sig (Elt F) Λ₀ (.scVector ((i 0).castLE hcore1) ((i 1).castLE hsub1))) α} {Q : α → sProp 𝕄} :
    iprop((arg7.view.loc (thr d i) ↦{fullShare} fe : sProp 𝕄) ∗ ((thr d i).loc cc1_scratch0 ↦{fullShare} fb : sProp 𝕄)) ⊢ iprop(((arg7.view.loc (thr d i) ↦{fullShare} fe : sProp 𝕄) -∗ ((thr d i).loc cc1_scratch0 ↦{fullShare} fb : sProp 𝕄) -∗ wp frame (wpE (defs₀ (F := F)) 𝒱₀ (thr d i) none) Set.univ (kk ⟨(svv d i arg7 fe t 4), sck5 d i H, k1_pay25 (F := F) (dvv d i arg7 fe t 0), k1_pay26 (F := F) (dvv d i arg7 fe t 0), k1_pay28 (F := F) (dvv d i arg7 fe t 1), k1_pay29 (F := F) (dvv d i arg7 fe t 1), k1_pay31 (F := F) (dvv d i arg7 fe t 2), k1_pay32 (F := F) (dvv d i arg7 fe t 2), k1_pay34 (F := F) (dvv d i arg7 fe t 3), k1_pay35 (F := F) (dvv d i arg7 fe t 3), k1_pay37 (F := F) (dvv d i arg7 fe t 4), k1_pay38 (F := F) (dvv d i arg7 fe t 4), (gath d i H 0#32 (by decide) 0), (gath d i H 1#32 (by decide) 0), (gath d i H 2#32 (by decide) 0), (gath d i H 3#32 (by decide) 0), (gath d i H 0#32 (by decide) 1), (gath d i H 1#32 (by decide) 1), (gath d i H 2#32 (by decide) 1), (gath d i H 3#32 (by decide) 1), (gath d i H 0#32 (by decide) 2), (gath d i H 1#32 (by decide) 2), (gath d i H 2#32 (by decide) 2), (gath d i H 3#32 (by decide) 2), (gath d i H 0#32 (by decide) 3), (gath d i H 1#32 (by decide) 3), (gath d i H 2#32 (by decide) 3), (gath d i H 3#32 (by decide) 3), (gath d i H 0#32 (by decide) 4)⟩) Q)
      -∗ wp frame (wpE (defs₀ (F := F)) 𝒱₀ (thr d i) none) Set.univ (k1_part3 (F := F) i arg2 harg2 arg3 harg3 arg4 harg4 bV (Memref.isWhole_whole _) mV (Memref.isWhole_whole _) arg7 harg7 arg8 harg8 arg9 arg10 v14_r0 v14_r1 r0 r1 r2 r3 t (Scalar.muli (Scf.iv 0#32 1#32 t) 80#32) (dvv d i arg7 fe t 0) (dvv d i arg7 fe t 1) (dvv d i arg7 fe t 2) (dvv d i arg7 fe t 3) (dvv d i arg7 fe t 4) (svv d i arg7 fe t 0) (sck1 d i H) (svv d i arg7 fe t 1) (sck2 d i H) 32#32 >>= kk) Q) := by
  rw [wp_bind, k1_part3_eq_skeleton]
  unfold k1_part3_skel
  iintro ⟨HE, HB⟩ Hk
  iapply (wp_load 𝒱₀ (thr d i) none Set.univ (m := arg7) (S := Finset.univ) (Finset.subset_univ _)) $$ HE; iintro HE
  iapply (wp_assume 𝒱₀ (thr d i) none Set.univ (sck3 d i H))
  iapply (wp_load 𝒱₀ (thr d i) none Set.univ (m := arg7) (S := Finset.univ) (Finset.subset_univ _)) $$ HE; iintro HE
  iapply (wp_assume 𝒱₀ (thr d i) none Set.univ (sck4 d i H))
  iapply (wp_load 𝒱₀ (thr d i) none Set.univ (m := arg7) (S := Finset.univ) (Finset.subset_univ _)) $$ HE; iintro HE
  iapply (wp_assume 𝒱₀ (thr d i) none Set.univ (sck5 d i H))
  iapply (wp_gather d i H 0#32 (by decide) 0) $$ HB; iintro HB
  iapply (wp_gather d i H 1#32 (by decide) 0) $$ HB; iintro HB
  iapply (wp_gather d i H 2#32 (by decide) 0) $$ HB; iintro HB
  iapply (wp_gather d i H 3#32 (by decide) 0) $$ HB; iintro HB
  iapply (wp_gather d i H 0#32 (by decide) 1) $$ HB; iintro HB
  iapply (wp_gather d i H 1#32 (by decide) 1) $$ HB; iintro HB
  iapply (wp_gather d i H 2#32 (by decide) 1) $$ HB; iintro HB
  iapply (wp_gather d i H 3#32 (by decide) 1) $$ HB; iintro HB
  iapply (wp_gather d i H 0#32 (by decide) 2) $$ HB; iintro HB
  iapply (wp_gather d i H 1#32 (by decide) 2) $$ HB; iintro HB
  iapply (wp_gather d i H 2#32 (by decide) 2) $$ HB; iintro HB
  iapply (wp_gather d i H 3#32 (by decide) 2) $$ HB; iintro HB
  iapply (wp_gather d i H 0#32 (by decide) 3) $$ HB; iintro HB
  iapply (wp_gather d i H 1#32 (by decide) 3) $$ HB; iintro HB
  iapply (wp_gather d i H 2#32 (by decide) 3) $$ HB; iintro HB
  iapply (wp_gather d i H 3#32 (by decide) 3) $$ HB; iintro HB
  iapply (wp_gather d i H 0#32 (by decide) 4) $$ HB; iintro HB
  iapply (pure_intro d i)
  iapply Hk $$ HE HB

omit [FloatOps F] in
theorem first_iff (v : IVec S16 32) (x : S16.Idx) : cmpi .eq (scanCount (fun _ => (1 : BitVec 1)) v).2 (broadcast S16 1#32) x = 1 ↔ cntOf v x = 1 :=
  cmpi_eq_one _ 1#32 x

/-- How often a lane's destination has occurred up to it, per group. -/
def cnts (arg7 : Memref sig .scVector .vmem S2x6400 .i32) (fe : Buf (Elt F) (arg7.view.loc (thr d i))) (t : Fin k1_t3_loop.trips) : Fin 5 → S16.Idx → ℕ :=
  fun g => cntOf (dvv d i arg7 fe t g)

theorem wp_loadM {D : Fin 4 → Set ℕ} {idxs : Fin 2 → IVec S16 32} {h1 : ∀ a x, (idxs a x).toNat < S4x10000.size a} {hl : (mV).view.Loads}
    {α : Type} {kk : _ → Prog (TpuEff nD τ sig (Elt F) Λ₀ (.scVector ((i 0).castLE hcore1) ((i 1).castLE hsub1))) α} {Q : α → sProp 𝕄} :
    Mb d i val dst D ⊢ iprop((∀ f, ⌜Holds val dst D f⌝ -∗ ((thr d i).loc cc1_scratch1 ↦{fullShare} f : sProp 𝕄) -∗ wp frame (wpE (defs₀ (F := F)) 𝒱₀ (thr d i) none) Set.univ (kk (loadIdx f idxs h1)) Q)
      -∗ wp frame (wpE (defs₀ (F := F)) 𝒱₀ (thr d i) none) Set.univ (SparseCore.vectorLoadIdx mV idxs h1 hl >>= kk) Q) := by
  unfold Mb
  iintro ⟨%f, %hf, H⟩ Hk
  ihave H := (Entails.of_eq (pts_acc (F := F) d i cc1_scratch1 fullShare f).symm) $$ H
  iapply (SparseCore.wp_vectorLoadIdx 𝒱₀ (thr d i) none Set.univ (base := mV) (q := fullShare) (f := f) (Finset.Subset.refl _)) $$ H
  iintro H
  ihave H := (Entails.of_eq (pts_acc (F := F) d i cc1_scratch1 fullShare _)) $$ H
  rw [Memref.read_access_whole]
  iapply Hk
  · ipureintro; exact hf
  iexact H

theorem wp_storeM {cnt : Fin 5 → S16.Idx → ℕ} {c : Fin 4 → Fin 5 → ℕ} (k : Fin 4) (g : Fin 5) {n : BitVec 32} (hn : n.toNat = k.val) {dv : IVec S16 32} {B : Fin 4 → Vec F S16 .f32}
    (G : Grp val dst (E0 + 16 * g.val) dv B) (hcnt : cnt g = cntOf dv) {mask : IVec S16 1} (r : ℕ) (hm : ∀ x, mask x = 1 ↔ cntOf dv x = r)
    (hc : c k g + 1 = r) {f : Vec F S4x10000 .f32} (hf : Holds val dst (lev E0 cnt c) f)
    {h2 : ∀ a x, ((![broadcast S16 n, dv] : Fin 2 → IVec S16 32) a x).toNat < S4x10000.size a} {w : Vec F S16 .f32}
    (hw : ∀ x, w x = FloatOps.maximumf (f (idxAt ![broadcast S16 n, dv] h2 x)) (B k x)) {hs : ((mV).access (.whole _)).Stores Finset.univ}
    {α : Type} {kk : PUnit → Prog (TpuEff nD τ sig (Elt F) Λ₀ (.scVector ((i 0).castLE hcore1) ((i 1).castLE hsub1))) α} {Q : α → sProp 𝕄} :
    ((thr d i).loc cc1_scratch1 ↦{fullShare} f : sProp 𝕄) ⊢ iprop((Mb d i val dst (lev E0 cnt (upd c k g r)) -∗ wp frame (wpE (defs₀ (F := F)) 𝒱₀ (thr d i) none) Set.univ (kk ⟨⟩) Q)
      -∗ wp frame (wpE (defs₀ (F := F)) 𝒱₀ (thr d i) none) Set.univ (SparseCore.vectorStoreIdx mV ![broadcast S16 n, dv] w mask false h2 hs >>= kk) Q) := by
  rw [← lev_add E0 cnt c k g r mask (fun x => by rw [hm, hcnt]) (fun x => by simp [upd]; omega)]
  unfold Mb
  iintro H Hk
  ihave H := (Entails.of_eq (pts_acc (F := F) d i cc1_scratch1 fullShare f).symm) $$ H
  iapply (SparseCore.wp_vectorStoreIdx 𝒱₀ (thr d i) none Set.univ (base := mV) (f := f)) $$ H
  iintro H
  iapply Hk
  rw [Memref.write_access_whole_univ, Memref.read_access_whole]
  ihave H := (Entails.of_eq (pts_acc (F := F) d i cc1_scratch1 fullShare _)) $$ H
  iexists _
  isplitr
  swap; · iexact H
  ipureintro
  refine hf.store k ![broadcast S16 n, dv] h2 (row_nat k n hn) (E0 + 16 * g.val) G.hd mask (inj_of hm) _ fun x => ?_
  rw [hw, G.hb]

/-- The levels after the first thirteen steps. -/
def c13 : Fin 4 → Fin 5 → ℕ := (upd (upd (upd (upd (upd (upd (upd (upd (upd (upd (upd (upd (upd (fun _ _ => 0) 0 0 1) 1 0 1) 2 0 1) 3 0 1) 0 1 1) 1 1 1) 2 1 1) 3 1 1) 0 2 1) 1 2 1) 2 2 1) 3 2 1) 0 3 1)

theorem wp_part4 (H : TripFacts d i val src dst E0 arg7 fe fb t) {α : Type} {kk : _ → Prog (TpuEff nD τ sig (Elt F) Λ₀ (.scVector ((i 0).castLE hcore1) ((i 1).castLE hsub1))) α} {Q : α → sProp 𝕄} :
    iprop(((thr d i).loc cc1_scratch0 ↦{fullShare} fb : sProp 𝕄) ∗ Mb d i val dst (lev E0 (cnts d i arg7 fe t) (fun _ _ => 0))) ⊢ iprop((((thr d i).loc cc1_scratch0 ↦{fullShare} fb : sProp 𝕄) -∗ (∀ f, ⌜Holds val dst (lev E0 (cnts d i arg7 fe t) c13) f⌝ -∗ ((thr d i).loc cc1_scratch1 ↦{fullShare} f : sProp 𝕄)
        -∗ wp frame (wpE (defs₀ (F := F)) 𝒱₀ (thr d i) none) Set.univ (kk ⟨(gath d i H 1#32 (by decide) 4), (gath d i H 2#32 (by decide) 4), (gath d i H 3#32 (by decide) 4), (k1_pay39 (k1_pay25 (F := F) (dvv d i arg7 fe t 0)) (k1_pay28 (F := F) (dvv d i arg7 fe t 1)) (k1_pay31 (F := F) (dvv d i arg7 fe t 2)) (k1_pay34 (F := F) (dvv d i arg7 fe t 3)) (k1_pay37 (F := F) (dvv d i arg7 fe t 4))), k1_pay55 (k1_pay35 (F := F) (dvv d i arg7 fe t 3)), k1_pay57 (gath d i H 1#32 (by decide) 3) (loadIdx f ![r1, (dvv d i arg7 fe t 3)] (ix _ (by decide) _ (dlt d i H 3)))⟩) Q))
      -∗ wp frame (wpE (defs₀ (F := F)) 𝒱₀ (thr d i) none) Set.univ (k1_part4 (F := F) i arg2 harg2 arg3 harg3 arg4 harg4 bV (Memref.isWhole_whole _) mV (Memref.isWhole_whole _) arg7 harg7 arg8 harg8 arg9 arg10 v14_r0 v14_r1 r0 r1 r2 r3 (dvv d i arg7 fe t 0) (dck6 d i H) (dvv d i arg7 fe t 1) (dck7 d i H) (dvv d i arg7 fe t 2) (dck8 d i H) (dvv d i arg7 fe t 3) (dck9 d i H) (svv d i arg7 fe t 4) (sck5 d i H) (k1_pay25 (F := F) (dvv d i arg7 fe t 0)) (k1_pay26 (F := F) (dvv d i arg7 fe t 0)) (k1_pay28 (F := F) (dvv d i arg7 fe t 1)) (k1_pay29 (F := F) (dvv d i arg7 fe t 1)) (k1_pay31 (F := F) (dvv d i arg7 fe t 2)) (k1_pay32 (F := F) (dvv d i arg7 fe t 2)) (k1_pay34 (F := F) (dvv d i arg7 fe t 3)) (k1_pay35 (F := F) (dvv d i arg7 fe t 3)) (k1_pay37 (F := F) (dvv d i arg7 fe t 4)) (gath d i H 0#32 (by decide) 0) (gath d i H 1#32 (by decide) 0) (gath d i H 2#32 (by decide) 0) (gath d i H 3#32 (by decide) 0) (gath d i H 0#32 (by decide) 1) (gath d i H 1#32 (by decide) 1) (gath d i H 2#32 (by decide) 1) (gath d i H 3#32 (by decide) 1) (gath d i H 0#32 (by decide) 2) (gath d i H 1#32 (by decide) 2) (gath d i H 2#32 (by decide) 2) (gath d i H 3#32 (by decide) 2) (gath d i H 0#32 (by decide) 3) (gath d i H 1#32 (by decide) 3) >>= kk) Q) := by
  rw [wp_bind, k1_part4_eq_skeleton]
  unfold k1_part4_skel
  iintro ⟨HB, HM⟩ Hk
  iapply (wp_gather d i H 1#32 (by decide) 4) $$ HB; iintro HB
  iapply (wp_gather d i H 2#32 (by decide) 4) $$ HB; iintro HB
  iapply (wp_gather d i H 3#32 (by decide) 4) $$ HB; iintro HB
  iapply (wp_fast d i 0 0 (by rfl) (grp d i H 0) (by rfl) 1 (first_iff (dvv d i arg7 fe t 0)) (by rfl) (fun _ => rfl)) $$ HM; iintro HM
  iapply (wp_fast d i 1 0 (by rfl) (grp d i H 0) (by rfl) 1 (first_iff (dvv d i arg7 fe t 0)) (by rfl) (fun _ => rfl)) $$ HM; iintro HM
  iapply (wp_fast d i 2 0 (by rfl) (grp d i H 0) (by rfl) 1 (first_iff (dvv d i arg7 fe t 0)) (by rfl) (fun _ => rfl)) $$ HM; iintro HM
  iapply (wp_fast d i 3 0 (by rfl) (grp d i H 0) (by rfl) 1 (first_iff (dvv d i arg7 fe t 0)) (by rfl) (fun _ => rfl)) $$ HM; iintro HM
  iapply (wp_fast d i 0 1 (by rfl) (grp d i H 1) (by rfl) 1 (first_iff (dvv d i arg7 fe t 1)) (by rfl) (fun _ => rfl)) $$ HM; iintro HM
  iapply (wp_fast d i 1 1 (by rfl) (grp d i H 1) (by rfl) 1 (first_iff (dvv d i arg7 fe t 1)) (by rfl) (fun _ => rfl)) $$ HM; iintro HM
  iapply (wp_fast d i 2 1 (by rfl) (grp d i H 1) (by rfl) 1 (first_iff (dvv d i arg7 fe t 1)) (by rfl) (fun _ => rfl)) $$ HM; iintro HM
  iapply (wp_fast d i 3 1 (by rfl) (grp d i H 1) (by rfl) 1 (first_iff (dvv d i arg7 fe t 1)) (by rfl) (fun _ => rfl)) $$ HM; iintro HM
  iapply (wp_fast d i 0 2 (by rfl) (grp d i H 2) (by rfl) 1 (first_iff (dvv d i arg7 fe t 2)) (by rfl) (fun _ => rfl)) $$ HM; iintro HM
  iapply (wp_fast d i 1 2 (by rfl) (grp d i H 2) (by rfl) 1 (first_iff (dvv d i arg7 fe t 2)) (by rfl) (fun _ => rfl)) $$ HM; iintro HM
  iapply (wp_fast d i 2 2 (by rfl) (grp d i H 2) (by rfl) 1 (first_iff (dvv d i arg7 fe t 2)) (by rfl) (fun _ => rfl)) $$ HM; iintro HM
  iapply (wp_fast d i 3 2 (by rfl) (grp d i H 2) (by rfl) 1 (first_iff (dvv d i arg7 fe t 2)) (by rfl) (fun _ => rfl)) $$ HM; iintro HM
  iapply (wp_fast d i 0 3 (by rfl) (grp d i H 3) (by rfl) 1 (first_iff (dvv d i arg7 fe t 3)) (by rfl) (fun _ => rfl)) $$ HM; iintro HM
  iapply (wp_loadM d i) $$ HM; iintro %f %hf HM
  iapply (pure_intro d i)
  iapply Hk $$ HB
  · ipureintro; exact hf
  iexact HM

end Trip

end Cert.Proof.Seg

end
-- ==== Proof.Slow.lean ====
/-
  The rest of a trip: the rounds over the groups whose destinations repeat, and the trip as a whole.
-/
module

public import proofs.«01_k».proof.Proof.Trip

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

section Trip

variable (d : Dev nD) (i : grid1.Coords)
  {arg2 : Memref sig .scVector .hbm S128x10000 .f32} {harg2 : arg2.IsWhole} {arg3 : Memref sig .scVector .hbm S2x320000 .i32} {harg3 : arg3.IsWhole}
  {arg4 : Memref sig .scVector .hbm S128x10000 .f32} {harg4 : arg4.IsWhole}
  {arg7 : Memref sig .scVector .vmem S2x6400 .i32} {harg7 : arg7.IsWhole} {arg8 : Memref sig .scVector .vmem S2x6400 .i32} {harg8 : arg8.IsWhole}
  {arg9 arg10 v14_r0 v14_r1 : DmaSems sig S_}
  {val : Fin 4 → ℕ → F .f32} {src dst : ℕ → ℕ} {E0 : ℕ} {fe : Buf (Elt F) (arg7.view.loc (thr d i))} {fb : Vec F S4x10000 .f32} {t : Fin k1_t3_loop.trips}

omit [FloatOps F] in
theorem nmax_bd (v : IVec S16 32) : 1 ≤ (nmax (scanCount (fun _ => (1 : BitVec 1)) v).2).toNat ∧ (nmax (scanCount (fun _ => (1 : BitVec 1)) v).2).toNat ≤ 16
    ∧ ∀ x, cntOf v x ≤ (nmax (scanCount (fun _ => (1 : BitVec 1)) v).2).toNat := by
  obtain ⟨x, hx⟩ := nmax_mem (scanCount (fun _ => (1 : BitVec 1)) v).2
  refine ⟨?_, ?_, fun y => le_nmax _ (cnt_le v) y⟩
  · rw [hx]; exact cnt_pos v x
  · rw [hx]; exact cnt_le v x

theorem rck11 (H : TripFacts d i val src dst E0 arg7 fe fb t) (v : BitVec 32) (n : BitVec 32) (h1 : 1 ≤ n.toNat) (h16 : n.toNat ≤ 16) :
    k1_chk11 r0 r1 r2 r3 (dvv d i arg7 fe t 0) v n :=
  ⟨fun _ => (rounds_ok n h1 h16).1, fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ => (rounds_ok n h1 h16).2.1, fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0), fun _ _ => ix _ (by decide) _ (dlt d i H 0)⟩

theorem rck12 (H : TripFacts d i val src dst E0 arg7 fe fb t) (v : BitVec 32) (n : BitVec 32) (h1 : 1 ≤ n.toNat) (h16 : n.toNat ≤ 16) :
    k1_chk12 r0 r1 r2 r3 (dvv d i arg7 fe t 1) v n :=
  ⟨fun _ => (rounds_ok n h1 h16).1, fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ => (rounds_ok n h1 h16).2.1, fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1), fun _ _ => ix _ (by decide) _ (dlt d i H 1)⟩

theorem rck13 (H : TripFacts d i val src dst E0 arg7 fe fb t) (v : BitVec 32) (n : BitVec 32) (h1 : 1 ≤ n.toNat) (h16 : n.toNat ≤ 16) :
    k1_chk13 r0 r1 r2 r3 (dvv d i arg7 fe t 2) v n :=
  ⟨fun _ => (rounds_ok n h1 h16).1, fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ => (rounds_ok n h1 h16).2.1, fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2), fun _ _ => ix _ (by decide) _ (dlt d i H 2)⟩

theorem rck14 (H : TripFacts d i val src dst E0 arg7 fe fb t) (v : BitVec 32) (n : BitVec 32) (h1 : 1 ≤ n.toNat) (h16 : n.toNat ≤ 16) :
    k1_chk14 r0 r1 r2 r3 (dvv d i arg7 fe t 3) v n :=
  ⟨fun _ => (rounds_ok n h1 h16).1, fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ => (rounds_ok n h1 h16).2.1, fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3), fun _ _ => ix _ (by decide) _ (dlt d i H 3)⟩

theorem rck15 (H : TripFacts d i val src dst E0 arg7 fe fb t) (v : BitVec 32) (n : BitVec 32) (h1 : 1 ≤ n.toNat) (h16 : n.toNat ≤ 16) :
    k1_chk15 r0 r1 r2 r3 (dvv d i arg7 fe t 4) v n :=
  ⟨fun _ => (rounds_ok n h1 h16).1, fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ => (rounds_ok n h1 h16).2.1, fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4), fun _ _ => ix _ (by decide) _ (dlt d i H 4)⟩

theorem wp_part1 (H : TripFacts d i val src dst E0 arg7 fe fb t) (v : BitVec 32) (h1 : ¬(k1_cond1 v = 1#1)) {α : Type} {kk : _ → Prog (TpuEff nD τ sig (Elt F) Λ₀ (.scVector ((i 0).castLE hcore1) ((i 1).castLE hsub1))) α} {Q : α → sProp 𝕄} :
    Mb d i val dst (lev E0 (cnts d i arg7 fe t) (fun _ _ => 1)) ⊢ iprop((Mb d i val dst (lev E0 (cnts d i arg7 fe t) (setg (setg (fun _ _ => 1) 0 (nmax (k1_pay26 (F := F) (dvv d i arg7 fe t 0))).toNat) 1 (nmax (k1_pay29 (F := F) (dvv d i arg7 fe t 1))).toNat))
        -∗ wp frame (wpE (defs₀ (F := F)) 𝒱₀ (thr d i) none) Set.univ (kk ⟨(nmax (k1_pay32 (F := F) (dvv d i arg7 fe t 2))), rck13 d i H v _ (nmax_bd (dvv d i arg7 fe t 2)).1 (nmax_bd (dvv d i arg7 fe t 2)).2.1, 2#32, Scalar.subi (Scalar.addi (nmax (k1_pay32 (F := F) (dvv d i arg7 fe t 2))) 1#32) 2#32⟩) Q)
      -∗ wp frame (wpE (defs₀ (F := F)) 𝒱₀ (thr d i) none) Set.univ (k1_part1 (F := F) i arg2 harg2 arg3 harg3 arg4 harg4 bV (Memref.isWhole_whole _) mV (Memref.isWhole_whole _) arg7 harg7 arg8 harg8 arg9 arg10 v14_r0 v14_r1 r0 r1 r2 r3 (dvv d i arg7 fe t 0) (dvv d i arg7 fe t 1) (dvv d i arg7 fe t 2) (k1_pay26 (F := F) (dvv d i arg7 fe t 0)) (k1_pay29 (F := F) (dvv d i arg7 fe t 1)) (k1_pay32 (F := F) (dvv d i arg7 fe t 2)) (gath d i H 0#32 (by decide) 0) (gath d i H 1#32 (by decide) 0) (gath d i H 2#32 (by decide) 0) (gath d i H 3#32 (by decide) 0) (gath d i H 0#32 (by decide) 1) (gath d i H 1#32 (by decide) 1) (gath d i H 2#32 (by decide) 1) (gath d i H 3#32 (by decide) 1) v h1 >>= kk) Q) := by
  rw [wp_bind, k1_part1_eq_skeleton]
  unfold k1_part1_skel
  iintro HM Hk
  iapply (wp_assume 𝒱₀ (thr d i) none Set.univ (rck11 d i H _ (nmax (k1_pay26 (F := F) (dvv d i arg7 fe t 0))) (nmax_bd (dvv d i arg7 fe t 0)).1 (nmax_bd (dvv d i arg7 fe t 0)).2.1))
  iapply (wp_rounds (cnt := cnts d i arg7 fe t) d i 0 (grp d i H 0) (by rfl) (nmax (k1_pay26 (F := F) (dvv d i arg7 fe t 0))) (nmax_bd (dvv d i arg7 fe t 0)).1 (nmax_bd (dvv d i arg7 fe t 0)).2.1 (by intro k; rfl) (k1_pay26 (F := F) (dvv d i arg7 fe t 0)) (fun _ => rfl)
    (h0 := ix _ (by decide) _ (dlt d i H 0)) (h1 := ix _ (by decide) _ (dlt d i H 0)) (h2 := ix _ (by decide) _ (dlt d i H 0)) (h3 := ix _ (by decide) _ (dlt d i H 0))) $$ HM; iintro HM
  iapply (wp_assume 𝒱₀ (thr d i) none Set.univ (rck12 d i H _ (nmax (k1_pay29 (F := F) (dvv d i arg7 fe t 1))) (nmax_bd (dvv d i arg7 fe t 1)).1 (nmax_bd (dvv d i arg7 fe t 1)).2.1))
  iapply (wp_rounds (cnt := cnts d i arg7 fe t) d i 1 (grp d i H 1) (by rfl) (nmax (k1_pay29 (F := F) (dvv d i arg7 fe t 1))) (nmax_bd (dvv d i arg7 fe t 1)).1 (nmax_bd (dvv d i arg7 fe t 1)).2.1 (by intro k; rfl) (k1_pay29 (F := F) (dvv d i arg7 fe t 1)) (fun _ => rfl)
    (h0 := ix _ (by decide) _ (dlt d i H 1)) (h1 := ix _ (by decide) _ (dlt d i H 1)) (h2 := ix _ (by decide) _ (dlt d i H 1)) (h3 := ix _ (by decide) _ (dlt d i H 1))) $$ HM; iintro HM
  iapply (wp_assume 𝒱₀ (thr d i) none Set.univ (rck13 d i H v (nmax (k1_pay32 (F := F) (dvv d i arg7 fe t 2))) (nmax_bd (dvv d i arg7 fe t 2)).1 (nmax_bd (dvv d i arg7 fe t 2)).2.1))
  iapply (pure_intro d i)
  iapply Hk $$ HM

/-- Every level past the first, by the rounds if some group's destinations repeat. -/
theorem wp_slow (H : TripFacts d i val src dst E0 arg7 fe fb t) (v : BitVec 32) (hv : v = allm (k1_pay39 (k1_pay25 (F := F) (dvv d i arg7 fe t 0)) (k1_pay28 (F := F) (dvv d i arg7 fe t 1)) (k1_pay31 (F := F) (dvv d i arg7 fe t 2)) (k1_pay34 (F := F) (dvv d i arg7 fe t 3)) (k1_pay37 (F := F) (dvv d i arg7 fe t 4)))) {α : Type} {kk : BitVec 32 → Prog (TpuEff nD τ sig (Elt F) Λ₀ (.scVector ((i 0).castLE hcore1) ((i 1).castLE hsub1))) α} {Q : α → sProp 𝕄} :
    Mb d i val dst (lev E0 (cnts d i arg7 fe t) (fun _ _ => 1)) ⊢ iprop((∀ w, Mb d i val dst (fun _ => {e | e < E0 + 80}) -∗ wp frame (wpE (defs₀ (F := F)) 𝒱₀ (thr d i) none) Set.univ (kk w) Q)
      -∗ wp frame (wpE (defs₀ (F := F)) 𝒱₀ (thr d i) none) Set.univ ((if h1 : k1_cond1 v = 1#1 then (do
          let w ← pure 0#32
          kk w)
        else (do
          let ⟨v192, k1_hw13, c2_i32_96, v194⟩ : Σ' (v192 : BitVec 32) (k1_hw13 : k1_chk13 r0 r1 r2 r3 (dvv d i arg7 fe t 2) v v192) (c2_i32_96 : BitVec 32), BitVec 32 ← k1_part1 (F := F) i arg2 harg2 arg3 harg3 arg4 harg4 bV (Memref.isWhole_whole _) mV (Memref.isWhole_whole _) arg7 harg7 arg8 harg8 arg9 arg10 v14_r0 v14_r1 r0 r1 r2 r3 (dvv d i arg7 fe t 0) (dvv d i arg7 fe t 1) (dvv d i arg7 fe t 2) (k1_pay26 (F := F) (dvv d i arg7 fe t 0)) (k1_pay29 (F := F) (dvv d i arg7 fe t 1)) (k1_pay32 (F := F) (dvv d i arg7 fe t 2)) (gath d i H 0#32 (by decide) 0) (gath d i H 1#32 (by decide) 0) (gath d i H 2#32 (by decide) 0) (gath d i H 3#32 (by decide) 0) (gath d i H 0#32 (by decide) 1) (gath d i H 1#32 (by decide) 1) (gath d i H 2#32 (by decide) 1) (gath d i H 3#32 (by decide) 1) v h1
          Scf.Loop.for (k1_t8_loop v192) (k1_t8_ok r0 r1 r2 r3 (dvv d i arg7 fe t 2) v v192 k1_hw13 h1) ⟨⟩ (k1_t8_body i arg2 harg2 arg3 harg3 arg4 harg4 bV (Memref.isWhole_whole _) mV (Memref.isWhole_whole _) arg7 harg7 arg8 harg8 arg9 arg10 v14_r0 v14_r1 r0 r1 r2 r3 (dvv d i arg7 fe t 2) (k1_pay32 (F := F) (dvv d i arg7 fe t 2)) (gath d i H 0#32 (by decide) 2) (gath d i H 1#32 (by decide) 2) (gath d i H 2#32 (by decide) 2) (gath d i H 3#32 (by decide) 2) v h1 v192 k1_hw13 c2_i32_96)
          Scf.Loop.for (k1_t9_loop v192) (k1_t9_ok r0 r1 r2 r3 (dvv d i arg7 fe t 2) v v192 k1_hw13 h1) ⟨⟩ (k1_t9_body i arg2 harg2 arg3 harg3 arg4 harg4 bV (Memref.isWhole_whole _) mV (Memref.isWhole_whole _) arg7 harg7 arg8 harg8 arg9 arg10 v14_r0 v14_r1 r0 r1 r2 r3 (dvv d i arg7 fe t 2) (k1_pay32 (F := F) (dvv d i arg7 fe t 2)) (gath d i H 0#32 (by decide) 2) (gath d i H 1#32 (by decide) 2) (gath d i H 2#32 (by decide) 2) (gath d i H 3#32 (by decide) 2) v h1 v192 k1_hw13 c2_i32_96 v194)
          let v204 : BitVec 32 := extractAt ![15] (k1_pay134 (k1_pay35 (F := F) (dvv d i arg7 fe t 3))) inpos_S16_p15
          have k1_hw14 : k1_chk14 r0 r1 r2 r3 (dvv d i arg7 fe t 3) v v204 := (← Prog.lift (TpuEff.assume (k1_chk14 r0 r1 r2 r3 (dvv d i arg7 fe t 3) v v204) (k1_chk14.dec r0 r1 r2 r3 (dvv d i arg7 fe t 3) v v204))).down
          Scf.Loop.for (k1_t10_loop v204) (k1_t10_ok r0 r1 r2 r3 (dvv d i arg7 fe t 3) v v204 k1_hw14 h1) ⟨⟩ (k1_t10_body i arg2 harg2 arg3 harg3 arg4 harg4 bV (Memref.isWhole_whole _) mV (Memref.isWhole_whole _) arg7 harg7 arg8 harg8 arg9 arg10 v14_r0 v14_r1 r0 r1 r2 r3 (dvv d i arg7 fe t 3) (k1_pay35 (F := F) (dvv d i arg7 fe t 3)) (gath d i H 0#32 (by decide) 3) (gath d i H 1#32 (by decide) 3) (gath d i H 2#32 (by decide) 3) (gath d i H 3#32 (by decide) 3) v h1 v204 k1_hw14)
          Scf.Loop.for (k1_t11_loop v204) (k1_t11_ok r0 r1 r2 r3 (dvv d i arg7 fe t 3) v v204 k1_hw14 h1) ⟨⟩ (k1_t11_body i arg2 harg2 arg3 harg3 arg4 harg4 bV (Memref.isWhole_whole _) mV (Memref.isWhole_whole _) arg7 harg7 arg8 harg8 arg9 arg10 v14_r0 v14_r1 r0 r1 r2 r3 (dvv d i arg7 fe t 3) (k1_pay35 (F := F) (dvv d i arg7 fe t 3)) (gath d i H 0#32 (by decide) 3) (gath d i H 1#32 (by decide) 3) (gath d i H 2#32 (by decide) 3) (gath d i H 3#32 (by decide) 3) v h1 v204 k1_hw14)
          let v216 : BitVec 32 := extractAt ![15] (k1_pay145 (k1_pay38 (F := F) (dvv d i arg7 fe t 4))) inpos_S16_p15
          have k1_hw15 : k1_chk15 r0 r1 r2 r3 (dvv d i arg7 fe t 4) v v216 := (← Prog.lift (TpuEff.assume (k1_chk15 r0 r1 r2 r3 (dvv d i arg7 fe t 4) v v216) (k1_chk15.dec r0 r1 r2 r3 (dvv d i arg7 fe t 4) v v216))).down
          Scf.Loop.for (k1_t12_loop v216) (k1_t12_ok r0 r1 r2 r3 (dvv d i arg7 fe t 4) v v216 k1_hw15 h1) ⟨⟩ (k1_t12_body i arg2 harg2 arg3 harg3 arg4 harg4 bV (Memref.isWhole_whole _) mV (Memref.isWhole_whole _) arg7 harg7 arg8 harg8 arg9 arg10 v14_r0 v14_r1 r0 r1 r2 r3 (dvv d i arg7 fe t 4) (k1_pay38 (F := F) (dvv d i arg7 fe t 4)) (gath d i H 0#32 (by decide) 4) (gath d i H 1#32 (by decide) 4) (gath d i H 2#32 (by decide) 4) (gath d i H 3#32 (by decide) 4) v h1 v216 k1_hw15)
          Scf.Loop.for (k1_t13_loop v216) (k1_t13_ok r0 r1 r2 r3 (dvv d i arg7 fe t 4) v v216 k1_hw15 h1) ⟨⟩ (k1_t13_body i arg2 harg2 arg3 harg3 arg4 harg4 bV (Memref.isWhole_whole _) mV (Memref.isWhole_whole _) arg7 harg7 arg8 harg8 arg9 arg10 v14_r0 v14_r1 r0 r1 r2 r3 (dvv d i arg7 fe t 4) (k1_pay38 (F := F) (dvv d i arg7 fe t 4)) (gath d i H 0#32 (by decide) 4) (gath d i H 1#32 (by decide) 4) (gath d i H 2#32 (by decide) 4) (gath d i H 3#32 (by decide) 4) v h1 v216 k1_hw15)
          let w ← pure 0#32
          kk w) : Prog (TpuEff nD τ sig (Elt F) Λ₀ (.scVector ((i 0).castLE hcore1) ((i 1).castLE hsub1))) α)) Q) := by
  by_cases h1 : k1_cond1 v = 1#1
  · have hall := all_of_allm (k1_pay39 (k1_pay25 (F := F) (dvv d i arg7 fe t 0)) (k1_pay28 (F := F) (dvv d i arg7 fe t 1)) (k1_pay31 (F := F) (dvv d i arg7 fe t 2)) (k1_pay34 (F := F) (dvv d i arg7 fe t 3)) (k1_pay37 (F := F) (dvv d i arg7 fe t 4))) (hv.symm.trans (cond1_eq _ h1))
    have hm : ∀ x, ((((((k1_pay25 (F := F) (dvv d i arg7 fe t 0)) x = 1 ∧ (k1_pay28 (F := F) (dvv d i arg7 fe t 1)) x = 1) ∧ (k1_pay31 (F := F) (dvv d i arg7 fe t 2)) x = 1) ∧ (k1_pay34 (F := F) (dvv d i arg7 fe t 3)) x = 1)) ∧ (k1_pay37 (F := F) (dvv d i arg7 fe t 4)) x = 1) := by
      intro x
      obtain ⟨h, h4⟩ := andi_eq_one _ _ x (hall x)
      obtain ⟨h, h3⟩ := andi_eq_one _ _ x h
      obtain ⟨h, h2⟩ := andi_eq_one _ _ x h
      obtain ⟨h0, h1⟩ := andi_eq_one _ _ x h
      exact ⟨⟨⟨⟨h0, h1⟩, h2⟩, h3⟩, h4⟩
    have hc : ∀ (k : Fin 4) (g : Fin 5) x, cnts d i arg7 fe t g x ≤ 1 := by
      intro k g x
      fin_cases g
      · exact (cnt_clean (dvv d i arg7 fe t 0) (fun y => (hm y).1.1.1.1) x).le
      · exact (cnt_clean (dvv d i arg7 fe t 1) (fun y => (hm y).1.1.1.2) x).le
      · exact (cnt_clean (dvv d i arg7 fe t 2) (fun y => (hm y).1.1.2) x).le
      · exact (cnt_clean (dvv d i arg7 fe t 3) (fun y => (hm y).1.2) x).le
      · exact (cnt_clean (dvv d i arg7 fe t 4) (fun y => (hm y).2) x).le
    rw [dif_pos h1, lev_all _ _ _ hc]
    iintro HM Hk
    iapply Hk $$ HM
  · rw [dif_neg h1]
    iintro HM Hk
    iapply (wp_part1 d i H v h1) $$ HM; iintro HM
    iapply (wp_rounds (cnt := cnts d i arg7 fe t) d i 2 (grp d i H 2) (by rfl) (nmax (k1_pay32 (F := F) (dvv d i arg7 fe t 2))) (nmax_bd (dvv d i arg7 fe t 2)).1 (nmax_bd (dvv d i arg7 fe t 2)).2.1 (by intro k; rfl) (k1_pay32 (F := F) (dvv d i arg7 fe t 2)) (fun _ => rfl)
      (h0 := ix _ (by decide) _ (dlt d i H 2)) (h1 := ix _ (by decide) _ (dlt d i H 2)) (h2 := ix _ (by decide) _ (dlt d i H 2)) (h3 := ix _ (by decide) _ (dlt d i H 2))) $$ HM; iintro HM
    iapply (wp_assume 𝒱₀ (thr d i) none Set.univ (rck14 d i H _ (nmax (k1_pay35 (F := F) (dvv d i arg7 fe t 3))) (nmax_bd (dvv d i arg7 fe t 3)).1 (nmax_bd (dvv d i arg7 fe t 3)).2.1))
    iapply (wp_rounds (cnt := cnts d i arg7 fe t) d i 3 (grp d i H 3) (by rfl) (nmax (k1_pay35 (F := F) (dvv d i arg7 fe t 3))) (nmax_bd (dvv d i arg7 fe t 3)).1 (nmax_bd (dvv d i arg7 fe t 3)).2.1 (by intro k; rfl) (k1_pay35 (F := F) (dvv d i arg7 fe t 3)) (fun _ => rfl)
      (h0 := ix _ (by decide) _ (dlt d i H 3)) (h1 := ix _ (by decide) _ (dlt d i H 3)) (h2 := ix _ (by decide) _ (dlt d i H 3)) (h3 := ix _ (by decide) _ (dlt d i H 3))) $$ HM; iintro HM
    iapply (wp_assume 𝒱₀ (thr d i) none Set.univ (rck15 d i H _ (nmax (k1_pay38 (F := F) (dvv d i arg7 fe t 4))) (nmax_bd (dvv d i arg7 fe t 4)).1 (nmax_bd (dvv d i arg7 fe t 4)).2.1))
    iapply (wp_rounds (cnt := cnts d i arg7 fe t) d i 4 (grp d i H 4) (by rfl) (nmax (k1_pay38 (F := F) (dvv d i arg7 fe t 4))) (nmax_bd (dvv d i arg7 fe t 4)).1 (nmax_bd (dvv d i arg7 fe t 4)).2.1 (by intro k; rfl) (k1_pay38 (F := F) (dvv d i arg7 fe t 4)) (fun _ => rfl)
      (h0 := ix _ (by decide) _ (dlt d i H 4)) (h1 := ix _ (by decide) _ (dlt d i H 4)) (h2 := ix _ (by decide) _ (dlt d i H 4)) (h3 := ix _ (by decide) _ (dlt d i H 4))) $$ HM; iintro HM
    rw [lev_all _ _ (setg (setg (setg (setg (setg (fun _ _ => 1) 0 (nmax (k1_pay26 (F := F) (dvv d i arg7 fe t 0))).toNat) 1 (nmax (k1_pay29 (F := F) (dvv d i arg7 fe t 1))).toNat) 2 (nmax (k1_pay32 (F := F) (dvv d i arg7 fe t 2))).toNat) 3 (nmax (k1_pay35 (F := F) (dvv d i arg7 fe t 3))).toNat) 4 (nmax (k1_pay38 (F := F) (dvv d i arg7 fe t 4))).toNat) ?hc]
    case hc =>
      intro k g x
      fin_cases g
      · exact (nmax_bd (dvv d i arg7 fe t 0)).2.2 x
      · exact (nmax_bd (dvv d i arg7 fe t 1)).2.2 x
      · exact (nmax_bd (dvv d i arg7 fe t 2)).2.2 x
      · exact (nmax_bd (dvv d i arg7 fe t 3)).2.2 x
      · exact (nmax_bd (dvv d i arg7 fe t 4)).2.2 x
    iapply Hk $$ HM

/-- THE TRIP. -/
theorem wp_trip (H : TripFacts d i val src dst E0 arg7 fe fb t) :
    iprop((arg7.view.loc (thr d i) ↦{fullShare} fe : sProp 𝕄) ∗ ((thr d i).loc cc1_scratch0 ↦{fullShare} fb : sProp 𝕄) ∗ Mb d i val dst (fun _ => {e | e < E0}))
      ⊢ wp frame (wpE (defs₀ (F := F)) 𝒱₀ (thr d i) none) Set.univ (k1_t3_body (F := F) i arg2 harg2 arg3 harg3 arg4 harg4 bV (Memref.isWhole_whole _) mV (Memref.isWhole_whole _) arg7 harg7 arg8 harg8 arg9 arg10 v14_r0 v14_r1 r0 r1 r2 r3 t ⟨⟩) (fun _ => iprop((arg7.view.loc (thr d i) ↦{fullShare} fe : sProp 𝕄) ∗ ((thr d i).loc cc1_scratch0 ↦{fullShare} fb : sProp 𝕄) ∗ Mb d i val dst (fun _ => {e | e < E0 + 80}))) := by
  unfold k1_t3_body
  iintro ⟨HE, HB, HM⟩
  rw [← lev_zero E0 (cnts d i arg7 fe t) (fun g x => cnt_pos _ x)]
  iapply (wp_part2 d i H) $$ HE; iintro HE
  iapply (wp_part3 d i H) $$ [HE HB]
  · isplitl [HE] <;> iassumption
  iintro HE HB
  iapply (wp_part4 d i H) $$ [HB HM]
  · isplitl [HB] <;> iassumption
  iintro HB %f %hf HM
  iapply (wp_storeM d i (cnt := cnts d i arg7 fe t) 1 3 (by rfl) (grp d i H 3) (by rfl) 1 (first_iff (dvv d i arg7 fe t 3)) (by rfl) hf (fun _ => rfl)) $$ HM; iintro HM
  iapply (wp_fast d i 2 3 (by rfl) (grp d i H 3) (by rfl) 1 (first_iff (dvv d i arg7 fe t 3)) (by rfl) (fun _ => rfl)) $$ HM; iintro HM
  iapply (wp_fast d i 3 3 (by rfl) (grp d i H 3) (by rfl) 1 (first_iff (dvv d i arg7 fe t 3)) (by rfl) (fun _ => rfl)) $$ HM; iintro HM
  iapply (wp_fast d i 0 4 (by rfl) (grp d i H 4) (by rfl) 1 (first_iff (dvv d i arg7 fe t 4)) (by rfl) (fun _ => rfl)) $$ HM; iintro HM
  iapply (wp_fast d i 1 4 (by rfl) (grp d i H 4) (by rfl) 1 (first_iff (dvv d i arg7 fe t 4)) (by rfl) (fun _ => rfl)) $$ HM; iintro HM
  iapply (wp_fast d i 2 4 (by rfl) (grp d i H 4) (by rfl) 1 (first_iff (dvv d i arg7 fe t 4)) (by rfl) (fun _ => rfl)) $$ HM; iintro HM
  iapply (wp_fast d i 3 4 (by rfl) (grp d i H 4) (by rfl) 1 (first_iff (dvv d i arg7 fe t 4)) (by rfl) (fun _ => rfl)) $$ HM; iintro HM
  rw [show (upd (upd (upd (upd (upd (upd (upd c13 1 3 1) 2 3 1) 3 3 1) 0 4 1) 1 4 1) 2 4 1) 3 4 1) = fun _ _ => 1 by funext k g; fin_cases k <;> fin_cases g <;> rfl]
  iapply (wp_slow d i H _ (by rfl)) $$ HM
  iintro %w HM
  iapply (pure_intro d i)
  isplitl [HE]; · iexact HE
  isplitl [HB]; · iexact HB
  iexact HM

end Trip

end Cert.Proof.Seg

end
-- ==== Proof.Twin.lean ====
module

public import proofs.«01_k».proof.Proof.Base

@[expose] public section

noncomputable section

namespace Cert.Proof.Seg

open Cert.KernelIdeal Cert.KernelIdeal.Gen
open Idealize.ShloMosaic
variable {F : FTy → Type} [FloatOps F]

set_option maxRecDepth 65536 in
theorem part6_eq (i : grid1.Coords) (arg2 : Memref sig .scVector .hbm S128x10000 .f32) (harg2 : arg2.IsWhole) (arg3 : Memref sig .scVector .hbm S2x320000 .i32) (harg3 : arg3.IsWhole) (arg4 : Memref sig .scVector .hbm S128x10000 .f32) (harg4 : arg4.IsWhole) (arg5 : Memref sig .scVector .vmem S4x10000 .f32) (harg5 : arg5.IsWhole) (arg6 : Memref sig .scVector .vmem S4x10000 .f32) (harg6 : arg6.IsWhole) (arg7 : Memref sig .scVector .vmem S2x6400 .i32) (harg7 : arg7.IsWhole) (arg8 : Memref sig .scVector .vmem S2x6400 .i32) (harg8 : arg8.IsWhole) (arg9 : DmaSems sig S_) (arg10 : DmaSems sig S_) (v14_r0 : DmaSems sig S_) (v14_r1 : DmaSems sig S_) (v5 : IVec S16 32) (v6 : IVec S16 32) (v7 : IVec S16 32) (v8 : IVec S16 32) (a b : BitVec 32) (t : Fin k1_t14_loop.trips) :
   k1_part6 (F := F) i arg2 harg2 arg3 harg3 arg4 harg4 arg5 harg5 arg6 harg6 arg7 harg7 arg8 harg8 arg9 arg10 v14_r0 v14_r1 v5 v6 v7 v8 a b t = k1_part2 (F := F) i arg2 harg2 arg3 harg3 arg4 harg4 arg5 harg5 arg6 harg6 arg8 harg8 arg8 harg8 arg9 arg10 v14_r0 v14_r1 v5 v6 v7 v8 a b t := rfl

set_option maxRecDepth 65536 in
theorem t14_eq (i : grid1.Coords) (arg2 : Memref sig .scVector .hbm S128x10000 .f32) (harg2 : arg2.IsWhole) (arg3 : Memref sig .scVector .hbm S2x320000 .i32) (harg3 : arg3.IsWhole) (arg4 : Memref sig .scVector .hbm S128x10000 .f32) (harg4 : arg4.IsWhole) (arg5 : Memref sig .scVector .vmem S4x10000 .f32) (harg5 : arg5.IsWhole) (arg6 : Memref sig .scVector .vmem S4x10000 .f32) (harg6 : arg6.IsWhole) (arg7 : Memref sig .scVector .vmem S2x6400 .i32) (harg7 : arg7.IsWhole) (arg8 : Memref sig .scVector .vmem S2x6400 .i32) (harg8 : arg8.IsWhole) (arg9 : DmaSems sig S_) (arg10 : DmaSems sig S_) (v14_r0 : DmaSems sig S_) (v14_r1 : DmaSems sig S_) (v5 : IVec S16 32) (v6 : IVec S16 32) (v7 : IVec S16 32) (v8 : IVec S16 32) :
   k1_t14_body (F := F) i arg2 harg2 arg3 harg3 arg4 harg4 arg5 harg5 arg6 harg6 arg7 harg7 arg8 harg8 arg9 arg10 v14_r0 v14_r1 v5 v6 v7 v8 = k1_t3_body i arg2 harg2 arg3 harg3 arg4 harg4 arg5 harg5 arg6 harg6 arg8 harg8 arg8 harg8 arg9 arg10 v14_r0 v14_r1 v5 v6 v7 v8 := rfl

end Cert.Proof.Seg
-- ==== Proof.Chunk.lean ====
/-
  A CHUNK of 6400 edges: what the chunk's buffer holds, and the eighty trips over it.
-/
module

public import proofs.«01_k».proof.Proof.Slow
public import proofs.«01_k».proof.Proof.Twin
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

/-- Chunk `c`, as its buffer holds it: the sources in row 0, the destinations in row 1. -/
structure ChunkOK (src dst : ℕ → ℕ) (c : ℕ) (v : S2x6400.Idx → BitVec 32) : Prop where
  hS : ∀ j : S2x6400.Idx, (j (0 : Fin 2)).val = 0 → (v j).toNat = src (6400 * c + (j (1 : Fin 2)).val)
  hD : ∀ j : S2x6400.Idx, (j (0 : Fin 2)).val = 1 → (v j).toNat = dst (6400 * c + (j (1 : Fin 2)).val)

section Chunk

variable (d : Dev nD) (i : grid1.Coords)
  {arg2 : Memref sig .scVector .hbm S128x10000 .f32} {harg2 : arg2.IsWhole} {arg3 : Memref sig .scVector .hbm S2x320000 .i32} {harg3 : arg3.IsWhole}
  {arg4 : Memref sig .scVector .hbm S128x10000 .f32} {harg4 : arg4.IsWhole}
  {arg7 : Memref sig .scVector .vmem S2x6400 .i32} {harg7 : arg7.IsWhole} {arg8 : Memref sig .scVector .vmem S2x6400 .i32} {harg8 : arg8.IsWhole}
  {arg9 arg10 v14_r0 v14_r1 : DmaSems sig S_}
  {val : Fin 4 → ℕ → F .f32} {src dst : ℕ → ℕ} {fe : Buf (Elt F) (arg7.view.loc (thr d i))} {fb : Vec F S4x10000 .f32}

omit [FloatOps F] in
theorem ldv_apply (off : Fin 2 → ℕ) (h : ∀ a, off a + S1x16.size a ≤ S2x6400.size a) (x : S16.Idx) :
    ∃ j : S2x6400.Idx, ldv d i arg7 fe off h x = arg7.view.read (Elt F) fe j ∧ (j (0 : Fin 2)).val = off 0 ∧ (j (1 : Fin 2)).val = off 1 + lane x := by
  have hy := Shape.rowMajor_reshapeEquiv (s := S1x16) (s' := S16) shapeCasts_S1x16_S16 x
  generalize hyy : Shape.reshapeEquiv (s := S1x16) (s' := S16) shapeCasts_S1x16_S16 x = y at hy
  refine ⟨(Rect.unit (s := S2x6400) off S1x16.size h).toLoadRect.idx y, ?_, ?_, ?_⟩
  · unfold ldv shapeCast
    rw [hyy]; rfl
  all_goals
    rw [show (S1x16.rowMajor y).val = _ from Shape.rowMajor_val_two y, show (S16.rowMajor x).val = _ from Shape.rowMajor_val_one x] at hy
    have h0 : (y (0 : Fin 2)).val < 1 := (y (0 : Fin 2)).isLt
  · show off 0 + 1 * (y (0 : Fin 2)).val = _
    omega
  · show off 1 + 1 * (y (1 : Fin 2)).val = _
    have e : ![1, 16] (1 : Fin 2) = 16 := rfl
    have : (y (1 : Fin 2)).val = lane x := by
      have h0' : (y (0 : Fin 2)).val = 0 := by omega
      rw [h0', Nat.zero_mul, Nat.zero_add] at hy
      exact hy
    omega

omit [FloatOps F] in
theorem chunk_facts {c : ℕ} (hc : ChunkOK src dst c (arg7.view.read (Elt F) fe)) (hdst : ∀ e, dst e < 10000) (hsrc : ∀ e, src e < 10000)
    (hval : ∀ (k : Fin 4) e (j : S4x10000.Idx), (j (0 : Fin 2)).val = k.val → (j (1 : Fin 2)).val = src e → fb j = val k e) (t : Fin k1_t3_loop.trips) :
    TripFacts d i val src dst (6400 * c + 80 * t.val) arg7 fe fb t where
  hD g x := by
    obtain ⟨j, e, h0, h1⟩ := ldv_apply d i (arg7 := arg7) (fe := fe) _ (k1_off7_inb t g) x
    refine (congrArg BitVec.toNat e).trans ?_
    rw [hc.hD j (by rw [h0, k1_off7_eq]; rfl), h1, k1_off7_eq]
    congr 1
    show _ + ((80 * t.val + 16 * g.val) + _) = _
    omega
  hS g x := by
    obtain ⟨j, e, h0, h1⟩ := ldv_apply d i (arg7 := arg7) (fe := fe) _ (k1_off8_inb t g) x
    refine (congrArg BitVec.toNat e).trans ?_
    rw [hc.hS j (by rw [h0, k1_off8_eq]; rfl), h1, k1_off8_eq]
    congr 1
    show _ + ((80 * t.val + 16 * g.val) + _) = _
    omega
  hdst := hdst
  hsrc := hsrc
  hval := hval

/-- THE EIGHTY TRIPS. -/
theorem wp_chunk {c : ℕ} (hc : ChunkOK src dst c (arg7.view.read (Elt F) fe)) (hdst : ∀ e, dst e < 10000) (hsrc : ∀ e, src e < 10000)
    (hval : ∀ (k : Fin 4) e (j : S4x10000.Idx), (j (0 : Fin 2)).val = k.val → (j (1 : Fin 2)).val = src e → fb j = val k e)
    {hok : k1_t3_loop.OK} {α : Type} {kk : Unit → Prog (TpuEff nD τ sig (Elt F) Λ₀ (.scVector ((i 0).castLE hcore1) ((i 1).castLE hsub1))) α} {Q : α → sProp 𝕄} :
    iprop((arg7.view.loc (thr d i) ↦{fullShare} fe : sProp 𝕄) ∗ ((thr d i).loc cc1_scratch0 ↦{fullShare} fb : sProp 𝕄) ∗ Mb d i val dst (fun _ => {e | e < 6400 * c}))
      ⊢ iprop((iprop((arg7.view.loc (thr d i) ↦{fullShare} fe : sProp 𝕄) ∗ ((thr d i).loc cc1_scratch0 ↦{fullShare} fb : sProp 𝕄) ∗ Mb d i val dst (fun _ => {e | e < 6400 * (c + 1)}))
          -∗ wp frame (wpE (defs₀ (F := F)) 𝒱₀ (thr d i) none) Set.univ (kk ⟨⟩) Q)
        -∗ wp frame (wpE (defs₀ (F := F)) 𝒱₀ (thr d i) none) Set.univ
          (Scf.Loop.for k1_t3_loop hok ⟨⟩ (k1_t3_body (F := F) i arg2 harg2 arg3 harg3 arg4 harg4 bV (Memref.isWhole_whole _) mV (Memref.isWhole_whole _) arg7 harg7 arg8 harg8 arg9 arg10 v14_r0 v14_r1 r0 r1 r2 r3) >>= kk) Q) := by
  iintro H Hk
  iapply (Scf.wp_for_bind frame (wpE (defs₀ (F := F)) 𝒱₀ (thr d i) none) Set.univ k1_t3_loop.lb k1_t3_loop.ub k1_t3_loop.st hok ⟨⟩ _
    (fun t _ => iprop((arg7.view.loc (thr d i) ↦{fullShare} fe : sProp 𝕄) ∗ ((thr d i).loc cc1_scratch0 ↦{fullShare} fb : sProp 𝕄)
      ∗ Mb d i val dst (fun _ => {e | e < 6400 * c + 80 * t}))) ?hb) $$ H
  case hb =>
    intro t _
    have h := wp_trip (arg2 := arg2) (harg2 := harg2) (arg3 := arg3) (harg3 := harg3) (arg4 := arg4) (harg4 := harg4) (harg7 := harg7) (arg8 := arg8) (harg8 := harg8)
      (arg9 := arg9) (arg10 := arg10) (v14_r0 := v14_r0) (v14_r1 := v14_r1) d i (chunk_facts d i hc hdst hsrc hval t)
    rw [show 6400 * c + 80 * t.val + 80 = 6400 * c + 80 * (t.val + 1) by omega] at h
    exact h
  iintro %_
  rw [show 6400 * c + 80 * Scf.trips k1_t3_loop.lb k1_t3_loop.ub k1_t3_loop.st = 6400 * (c + 1) by
    rw [show Scf.trips k1_t3_loop.lb k1_t3_loop.ub k1_t3_loop.st = 80 by decide +kernel]; omega]
  iexact Hk

end Chunk

end Cert.Proof.Seg

end
-- ==== Proof.Fetch.lean ====
/-
  The FETCH of a chunk into one of the two buffers, and the wait for it.
-/
module

public import proofs.«01_k».proof.Proof.Chunk
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

/-! ## The fetch of a chunk -/

section Slot

variable (d : Dev nD) (i : grid1.Coords) (src dst : ℕ → ℕ) (fE : Buf (Elt F) ((eV).view.loc (thr d i)))

/-- A chunk's buffer between its uses: chunk `c` on its way into it, or, past the last chunk, idle. -/
def Slot (bm : Memref sig .scVector .vmem S2x6400 .i32) (sm : DmaSem sig) (q : PosShare TreeShare) (c : ℕ) : sProp 𝕄 :=
  if c < 50 then
    iprop(∃ I : Finset (Idx ((eV).view.loc (thr d i))),
      Transfers.Flight countersEmb (thr d i) (.dma sm) (default : HIx 1) bm.view.dmaCredit
        iprop((∃ f, ⌜ChunkOK src dst c (bm.view.read (Elt F) f)⌝ ∗ bm.view.loc (thr d i) ↦{fullShare} f) ∗ ((eV).view.loc (thr d i) ↦[I]{q} fE))
      ∗ ((eV).view.loc (thr d i) ↦[Finset.univ \ I]{q} fE))
  else iprop((∃ f, bm.view.loc (thr d i) ↦{fullShare} f) ∗ ((eV).view.loc (thr d i) ↦{q} fE) ∗ semVal (thr d i, SemLoc.dma sm) 0)

variable {src dst fE} {bm : Memref sig .scVector .vmem S2x6400 .i32} {sm : DmaSem sig} {q : PosShare TreeShare}

omit [FloatOps F] in
/-- What a fetch at `off` brings. -/
theorem fetch_ok (hS : ∀ j : S2x320000.Idx, (j (0 : Fin 2)).val = 0 → (fE j).toNat = src (j (1 : Fin 2)).val)
    (hD : ∀ j : S2x320000.Idx, (j (0 : Fin 2)).val = 1 → (fE j).toNat = dst (j (1 : Fin 2)).val) {c : ℕ} {off : Fin 2 → ℕ}
    (hoff : off = ![0, 6400 * c]) (h : ∀ a, off a + S2x6400.size a ≤ S2x320000.size a) :
    ChunkOK src dst c (((eV).slice (Rect.unit (s := S2x320000) off S2x6400.size h) (fun _ => rfl)).view.read (Elt F) fE) := by
  subst hoff
  constructor
  · intro j hj
    refine (hS ((Rect.unit (s := S2x320000) _ S2x6400.size h).emb j) ?_).trans ?_
    · show 0 + 1 * (j (0 : Fin 2)).val = 0
      omega
    · congr 1
      show 6400 * c + 1 * (j (1 : Fin 2)).val = _
      omega
  · intro j hj
    refine (hD ((Rect.unit (s := S2x320000) _ S2x6400.size h).emb j) ?_).trans ?_
    · show 0 + 1 * (j (0 : Fin 2)).val = 1
      omega
    · congr 1
      show 6400 * c + 1 * (j (1 : Fin 2)).val = _
      omega

set_option maxHeartbeats 4000000 in
theorem wp_fetch (hS : ∀ j : S2x320000.Idx, (j (0 : Fin 2)).val = 0 → (fE j).toNat = src (j (1 : Fin 2)).val)
    (hD : ∀ j : S2x320000.Idx, (j (0 : Fin 2)).val = 1 → (fE j).toNat = dst (j (1 : Fin 2)).val) (hpos : 0 < bm.view.dmaCredit) {c : ℕ} (hc : c < 50)
    {off : Fin 2 → ℕ} (hoff : off = ![0, 6400 * c]) {h : ∀ a, off a + S2x6400.size a ≤ S2x320000.size a} {hw1} {hw2} {hty}
    {α : Type} {kk : PUnit → Prog (TpuEff nD τ sig (Elt F) Λ₀ (.scVector ((i 0).castLE hcore1) ((i 1).castLE hsub1))) α} {Q : α → sProp 𝕄} :
    iprop((∃ f, bm.view.loc (thr d i) ↦{fullShare} f) ∗ ((eV).view.loc (thr d i) ↦{q} fE) ∗ semVal (thr d i, SemLoc.dma sm) 0)
      ⊢ iprop((Slot d i src dst fE bm sm q c -∗ wp frame (wpE (defs₀ (F := F)) 𝒱₀ (thr d i) none) Set.univ (kk ⟨⟩) Q)
        -∗ wp frame (wpE (defs₀ (F := F)) 𝒱₀ (thr d i) none) Set.univ
          (Prog.lift (.enqueueDma ((eV).slice (Rect.unit (s := S2x320000) off S2x6400.size h) (fun _ => rfl)) (.here bm) (.dma sm) hw1 hw2 hty) >>= kk) Q) := by
  iintro ⟨⟨%f, Hb⟩, HE, Hs⟩ Hk
  ihave HE := (pointsTo_split_subset (q := q) (f := fE) (S := Finset.univ)
    (Finset.subset_univ ((eV).slice (Rect.unit (s := S2x320000) off S2x6400.size h) (fun _ => rfl)).view.set)).1 $$ HE
  icases HE with ⟨HE, HEr⟩
  iapply (Transfers.wp_dmaLocal countersEmb 𝒱₀ (thr d i) none
    (src := (eV).slice (Rect.unit (s := S2x320000) off S2x6400.size h) (fun _ => rfl)) (dst := bm) (via := .same) (sm := .dma sm) (q := q) (fs := fE) (Sd := Finset.univ) (fd := f) (default : HIx 1)
    bm.view.dmaCredit rfl hpos (Finset.subset_univ _)) $$ [HE Hb Hs]
  · isplitl [HE]; · iexact HE
    isplitl [Hb] <;> iassumption
  iintro HF
  iapply Hk
  unfold Slot
  rw [if_pos hc]
  iexists ((eV).slice (Rect.unit (s := S2x320000) off S2x6400.size h) (fun _ => rfl)).view.set
  isplitl [HF]
  · iapply (Transfers.Flight_mono countersEmb (thr d i) ?hm)
    rotate_left
    · iexact HF
    case hm =>
      iintro ⟨Hb, HE⟩
      isplitl [Hb]
      · iexists _
        isplitr
        swap; · iexact Hb
        ipureintro
        rw [View.read_write_univ]
        exact fetch_ok d i hS hD hoff h
      · iexact HE
  · iexact HEr

theorem wp_await {c : ℕ} (hc : c < 50) {O : CellTallies nD τ sig (HIx 1)} {W : Waits sig (HIx 1)}
    {srcw : Memref sig .scVector .hbm S2x6400 .i32} {hw1} {hw2}
    {α : Type} {kk : PUnit → Prog (TpuEff nD τ sig (Elt F) Λ₀ (.scVector ((i 0).castLE hcore1) ((i 1).castLE hsub1))) α} {Q : α → sProp 𝕄} :
    iprop(Transfers.MayWaits (thr d i) (default : HIx 1) O ∗ Slot d i src dst fE bm sm q c ∗ owes (thr d i) O W)
      ⊢ iprop((iprop((∃ f, ⌜ChunkOK src dst c (bm.view.read (Elt F) f)⌝ ∗ bm.view.loc (thr d i) ↦{fullShare} f) ∗ ((eV).view.loc (thr d i) ↦{q} fE)
            ∗ semVal (thr d i, SemLoc.dma sm) 0 ∗ owes (thr d i) O (insert (SemLoc.dma sm, (default : HIx 1)) W))
            -∗ wp frame (wpE (defs₀ (F := F)) 𝒱₀ (thr d i) none) Set.univ (kk ⟨⟩) Q)
        -∗ wp frame (wpE (defs₀ (F := F)) 𝒱₀ (thr d i) none) Set.univ (Prog.lift (.waitDma2 sm srcw bm hw1 hw2) >>= kk) Q) := by
  unfold Slot
  rw [if_pos hc]
  iintro ⟨Hmw, ⟨%I, HF, HEr⟩, HO⟩ Hk
  iapply (Transfers.wp_waitLocalO countersEmb 𝒱₀ (thr d i) none (default : HIx 1) (rfl : bm.view.dmaCredit = _)) $$ [HF HO Hmw]
  · isplitl [HF]; · iexact HF
    isplitl [HO]; · iexact HO
    iapply (Transfers.MayWaits.elim (SemLoc.dma sm)) $$ Hmw
  iintro ⟨⟨Hb, HE⟩, Hs, HO⟩
  iapply Hk
  isplitl [Hb]; · iexact Hb
  isplitl [HE HEr]
  · iapply (pointsTo_split_subset (q := q) (f := fE) (S := Finset.univ) (Finset.subset_univ I)).2
    isplitl [HE] <;> iassumption
  isplitl [Hs] <;> iassumption

end Slot

end Cert.Proof.Seg

end
-- ==== Proof.Init.lean ====
/-
  THE FIRST LOOP, which fills the table with the smallest value.
-/
module

public import proofs.«01_k».proof.Proof.Trip
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

/-! ## The first loop -/

section Init

variable (d : Dev nD) (i : grid1.Coords)

/-- Sixteen words of the table at once. -/
theorem fill_apply {off : Fin 2 → ℕ} (h : ∀ a, off a + S1x16.size a ≤ S4x10000.size a) (f : Vec F S4x10000 .f32) {w : S1x16.Idx → F .f32} (hw : ∀ y, w y = ninf)
    (j : S4x10000.Idx) :
    (((mV).access (Rect.unit (s := S4x10000) off S1x16.size h)).write (Elt F) f w Finset.univ j = ninf)
      ∨ ((((mV).access (Rect.unit (s := S4x10000) off S1x16.size h)).write (Elt F) f w Finset.univ j = f j)
        ∧ ¬((j (0 : Fin 2)).val = off 0 ∧ off 1 ≤ (j (1 : Fin 2)).val ∧ (j (1 : Fin 2)).val < off 1 + 16)) := by
  by_cases hj : j ∈ (Rect.unit (s := S4x10000) off S1x16.size h).set
  · obtain ⟨y, rfl⟩ := (Rect.unit (s := S4x10000) off S1x16.size h).exists_idx_of_mem hj
    left
    exact ((mV).view.read_writes_cons_emb f (Rect.unit (s := S4x10000) off S1x16.size h) w [] y).trans (hw y)
  · right
    refine ⟨(mV).view.read_writes_cons_miss f ⟨Rect.unit (s := S4x10000) off S1x16.size h, w⟩ [] j hj, ?_⟩
    rintro ⟨h0, h1, h2⟩
    apply hj
    rw [LoadRect.mem_set]
    intro a
    match a with
    | 0 => exact ⟨0, Nat.one_pos, by show (j (0 : Fin 2)).val = off 0 + 1 * 0; omega⟩
    | 1 => exact ⟨(j (1 : Fin 2)).val - off 1, by show _ < 16; omega, by show (j (1 : Fin 2)).val = off 1 + 1 * ((j (1 : Fin 2)).val - off 1); omega⟩

theorem init_trip (t : Fin k1_t1_loop.trips) (f : Vec F S4x10000 .f32) (hf : ∀ j : S4x10000.Idx, (j (1 : Fin 2)).val < 16 * t.val → f j = ninf)
    {w : S1x16.Idx → F .f32} (hw : ∀ y, w y = ninf) (j : S4x10000.Idx) (hj : (j (1 : Fin 2)).val < 16 * (t.val + 1)) :
    ((mV).access (Rect.unit (s := S4x10000) (k1_off5 t) S1x16.size (k1_off5_inb t))).write (Elt F)
      (((mV).access (Rect.unit (s := S4x10000) (k1_off4 t) S1x16.size (k1_off4_inb t))).write (Elt F)
        (((mV).access (Rect.unit (s := S4x10000) (k1_off3 t) S1x16.size (k1_off3_inb t))).write (Elt F)
          (((mV).access (Rect.unit (s := S4x10000) (k1_off2 t) S1x16.size (k1_off2_inb t))).write (Elt F) f w Finset.univ) w Finset.univ) w Finset.univ) w Finset.univ j = ninf := by
  rcases fill_apply (F := F) (k1_off5_inb t) _ hw j with h | ⟨h, n5⟩ <;> rw [h]
  rcases fill_apply (F := F) (k1_off4_inb t) _ hw j with h | ⟨h, n4⟩ <;> rw [h]
  rcases fill_apply (F := F) (k1_off3_inb t) _ hw j with h | ⟨h, n3⟩ <;> rw [h]
  rcases fill_apply (F := F) (k1_off2_inb t) f hw j with h | ⟨h, n2⟩ <;> rw [h]
  apply hf
  by_contra hn
  have h0 : (j (0 : Fin 2)).val < 4 := (j (0 : Fin 2)).isLt
  rw [k1_off5_eq] at n5; rw [k1_off4_eq] at n4; rw [k1_off3_eq] at n3; rw [k1_off2_eq] at n2
  have e0 : ∀ a b : ℕ, (![a, b] : Fin 2 → ℕ) 0 = a := fun _ _ => rfl
  have e1 : ∀ a b : ℕ, (![a, b] : Fin 2 → ℕ) 1 = b := fun _ _ => rfl
  rw [e0, e1] at n5 n4 n3 n2
  omega

variable {arg2 : Memref sig .scVector .hbm S128x10000 .f32} {harg2 : arg2.IsWhole} {arg3 : Memref sig .scVector .hbm S2x320000 .i32} {harg3 : arg3.IsWhole}
  {arg4 : Memref sig .scVector .hbm S128x10000 .f32} {harg4 : arg4.IsWhole}
  {arg7 : Memref sig .scVector .vmem S2x6400 .i32} {harg7 : arg7.IsWhole} {arg8 : Memref sig .scVector .vmem S2x6400 .i32} {harg8 : arg8.IsWhole}
  {arg9 arg10 v14_r0 v14_r1 : DmaSems sig S_} {val : Fin 4 → ℕ → F .f32} {dst : ℕ → ℕ}

set_option maxHeartbeats 4000000 in
/-- THE FIRST LOOP: the table at the smallest value, no edge done. -/
theorem wp_init {f : Buf (Elt F) ((thr d i).loc cc1_scratch1)} {hok : k1_t1_loop.OK}
    {α : Type} {kk : Unit → Prog (TpuEff nD τ sig (Elt F) Λ₀ (.scVector ((i 0).castLE hcore1) ((i 1).castLE hsub1))) α} {Q : α → sProp 𝕄} :
    ((thr d i).loc cc1_scratch1 ↦{fullShare} f : sProp 𝕄)
      ⊢ iprop((Mb d i val dst (fun _ => {e | e < 0}) -∗ wp frame (wpE (defs₀ (F := F)) 𝒱₀ (thr d i) none) Set.univ (kk ⟨⟩) Q)
        -∗ wp frame (wpE (defs₀ (F := F)) 𝒱₀ (thr d i) none) Set.univ
          (Scf.Loop.for k1_t1_loop hok ⟨⟩ (k1_t1_body (F := F) i arg2 harg2 arg3 harg3 arg4 harg4 bV (Memref.isWhole_whole _) mV (Memref.isWhole_whole _) arg7 harg7 arg8 harg8 arg9 arg10 v14_r0 v14_r1) >>= kk) Q) := by
  iintro H Hk
  iapply (Scf.wp_for_bind frame (wpE (defs₀ (F := F)) 𝒱₀ (thr d i) none) Set.univ k1_t1_loop.lb k1_t1_loop.ub k1_t1_loop.st hok ⟨⟩ _
    (fun t _ => iprop(∃ f : Buf (Elt F) ((thr d i).loc cc1_scratch1), ⌜∀ j : S4x10000.Idx, (j (1 : Fin 2)).val < 16 * t → f j = ninf⌝ ∗ (thr d i).loc cc1_scratch1 ↦{fullShare} f)) ?hb) $$ [H]
  case hb =>
    intro t _
    unfold k1_t1_body
    iintro ⟨%f, %hf, H⟩
    iapply (wp_load 𝒱₀ (thr d i) none Set.univ (m := mV) (S := Finset.univ) (Finset.subset_univ _)) $$ H; iintro H
    iapply (wp_store 𝒱₀ (thr d i) none Set.univ (m := mV) (r := Rect.unit (s := S4x10000) (k1_off2 t) S1x16.size (k1_off2_inb t)) (w := (shapeCast S1x16 (k1_pay115 (F := F)) shapeCasts_S16_S1x16 : Vec F S1x16 .f32)) (Mk := Finset.univ) (hx := View.stores_vmem_bits_univ h_S1x16 rfl) (hm := .inl rfl) (S := Finset.univ) (Finset.subset_univ _)) $$ H; iintro H
    iapply (wp_load 𝒱₀ (thr d i) none Set.univ (m := mV) (S := Finset.univ) (Finset.subset_univ _)) $$ H; iintro H
    iapply (wp_store 𝒱₀ (thr d i) none Set.univ (m := mV) (r := Rect.unit (s := S4x10000) (k1_off3 t) S1x16.size (k1_off3_inb t)) (w := (shapeCast S1x16 (k1_pay115 (F := F)) shapeCasts_S16_S1x16 : Vec F S1x16 .f32)) (Mk := Finset.univ) (hx := View.stores_vmem_bits_univ h_S1x16 rfl) (hm := .inl rfl) (S := Finset.univ) (Finset.subset_univ _)) $$ H; iintro H
    iapply (wp_load 𝒱₀ (thr d i) none Set.univ (m := mV) (S := Finset.univ) (Finset.subset_univ _)) $$ H; iintro H
    iapply (wp_store 𝒱₀ (thr d i) none Set.univ (m := mV) (r := Rect.unit (s := S4x10000) (k1_off4 t) S1x16.size (k1_off4_inb t)) (w := (shapeCast S1x16 (k1_pay115 (F := F)) shapeCasts_S16_S1x16 : Vec F S1x16 .f32)) (Mk := Finset.univ) (hx := View.stores_vmem_bits_univ h_S1x16 rfl) (hm := .inl rfl) (S := Finset.univ) (Finset.subset_univ _)) $$ H; iintro H
    iapply (wp_load 𝒱₀ (thr d i) none Set.univ (m := mV) (S := Finset.univ) (Finset.subset_univ _)) $$ H; iintro H
    iapply (wp_store 𝒱₀ (thr d i) none Set.univ (m := mV) (r := Rect.unit (s := S4x10000) (k1_off5 t) S1x16.size (k1_off5_inb t)) (w := (shapeCast S1x16 (k1_pay115 (F := F)) shapeCasts_S16_S1x16 : Vec F S1x16 .f32)) (Mk := Finset.univ) (hx := View.stores_vmem_bits_univ h_S1x16 rfl) (hm := .inl rfl) (S := Finset.univ) (Finset.subset_univ _)) $$ H; iintro H
    iapply (pure_intro d i)
    iexists _
    isplitr
    swap; · iexact H
    ipureintro
    exact init_trip (F := F) t f hf (fun _ => rfl)
  · iexists f; isplitr
    swap; · iexact H
    ipureintro; intro j hj; omega
  iintro %_ ⟨%g, %hg, H⟩
  iapply Hk
  unfold Mb
  iexists g; isplitr
  swap; · iexact H
  ipureintro
  intro j
  have hlt : (j (1 : Fin 2)).val < 10000 := (j (1 : Fin 2)).isLt
  rw [hg j (by rw [show Scf.trips k1_t1_loop.lb k1_t1_loop.ub k1_t1_loop.st = 625 by decide +kernel]; omega)]
  rw [show {e | e ∈ ({e | e < 0} : Set ℕ) ∧ dst e = (j (1 : Fin 2)).val} = ∅ by ext; simp]
  exact Reach.init

end Init

end Cert.Proof.Seg

end
-- ==== Proof.Pair.lean ====
/-
  The loop over the PAIRS of chunks: each pair's two waits, the trips over each chunk, and the fetch of the chunk after next.
-/
module

public import proofs.«01_k».proof.Proof.Fetch
public import proofs.«01_k».proof.Proof.Init
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "e0V" => (Memref.whole Cert.KernelIdeal.cc1_scratch2 : Memref Cert.KernelIdeal.sig Kind.scVector Space.vmem Cert.KernelIdeal.S2x6400 EltTy.i32)
local notation "e1V" => (Memref.whole Cert.KernelIdeal.cc1_scratch3 : Memref Cert.KernelIdeal.sig Kind.scVector Space.vmem Cert.KernelIdeal.S2x6400 EltTy.i32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

section Pairs

variable (d : Dev nD) (i : grid1.Coords)
  {arg2 : Memref sig .scVector .hbm S128x10000 .f32} {harg2 : arg2.IsWhole} {harg3 : (eV).IsWhole}
  {arg4 : Memref sig .scVector .hbm S128x10000 .f32} {harg4 : arg4.IsWhole} {harg7 : (e0V).IsWhole} {harg8 : (e1V).IsWhole}
  {arg9 arg10 v14_r0 v14_r1 : DmaSems sig S_}
  {val : Fin 4 → ℕ → F .f32} {src dst : ℕ → ℕ} {fE : Buf (Elt F) ((eV).view.loc (thr d i))} {fb : Vec F S4x10000 .f32} {q : PosShare TreeShare}

omit [FloatOps F] in
theorem cond2_iff : ∀ t : Fin k1_t2_loop.trips, k1_cond2 t = 1#1 ↔ t.val < 24 := by decide +kernel
omit [FloatOps F] in
theorem cond4_iff : ∀ t : Fin k1_t2_loop.trips, k1_cond4 t = 1#1 ↔ t.val < 24 := by decide +kernel
omit [FloatOps F] in
theorem t2_lt : ∀ t : Fin k1_t2_loop.trips, t.val < 25 := by decide +kernel

/-- Between two pairs of chunks. -/
def PairInv (arg9 arg10 : DmaSems sig S_) (val : Fin 4 → ℕ → F .f32) (src dst : ℕ → ℕ) (fE : Buf (Elt F) ((eV).view.loc (thr d i))) (fb : Vec F S4x10000 .f32)
    (q : PosShare TreeShare) (O : CellTallies nD τ sig (HIx 1)) (W : Waits sig (HIx 1)) (p : ℕ) : sProp 𝕄 :=
  iprop(Transfers.MayWaits (thr d i) (default : HIx 1) O ∗ Slot d i src dst fE e0V arg9.sem q.left (2 * p) ∗ Slot d i src dst fE e1V arg10.sem q.right (2 * p + 1)
    ∗ ((thr d i).loc cc1_scratch0 ↦{fullShare} fb) ∗ Mb d i val dst (fun _ => {e | e < 6400 * (2 * p)})
    ∗ ∃ W', ⌜∀ x ∈ W', x ∈ W ∨ x.2 = none⌝ ∗ owes (thr d i) O W')

/-- A conditional fetch of the chunk after next. -/
theorem wp_refetch (hS : ∀ j : S2x320000.Idx, (j (0 : Fin 2)).val = 0 → (fE j).toNat = src (j (1 : Fin 2)).val)
    (hD : ∀ j : S2x320000.Idx, (j (0 : Fin 2)).val = 1 → (fE j).toNat = dst (j (1 : Fin 2)).val)
    {bm : Memref sig .scVector .vmem S2x6400 .i32} {sm : DmaSem sig} (hpos : 0 < bm.view.dmaCredit) {c : ℕ} {p : Prop} [Decidable p] (hp : p ↔ c < 50)
    {off : Fin 2 → ℕ} (hoff : off = ![0, 6400 * c]) {h : p → ∀ a, off a + S2x6400.size a ≤ S2x320000.size a} {hw2 : bm.IsWhole}
    {α : Type} {kk : Prog (TpuEff nD τ sig (Elt F) Λ₀ (.scVector ((i 0).castLE hcore1) ((i 1).castLE hsub1))) α} {Q : α → sProp 𝕄} :
    iprop((∃ f, bm.view.loc (thr d i) ↦{fullShare} f) ∗ ((eV).view.loc (thr d i) ↦{q} fE) ∗ semVal (thr d i, SemLoc.dma sm) 0)
      ⊢ iprop((Slot d i src dst fE bm sm q c -∗ wp frame (wpE (defs₀ (F := F)) 𝒱₀ (thr d i) none) Set.univ kk Q)
        -∗ wp frame (wpE (defs₀ (F := F)) 𝒱₀ (thr d i) none) Set.univ
          (if hh : p then (do
              Prog.lift (.enqueueDma ((eV).slice (Rect.unit (s := S2x320000) off S2x6400.size (h hh)) (fun _ => rfl)) (.here bm) (.dma sm) (View.wordExact_bits rfl) hw2.wordExact ⟨Or.inl rfl, trivial⟩)
              kk)
            else kk) Q) := by
  by_cases hh : p
  · rw [dif_pos hh]
    iintro H Hk
    iapply (wp_fetch d i hS hD hpos (hp.mp hh) hoff) $$ H
    iintro H
    iapply Hk $$ H
  · rw [dif_neg hh]
    iintro H Hk
    iapply Hk
    unfold Slot
    rw [if_neg (fun hc => hh (hp.mpr hc))]
    iexact H

set_option maxHeartbeats 4000000 in
/-- ONE PAIR OF CHUNKS. -/
theorem wp_pairTrip (hS : ∀ j : S2x320000.Idx, (j (0 : Fin 2)).val = 0 → (fE j).toNat = src (j (1 : Fin 2)).val)
    (hD : ∀ j : S2x320000.Idx, (j (0 : Fin 2)).val = 1 → (fE j).toNat = dst (j (1 : Fin 2)).val) (hdst : ∀ e, dst e < 10000) (hsrc : ∀ e, src e < 10000)
    (hval : ∀ (k : Fin 4) e (j : S4x10000.Idx), (j (0 : Fin 2)).val = k.val → (j (1 : Fin 2)).val = src e → fb j = val k e)
    {O : CellTallies nD τ sig (HIx 1)} {W : Waits sig (HIx 1)} (t : Fin k1_t2_loop.trips) :
    PairInv d i arg9 arg10 val src dst fE fb q O W t.val
      ⊢ wp frame (wpE (defs₀ (F := F)) 𝒱₀ (thr d i) none) Set.univ
          (k1_t2_body (F := F) i arg2 harg2 eV harg3 arg4 harg4 bV (Memref.isWhole_whole _) mV (Memref.isWhole_whole _) e0V harg7 e1V harg8 arg9 arg10 v14_r0 v14_r1 r0 r1 r2 r3 t ⟨⟩)
          (fun _ => PairInv d i arg9 arg10 val src dst fE fb q O W (t.val + 1)) := by
  have ht := t2_lt t
  unfold PairInv k1_t2_body
  iintro ⟨#Hmw, H0, H1, HB, HM, %W', %hW', HO⟩
  iapply (wp_await d i (bm := e0V) (sm := arg9.sem) (q := q.left) (c := 2 * t.val) (by omega)) $$ [H0 HO]
  · isplitr; · iexact Hmw
    isplitl [H0] <;> iassumption
  iintro ⟨⟨%f0, %h0, H0⟩, HE0, Hs0, HO⟩
  iapply (wp_chunk d i (arg7 := e0V) (fe := f0) h0 hdst hsrc hval) $$ [H0 HB HM]
  · isplitl [H0]; · iexact H0
    isplitl [HB] <;> iassumption
  iintro ⟨H0, HB, HM⟩
  iapply (wp_refetch d i hS hD (bm := e0V) (sm := arg9.sem) (q := q.left) (c := 2 * (t.val + 1)) (p := k1_cond2 t = 1#1) (off := k1_off9 t) (hw2 := harg7) (h := k1_off9_inb t) (by decide)
    ((cond2_iff t).trans (by omega)) (by rw [k1_off9_eq]; congr 2; omega)) $$ [H0 HE0 Hs0]
  · isplitl [H0]; · iexists _; iexact H0
    isplitl [HE0] <;> iassumption
  iintro H0
  iapply (wp_await d i (bm := e1V) (sm := arg10.sem) (q := q.right) (c := 2 * t.val + 1) (by omega)) $$ [H1 HO]
  · isplitr; · iexact Hmw
    isplitl [H1] <;> iassumption
  iintro ⟨⟨%f1, %h1, H1⟩, HE1, Hs1, HO⟩
  rw [t14_eq]
  iapply (wp_chunk d i (arg7 := e1V) (fe := f1) h1 hdst hsrc hval) $$ [H1 HB HM]
  · isplitl [H1]; · iexact H1
    isplitl [HB] <;> iassumption
  iintro ⟨H1, HB, HM⟩
  iapply (wp_refetch d i hS hD (bm := e1V) (sm := arg10.sem) (q := q.right) (c := 2 * (t.val + 1) + 1) (p := k1_cond4 t = 1#1) (off := k1_off13 t) (hw2 := harg8) (h := k1_off13_inb t) (by decide)
    ((cond4_iff t).trans (by omega)) (by rw [k1_off13_eq]; congr 2; omega)) $$ [H1 HE1 Hs1]
  · isplitl [H1]; · iexists _; iexact H1
    isplitl [HE1] <;> iassumption
  iintro H1
  iapply (pure_intro d i)
  isplitr; · iexact Hmw
  isplitl [H0]; · iexact H0
  isplitl [H1]; · iexact H1
  isplitl [HB]; · iexact HB
  isplitl [HM]; · iexact HM
  iexists _; isplitr
  swap; · iexact HO
  ipureintro; intro x hx
  rcases Finset.mem_insert.mp hx with hx | hx; · exact .inr (hx ▸ rfl)
  rcases Finset.mem_insert.mp hx with hx | hx; · exact .inr (hx ▸ rfl)
  exact hW' x hx

/-- ALL THE EDGES. -/
theorem wp_pairs (hS : ∀ j : S2x320000.Idx, (j (0 : Fin 2)).val = 0 → (fE j).toNat = src (j (1 : Fin 2)).val)
    (hD : ∀ j : S2x320000.Idx, (j (0 : Fin 2)).val = 1 → (fE j).toNat = dst (j (1 : Fin 2)).val) (hdst : ∀ e, dst e < 10000) (hsrc : ∀ e, src e < 10000)
    (hval : ∀ (k : Fin 4) e (j : S4x10000.Idx), (j (0 : Fin 2)).val = k.val → (j (1 : Fin 2)).val = src e → fb j = val k e)
    {O : CellTallies nD τ sig (HIx 1)} {W : Waits sig (HIx 1)} {hok : k1_t2_loop.OK}
    {α : Type} {kk : Unit → Prog (TpuEff nD τ sig (Elt F) Λ₀ (.scVector ((i 0).castLE hcore1) ((i 1).castLE hsub1))) α} {Q : α → sProp 𝕄} :
    PairInv d i arg9 arg10 val src dst fE fb q O W 0
      ⊢ iprop((PairInv d i arg9 arg10 val src dst fE fb q O W 25 -∗ wp frame (wpE (defs₀ (F := F)) 𝒱₀ (thr d i) none) Set.univ (kk ⟨⟩) Q)
        -∗ wp frame (wpE (defs₀ (F := F)) 𝒱₀ (thr d i) none) Set.univ
          (Scf.Loop.for k1_t2_loop hok ⟨⟩ (k1_t2_body (F := F) i arg2 harg2 eV harg3 arg4 harg4 bV (Memref.isWhole_whole _) mV (Memref.isWhole_whole _) e0V harg7 e1V harg8 arg9 arg10 v14_r0 v14_r1 r0 r1 r2 r3) >>= kk) Q) := by
  iintro H Hk
  iapply (Scf.wp_for_bind frame (wpE (defs₀ (F := F)) 𝒱₀ (thr d i) none) Set.univ k1_t2_loop.lb k1_t2_loop.ub k1_t2_loop.st hok ⟨⟩ _
    (fun t _ => PairInv d i arg9 arg10 val src dst fE fb q O W t) (fun t _ => wp_pairTrip d i hS hD hdst hsrc hval t)) $$ H
  iintro %_
  rw [show Scf.trips k1_t2_loop.lb k1_t2_loop.ub k1_t2_loop.st = 25 by decide +kernel]
  iexact Hk

end Pairs

end Cert.Proof.Seg

end
-- ==== Proof.Tile.lean ====
/-
  ONE TILE's run of the call: its rows in, the table filled, every edge, the table out; and what the rows it writes then hold.
-/
module

public import proofs.«01_k».proof.Proof.Pair
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "xV" => (Memref.whole Cert.KernelIdeal.main_v0_2_scv : Memref Cert.KernelIdeal.sig Kind.scVector Space.hbm Cert.KernelIdeal.S128x10000 EltTy.f32)
local notation "oV" => (Memref.whole Cert.KernelIdeal.main_v1_scv : Memref Cert.KernelIdeal.sig Kind.scVector Space.hbm Cert.KernelIdeal.S128x10000 EltTy.f32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "e0V" => (Memref.whole Cert.KernelIdeal.cc1_scratch2 : Memref Cert.KernelIdeal.sig Kind.scVector Space.vmem Cert.KernelIdeal.S2x6400 EltTy.i32)
local notation "e1V" => (Memref.whole Cert.KernelIdeal.cc1_scratch3 : Memref Cert.KernelIdeal.sig Kind.scVector Space.vmem Cert.KernelIdeal.S2x6400 EltTy.i32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

variable [FloatOps F]

/-! ## What a result holds -/

/-- Edge `e`'s entry in row `r` of the edge list. -/
def eIdx (r : Fin 2) (e : ℕ) : S2x320000.Idx :=
  fun | 0 => r | 1 => ⟨e % 320000, Nat.mod_lt _ (by decide)⟩ | ⟨_ + 2, h⟩ => absurd h (Nat.not_lt.2 (Nat.le_add_left _ _))
/-- Feature `r` of node `n`. -/
def xIdx (r n : ℕ) : S128x10000.Idx :=
  fun | 0 => ⟨r % 128, Nat.mod_lt _ (by decide)⟩ | 1 => ⟨n % 10000, Nat.mod_lt _ (by decide)⟩ | ⟨_ + 2, h⟩ => absurd h (Nat.not_lt.2 (Nat.le_add_left _ _))

/-- The node edge `e` starts from, and the node it ends in. -/
def srcOf (E : IVec S2x320000 32) (e : ℕ) : ℕ := (E (eIdx 0 e)).toNat
def dstOf (E : IVec S2x320000 32) (e : ℕ) : ℕ := (E (eIdx 1 e)).toNat

/-- Element `j` of a result: the running maximum, in some order, over the edges that end in its node, of the feature at the node each
    starts from. -/
def Spec (X : Vec F S128x10000 .f32) (E : IVec S2x320000 32) (g : Vec F S128x10000 .f32) (j : S128x10000.Idx) : Prop :=
  Reach (fun e => X (xIdx (j (0 : Fin 2)).val (srcOf E e))) {e | e < 320000 ∧ dstOf E e = (j (1 : Fin 2)).val} (g j)

omit [FloatOps F] in
theorem eIdx_eq (j : S2x320000.Idx) (r : Fin 2) (h : (j (0 : Fin 2)).val = r.val) : eIdx r (j (1 : Fin 2)).val = j := by
  funext a
  match a with
  | 0 => exact Fin.ext h.symm
  | 1 => exact Fin.ext (Nat.mod_eq_of_lt (j (1 : Fin 2)).isLt)

omit [FloatOps F] in
theorem xIdx_eq (j : S128x10000.Idx) {r n : ℕ} (h0 : (j (0 : Fin 2)).val = r) (h1 : (j (1 : Fin 2)).val = n) : xIdx r n = j := by
  subst h0 h1
  funext a
  match a with
  | 0 => exact Fin.ext (Nat.mod_eq_of_lt (j (0 : Fin 2)).isLt)
  | 1 => exact Fin.ext (Nat.mod_eq_of_lt (j (1 : Fin 2)).isLt)

/-! ## The tile's run -/

section Tile

variable (d : Dev nD) (i : grid1.Coords)

/-- The tile's four rows of the features, and of the result. -/
abbrev xK : Memref sig .scVector .hbm S4x10000 .f32 := (xV).slice (Rect.unit (s := S128x10000) (k1_off1 i) S4x10000.size (k1_off1_inb i)) (fun _ => rfl)
abbrev oK : Memref sig .scVector .hbm S4x10000 .f32 := (oV).slice (Rect.unit (s := S128x10000) (k1_off14 i) S4x10000.size (k1_off14_inb i)) (fun _ => rfl)

variable {harg2 : (xV).IsWhole} {harg3 : (eV).IsWhole} {harg4 : (oV).IsWhole} {harg7 : (e0V).IsWhole} {harg8 : (e1V).IsWhole}
  {arg9 arg10 v14_r0 v14_r1 : DmaSems sig S_} {q : PosShare TreeShare}
  {fX : Buf (Elt F) ((xK i).view.loc (thr d i))} {fE : Buf (Elt F) ((eV).view.loc (thr d i))} {fo : Buf (Elt F) ((oK i).view.loc (thr d i))}
  {f0 : Buf (Elt F) ((thr d i).loc cc1_scratch0)} {f1 : Buf (Elt F) ((thr d i).loc cc1_scratch1)}
  {f2 : Buf (Elt F) ((e0V).view.loc (thr d i))} {f3 : Buf (Elt F) ((e1V).view.loc (thr d i))}

omit [FloatOps F] in
theorem base_lt : ∀ i : grid1.Coords, 8 * (i 1).val + 4 * (i 0).val + 4 ≤ 128 := by decide +kernel

omit [FloatOps F] in
theorem credit_pos : ∀ i : grid1.Coords, 0 < (oK i).view.dmaCredit := by decide +kernel

/-- Row `k` of the tile's features, by edge. -/
abbrev valOf (fX : Vec F S128x10000 .f32) (fE : IVec S2x320000 32) (k : Fin 4) (e : ℕ) : F .f32 := fX (xIdx (8 * (i 1).val + 4 * (i 0).val + k.val) (srcOf fE e))

omit [FloatOps F] in
theorem read_xK (fX : Vec F S128x10000 .f32) (fE : IVec S2x320000 32) (k : Fin 4) (e : ℕ) (j : S4x10000.Idx) (h0 : (j (0 : Fin 2)).val = k.val)
    (h1 : (j (1 : Fin 2)).val = srcOf fE e) : (xK i).view.read (Elt F) fX j = valOf i fX fE k e := by
  show fX ((Rect.unit (s := S128x10000) (k1_off1 i) S4x10000.size (k1_off1_inb i)).emb j) = _
  unfold valOf
  congr 1
  symm
  apply xIdx_eq
  · show k1_off1 i 0 + 1 * (j (0 : Fin 2)).val = _
    rw [k1_off1_eq, h0]
    show 8 * (i 1).val + 4 * (i 0).val + 1 * k.val = _
    omega
  · show k1_off1 i 1 + 1 * (j (1 : Fin 2)).val = _
    rw [k1_off1_eq, h1]
    show 0 + 1 * srcOf fE e = _
    omega

/-- The rows written out hold what the table held. -/
theorem out_spec (fX : Vec F S128x10000 .f32) (fE : IVec S2x320000 32) (fo : Vec F S128x10000 .f32) (fm : Vec F S4x10000 .f32)
    (hm : Holds (valOf i fX fE) (dstOf fE) (fun _ => {e | e < 6400 * (2 * 25)}) fm) :
    ∀ j ∈ (oK i).view.set, Spec fX fE ((oK i).view.write (Elt F) fo fm Finset.univ) j := by
  intro j hj
  obtain ⟨y, -, rfl⟩ := Finset.mem_map.mp hj
  unfold Spec
  have e0 : ((oK i).view.emb y (0 : Fin 2)).val = 8 * (i 1).val + 4 * (i 0).val + (y (0 : Fin 2)).val := by
    show k1_off14 i 0 + 1 * (y (0 : Fin 2)).val = _
    rw [k1_off14_eq]
    show 8 * (i 1).val + 4 * (i 0).val + 1 * (y (0 : Fin 2)).val = _
    omega
  have e1 : ((oK i).view.emb y (1 : Fin 2)).val = (y (1 : Fin 2)).val := by
    show k1_off14 i 1 + 1 * (y (1 : Fin 2)).val = _
    rw [k1_off14_eq]
    show 0 + 1 * (y (1 : Fin 2)).val = _
    omega
  have ew : (oK i).view.write (Elt F) fo fm Finset.univ ((oK i).view.emb y) = fm y :=
    (View.write_emb_of_mem (v := (oK i).view) fo fm (Finset.mem_univ y)).trans (cast_eq _ _)
  rw [ew, e0, e1]
  exact hm y

set_option maxHeartbeats 8000000 in
/-- ONE TILE, from its rows of the features, its share of the edges and its rows of the result. -/
theorem tile_run (hlt : ∀ j, ((fE : IVec S2x320000 32) j).toNat < 10000) {O : CellTallies nD τ sig (HIx 1)} {W : Waits sig (HIx 1)} :
    iprop((Transfers.MayWaits (thr d i) (default : HIx 1) O : sProp 𝕄)
        ∗ ((xK i).view.loc (thr d i) ↦[(xK i).view.set]{fullShare} fX) ∗ ((eV).view.loc (thr d i) ↦{q} fE) ∗ ((oK i).view.loc (thr d i) ↦[(oK i).view.set]{fullShare} fo)
        ∗ ((thr d i).loc cc1_scratch0 ↦{fullShare} f0) ∗ ((thr d i).loc cc1_scratch1 ↦{fullShare} f1) ∗ ((e0V).view.loc (thr d i) ↦{fullShare} f2) ∗ ((e1V).view.loc (thr d i) ↦{fullShare} f3)
        ∗ semVal (thr d i, SemLoc.dma arg9.sem) 0 ∗ semVal (thr d i, SemLoc.dma arg10.sem) 0 ∗ semVal (thr d i, SemLoc.dma v14_r0.sem) 0 ∗ semVal (thr d i, SemLoc.dma v14_r1.sem) 0
        ∗ owes (thr d i) O W)
      ⊢ wp frame (wpE (defs₀ (F := F)) 𝒱₀ (thr d i) none) Set.univ
          (cc1__segmax_body (F := F) i xV harg2 eV harg3 oV harg4 bV (Memref.isWhole_whole _) mV (Memref.isWhole_whole _) e0V harg7 e1V harg8 arg9 arg10 v14_r0 v14_r1)
          (fun _ => iprop(((xK i).view.loc (thr d i) ↦[(xK i).view.set]{fullShare} fX) ∗ ((eV).view.loc (thr d i) ↦{q} fE)
            ∗ (∃ g : Buf (Elt F) ((oK i).view.loc (thr d i)), ⌜∀ j ∈ (oK i).view.set, Spec (F := F) fX fE g j⌝ ∗ (oK i).view.loc (thr d i) ↦[(oK i).view.set]{fullShare} g)
            ∗ (∃ f, (thr d i).loc cc1_scratch0 ↦{fullShare} f) ∗ (∃ f, (thr d i).loc cc1_scratch1 ↦{fullShare} f) ∗ (∃ f, (e0V).view.loc (thr d i) ↦{fullShare} f) ∗ (∃ f, (e1V).view.loc (thr d i) ↦{fullShare} f)
            ∗ semVal (thr d i, SemLoc.dma arg9.sem) 0 ∗ semVal (thr d i, SemLoc.dma arg10.sem) 0 ∗ semVal (thr d i, SemLoc.dma v14_r0.sem) 0 ∗ semVal (thr d i, SemLoc.dma v14_r1.sem) 0
            ∗ ∃ W', ⌜∀ x ∈ W', x ∈ W ∨ x.2 = none⌝ ∗ owes (thr d i) O W')) := by
  have hS : ∀ j : S2x320000.Idx, (j (0 : Fin 2)).val = 0 → ((fE : IVec S2x320000 32) j).toNat = srcOf fE (j (1 : Fin 2)).val := by
    intro j h; unfold srcOf; rw [eIdx_eq j 0 h]
  have hD : ∀ j : S2x320000.Idx, (j (0 : Fin 2)).val = 1 → ((fE : IVec S2x320000 32) j).toNat = dstOf fE (j (1 : Fin 2)).val := by
    intro j h; unfold dstOf; rw [eIdx_eq j 1 h]
  have hsrc : ∀ e, srcOf fE e < 10000 := fun e => hlt _
  have hdst : ∀ e, dstOf fE e < 10000 := fun e => hlt _
  rw [cc1__segmax_body_eq_skeleton]; unfold cc1__segmax_body_skel
  rw [wp_bind, k1_part9_eq_skeleton]; unfold k1_part9_skel
  iintro ⟨#Hmw, HX, HE, HO, Hb, Hm, He0, He1, Hs9, Hs10, Hr0, Hr1, Ho⟩
  iapply (Transfers.wp_dmaLocal countersEmb 𝒱₀ (thr d i) none (src := xK i) (dst := bV) (via := .same) (sm := .dma v14_r0.sem) (q := fullShare) (fs := fX)
    (Sd := Finset.univ) (fd := f0) (default : HIx 1) (bV).view.dmaCredit rfl (by decide) (Finset.subset_univ _)) $$ [HX Hb Hr0]
  · isplitl [HX]; · iexact HX
    isplitl [Hb] <;> iassumption
  iintro HF
  iapply (Transfers.wp_waitLocalO countersEmb 𝒱₀ (thr d i) none (default : HIx 1) (rfl : (bV).view.dmaCredit = _)) $$ [HF Ho]
  · isplitl [HF]; · iexact HF
    isplitl [Ho]; · iexact Ho
    iapply (Transfers.MayWaits.elim (SemLoc.dma v14_r0.sem)) $$ Hmw
  iintro ⟨⟨Hb, HX⟩, Hr0, Ho⟩
  iapply (wp_init d i (val := valOf i fX fE) (dst := dstOf fE)) $$ Hm
  iintro Hm
  ihave HE := (pointsTo_share (PosShare.mem_left_op_right q)).1 $$ HE
  icases HE with ⟨HEl, HEr⟩
  iapply (wp_fetch d i (src := srcOf fE) (dst := dstOf fE) hS hD (bm := e0V) (sm := arg9.sem) (q := q.left) (c := 0) (by decide) (by decide) rfl) $$ [He0 HEl Hs9]
  · isplitl [He0]; · iexists _; iexact He0
    isplitl [HEl] <;> iassumption
  iintro Hslot0
  iapply (wp_fetch d i (src := srcOf fE) (dst := dstOf fE) hS hD (bm := e1V) (sm := arg10.sem) (q := q.right) (c := 1) (by decide) (by decide) rfl) $$ [He1 HEr Hs10]
  · isplitl [He1]; · iexists _; iexact He1
    isplitl [HEr] <;> iassumption
  iintro Hslot1
  iapply (wp_pairs d i (q := q) (arg9 := arg9) (arg10 := arg10) (val := valOf i fX fE) (src := srcOf fE) (dst := dstOf fE)
    (fb := (bV).view.write (Elt F) f0 (ReadAs.same.apply ((xK i).view.read (Elt F) fX)) Finset.univ) (W := W) hS hD hdst hsrc ?hv) $$ [Hslot0 Hslot1 Hb Hm Ho]
  case hv =>
    intro k e j h0 h1
    rw [View.write_whole_univ]
    exact read_xK i fX fE k e j h0 h1
  · unfold PairInv
    isplitr; · iexact Hmw
    isplitl [Hslot0]; · iexact Hslot0
    isplitl [Hslot1]; · iexact Hslot1
    isplitl [Hb]; · iexact Hb
    isplitl [Hm]; · iexact Hm
    iexists _; isplitr
    swap; · iexact Ho
    ipureintro; intro x hx
    rcases Finset.mem_insert.mp hx with hx | hx; · exact .inr (hx ▸ rfl)
    exact .inl hx
  unfold PairInv Mb Slot
  rw [if_neg (by decide), if_neg (by decide)]
  iintro ⟨-, ⟨⟨%g2, He0⟩, HEl, Hs9⟩, ⟨⟨%g3, He1⟩, HEr, Hs10⟩, Hb, ⟨%fm, %hm, Hm⟩, %W', %hW', Ho⟩
  ihave HE := (pointsTo_share (PosShare.mem_left_op_right q)).2 $$ [HEl HEr]; · isplitl [HEl] <;> iassumption
  ihave Hm := (Entails.of_eq (show ((thr d i).loc cc1_scratch1 ↦{fullShare} fm : sProp 𝕄) = (mV).view.loc (thr d i) ↦[(mV).view.set]{fullShare} fm by
    rw [show (mV).view.set = Finset.univ from View.set_whole _])) $$ Hm
  iapply (Transfers.wp_dmaLocal countersEmb 𝒱₀ (thr d i) none (src := mV) (dst := oK i) (via := .same) (sm := .dma v14_r1.sem) (q := fullShare) (fs := fm)
    (Sd := (oK i).view.set) (fd := fo) (default : HIx 1) (oK i).view.dmaCredit rfl (credit_pos i) (Finset.Subset.refl _)) $$ [HO Hm Hr1]
  · isplitl [Hm]; · iexact Hm
    isplitl [HO] <;> iassumption
  iintro HF
  iapply (pure_intro d i)
  iapply (Transfers.wp_waitLocalO countersEmb 𝒱₀ (thr d i) none (default : HIx 1) (rfl : (oK i).view.dmaCredit = _)) $$ [HF Ho]
  · isplitl [HF]; · iexact HF
    isplitl [Ho]; · iexact Ho
    iapply (Transfers.MayWaits.elim (SemLoc.dma v14_r1.sem)) $$ Hmw
  iintro ⟨⟨HO, Hm⟩, Hr1, Ho⟩
  iapply (pure_intro d i)
  isplitl [HX]; · iexact HX
  isplitl [HE]; · iexact HE
  isplitl [HO]
  · iexists _; isplitr
    swap; · iexact HO
    ipureintro
    exact out_spec i fX fE fo fm hm
  isplitl [Hb]; · iexists _; iexact Hb
  isplitl [Hm]
  · iexists fm
    iapply (Entails.of_eq (show ((thr d i).loc cc1_scratch1 ↦{fullShare} fm : sProp 𝕄) = (mV).view.loc (thr d i) ↦[(mV).view.set]{fullShare} fm by
      rw [show (mV).view.set = Finset.univ from View.set_whole _]).symm)
    iexact Hm
  isplitl [He0]; · iexists _; iexact He0
  isplitl [He1]; · iexists _; iexact He1
  isplitl [Hs9]; · iexact Hs9
  isplitl [Hs10]; · iexact Hs10
  isplitl [Hr0]; · iexact Hr0
  isplitl [Hr1]; · iexact Hr1
  iexists _; isplitr
  swap; · iexact Ho
  ipureintro; intro x hx
  rcases Finset.mem_insert.mp hx with hx | hx; · exact .inr (hx ▸ rfl)
  exact hW' x hx

end Tile

end Cert.Proof.Seg

end
-- ==== Proof.Dense.lean ====
/-
  THE DENSE CALLS AS FUNCTIONS: what the first call stores (the node embeddings, the node part and the transposed neighbour part of every message) and what the last
  call stores, each as a function of the arrays read.
-/
module

public import proofs.«01_k».proof.Proof.Gen.KernelIdeal
public import Idealize.ShloMosaic.Lib.VecWindow

@[expose] public section

noncomputable section

namespace Cert.Proof.Dense

open Cert.KernelIdeal Cert.KernelIdeal.Gen
open Idealize.ShloMosaic

variable {F : FTy → Type} [FloatOps F]

/-- A float constant at every index of a shape. -/
abbrev cst (s : Shape) (b : BitVec 32) : FVec F s .f32 := broadcast s (Scalar.ofBits .f32 b)
/-- An integer constant at every index of a shape. -/
abbrev icst (s : Shape) (b : BitVec 32) : IVec s 32 := broadcast s b

/-- The activation. -/
def eluV {s : Shape} (x : FVec F s .f32) : FVec F s .f32 :=
  select (cmpf .ogt x (cst s 0x00000000#32)) x (subf (exp (minimumf x (cst s 0x00000000#32))) (cst s 0x3F800000#32))

/-- A 64-entry row at every node. -/
def row64 (b : FVec F S64 .f32) : FVec F S10000x64 .f32 := broadcastTo S10000x64 (shapeCast S1x64 b shapeCasts_S64_S1x64) broadcasts_S1x64_S10000x64
/-- A 128-entry row at every node. -/
def row128 (b : FVec F S128 .f32) : FVec F S10000x128 .f32 := broadcastTo S10000x128 (shapeCast S1x128 b shapeCasts_S128_S1x128) broadcasts_S1x128_S10000x128

/-- The mean over the nodes. -/
def meanV (x : FVec F S10000x128 .f32) : FVec F S128 .f32 :=
  divf (multiReduction .add [0] S128 x 0x00000000#32 reduces_S10000x128_S128 (.inl rfl) rfl) (cst S128 0x461C4000#32)
/-- The centred array. -/
def cenV (x : FVec F S10000x128 .f32) : FVec F S10000x128 .f32 := subf x (row128 (meanV x))
/-- The batch normalization. -/
def bnV (x : FVec F S10000x128 .f32) (g b : FVec F S128 .f32) : FVec F S10000x128 .f32 :=
  addf (mulf (mulf (row128 g) (cenV x)) (row128 (rsqrt (addf (meanV (mulf (cenV x) (cenV x))) (cst S128 0x3727C5AC#32))))) (row128 b)

/-- The last call's result. -/
def tailOut (emb a : FVec F S10000x128 .f32) (mt : FVec F S128x10000 .f32) (g1 b1 : FVec F S128 .f32) (W1 : FVec F S128x64 .f32) (c1 : FVec F S64 .f32)
    (W2 : FVec F S64x1 .f32) (c2 : FVec F S1 .f32) : FVec F S10000x1 .f32 :=
  let m := transpose S10000x128 [1, 0] (shapeCast S128x10000 mt shapeCasts_S128x10000_S128x10000) transposes_S128x10000_p1_0_S10000x128
  let agg := select (cmpf .ogt m (cst S10000x128 0xFF800000#32)) (addf (shapeCast S10000x128 a shapeCasts_S10000x128_S10000x128) m) (cst S10000x128 0x00000000#32)
  let emb2 := addf (shapeCast S10000x128 emb shapeCasts_S10000x128_S10000x128) (bnV agg g1 b1)
  let h := eluV (addf (matmul dot_S10000x128_S128x64_S10000x64_1_0_0_1_n_n none emb2 W1 (constant S10000x64 .f32 0x00000000#32)) (row64 c1))
  addf (matmul dot_S10000x64_S64x1_S10000x1_1_0_0_1_n_n none h W2 (constant S10000x1 .f32 0x00000000#32))
    (broadcastTo S10000x1 (shapeCast S1x1 c2 shapeCasts_S1_S1x1) broadcasts_S1x1_S10000x1)

/-- Row `k` of a table of three rows. -/
def rowOf3 (T : FVec F S3x32 .f32) (k : ℕ) (h : ∀ a, (![k, 0] : Fin 2 → ℕ) a + S1x32.size a ≤ S3x32.size a) : FVec F S1x32 .f32 := VecWindow.window T ![k, 0] S1x32.size h
/-- Row `k` of a table of seven rows. -/
def rowOf7 (T : FVec F S7x32 .f32) (k : ℕ) (h : ∀ a, (![k, 0] : Fin 2 → ℕ) a + S1x32.size a ≤ S7x32.size a) : FVec F S1x32 .f32 := VecWindow.window T ![k, 0] S1x32.size h

/-- One class's share of a one-hot sum. -/
def hot (p : IVec S10000x1 32) (k : BitVec 32) (row : FVec F S1x32 .f32) : FVec F S10000x32 .f32 :=
  mulf (broadcastTo S10000x32 (select (cmpi .eq p (icst S10000x1 k)) (cst S10000x1 0x3F800000#32) (cst S10000x1 0x00000000#32)) broadcasts_S10000x1_S10000x32)
    (broadcastTo S10000x32 (shapeCast S1x32 (shapeCast S32 row shapeCasts_S1x32_S32) shapeCasts_S32_S1x32) broadcasts_S1x32_S10000x32)

/-- The charge class. -/
def chrgIx (cat : IVec S10000x2 32) : IVec S10000x1 32 := addi (extractStridedSlice S10000x1 ![0, 1] cat slices_S10000x2_o0_1_S10000x1) (icst S10000x1 1#32)

/-- A particle number replaced by its class. -/
def sub1 (P k : BitVec 32) (p : IVec S10000x1 32) : IVec S10000x1 32 := select (cmpi .eq p (icst S10000x1 P)) (icst S10000x1 k) p

/-- The particle class. -/
def pdgIx (cat : IVec S10000x2 32) : IVec S10000x1 32 :=
  sub1 211#32 6#32 (sub1 130#32 5#32 (sub1 22#32 4#32 (sub1 13#32 3#32 (sub1 11#32 2#32 (sub1 2#32 1#32 (sub1 1#32 0#32
    (absi (extractStridedSlice S10000x1 ![0, 0] cat slices_S10000x2_o0_0_S10000x1))))))))

/-- The charge embedding. -/
def chrgEmb (cat : IVec S10000x2 32) (T : FVec F S3x32 .f32) : FVec F S10000x32 .f32 :=
  addf (addf (addf (cst S10000x32 0x00000000#32) (hot (chrgIx cat) 0#32 (rowOf3 T 0 (by decide)))) (hot (chrgIx cat) 1#32 (rowOf3 T 1 (by decide))))
    (hot (chrgIx cat) 2#32 (rowOf3 T 2 (by decide)))

/-- The particle embedding. -/
def pdgEmb (cat : IVec S10000x2 32) (T : FVec F S7x32 .f32) : FVec F S10000x32 .f32 :=
  addf (addf (addf (addf (addf (addf (addf (cst S10000x32 0x00000000#32) (hot (pdgIx cat) 0#32 (rowOf7 T 0 (by decide)))) (hot (pdgIx cat) 1#32 (rowOf7 T 1 (by decide))))
    (hot (pdgIx cat) 2#32 (rowOf7 T 2 (by decide)))) (hot (pdgIx cat) 3#32 (rowOf7 T 3 (by decide)))) (hot (pdgIx cat) 4#32 (rowOf7 T 4 (by decide))))
    (hot (pdgIx cat) 5#32 (rowOf7 T 5 (by decide)))) (hot (pdgIx cat) 6#32 (rowOf7 T 6 (by decide)))

/-- The continuous features' layer. -/
def contV (xc : FVec F S10000x8 .f32) (Wc : FVec F S8x64 .f32) (bc : FVec F S64 .f32) : FVec F S10000x64 .f32 :=
  eluV (addf (matmul dot_S10000x8_S8x64_S10000x64_1_0_0_1_n_n none xc Wc (constant S10000x64 .f32 0x00000000#32)) (row64 bc))

/-- The categorical features' layer. -/
def catV (q p : FVec F S10000x32 .f32) (W : FVec F S64x64 .f32) (b : FVec F S64 .f32) : FVec F S10000x64 .f32 :=
  eluV (addf (addf
    (matmul dot_S10000x32_S32x64_S10000x64_1_0_0_1_n_n none q (extractStridedSlice S32x64 ![0, 0] W slices_S64x64_o0_0_S32x64) (constant S10000x64 .f32 0x00000000#32))
    (matmul dot_S10000x32_S32x64_S10000x64_1_0_0_1_n_n none p (extractStridedSlice S32x64 ![32, 0] W slices_S64x64_o32_0_S32x64) (constant S10000x64 .f32 0x00000000#32)))
    (row64 b))

/-- The joint layer. -/
def encV (cat cont : FVec F S10000x64 .f32) (W : FVec F S128x128 .f32) (b : FVec F S128 .f32) : FVec F S10000x128 .f32 :=
  eluV (addf (addf
    (matmul dot_S10000x64_S64x128_S10000x128_1_0_0_1_n_n none cat (extractStridedSlice S64x128 ![0, 0] W slices_S128x128_o0_0_S64x128) (constant S10000x128 .f32 0x00000000#32))
    (matmul dot_S10000x64_S64x128_S10000x128_1_0_0_1_n_n none cont (extractStridedSlice S64x128 ![64, 0] W slices_S128x128_o64_0_S64x128) (constant S10000x128 .f32 0x00000000#32)))
    (row128 b))

/-- The node embeddings. -/
def embOut (xc : FVec F S10000x8 .f32) (cat : IVec S10000x2 32) (T3 : FVec F S3x32 .f32) (T7 : FVec F S7x32 .f32) (Wc : FVec F S8x64 .f32) (bc : FVec F S64 .f32)
    (Wk : FVec F S64x64 .f32) (bk : FVec F S64 .f32) (We : FVec F S128x128 .f32) (be g b : FVec F S128 .f32) : FVec F S10000x128 .f32 :=
  bnV (encV (catV (chrgEmb cat T3) (pdgEmb cat T7) Wk bk) (contV xc Wc bc) We be) g b

/-- The node part of a message. -/
def aOut (emb : FVec F S10000x128 .f32) (W : FVec F S256x128 .f32) (b : FVec F S128 .f32) : FVec F S10000x128 .f32 :=
  addf (matmul dot_S10000x128_S128x128_S10000x128_1_0_0_1_n_n none emb
    (subf (extractStridedSlice S128x128 ![0, 0] W slices_S256x128_o0_0_S128x128) (extractStridedSlice S128x128 ![128, 0] W slices_S256x128_o128_0_S128x128))
    (constant S10000x128 .f32 0x00000000#32)) (row128 b)

/-- The neighbour part of a message, transposed. -/
def btOut (emb : FVec F S10000x128 .f32) (W : FVec F S256x128 .f32) : FVec F S128x10000 .f32 :=
  transpose S128x10000 [1, 0] (matmul dot_S10000x128_S128x128_S10000x128_1_0_0_1_n_n none emb
    (extractStridedSlice S128x128 ![128, 0] W slices_S256x128_o128_0_S128x128) (constant S10000x128 .f32 0x00000000#32)) transposes_S10000x128_p1_0_S128x10000

end Cert.Proof.Dense

end
-- ==== Proof.TailRun.lean ====
/-
  THE DENSE CALLS' BODIES RUN: each reads its operands whole and stores its results whole; what it stores is the function of what it read (`Dense`).
-/
module

public import proofs.«01_k».proof.Proof.Base
public import proofs.«01_k».proof.Proof.Dense
public import proofs.«01_k».proof.Proof.Gen.KernelIdeal.Launch
public import Idealize.ShloMosaic.Lib.Pipeline.RegionsLoop
public import Idealize.ShloMosaic.Lib.VecWindow
public import Idealize.ShloMosaic.Lib.Tactic

@[expose] public section

noncomputable section

namespace Cert.Proof.Seg

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A memref's buffer on a device, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 2000000 in
set_option maxRecDepth 8192 in
theorem tail_run (c : Dev nD)
    (M0 : Memref sig .tc .vmem S10000x128 .f32) (h0 : M0.IsWhole)
    (M1 : Memref sig .tc .vmem S10000x128 .f32) (h1 : M1.IsWhole)
    (M2 : Memref sig .tc .vmem S128x10000 .f32) (h2 : M2.IsWhole)
    (M3 : Memref sig .tc .vmem S128 .f32) (h3 : M3.IsWhole)
    (M4 : Memref sig .tc .vmem S128 .f32) (h4 : M4.IsWhole)
    (M5 : Memref sig .tc .vmem S128x64 .f32) (h5 : M5.IsWhole)
    (M6 : Memref sig .tc .vmem S64 .f32) (h6 : M6.IsWhole)
    (M7 : Memref sig .tc .vmem S64x1 .f32) (h7 : M7.IsWhole)
    (M8 : Memref sig .tc .vmem S1 .f32) (h8 : M8.IsWhole)
    (M9 : Memref sig .tc .vmem S10000x1 .f32) (h9 : M9.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(pt c M0 f0 ∗ pt c M1 f1 ∗ pt c M2 f2 ∗ pt c M3 f3 ∗ pt c M4 f4 ∗ pt c M5 f5 ∗ pt c M6 f6 ∗ pt c M7 f7 ∗ pt c M8 f8
            ∗ (∃ g, ⌜M9.view.read (Elt F) g = Dense.tailOut (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)⌝ ∗ pt c M9 g)) -∗ Q ⟨⟩))
      ⊢ wp frame (wpE (defs₀ (F := F)) 𝒱₀ c none) E (cc2__tail_body M0 h0 M1 h1 M2 h2 M3 h3 M4 h4 M5 h5 M6 h6 M7 h7 M8 h8 M9 h9) Q := by
  iintro ⟨H0, H1, H2, H3, H4, H5, H6, H7, H8, H9, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr; swap; (· iexact H9); ipureintro
  sl_unfold_run_names
  refine (View.read_writes_full _ _ _ _ _).trans ?_
  rw [View.readAt_full M0.view, View.readAt_full M1.view, View.readAt_full M2.view, View.readAt_full M3.view, View.readAt_full M4.view,
    View.readAt_full M5.view, View.readAt_full M6.view, View.readAt_full M7.view, View.readAt_full M8.view]
  rfl

end Cert.Proof.Seg

end
-- ==== Proof.EncRun.lean ====
/-
  THE DENSE CALLS' BODIES RUN: each reads its operands whole and stores its results whole; what it stores is the function of what it read (`Dense`).
-/
module

public import proofs.«01_k».proof.Proof.Base
public import proofs.«01_k».proof.Proof.TailRun
public import proofs.«01_k».proof.Proof.Gen.KernelIdeal.Launch
public import Idealize.ShloMosaic.Lib.Pipeline.RegionsLoop
public import Idealize.ShloMosaic.Lib.VecWindow
public import Idealize.ShloMosaic.Lib.Tactic

@[expose] public section

noncomputable section

namespace Cert.Proof.Seg

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 2000000 in
set_option maxRecDepth 8192 in
theorem enc_run (c : Dev nD)
    (M0 : Memref sig .tc .vmem S10000x8 .f32) (h0 : M0.IsWhole)
    (M1 : Memref sig .tc .vmem S10000x2 .i32) (h1 : M1.IsWhole)
    (M2 : Memref sig .tc .vmem S3x32 .f32) (h2 : M2.IsWhole)
    (M3 : Memref sig .tc .vmem S7x32 .f32) (h3 : M3.IsWhole)
    (M4 : Memref sig .tc .vmem S8x64 .f32) (h4 : M4.IsWhole)
    (M5 : Memref sig .tc .vmem S64 .f32) (h5 : M5.IsWhole)
    (M6 : Memref sig .tc .vmem S64x64 .f32) (h6 : M6.IsWhole)
    (M7 : Memref sig .tc .vmem S64 .f32) (h7 : M7.IsWhole)
    (M8 : Memref sig .tc .vmem S128x128 .f32) (h8 : M8.IsWhole)
    (M9 : Memref sig .tc .vmem S128 .f32) (h9 : M9.IsWhole)
    (M10 : Memref sig .tc .vmem S128 .f32) (h10 : M10.IsWhole)
    (M11 : Memref sig .tc .vmem S128 .f32) (h11 : M11.IsWhole)
    (M12 : Memref sig .tc .vmem S256x128 .f32) (h12 : M12.IsWhole)
    (M13 : Memref sig .tc .vmem S128 .f32) (h13 : M13.IsWhole)
    (M14 : Memref sig .tc .vmem S10000x128 .f32) (h14 : M14.IsWhole)
    (M15 : Memref sig .tc .vmem S10000x128 .f32) (h15 : M15.IsWhole)
    (M16 : Memref sig .tc .vmem S128x10000 .f32) (h16 : M16.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16)
    (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
            ∗ (∃ g, ⌜M14.view.read (Elt F) g = (Dense.embOut (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11))⌝ ∗ pt c M14 g) ∗ (∃ g, ⌜M15.view.read (Elt F) g = Dense.aOut (Dense.embOut (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11)) (M12.view.read (Elt F) f12) (M13.view.read (Elt F) f13)⌝ ∗ pt c M15 g) ∗ (∃ g, ⌜M16.view.read (Elt F) g = Dense.btOut (Dense.embOut (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11)) (M12.view.read (Elt F) f12)⌝ ∗ pt c M16 g)) -∗ Q ⟨⟩))
      ⊢ wp frame (wpE (defs₀ (F := F)) 𝒱₀ c none) E (cc0__enc_body M0 h0 M1 h1 M2 h2 M3 h3 M4 h4 M5 h5 M6 h6 M7 h7 M8 h8 M9 h9 M10 h10 M11 h11 M12 h12 M13 h13 M14 h14 M15 h15 M16 h16) Q := by
  iintro ⟨H0, H1, H2, H3, H4, H5, H6, H7, H8, H9, H10, H11, H12, H13, H14, H15, H16, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap; (· iexact H14); ipureintro
    sl_unfold_run_names
    refine (View.read_writes_full _ _ _ _ _).trans ?_
    rw [View.readAt_full M0.view, View.readAt_full M1.view, View.readAt_full M4.view, View.readAt_full M5.view, View.readAt_full M6.view, View.readAt_full M7.view, View.readAt_full M8.view, View.readAt_full M9.view, View.readAt_full M10.view, View.readAt_full M11.view,
      View.readAt_unit M2.view f2 inb_S3x32_S1x32_0_0 rfl (by decide), View.readAt_unit M2.view f2 inb_S3x32_S1x32_1_0 rfl (by decide), View.readAt_unit M2.view f2 inb_S3x32_S1x32_2_0 rfl (by decide),
      View.readAt_unit M3.view f3 inb_S7x32_S1x32_0_0 rfl (by decide), View.readAt_unit M3.view f3 inb_S7x32_S1x32_1_0 rfl (by decide), View.readAt_unit M3.view f3 inb_S7x32_S1x32_2_0 rfl (by decide), View.readAt_unit M3.view f3 inb_S7x32_S1x32_3_0 rfl (by decide), View.readAt_unit M3.view f3 inb_S7x32_S1x32_4_0 rfl (by decide), View.readAt_unit M3.view f3 inb_S7x32_S1x32_5_0 rfl (by decide), View.readAt_unit M3.view f3 inb_S7x32_S1x32_6_0 rfl (by decide)]
    rfl
  isplitl [H15]
  · iexists _; isplitr; swap; (· iexact H15); ipureintro
    sl_unfold_run_names
    refine (View.read_writes_full _ _ _ _ _).trans ?_
    rw [View.readAt_full M0.view, View.readAt_full M1.view, View.readAt_full M4.view, View.readAt_full M5.view, View.readAt_full M6.view, View.readAt_full M7.view, View.readAt_full M8.view, View.readAt_full M9.view, View.readAt_full M10.view, View.readAt_full M11.view, View.readAt_full M12.view, View.readAt_full M13.view,
      View.readAt_unit M2.view f2 inb_S3x32_S1x32_0_0 rfl (by decide), View.readAt_unit M2.view f2 inb_S3x32_S1x32_1_0 rfl (by decide), View.readAt_unit M2.view f2 inb_S3x32_S1x32_2_0 rfl (by decide),
      View.readAt_unit M3.view f3 inb_S7x32_S1x32_0_0 rfl (by decide), View.readAt_unit M3.view f3 inb_S7x32_S1x32_1_0 rfl (by decide), View.readAt_unit M3.view f3 inb_S7x32_S1x32_2_0 rfl (by decide), View.readAt_unit M3.view f3 inb_S7x32_S1x32_3_0 rfl (by decide), View.readAt_unit M3.view f3 inb_S7x32_S1x32_4_0 rfl (by decide), View.readAt_unit M3.view f3 inb_S7x32_S1x32_5_0 rfl (by decide), View.readAt_unit M3.view f3 inb_S7x32_S1x32_6_0 rfl (by decide)]
    rfl
  iexists _; isplitr; swap; (· iexact H16); ipureintro
  sl_unfold_run_names
  refine (View.read_writes_full _ _ _ _ _).trans ?_
  rw [View.readAt_full M0.view, View.readAt_full M1.view, View.readAt_full M4.view, View.readAt_full M5.view, View.readAt_full M6.view, View.readAt_full M7.view, View.readAt_full M8.view, View.readAt_full M9.view, View.readAt_full M10.view, View.readAt_full M11.view, View.readAt_full M12.view,
    View.readAt_unit M2.view f2 inb_S3x32_S1x32_0_0 rfl (by decide), View.readAt_unit M2.view f2 inb_S3x32_S1x32_1_0 rfl (by decide), View.readAt_unit M2.view f2 inb_S3x32_S1x32_2_0 rfl (by decide),
    View.readAt_unit M3.view f3 inb_S7x32_S1x32_0_0 rfl (by decide), View.readAt_unit M3.view f3 inb_S7x32_S1x32_1_0 rfl (by decide), View.readAt_unit M3.view f3 inb_S7x32_S1x32_2_0 rfl (by decide), View.readAt_unit M3.view f3 inb_S7x32_S1x32_3_0 rfl (by decide), View.readAt_unit M3.view f3 inb_S7x32_S1x32_4_0 rfl (by decide), View.readAt_unit M3.view f3 inb_S7x32_S1x32_5_0 rfl (by decide), View.readAt_unit M3.view f3 inb_S7x32_S1x32_6_0 rfl (by decide)]
  rfl

end Cert.Proof.Seg

end
-- ==== Proof.Regions.lean ====
/-
  THE TWO DENSE CALLS AS REGIONS of the program: what each finds in its arrays, what it leaves there, over the state "every array of the program at a
  valuation", from which the call is entered and to which it returns.
-/
module

public import proofs.«01_k».proof.Proof.EncRun
public import proofs.«01_k».proof.Proof.Gen.KernelIdeal.Points
public import Idealize.ShloMosaic.Lib.Pipeline.Kit
public import Idealize.ShloMosaic.Lib.SparseCore.Stream

@[expose] public section

noncomputable section

namespace Cert.Proof.Seg

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

/-- No window's index map reads a table. -/
abbrev adm : (p : Fin 2) → (pcfgs (F := F) p).Adm := fun p => (cfgs p).toPCfg_adm

/-- What the TensorCore still owes the handshakes, it owes at a call's index. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply]
    exact if_neg fun h => by simpa using h.2
  · rfl

theorem rdAux (a y : ℕ) : 0 * a + 1 * y = y := by omega

variable [FloatOps F]

/-- The contents of the program's arrays. -/
abbrev Vl (F : FTy → Type) : Type := (c : Dev nD) → (b : Ref sig .tc) → Buf (Elt F) ((c : Thread nD τ).loc b)

/-- A pipeline's data where it is not entered: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The pairs the TensorCore has recorded, all at or below a level. -/
def recs (b : ℕ) (c : Dev nD) : Set (SemLoc sig × HIx 1) := {p | (K (F := F)).lev ((c : Thread nD τ), p.1) p.2 ≤ b}

/-- The state a region is entered from and returns to: the arrays at a valuation, what rides along, what the core owes. -/
def stAt (n b : ℕ) (R : Dev nD → sProp 𝕄) (V : Vl F) (c : Dev nD) : sProp 𝕄 :=
  iprop(unscopedBufs c (V c) ∗ R c ∗ ∃ W, ⌜(K (F := F)).WBelow (c : Thread nD τ) W b⌝ ∗ owes (c : Thread nD τ) ((K (F := F)).Otc c n) W)

/-! ## The tail call -/

section Tail

variable (V : Vl F) (n b : ℕ)

/-- What the call leaves in main_v2. -/
abbrev tailO9 (c : Dev nD) : FVec F S10000x1 .f32 := Dense.tailOut (F := F) (V c main_v0_0) (V c main_v0_1) (V c main_v1) (V c main_arg16) (V c main_arg17) (V c main_arg18) (V c main_arg19) (V c main_arg20) (V c main_arg21)

theorem tailBlk0 (c : Dev nD) (f : Buf (Elt F) ((c : Thread nD τ).loc main_v0_0)) : ((cfg2.win 0).blk t2_0).view.read (Elt F) f = f := by
  funext y
  refine congrArg f (funext fun a => Fin.ext ?_)
  exact rdAux _ _

theorem tailBlk1 (c : Dev nD) (f : Buf (Elt F) ((c : Thread nD τ).loc main_v0_1)) : ((cfg2.win 1).blk t2_0).view.read (Elt F) f = f := by
  funext y
  refine congrArg f (funext fun a => Fin.ext ?_)
  exact rdAux _ _

theorem tailBlk2 (c : Dev nD) (f : Buf (Elt F) ((c : Thread nD τ).loc main_v1)) : ((cfg2.win 2).blk t2_0).view.read (Elt F) f = f := by
  funext y
  refine congrArg f (funext fun a => Fin.ext ?_)
  exact rdAux _ _

theorem tailBlk3 (c : Dev nD) (f : Buf (Elt F) ((c : Thread nD τ).loc main_arg16)) : ((cfg2.win 3).blk t2_0).view.read (Elt F) f = f := by
  funext y
  refine congrArg f (funext fun a => Fin.ext ?_)
  exact rdAux _ _

theorem tailBlk4 (c : Dev nD) (f : Buf (Elt F) ((c : Thread nD τ).loc main_arg17)) : ((cfg2.win 4).blk t2_0).view.read (Elt F) f = f := by
  funext y
  refine congrArg f (funext fun a => Fin.ext ?_)
  exact rdAux _ _

theorem tailBlk5 (c : Dev nD) (f : Buf (Elt F) ((c : Thread nD τ).loc main_arg18)) : ((cfg2.win 5).blk t2_0).view.read (Elt F) f = f := by
  funext y
  refine congrArg f (funext fun a => Fin.ext ?_)
  exact rdAux _ _

theorem tailBlk6 (c : Dev nD) (f : Buf (Elt F) ((c : Thread nD τ).loc main_arg19)) : ((cfg2.win 6).blk t2_0).view.read (Elt F) f = f := by
  funext y
  refine congrArg f (funext fun a => Fin.ext ?_)
  exact rdAux _ _

theorem tailBlk7 (c : Dev nD) (f : Buf (Elt F) ((c : Thread nD τ).loc main_arg20)) : ((cfg2.win 7).blk t2_0).view.read (Elt F) f = f := by
  funext y
  refine congrArg f (funext fun a => Fin.ext ?_)
  exact rdAux _ _

theorem tailBlk8 (c : Dev nD) (f : Buf (Elt F) ((c : Thread nD τ).loc main_arg21)) : ((cfg2.win 8).blk t2_0).view.read (Elt F) f = f := by
  funext y
  refine congrArg f (funext fun a => Fin.ext ?_)
  exact rdAux _ _

theorem tailBlk9 (c : Dev nD) (f : Buf (Elt F) ((c : Thread nD τ).loc main_v2)) : ((cfg2.win 9).blk t2_0).view.read (Elt F) f = f := by
  funext y
  refine congrArg f (funext fun a => Fin.ext ?_)
  exact rdAux _ _

/-- The call's data: its arrays at the valuation, its results' buffers after the body. -/
def tailDat (c : Dev nD) : Dat τ (Elt F) (HIx 1) ℕ UU ℕ cfg2 c where
  A w := V c (Pipeline.arrRef spec2 w)
  after w _ := match w with
    | ⟨0, _⟩ => V c main_v0_0
    | ⟨1, _⟩ => V c main_v0_1
    | ⟨2, _⟩ => V c main_v1
    | ⟨3, _⟩ => V c main_arg16
    | ⟨4, _⟩ => V c main_arg17
    | ⟨5, _⟩ => V c main_arg18
    | ⟨6, _⟩ => V c main_arg19
    | ⟨7, _⟩ => V c main_arg20
    | ⟨8, _⟩ => V c main_arg21
    | ⟨9, _⟩ => tailO9 V c
  Φ _ := Pipeline.scopedRest (Ix := HIx 1) (Name := ℕ) (U := UU) (Lvl := ℕ) (Val := Elt F) spec2 c
  q _ := fullShare
  owed _ := (K (F := F)).Otc c n
  recorded _ := recs (F := F) b c

def tailDats : (p : Fin 2) → (c : Dev nD) → Dat τ (Elt F) (HIx 1) ℕ UU ℕ (Pipeline.pin (pcfgs (F := F)) adm p) c
  | ⟨0, _⟩ => fun c => junkDat c
  | ⟨1, _⟩ => fun c => tailDat V n b c

theorem tailBefore0 (c : Dev nD) (d : (cfg2.win 0).block.Idx → Elt F (cfg2.win 0).elt) : (tailDat V n b c).before 0 t2_0 d = V c main_v0_0 := by
  unfold Dat.before; rw [if_pos (fetch2_0 _)]; exact tailBlk0 (F := F) c _

theorem tailBefore1 (c : Dev nD) (d : (cfg2.win 1).block.Idx → Elt F (cfg2.win 1).elt) : (tailDat V n b c).before 1 t2_0 d = V c main_v0_1 := by
  unfold Dat.before; rw [if_pos (fetch2_1 _)]; exact tailBlk1 (F := F) c _

theorem tailBefore2 (c : Dev nD) (d : (cfg2.win 2).block.Idx → Elt F (cfg2.win 2).elt) : (tailDat V n b c).before 2 t2_0 d = V c main_v1 := by
  unfold Dat.before; rw [if_pos (fetch2_2 _)]; exact tailBlk2 (F := F) c _

theorem tailBefore3 (c : Dev nD) (d : (cfg2.win 3).block.Idx → Elt F (cfg2.win 3).elt) : (tailDat V n b c).before 3 t2_0 d = V c main_arg16 := by
  unfold Dat.before; rw [if_pos (fetch2_3 _)]; exact tailBlk3 (F := F) c _

theorem tailBefore4 (c : Dev nD) (d : (cfg2.win 4).block.Idx → Elt F (cfg2.win 4).elt) : (tailDat V n b c).before 4 t2_0 d = V c main_arg17 := by
  unfold Dat.before; rw [if_pos (fetch2_4 _)]; exact tailBlk4 (F := F) c _

theorem tailBefore5 (c : Dev nD) (d : (cfg2.win 5).block.Idx → Elt F (cfg2.win 5).elt) : (tailDat V n b c).before 5 t2_0 d = V c main_arg18 := by
  unfold Dat.before; rw [if_pos (fetch2_5 _)]; exact tailBlk5 (F := F) c _

theorem tailBefore6 (c : Dev nD) (d : (cfg2.win 6).block.Idx → Elt F (cfg2.win 6).elt) : (tailDat V n b c).before 6 t2_0 d = V c main_arg19 := by
  unfold Dat.before; rw [if_pos (fetch2_6 _)]; exact tailBlk6 (F := F) c _

theorem tailBefore7 (c : Dev nD) (d : (cfg2.win 7).block.Idx → Elt F (cfg2.win 7).elt) : (tailDat V n b c).before 7 t2_0 d = V c main_arg20 := by
  unfold Dat.before; rw [if_pos (fetch2_7 _)]; exact tailBlk7 (F := F) c _

theorem tailBefore8 (c : Dev nD) (d : (cfg2.win 8).block.Idx → Elt F (cfg2.win 8).elt) : (tailDat V n b c).before 8 t2_0 d = V c main_arg21 := by
  unfold Dat.before; rw [if_pos (fetch2_8 _)]; exact tailBlk8 (F := F) c _

set_option maxHeartbeats 2000000 in
set_option maxRecDepth 16384 in
theorem tail_obligation (c : Dev nD) : BodyObligation (tailDat V n b c) (defs₀ (F := F)) 𝒱₀ none Set.univ := fun t => by
  obtain rfl := fin_N2 t
  rw [bigSep_W2, bigSep_W2]
  simp only [owns_whole_eq]
  rw [show (tailDat V n b c).Φ t2_0.succ = (tailDat V n b c).Φ t2_0.castSucc from rfl,
    show (tailDat V n b c).owesAt none t2_0.succ = (tailDat V n b c).owesAt none t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  rw [tailBefore0] at hf0
  rw [tailBefore1] at hf1
  rw [tailBefore2] at hf2
  rw [tailBefore3] at hf3
  rw [tailBefore4] at hf4
  rw [tailBefore5] at hf5
  rw [tailBefore6] at hf6
  rw [tailBefore7] at hf7
  rw [tailBefore8] at hf8
  subst hf0; subst hf1; subst hf2; subst hf3; subst hf4; subst hf5; subst hf6; subst hf7; subst hf8
  iapply (tail_run (F := F) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (V c main_v0_0) (V c main_v0_1) (V c main_v1) (V c main_arg16) (V c main_arg17) (V c main_arg18) (V c main_arg19) (V c main_arg20) (V c main_arg21) f9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, ⟨%g9, %hg9, H9⟩⟩
  isplitl [HΦ]; · iexact HΦ
  isplitl [Howes]; · iexact Howes
  isplitl [H0]; · iexists _; isplitr; swap; (· iexact H0); ipureintro; dsimp only [tailDat]
  isplitl [H1]; · iexists _; isplitr; swap; (· iexact H1); ipureintro; dsimp only [tailDat]
  isplitl [H2]; · iexists _; isplitr; swap; (· iexact H2); ipureintro; dsimp only [tailDat]
  isplitl [H3]; · iexists _; isplitr; swap; (· iexact H3); ipureintro; dsimp only [tailDat]
  isplitl [H4]; · iexists _; isplitr; swap; (· iexact H4); ipureintro; dsimp only [tailDat]
  isplitl [H5]; · iexists _; isplitr; swap; (· iexact H5); ipureintro; dsimp only [tailDat]
  isplitl [H6]; · iexists _; isplitr; swap; (· iexact H6); ipureintro; dsimp only [tailDat]
  isplitl [H7]; · iexists _; isplitr; swap; (· iexact H7); ipureintro; dsimp only [tailDat]
  isplitl [H8]; · iexists _; isplitr; swap; (· iexact H8); ipureintro; dsimp only [tailDat]
  iexists _; isplitr; swap; (· iexact H9); ipureintro; exact hg9

theorem tailArr9 (c : Dev nD) : (tailDat V n b c).arrAt 9 cfg2.N = tailO9 V c := by
  have h := (tailDat V n b c).arrAt_succ 9 t2_0
  rw [if_pos (flush2_9 _)] at h
  refine (show (tailDat V n b c).arrAt 9 cfg2.N = (tailDat V n b c).arrAt 9 (t2_0.val + 1) from by rw [show cfg2.N = t2_0.val + 1 from N_2]).trans (h.trans ?_)
  refine (tailBlk9 (F := F) c _).symm.trans ((View.read_write_univ _ _).trans ?_)
  rfl

set_option backward.isDefEq.respectTransparency.types false in
set_option maxHeartbeats 2000000 in
set_option maxRecDepth 16384 in
/-- The call as a region: from a valuation to any that has the results at their values and is otherwise the same. -/
def tailReg (R : Dev nD → sProp 𝕄) (Vp : Vl F) (hO9 : ∀ c, Vp c main_v2 = tailO9 V c)
    (hne : ∀ c (b : Ref sig .tc), b ≠ main_v2 → Vp c b = V c b) :
    Pipeline.RegionSeg (pcfgs (F := F)) adm (tailDats V n b) none defs₀ 𝒱₀ (K (F := F)).L (K (F := F)).lev 1 where
  win := (launch2.toP (Val := Elt F)).win.to₀
  block_pos := (launch2.toP (Val := Elt F)).block_pos
  stage_whole := (launch2.toP (Val := Elt F)).stage_whole
  K := PEmpty
  osem k := k.elim
  ho := Pipeline.OwnSemFacts.none _
  hbody c := (tail_obligation V n b c).loose
  hwaits c := Pipeline.cellsWaits_intro _ _ _ 1 c fun w s t => (K (F := F)).mayWait_none (thr := (c : Thread nD τ)) _ (Otc_none c n)
  pre c := stAt n b R V c
  post c := stAt n b R Vp c
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (tailDats V n b) (launch2.toP (Val := Elt F)).win (launch2.toP (Val := Elt F)).arr_whole c
      ((tailDats V n b 1 c).share_full fun _ => rfl) (V c) fun _ => rfl
    unfold stAt
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (tailDats V n b 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (tailDats V n b 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2.toP (Val := Elt F)).win (launch2.toP (Val := Elt F)).arr_whole c
      (tailDats V n b) ((tailDats V n b 1 c).share_full fun _ => rfl) (V c) (Vp c) ((tailDats V n b 1 c).arrAt · cfg2.N)
      (fun w => by
        fin_cases w
        · exact ((tailDats V n b 1 c).arrAt_in 0 rfl _).trans (hne c main_v0_0 (by decide)).symm
        · exact ((tailDats V n b 1 c).arrAt_in 1 rfl _).trans (hne c main_v0_1 (by decide)).symm
        · exact ((tailDats V n b 1 c).arrAt_in 2 rfl _).trans (hne c main_v1 (by decide)).symm
        · exact ((tailDats V n b 1 c).arrAt_in 3 rfl _).trans (hne c main_arg16 (by decide)).symm
        · exact ((tailDats V n b 1 c).arrAt_in 4 rfl _).trans (hne c main_arg17 (by decide)).symm
        · exact ((tailDats V n b 1 c).arrAt_in 5 rfl _).trans (hne c main_arg18 (by decide)).symm
        · exact ((tailDats V n b 1 c).arrAt_in 6 rfl _).trans (hne c main_arg19 (by decide)).symm
        · exact ((tailDats V n b 1 c).arrAt_in 7 rfl _).trans (hne c main_arg20 (by decide)).symm
        · exact ((tailDats V n b 1 c).arrAt_in 8 rfl _).trans (hne c main_arg21 (by decide)).symm
        · exact (tailArr9 V n b c).trans (hO9 c).symm)
      (fun b hb => hne c b (fun h => hb (h ▸ Finset.mem_image.mpr ⟨9, Finset.mem_univ _, rfl⟩)))
    unfold stAt
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le b
    iexact HO

end Tail

/-! ## The enc call -/

section Enc

variable (V : Vl F) (n b : ℕ)

/-- What the call leaves in main_v0_0. -/
abbrev encO14 (c : Dev nD) : FVec F S10000x128 .f32 := (Dense.embOut (F := F) (V c main_arg0) (V c main_arg1) (V c main_arg4) (V c main_arg5) (V c main_arg6) (V c main_arg7) (V c main_arg8) (V c main_arg9) (V c main_arg10) (V c main_arg11) (V c main_arg12) (V c main_arg13))

/-- What the call leaves in main_v0_1. -/
abbrev encO15 (c : Dev nD) : FVec F S10000x128 .f32 := Dense.aOut (Dense.embOut (F := F) (V c main_arg0) (V c main_arg1) (V c main_arg4) (V c main_arg5) (V c main_arg6) (V c main_arg7) (V c main_arg8) (V c main_arg9) (V c main_arg10) (V c main_arg11) (V c main_arg12) (V c main_arg13)) (V c main_arg14) (V c main_arg15)

/-- What the call leaves in main_v0_2. -/
abbrev encO16 (c : Dev nD) : FVec F S128x10000 .f32 := Dense.btOut (Dense.embOut (F := F) (V c main_arg0) (V c main_arg1) (V c main_arg4) (V c main_arg5) (V c main_arg6) (V c main_arg7) (V c main_arg8) (V c main_arg9) (V c main_arg10) (V c main_arg11) (V c main_arg12) (V c main_arg13)) (V c main_arg14)

theorem encBlk0 (c : Dev nD) (f : Buf (Elt F) ((c : Thread nD τ).loc main_arg0)) : ((cfg0.win 0).blk t0_0).view.read (Elt F) f = f := by
  funext y
  refine congrArg f (funext fun a => Fin.ext ?_)
  exact rdAux _ _

theorem encBlk1 (c : Dev nD) (f : Buf (Elt F) ((c : Thread nD τ).loc main_arg1)) : ((cfg0.win 1).blk t0_0).view.read (Elt F) f = f := by
  funext y
  refine congrArg f (funext fun a => Fin.ext ?_)
  exact rdAux _ _

theorem encBlk2 (c : Dev nD) (f : Buf (Elt F) ((c : Thread nD τ).loc main_arg4)) : ((cfg0.win 2).blk t0_0).view.read (Elt F) f = f := by
  funext y
  refine congrArg f (funext fun a => Fin.ext ?_)
  exact rdAux _ _

theorem encBlk3 (c : Dev nD) (f : Buf (Elt F) ((c : Thread nD τ).loc main_arg5)) : ((cfg0.win 3).blk t0_0).view.read (Elt F) f = f := by
  funext y
  refine congrArg f (funext fun a => Fin.ext ?_)
  exact rdAux _ _

theorem encBlk4 (c : Dev nD) (f : Buf (Elt F) ((c : Thread nD τ).loc main_arg6)) : ((cfg0.win 4).blk t0_0).view.read (Elt F) f = f := by
  funext y
  refine congrArg f (funext fun a => Fin.ext ?_)
  exact rdAux _ _

theorem encBlk5 (c : Dev nD) (f : Buf (Elt F) ((c : Thread nD τ).loc main_arg7)) : ((cfg0.win 5).blk t0_0).view.read (Elt F) f = f := by
  funext y
  refine congrArg f (funext fun a => Fin.ext ?_)
  exact rdAux _ _

theorem encBlk6 (c : Dev nD) (f : Buf (Elt F) ((c : Thread nD τ).loc main_arg8)) : ((cfg0.win 6).blk t0_0).view.read (Elt F) f = f := by
  funext y
  refine congrArg f (funext fun a => Fin.ext ?_)
  exact rdAux _ _

theorem encBlk7 (c : Dev nD) (f : Buf (Elt F) ((c : Thread nD τ).loc main_arg9)) : ((cfg0.win 7).blk t0_0).view.read (Elt F) f = f := by
  funext y
  refine congrArg f (funext fun a => Fin.ext ?_)
  exact rdAux _ _

theorem encBlk8 (c : Dev nD) (f : Buf (Elt F) ((c : Thread nD τ).loc main_arg10)) : ((cfg0.win 8).blk t0_0).view.read (Elt F) f = f := by
  funext y
  refine congrArg f (funext fun a => Fin.ext ?_)
  exact rdAux _ _

theorem encBlk9 (c : Dev nD) (f : Buf (Elt F) ((c : Thread nD τ).loc main_arg11)) : ((cfg0.win 9).blk t0_0).view.read (Elt F) f = f := by
  funext y
  refine congrArg f (funext fun a => Fin.ext ?_)
  exact rdAux _ _

theorem encBlk10 (c : Dev nD) (f : Buf (Elt F) ((c : Thread nD τ).loc main_arg12)) : ((cfg0.win 10).blk t0_0).view.read (Elt F) f = f := by
  funext y
  refine congrArg f (funext fun a => Fin.ext ?_)
  exact rdAux _ _

theorem encBlk11 (c : Dev nD) (f : Buf (Elt F) ((c : Thread nD τ).loc main_arg13)) : ((cfg0.win 11).blk t0_0).view.read (Elt F) f = f := by
  funext y
  refine congrArg f (funext fun a => Fin.ext ?_)
  exact rdAux _ _

theorem encBlk12 (c : Dev nD) (f : Buf (Elt F) ((c : Thread nD τ).loc main_arg14)) : ((cfg0.win 12).blk t0_0).view.read (Elt F) f = f := by
  funext y
  refine congrArg f (funext fun a => Fin.ext ?_)
  exact rdAux _ _

theorem encBlk13 (c : Dev nD) (f : Buf (Elt F) ((c : Thread nD τ).loc main_arg15)) : ((cfg0.win 13).blk t0_0).view.read (Elt F) f = f := by
  funext y
  refine congrArg f (funext fun a => Fin.ext ?_)
  exact rdAux _ _

theorem encBlk14 (c : Dev nD) (f : Buf (Elt F) ((c : Thread nD τ).loc main_v0_0)) : ((cfg0.win 14).blk t0_0).view.read (Elt F) f = f := by
  funext y
  refine congrArg f (funext fun a => Fin.ext ?_)
  exact rdAux _ _

theorem encBlk15 (c : Dev nD) (f : Buf (Elt F) ((c : Thread nD τ).loc main_v0_1)) : ((cfg0.win 15).blk t0_0).view.read (Elt F) f = f := by
  funext y
  refine congrArg f (funext fun a => Fin.ext ?_)
  exact rdAux _ _

theorem encBlk16 (c : Dev nD) (f : Buf (Elt F) ((c : Thread nD τ).loc main_v0_2)) : ((cfg0.win 16).blk t0_0).view.read (Elt F) f = f := by
  funext y
  refine congrArg f (funext fun a => Fin.ext ?_)
  exact rdAux _ _

/-- The call's data: its arrays at the valuation, its results' buffers after the body. -/
def encDat (c : Dev nD) : Dat τ (Elt F) (HIx 1) ℕ UU ℕ cfg0 c where
  A w := V c (Pipeline.arrRef spec0 w)
  after w _ := match w with
    | ⟨0, _⟩ => V c main_arg0
    | ⟨1, _⟩ => V c main_arg1
    | ⟨2, _⟩ => V c main_arg4
    | ⟨3, _⟩ => V c main_arg5
    | ⟨4, _⟩ => V c main_arg6
    | ⟨5, _⟩ => V c main_arg7
    | ⟨6, _⟩ => V c main_arg8
    | ⟨7, _⟩ => V c main_arg9
    | ⟨8, _⟩ => V c main_arg10
    | ⟨9, _⟩ => V c main_arg11
    | ⟨10, _⟩ => V c main_arg12
    | ⟨11, _⟩ => V c main_arg13
    | ⟨12, _⟩ => V c main_arg14
    | ⟨13, _⟩ => V c main_arg15
    | ⟨14, _⟩ => encO14 V c
    | ⟨15, _⟩ => encO15 V c
    | ⟨16, _⟩ => encO16 V c
    | ⟨_ + 17, h⟩ => absurd h (Nat.not_lt.2 (Nat.le_add_left _ _))
  Φ _ := Pipeline.scopedRest (Ix := HIx 1) (Name := ℕ) (U := UU) (Lvl := ℕ) (Val := Elt F) spec0 c
  q _ := fullShare
  owed _ := (K (F := F)).Otc c n
  recorded _ := recs (F := F) b c

def encDats : (p : Fin 2) → (c : Dev nD) → Dat τ (Elt F) (HIx 1) ℕ UU ℕ (Pipeline.pin (pcfgs (F := F)) adm p) c
  | ⟨0, _⟩ => fun c => encDat V n b c
  | ⟨1, _⟩ => fun c => junkDat c

theorem encBefore0 (c : Dev nD) (d : (cfg0.win 0).block.Idx → Elt F (cfg0.win 0).elt) : (encDat V n b c).before 0 t0_0 d = V c main_arg0 := by
  unfold Dat.before; rw [if_pos (fetch0_0 _)]; exact encBlk0 (F := F) c _

theorem encBefore1 (c : Dev nD) (d : (cfg0.win 1).block.Idx → Elt F (cfg0.win 1).elt) : (encDat V n b c).before 1 t0_0 d = V c main_arg1 := by
  unfold Dat.before; rw [if_pos (fetch0_1 _)]; exact encBlk1 (F := F) c _

theorem encBefore2 (c : Dev nD) (d : (cfg0.win 2).block.Idx → Elt F (cfg0.win 2).elt) : (encDat V n b c).before 2 t0_0 d = V c main_arg4 := by
  unfold Dat.before; rw [if_pos (fetch0_2 _)]; exact encBlk2 (F := F) c _

theorem encBefore3 (c : Dev nD) (d : (cfg0.win 3).block.Idx → Elt F (cfg0.win 3).elt) : (encDat V n b c).before 3 t0_0 d = V c main_arg5 := by
  unfold Dat.before; rw [if_pos (fetch0_3 _)]; exact encBlk3 (F := F) c _

theorem encBefore4 (c : Dev nD) (d : (cfg0.win 4).block.Idx → Elt F (cfg0.win 4).elt) : (encDat V n b c).before 4 t0_0 d = V c main_arg6 := by
  unfold Dat.before; rw [if_pos (fetch0_4 _)]; exact encBlk4 (F := F) c _

theorem encBefore5 (c : Dev nD) (d : (cfg0.win 5).block.Idx → Elt F (cfg0.win 5).elt) : (encDat V n b c).before 5 t0_0 d = V c main_arg7 := by
  unfold Dat.before; rw [if_pos (fetch0_5 _)]; exact encBlk5 (F := F) c _

theorem encBefore6 (c : Dev nD) (d : (cfg0.win 6).block.Idx → Elt F (cfg0.win 6).elt) : (encDat V n b c).before 6 t0_0 d = V c main_arg8 := by
  unfold Dat.before; rw [if_pos (fetch0_6 _)]; exact encBlk6 (F := F) c _

theorem encBefore7 (c : Dev nD) (d : (cfg0.win 7).block.Idx → Elt F (cfg0.win 7).elt) : (encDat V n b c).before 7 t0_0 d = V c main_arg9 := by
  unfold Dat.before; rw [if_pos (fetch0_7 _)]; exact encBlk7 (F := F) c _

theorem encBefore8 (c : Dev nD) (d : (cfg0.win 8).block.Idx → Elt F (cfg0.win 8).elt) : (encDat V n b c).before 8 t0_0 d = V c main_arg10 := by
  unfold Dat.before; rw [if_pos (fetch0_8 _)]; exact encBlk8 (F := F) c _

theorem encBefore9 (c : Dev nD) (d : (cfg0.win 9).block.Idx → Elt F (cfg0.win 9).elt) : (encDat V n b c).before 9 t0_0 d = V c main_arg11 := by
  unfold Dat.before; rw [if_pos (fetch0_9 _)]; exact encBlk9 (F := F) c _

theorem encBefore10 (c : Dev nD) (d : (cfg0.win 10).block.Idx → Elt F (cfg0.win 10).elt) : (encDat V n b c).before 10 t0_0 d = V c main_arg12 := by
  unfold Dat.before; rw [if_pos (fetch0_10 _)]; exact encBlk10 (F := F) c _

theorem encBefore11 (c : Dev nD) (d : (cfg0.win 11).block.Idx → Elt F (cfg0.win 11).elt) : (encDat V n b c).before 11 t0_0 d = V c main_arg13 := by
  unfold Dat.before; rw [if_pos (fetch0_11 _)]; exact encBlk11 (F := F) c _

theorem encBefore12 (c : Dev nD) (d : (cfg0.win 12).block.Idx → Elt F (cfg0.win 12).elt) : (encDat V n b c).before 12 t0_0 d = V c main_arg14 := by
  unfold Dat.before; rw [if_pos (fetch0_12 _)]; exact encBlk12 (F := F) c _

theorem encBefore13 (c : Dev nD) (d : (cfg0.win 13).block.Idx → Elt F (cfg0.win 13).elt) : (encDat V n b c).before 13 t0_0 d = V c main_arg15 := by
  unfold Dat.before; rw [if_pos (fetch0_13 _)]; exact encBlk13 (F := F) c _

set_option maxHeartbeats 2000000 in
set_option maxRecDepth 16384 in
theorem enc_obligation (c : Dev nD) : BodyObligation (encDat V n b c) (defs₀ (F := F)) 𝒱₀ none Set.univ := fun t => by
  obtain rfl := fin_N0 t
  rw [bigSep_W0, bigSep_W0]
  simp only [owns_whole_eq]
  rw [show (encDat V n b c).Φ t0_0.succ = (encDat V n b c).Φ t0_0.castSucc from rfl,
    show (encDat V n b c).owesAt none t0_0.succ = (encDat V n b c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, -, H14⟩, ⟨%d15, %f15, -, H15⟩, ⟨%d16, %f16, -, H16⟩⟩
  rw [encBefore0] at hf0
  rw [encBefore1] at hf1
  rw [encBefore2] at hf2
  rw [encBefore3] at hf3
  rw [encBefore4] at hf4
  rw [encBefore5] at hf5
  rw [encBefore6] at hf6
  rw [encBefore7] at hf7
  rw [encBefore8] at hf8
  rw [encBefore9] at hf9
  rw [encBefore10] at hf10
  rw [encBefore11] at hf11
  rw [encBefore12] at hf12
  rw [encBefore13] at hf13
  subst hf0; subst hf1; subst hf2; subst hf3; subst hf4; subst hf5; subst hf6; subst hf7; subst hf8; subst hf9; subst hf10; subst hf11; subst hf12; subst hf13
  iapply (enc_run (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (stage0_13 0) (hstage0_13 0) (stage0_14 0) (hstage0_14 0) (stage0_15 0) (hstage0_15 0) (stage0_16 0) (hstage0_16 0) (V c main_arg0) (V c main_arg1) (V c main_arg4) (V c main_arg5) (V c main_arg6) (V c main_arg7) (V c main_arg8) (V c main_arg9) (V c main_arg10) (V c main_arg11) (V c main_arg12) (V c main_arg13) (V c main_arg14) (V c main_arg15) f14 f15 f16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, ⟨%g14, %hg14, H14⟩, ⟨%g15, %hg15, H15⟩, ⟨%g16, %hg16, H16⟩⟩
  isplitl [HΦ]; · iexact HΦ
  isplitl [Howes]; · iexact Howes
  isplitl [H0]; · iexists _; isplitr; swap; (· iexact H0); ipureintro; dsimp only [encDat]
  isplitl [H1]; · iexists _; isplitr; swap; (· iexact H1); ipureintro; dsimp only [encDat]
  isplitl [H2]; · iexists _; isplitr; swap; (· iexact H2); ipureintro; dsimp only [encDat]
  isplitl [H3]; · iexists _; isplitr; swap; (· iexact H3); ipureintro; dsimp only [encDat]
  isplitl [H4]; · iexists _; isplitr; swap; (· iexact H4); ipureintro; dsimp only [encDat]
  isplitl [H5]; · iexists _; isplitr; swap; (· iexact H5); ipureintro; dsimp only [encDat]
  isplitl [H6]; · iexists _; isplitr; swap; (· iexact H6); ipureintro; dsimp only [encDat]
  isplitl [H7]; · iexists _; isplitr; swap; (· iexact H7); ipureintro; dsimp only [encDat]
  isplitl [H8]; · iexists _; isplitr; swap; (· iexact H8); ipureintro; dsimp only [encDat]
  isplitl [H9]; · iexists _; isplitr; swap; (· iexact H9); ipureintro; dsimp only [encDat]
  isplitl [H10]; · iexists _; isplitr; swap; (· iexact H10); ipureintro; dsimp only [encDat]
  isplitl [H11]; · iexists _; isplitr; swap; (· iexact H11); ipureintro; dsimp only [encDat]
  isplitl [H12]; · iexists _; isplitr; swap; (· iexact H12); ipureintro; dsimp only [encDat]
  isplitl [H13]; · iexists _; isplitr; swap; (· iexact H13); ipureintro; dsimp only [encDat]
  isplitl [H14]; · iexists _; isplitr; swap; (· iexact H14); ipureintro; exact hg14
  isplitl [H15]; · iexists _; isplitr; swap; (· iexact H15); ipureintro; exact hg15
  iexists _; isplitr; swap; (· iexact H16); ipureintro; exact hg16

theorem encArr14 (c : Dev nD) : (encDat V n b c).arrAt 14 cfg0.N = encO14 V c := by
  have h := (encDat V n b c).arrAt_succ 14 t0_0
  rw [if_pos (flush0_14 _)] at h
  refine (show (encDat V n b c).arrAt 14 cfg0.N = (encDat V n b c).arrAt 14 (t0_0.val + 1) from by rw [show cfg0.N = t0_0.val + 1 from N_0]).trans (h.trans ?_)
  refine (encBlk14 (F := F) c _).symm.trans ((View.read_write_univ _ _).trans ?_)
  rfl

theorem encArr15 (c : Dev nD) : (encDat V n b c).arrAt 15 cfg0.N = encO15 V c := by
  have h := (encDat V n b c).arrAt_succ 15 t0_0
  rw [if_pos (flush0_15 _)] at h
  refine (show (encDat V n b c).arrAt 15 cfg0.N = (encDat V n b c).arrAt 15 (t0_0.val + 1) from by rw [show cfg0.N = t0_0.val + 1 from N_0]).trans (h.trans ?_)
  refine (encBlk15 (F := F) c _).symm.trans ((View.read_write_univ _ _).trans ?_)
  rfl

theorem encArr16 (c : Dev nD) : (encDat V n b c).arrAt 16 cfg0.N = encO16 V c := by
  have h := (encDat V n b c).arrAt_succ 16 t0_0
  rw [if_pos (flush0_16 _)] at h
  refine (show (encDat V n b c).arrAt 16 cfg0.N = (encDat V n b c).arrAt 16 (t0_0.val + 1) from by rw [show cfg0.N = t0_0.val + 1 from N_0]).trans (h.trans ?_)
  refine (encBlk16 (F := F) c _).symm.trans ((View.read_write_univ _ _).trans ?_)
  rfl

set_option backward.isDefEq.respectTransparency.types false in
set_option maxHeartbeats 2000000 in
set_option maxRecDepth 16384 in
/-- The call as a region: from a valuation to any that has the results at their values and is otherwise the same. -/
def encReg (R : Dev nD → sProp 𝕄) (Vp : Vl F) (hO14 : ∀ c, Vp c main_v0_0 = encO14 V c) (hO15 : ∀ c, Vp c main_v0_1 = encO15 V c) (hO16 : ∀ c, Vp c main_v0_2 = encO16 V c)
    (hne : ∀ c (b : Ref sig .tc), b ≠ main_v0_0 → b ≠ main_v0_1 → b ≠ main_v0_2 → Vp c b = V c b) :
    Pipeline.RegionSeg (pcfgs (F := F)) adm (encDats V n b) none defs₀ 𝒱₀ (K (F := F)).L (K (F := F)).lev 0 where
  win := (launch0.toP (Val := Elt F)).win.to₀
  block_pos := (launch0.toP (Val := Elt F)).block_pos
  stage_whole := (launch0.toP (Val := Elt F)).stage_whole
  K := PEmpty
  osem k := k.elim
  ho := Pipeline.OwnSemFacts.none _
  hbody c := (enc_obligation V n b c).loose
  hwaits c := Pipeline.cellsWaits_intro _ _ _ 0 c fun w s t => (K (F := F)).mayWait_none (thr := (c : Thread nD τ)) _ (Otc_none c n)
  pre c := stAt n b R V c
  post c := stAt n b R Vp c
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (encDats V n b) (launch0.toP (Val := Elt F)).win (launch0.toP (Val := Elt F)).arr_whole c
      ((encDats V n b 0 c).share_full fun _ => rfl) (V c) fun _ => rfl
    unfold stAt
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (encDats V n b 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (encDats V n b 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0.toP (Val := Elt F)).win (launch0.toP (Val := Elt F)).arr_whole c
      (encDats V n b) ((encDats V n b 0 c).share_full fun _ => rfl) (V c) (Vp c) ((encDats V n b 0 c).arrAt · cfg0.N)
      (fun w => by
        fin_cases w
        · exact ((encDats V n b 0 c).arrAt_in 0 rfl _).trans (hne c main_arg0 (by decide) (by decide) (by decide)).symm
        · exact ((encDats V n b 0 c).arrAt_in 1 rfl _).trans (hne c main_arg1 (by decide) (by decide) (by decide)).symm
        · exact ((encDats V n b 0 c).arrAt_in 2 rfl _).trans (hne c main_arg4 (by decide) (by decide) (by decide)).symm
        · exact ((encDats V n b 0 c).arrAt_in 3 rfl _).trans (hne c main_arg5 (by decide) (by decide) (by decide)).symm
        · exact ((encDats V n b 0 c).arrAt_in 4 rfl _).trans (hne c main_arg6 (by decide) (by decide) (by decide)).symm
        · exact ((encDats V n b 0 c).arrAt_in 5 rfl _).trans (hne c main_arg7 (by decide) (by decide) (by decide)).symm
        · exact ((encDats V n b 0 c).arrAt_in 6 rfl _).trans (hne c main_arg8 (by decide) (by decide) (by decide)).symm
        · exact ((encDats V n b 0 c).arrAt_in 7 rfl _).trans (hne c main_arg9 (by decide) (by decide) (by decide)).symm
        · exact ((encDats V n b 0 c).arrAt_in 8 rfl _).trans (hne c main_arg10 (by decide) (by decide) (by decide)).symm
        · exact ((encDats V n b 0 c).arrAt_in 9 rfl _).trans (hne c main_arg11 (by decide) (by decide) (by decide)).symm
        · exact ((encDats V n b 0 c).arrAt_in 10 rfl _).trans (hne c main_arg12 (by decide) (by decide) (by decide)).symm
        · exact ((encDats V n b 0 c).arrAt_in 11 rfl _).trans (hne c main_arg13 (by decide) (by decide) (by decide)).symm
        · exact ((encDats V n b 0 c).arrAt_in 12 rfl _).trans (hne c main_arg14 (by decide) (by decide) (by decide)).symm
        · exact ((encDats V n b 0 c).arrAt_in 13 rfl _).trans (hne c main_arg15 (by decide) (by decide) (by decide)).symm
        · exact (encArr14 V n b c).trans (hO14 c).symm
        · exact (encArr15 V n b c).trans (hO15 c).symm
        · exact (encArr16 V n b c).trans (hO16 c).symm)
      (fun b hb => hne c b (fun h => hb (h ▸ Finset.mem_image.mpr ⟨14, Finset.mem_univ _, rfl⟩)) (fun h => hb (h ▸ Finset.mem_image.mpr ⟨15, Finset.mem_univ _, rfl⟩)) (fun h => hb (h ▸ Finset.mem_image.mpr ⟨16, Finset.mem_univ _, rfl⟩)))
    unfold stAt
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le b
    iexact HO

end Enc

end Cert.Proof.Seg

end
-- ==== Proof.Launch.lean ====
/-
  THE PROGRAM'S RUN: what the SparseCore call's thirty-two tiles are handed and bring back, how the features, the edges and the result are dealt to them and
  gathered, and the run of the whole program, with what its result then holds.
-/
module

public import proofs.«01_k».proof.Defs
public import proofs.«01_k».proof.Proof.Tile
public import proofs.«01_k».proof.Proof.Regions
public import proofs.«01_k».proof.Proof.Gen.Pre_in_range
public import Idealize.ShloMosaic.Lib.ShareLeaves
public import Idealize.ShloMosaic.Lib.ReduceAll
public import Idealize.ShloMosaic.Lib.SparseCore.Stream
public import Idealize.ShloMosaic.Lib.StableHlo.Run
public import Idealize.ShloMosaic.Lib.Pipeline.Kit
public import Idealize.ShloMosaic.Lib.Writes

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "eV" => (Memref.whole Cert.KernelIdeal.main_arg2_scv : Memref Cert.KernelIdeal.sig Kind.scVector Space.hbm Cert.KernelIdeal.S2x320000 EltTy.i32)
local notation "xV" => (Memref.whole Cert.KernelIdeal.main_v0_2_scv : Memref Cert.KernelIdeal.sig Kind.scVector Space.hbm Cert.KernelIdeal.S128x10000 EltTy.f32)
local notation "oV" => (Memref.whole Cert.KernelIdeal.main_v1_scv : Memref Cert.KernelIdeal.sig Kind.scVector Space.hbm Cert.KernelIdeal.S128x10000 EltTy.f32)
local notation "bV" => (Memref.whole Cert.KernelIdeal.cc1_scratch0 : Memref Cert.KernelIdeal.sig Kind.scVector Space.vmem Cert.KernelIdeal.S4x10000 EltTy.f32)
local notation "mV" => (Memref.whole Cert.KernelIdeal.cc1_scratch1 : Memref Cert.KernelIdeal.sig Kind.scVector Space.vmem Cert.KernelIdeal.S4x10000 EltTy.f32)
local notation "e0V" => (Memref.whole Cert.KernelIdeal.cc1_scratch2 : Memref Cert.KernelIdeal.sig Kind.scVector Space.vmem Cert.KernelIdeal.S2x6400 EltTy.i32)
local notation "e1V" => (Memref.whole Cert.KernelIdeal.cc1_scratch3 : Memref Cert.KernelIdeal.sig Kind.scVector Space.vmem Cert.KernelIdeal.S2x6400 EltTy.i32)
local notation "r0" => (broadcast Cert.KernelIdeal.S16 0#32 : IVec Cert.KernelIdeal.S16 32)
local notation "r1" => (broadcast Cert.KernelIdeal.S16 1#32 : IVec Cert.KernelIdeal.S16 32)
local notation "r2" => (broadcast Cert.KernelIdeal.S16 2#32 : IVec Cert.KernelIdeal.S16 32)
local notation "r3" => (broadcast Cert.KernelIdeal.S16 3#32 : IVec Cert.KernelIdeal.S16 32)

/-! ## The program as the launch theorem sees it -/

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
/-- The dense calls' pipelines keep their ghost state beside the handshakes'. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

variable (m : (ℓ : Loc nD τ sig) → Buf (Elt F) ℓ) (ρ : Dev nD → PrngReg)

abbrev xLoc (d : Dev nD) : Loc nD τ sig := (SparseCore.T d).loc main_v0_2
abbrev eLoc (d : Dev nD) : Loc nD τ sig := (SparseCore.T d).loc main_arg2
abbrev oLoc (d : Dev nD) : Loc nD τ sig := (SparseCore.T d).loc main_v1

theorem rdiv : 32 ∣ S128x10000.size 0 := ⟨4, rfl⟩
/-- Block `w` of four rows. -/
abbrev rows (w : Fin 32) : Rect S128x10000 := Rect.part (s := S128x10000) (a₀ := 0) rdiv w
abbrev rowSet (w : Fin 32) : Finset S128x10000.Idx := (rows w).set

/-- The block the tile on subcore `i` of SparseCore `c` owns. -/
def wid (c : Fin 2) (i : Fin 16) : Fin 32 := ⟨2 * i.val + c.val, by omega⟩
/-- Its share of the edges. -/
abbrev eq32 (w : Fin 32) : PosShare TreeShare := ShareLeaves.leaf 5 fullShare w

variable [FloatOps F]

/-! ## The contents of the arrays along the program -/

abbrev C0 : Vl F := fun c b => m ((c.tc : Thread nD τ).loc b)
/-- What the encoder leaves for the SparseCore call. -/
def Xb (d : Dev nD) : Buf (Elt F) (xLoc d) := encO16 (C0 m) d
def C1 : Vl F := fun c => Function.update (Function.update (Function.update (C0 m c) main_v0_0 (encO14 (C0 m) c)) main_v0_1 (encO15 (C0 m) c)) main_v0_2 (Xb m c)
variable (g : (c : Dev nD) → Buf (Elt F) (oLoc c))
def C2 : Vl F := fun c => Function.update (C1 m c) main_v1 (g c)
def C3 : Vl F := fun c => Function.update (C2 m g c) main_v2 (tailO9 (C2 m g) c)

/-! ## What the handshakes carry -/

abbrev xPts (d : Dev nD) : sProp 𝕄 := xLoc d ↦{fullShare} Xb m d
abbrev ePts (d : Dev nD) : sProp 𝕄 := eLoc d ↦{fullShare} m (eLoc d)
/-- What one tile is handed. -/
def go (d : Dev nD) (w : Fin 32) : sProp 𝕄 :=
  iprop((xLoc d ↦[rowSet w]{fullShare} Xb m d) ∗ (eLoc d ↦{eq32 w} m (eLoc d)) ∗ (oLoc d ↦[rowSet w]{fullShare} m (oLoc d)))
/-- What it brings back: its rows of the result hold the running maxima. -/
def td (d : Dev nD) (w : Fin 32) : sProp 𝕄 :=
  iprop((xLoc d ↦[rowSet w]{fullShare} Xb m d) ∗ (eLoc d ↦{eq32 w} m (eLoc d))
    ∗ ∃ g : Buf (Elt F) (oLoc d), ⌜∀ j ∈ rowSet w, Spec (F := F) (Xb m d) (m (eLoc d)) g j⌝ ∗ oLoc d ↦[rowSet w]{fullShare} g)

instance go_storable (d : Dev nD) (w : Fin 32) : BI.Storable (upEmb : UEmb _ 𝕄) (go m d w) := by unfold go; infer_instance
instance td_storable (d : Dev nD) (w : Fin 32) : BI.Storable (upEmb : UEmb _ 𝕄) (td m d w) := by unfold td; infer_instance

def P : (K (F := F)).Pay (nD := nD) (Val := Elt F) (Name := ℕ) (U := UU) where
  st := fun q d c => match q with | 0 => bigSep Finset.univ fun i : Fin ((K (F := F)).nSub 0) => go m d (wid (Fin.cast nCore_zero c) (Fin.cast nSub_zero i))
  dn := fun q d c => match q with | 0 => bigSep Finset.univ fun i : Fin ((K (F := F)).nSub 0) => td m d (wid (Fin.cast nCore_zero c) (Fin.cast nSub_zero i))
  go := fun q d c i => match q with | 0 => go m d (wid (Fin.cast nCore_zero c) (Fin.cast nSub_zero i))
  td := fun q d c i => match q with | 0 => td m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin ((K (F := F)).nSub 0) => go m d (wid (Fin.cast nCore_zero c) (Fin.cast nSub_zero i))))
  dn q d c := match q with
    | 0 => (inferInstance : BI.Storable (upEmb : UEmb _ 𝕄) (bigSep Finset.univ fun i : Fin ((K (F := F)).nSub 0) => td m d (wid (Fin.cast nCore_zero c) (Fin.cast nSub_zero i))))
  go q d c i := match q with | 0 => go_storable m d _
  td q d c i := match q with | 0 => td_storable m d _

/-- What the proof asks of the launch memory: every word of the edge list is a node. -/
def PreOK : Prop := ∀ (d : Dev nD) (j : S2x320000.Idx), ((m (eLoc d) : IVec S2x320000 32) j).toNat < 10000

/-! ## The task -/

section Task

variable (d : Dev nD) (L : grid1.Coords)

omit [FloatOps F] in
theorem bound_zero : grid1.bound 0 = 2 := rfl
omit [FloatOps F] in
theorem bound_one : grid1.bound 1 = 16 := rfl
abbrev wL (L : grid1.Coords) : Fin 32 := wid (Fin.cast bound_zero (L 0)) (Fin.cast bound_one (L 1))

omit [FloatOps F] in
theorem blk (a b : ℕ) : 8 * a + 4 * b = (2 * a + b) * 4 := by omega

omit [FloatOps F] in
theorem xRows_eq : Rect.unit (s := S128x10000) (k1_off1 L) S4x10000.size (k1_off1_inb L) = rows (wL L) := by
  unfold rows Rect.part Rect.block
  congr 1 <;> funext a
  · rw [k1_off1_eq]
    match a with
    | 0 => simp [Shape.partIx, Shape.partSize, wid]; exact blk (L 1).val (L 0).val
    | 1 => simp [Shape.partIx, Shape.partSize]
  · match a with
    | 0 => simp [Shape.partSize]
    | 1 => simp [Shape.partSize]
omit [FloatOps F] in
theorem oRows_eq : Rect.unit (s := S128x10000) (k1_off14 L) S4x10000.size (k1_off14_inb L) = rows (wL L) := by
  unfold rows Rect.part Rect.block
  congr 1 <;> funext a
  · rw [k1_off14_eq]
    match a with
    | 0 => simp [Shape.partIx, Shape.partSize, wid]; exact blk (L 1).val (L 0).val
    | 1 => simp [Shape.partIx, Shape.partSize]
  · match a with
    | 0 => simp [Shape.partSize]
    | 1 => simp [Shape.partSize]
omit [FloatOps F] in
theorem set_xK : (xK L).view.set = rowSet (wL L) := by
  show ((View.whole (main_v0_2_scv : Ref sig .scVector)).slice _).set = _
  rw [View.set_slice, xRows_eq]; exact Finset.map_refl
omit [FloatOps F] in
theorem set_oK : (oK L).view.set = rowSet (wL L) := by
  show ((View.whole (main_v1_scv : Ref sig .scVector)).slice _).set = _
  rw [View.set_slice, oRows_eq]; exact Finset.map_refl

omit [FloatOps F] in
theorem pts_xK (f : Buf (Elt F) (xLoc d)) :
    ((xK L).view.loc (thr d L) ↦[(xK L).view.set]{fullShare} f : sProp 𝕄) = xLoc d ↦[rowSet (wL L)]{fullShare} f := by
  rw [set_xK]
omit [FloatOps F] in
theorem pts_oK (f : Buf (Elt F) (oLoc d)) :
    ((oK L).view.loc (thr d L) ↦[(oK L).view.set]{fullShare} f : sProp 𝕄) = oLoc d ↦[rowSet (wL L)]{fullShare} f := by
  rw [set_oK]
omit [FloatOps F] in
theorem pts_eV (q : PosShare TreeShare) (f : Buf (Elt F) (eLoc d)) :
    ((eV).view.loc (thr d L) ↦{q} f : sProp 𝕄) = eLoc d ↦{q} f := rfl
omit [FloatOps F] in
theorem pts_e0 (f : Buf (Elt F) ((thr d L).loc cc1_scratch2)) : ((e0V).view.loc (thr d L) ↦{fullShare} f : sProp 𝕄) = (thr d L).loc cc1_scratch2 ↦{fullShare} f := rfl
omit [FloatOps F] in
theorem pts_e1 (f : Buf (Elt F) ((thr d L).loc cc1_scratch3)) : ((e1V).view.loc (thr d L) ↦{fullShare} f : sProp 𝕄) = (thr d L).loc cc1_scratch3 ↦{fullShare} f := rfl

abbrev cA (t : Thread nD τ) : GSem nD τ sig := (t, .dma cc1_scratch4.sem)

omit [FloatOps F] in
theorem ownSems0_V :
    (ownSems0 (thr d L) : sProp 𝕄)
      = iprop(semVal (thr d L, SemLoc.dma cc1_scratch4.sem) 0 ∗ semVal (thr d L, SemLoc.dma cc1_scratch5.sem) 0
          ∗ semVal (thr d L, SemLoc.dma cc1_scoped0.sem) 0 ∗ semVal (thr d L, SemLoc.dma cc1_scoped1.sem) 0
          ∗ bigSep (((((ownCells (thr d L)).erase (thr d L, SemLoc.dma cc1_scratch4.sem)).erase (thr d L, SemLoc.dma cc1_scratch5.sem)).erase (thr d L, SemLoc.dma cc1_scoped0.sem)).erase
              (thr d L, SemLoc.dma cc1_scoped1.sem)) fun g => semVal g 0) := by
  have hm : ∀ s : SemLoc sig, s.isScoped .scVector = true → ((thr d L, s) : GSem nD τ sig) ∈ ownCells (thr d L) := fun s hs => mem_ownCells.mpr ⟨rfl, hs⟩
  have hn : ∀ s s' : SemLoc sig, s ≠ s' → ((thr d L, s) : GSem nD τ sig) ≠ (thr d L, s') := fun s s' h e => h (Prod.mk.inj e).2
  unfold SparseCore.Cfg.ownSems0
  rw [SparseCore.bigSep_erase' (hm (.dma cc1_scratch4.sem) (by decide)),
    SparseCore.bigSep_erase' (Finset.mem_erase.mpr ⟨hn (.dma cc1_scratch5.sem) (.dma cc1_scratch4.sem) (by decide), hm (.dma cc1_scratch5.sem) (by decide)⟩),
    SparseCore.bigSep_erase' (Finset.mem_erase.mpr ⟨hn (.dma cc1_scoped0.sem) (.dma cc1_scratch5.sem) (by decide),
      Finset.mem_erase.mpr ⟨hn (.dma cc1_scoped0.sem) (.dma cc1_scratch4.sem) (by decide), hm (.dma cc1_scoped0.sem) (by decide)⟩⟩),
    SparseCore.bigSep_erase' (Finset.mem_erase.mpr ⟨hn (.dma cc1_scoped1.sem) (.dma cc1_scoped0.sem) (by decide),
      Finset.mem_erase.mpr ⟨hn (.dma cc1_scoped1.sem) (.dma cc1_scratch5.sem) (by decide),
        Finset.mem_erase.mpr ⟨hn (.dma cc1_scoped1.sem) (.dma cc1_scratch4.sem) (by decide), hm (.dma cc1_scoped1.sem) (by decide)⟩⟩⟩)]

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  have hm : ∀ r : Ref sig .scVector, ((Proc.scVector (cV L) (jV L)).devRef r).owner = .proc (.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) h
  have hn : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (hm cc1_scratch0 rfl)).trans ?_
  rw [SparseCore.bigSep_erase' (Finset.mem_erase.mpr ⟨hn cc1_scratch1 cc1_scratch0 (by decide), hm cc1_scratch1 rfl⟩),
    SparseCore.bigSep_erase' (Finset.mem_erase.mpr ⟨hn cc1_scratch2 cc1_scratch1 (by decide), Finset.mem_erase.mpr ⟨hn cc1_scratch2 cc1_scratch0 (by decide), hm cc1_scratch2 rfl⟩⟩),
    SparseCore.bigSep_erase' (Finset.mem_erase.mpr ⟨hn cc1_scratch3 cc1_scratch2 (by decide), Finset.mem_erase.mpr ⟨hn cc1_scratch3 cc1_scratch1 (by decide),
      Finset.mem_erase.mpr ⟨hn cc1_scratch3 cc1_scratch0 (by decide), hm cc1_scratch3 rfl⟩⟩⟩)]

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ go m d (wL L)
        ∗ scopedBufs (thr d L) ∗ scopedSems0 (thr d L) ∗ owes (thr d L) O W)
      ⊢ wp frame (wpE (defs₀ (F := F)) 𝒱₀ (thr d L) none) Set.univ
          (cc1__segmax_body L xV (Memref.isWhole_whole _) eV (Memref.isWhole_whole _) oV (Memref.isWhole_whole _)
            bV (Memref.isWhole_whole _) mV (Memref.isWhole_whole _) e0V (Memref.isWhole_whole _) e1V (Memref.isWhole_whole _) cc1_scratch4 cc1_scratch5 cc1_scoped0 cc1_scoped1)
          fun _ => iprop(td m d (wL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold go td
  iintro ⟨#Hlv, -, ⟨Hx, He, Ho⟩, ⟨⟨%f0, H0⟩, ⟨%f1, H1⟩, ⟨%f2, H2⟩, ⟨%f3, H3⟩, Hbufs⟩, ⟨HsA, HsB, HsC, HsD, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (Entails.of_eq (pts_xK (F := F) d L _).symm) $$ Hx
  ihave Ho := (Entails.of_eq (pts_oK (F := F) d L _).symm) $$ Ho
  ihave He := (Entails.of_eq (pts_eV (F := F) d L _ _).symm) $$ He
  ihave H2 := (Entails.of_eq (pts_e0 (F := F) d L _).symm) $$ H2
  ihave H3 := (Entails.of_eq (pts_e1 (F := F) d L _).symm) $$ H3
  iapply (wp_wand frame (wpE (defs₀ (F := F)) 𝒱₀ (thr d L) none) Set.univ) $$ [Hmw Hx He Ho H0 H1 H2 H3 HsA HsB HsC HsD HO]
  · iapply (tile_run (F := F) d L (fX := Xb m d) (fE := m (eLoc d)) (hpre d))
    isplitl [Hmw]; · iexact Hmw
    isplitl [Hx]; · iexact Hx
    isplitl [He]; · iexact He
    isplitl [Ho]; · iexact Ho
    isplitl [H0]; · iexact H0
    isplitl [H1]; · iexact H1
    isplitl [H2]; · iexact H2
    isplitl [H3]; · iexact H3
    isplitl [HsA]; · iexact HsA
    isplitl [HsB]; · iexact HsB
    isplitl [HsC]; · iexact HsC
    isplitl [HsD]; · iexact HsD
    iexact HO
  iintro %_ ⟨Hx, He, ⟨%g, %hg, Ho⟩, H0, H1, H2, H3, HsA, HsB, HsC, HsD, HO⟩
  isplitl [Hx He Ho]
  · isplitl [Hx]; · iapply (Entails.of_eq (pts_xK (F := F) d L _)); iexact Hx
    isplitl [He]; · iexact He
    iexists g; isplitr
    · ipureintro; rw [set_oK] at hg; exact hg
    · iapply (Entails.of_eq (pts_oK (F := F) d L _)); iexact Ho
  isplitl [H0 H1 H2 H3 Hbufs]
  · isplitl [H0]; · iexact H0
    isplitl [H1]; · iexact H1
    isplitl [H2]; · iexact H2
    isplitl [H3]; · iexact H3
    iexact Hbufs
  isplitl [HsA HsB HsC HsD Hsems]
  · isplitl [HsA]; · iexact HsA
    isplitl [HsB]; · iexact HsB
    isplitl [HsC]; · iexact HsC
    isplitl [HsD]; · iexact HsD
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__segmax_body (coordsV c s)
          xV (Memref.isWhole_whole _) eV (Memref.isWhole_whole _) oV (Memref.isWhole_whole _)
            bV (Memref.isWhole_whole _) mV (Memref.isWhole_whole _) e0V (Memref.isWhole_whole _) e1V (Memref.isWhole_whole _) cc1_scratch4 cc1_scratch5 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

theorem vecSplit : (K (F := F)).VecSplit' (P m) 0 := by
  intro d c
  show (bigSep Finset.univ fun i : Fin ((K (F := F)).nSub 0) => go m d (wid (Fin.cast nCore_zero c) (Fin.cast nSub_zero i))) ⊢ |={Set.univ}=> iprop(
      (bigSep Finset.univ fun i : Fin ((K (F := F)).nSub 0) => go m d (wid (Fin.cast nCore_zero c) (Fin.cast nSub_zero i)))
      ∗ ((bigSep Finset.univ fun i : Fin ((K (F := F)).nSub 0) => td m d (wid (Fin.cast nCore_zero c) (Fin.cast nSub_zero i)))
          -∗ bigSep Finset.univ fun i : Fin ((K (F := F)).nSub 0) => td m d (wid (Fin.cast nCore_zero c) (Fin.cast nSub_zero i))))
  iintro H; imodintro
  isplitl [H]; · iexact H
  iintro H; iexact H

/-! ## Dealing and gathering -/

/-- The tiles, by core and subcore. -/
def widEquiv : Fin 2 × Fin 16 ≃ Fin 32 where
  toFun p := wid p.1 p.2
  invFun w := (⟨w.val % 2, by omega⟩, ⟨w.val / 2, by omega⟩)
  left_inv p := by
    rcases p with ⟨c, i⟩
    apply Prod.ext <;> apply Fin.ext
    · show (2 * i.val + c.val) % 2 = c.val
      omega
    · show (2 * i.val + c.val) / 2 = i.val
      omega
  right_inv w := by
    apply Fin.ext
    show 2 * (w.val / 2) + w.val % 2 = w.val
    omega

omit [FloatOps F] in
theorem bigSep_tiles (Φ : Fin 32 → sProp 𝕄) :
    (bigSep Finset.univ fun c : Fin ((K (F := F)).nCore 0) => bigSep Finset.univ fun i : Fin ((K (F := F)).nSub 0) => Φ (wid (Fin.cast nCore_zero c) (Fin.cast nSub_zero i)))
      = bigSep Finset.univ Φ := by
  rw [bigSep_univ_equiv widEquiv Φ, bigSep_univ_prod]
  rfl

omit [FloatOps F] in
theorem rows_disjoint : ∀ i ∈ (Finset.univ : Finset (Fin 32)), ∀ j ∈ (Finset.univ : Finset (Fin 32)), i ≠ j → Disjoint (rowSet i) (rowSet j) :=
  fun i _ j _ h => Rect.part_disjoint rdiv h
omit [FloatOps F] in
theorem rows_cover : (Finset.univ : Finset (Fin 32)).biUnion rowSet = Finset.univ := Rect.biUnion_part rdiv

omit [FloatOps F] in
theorem xPts_rows (d : Dev nD) (f : Buf (Elt F) (xLoc d)) :
    (xLoc d ↦{fullShare} f : sProp 𝕄) = bigSep Finset.univ fun i : Fin 32 => xLoc d ↦[rowSet i]{fullShare} f := by
  rw [← pointsTo_biUnion Finset.univ (ℓ := xLoc d) rowSet rows_disjoint, rows_cover]; try rfl
omit [FloatOps F] in
theorem oPts_rows (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]; try rfl
omit [FloatOps F] in
theorem ePts_shares (d : Dev nD) (f : Buf (Elt F) (eLoc d)) :
    (eLoc d ↦{fullShare} f : sProp 𝕄) = bigSep Finset.univ fun i : Fin 32 => eLoc d ↦{eq32 i} f :=
  ShareLeaves.pointsTo_leaves Finset.univ f 5 fullShare

/-- The result, whole. -/
def oDone (d : Dev nD) : sProp 𝕄 := iprop(∃ g : Buf (Elt F) (oLoc d), ⌜∀ j, Spec (F := F) (Xb m d) (m (eLoc d)) g j⌝ ∗ oLoc d ↦{fullShare} g)

theorem Spec_congr {X : Vec F S128x10000 .f32} {E : IVec S2x320000 32} {g g' : Vec F S128x10000 .f32} {j : S128x10000.Idx} (h : g' j = g j) (hg : Spec X E g j) : Spec X E g' j := by
  unfold Spec at *; rw [h]; exact hg

set_option maxRecDepth 4096 in
theorem oRows_join (d : Dev nD) :
    (bigSep Finset.univ fun w : Fin 32 => iprop(∃ g : Buf (Elt F) (oLoc d), ⌜∀ j ∈ rowSet w, Spec (F := F) (Xb m d) (m (eLoc d)) g j⌝ ∗ oLoc d ↦[rowSet w]{fullShare} g)) ⊢ (oDone m d : sProp 𝕄) := by
  have : ∀ w : Fin 32, Nonempty (Buf (Elt F) (oLoc d)) := fun _ => ⟨m (oLoc d)⟩
  refine (bigSep_exists_pi Finset.univ (fun w (g : Buf (Elt F) (oLoc d)) => iprop(⌜∀ j ∈ rowSet w, Spec (F := F) (Xb m d) (m (eLoc d)) g j⌝ ∗ oLoc d ↦[rowSet w]{fullShare} g))).trans ?_
  iintro ⟨%gs, H⟩
  ihave H := (bigSep_pure_sep Finset.univ (fun w : Fin 32 => ∀ j ∈ rowSet w, Spec (F := F) (Xb m d) (m (eLoc d)) (gs w) j) (fun w => (oLoc d ↦[rowSet w]{fullShare} gs w : sProp 𝕄))) $$ H
  icases H with ⟨%hs, H⟩
  ihave H := (pointsTo_biUnion_join (ℓ := oLoc d) (q := fullShare) (Val := Elt F) Finset.univ rowSet gs (gs 0) rows_disjoint) $$ H
  icases H with ⟨%g, %hg, H⟩
  rw [rows_cover]
  unfold oDone
  iexists g; isplitr
  swap; · iexact H
  ipureintro
  intro j
  obtain ⟨w, hw, hj⟩ := Finset.mem_biUnion.mp (show j ∈ (Finset.univ : Finset (Fin 32)).biUnion rowSet by rw [rows_cover]; exact Finset.mem_univ j)
  exact Spec_congr (hg w hw j hj) (hs w hw j hj)

theorem st0_eq (d : Dev nD) : (bigSep Finset.univ fun c : Fin ((K (F := F)).nCore 0) => (P m).st 0 d c) = iprop(xPts m d ∗ ePts m d ∗ oLoc d ↦{fullShare} m (oLoc d)) := by
  refine (bigSep_tiles (F := F) (fun w => go m d w)).trans ?_
  unfold go
  rw [bigSep_sep', bigSep_sep', ← xPts_rows, ← ePts_shares, ← oPts_rows]
theorem dn0 (d : Dev nD) : (bigSep Finset.univ fun c : Fin ((K (F := F)).nCore 0) => (P m).dn 0 d c) ⊢ iprop(xPts m d ∗ ePts m d ∗ oDone m d) := by
  refine (Entails.of_eq (bigSep_tiles (F := F) (fun w => td m d w))).trans ?_
  unfold td
  rw [bigSep_sep', bigSep_sep', ← xPts_rows, ← ePts_shares]
  iintro ⟨Hx, He, Ho⟩
  isplitl [Hx]; · iexact Hx
  isplitl [He]; · iexact He
  iapply (oRows_join m d); iexact Ho

/-! ## The launch element of the ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- A device's share of the pipelines' ghost state. -/
abbrev cG (p : Fin 2) (d : Dev nD) : sProp 𝕄 := Pipeline.cellsGhost (Pipeline.pin (pcfgs (F := F)) adm) EP p d
abbrev cT (p : Fin 2) (d : Dev nD) : sProp 𝕄 := Pipeline.toksInit (Pipeline.pin (pcfgs (F := F)) adm) EP p d
def GG (d : Dev nD) : sProp 𝕄 := iprop((cG 0 d ∗ cT 0 d) ∗ (cG 1 d ∗ cT 1 d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ GG)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave HR := (own_pair_emb (embR (A := UH) (B := UP × Counters) (nD := nD) (τ := τ) (sig := sig) (Ix := HIx 1) (Val := Elt F) (Name := ℕ) (Lvl := ℕ))
    (initOf (Pipeline.cells (nD := nD) (τ := τ) cfgs cellOf_inj) (Pipeline.launchToks (nD := nD) (τ := τ) cfgs cellOf_inj)) (1 : Counters)) $$ HR
  icases HR with ⟨HP, -⟩
  ihave HP := (Entails.of_eq (show _ = (BI.own (EP (initOf (Pipeline.cells (nD := nD) (τ := τ) cfgs cellOf_inj) (Pipeline.launchToks (nD := nD) (τ := τ) cfgs cellOf_inj))) : sProp 𝕄) from by unfold EP; rfl)) $$ HP
  imod (show (BI.own (EP (initOf (Pipeline.cells (nD := nD) (τ := τ) cfgs cellOf_inj) (Pipeline.launchToks (nD := nD) (τ := τ) cfgs cellOf_inj))) : sProp 𝕄) ⊢ _ from
    Pipeline.fund_ghost (cfgs) EP cellOf_inj) $$ HP with ⟨HG, HT⟩
  imodintro
  isplitl [HH]; · iexact HH
  isplitr []
  · iapply (show iprop((bigSep Finset.univ fun c : Dev nD => bigSep Finset.univ fun p => Pipeline.cellsGhost cfgs EP p c)
        ∗ (bigSep Finset.univ fun c : Dev nD => bigSep Finset.univ fun p => (Pipeline.toksInit cfgs EP p c : sProp 𝕄))) ⊢ bigSep Finset.univ (GG (F := F)) from by
      rw [← bigSep_sep']
      refine Entails.of_eq (bigSep_congr fun c _ => ?_)
      rw [← bigSep_sep', show (Finset.univ : Finset (Fin 2)) = {0, 1} by decide, SparseCore.bigSep_insert' (by decide), bigSep_singleton]
      rfl)
    isplitl [HG] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The arrays the SparseCore call is not handed. -/
def restBufs (d : Dev nD) (W : (b : Ref sig .tc) → Buf (Elt F) ((d.tc : Thread nD τ).loc b)) : sProp 𝕄 :=
  bigSep ((((Finset.univ.filter fun b : Ref sig .tc => ¬ b.isScoped).erase main_v0_2).erase main_arg2).erase main_v1) fun b => ((d.tc : Thread nD τ).loc b) ↦{fullShare} W b

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_v0_2) ∗ (eLoc d ↦{fullShare} W main_arg2) ∗ (oLoc d ↦{fullShare} W main_v1) ∗ restBufs d W) := by
  unfold unscopedBufs restBufs
  rw [SparseCore.bigSep_erase' (show main_v0_2 ∈ (Finset.univ.filter fun b : Ref sig .tc => ¬ b.isScoped) by decide),
    SparseCore.bigSep_erase' (show main_arg2 ∈ (Finset.univ.filter fun b : Ref sig .tc => ¬ b.isScoped).erase main_v0_2 by decide),
    SparseCore.bigSep_erase' (show main_v1 ∈ ((Finset.univ.filter fun b : Ref sig .tc => ¬ b.isScoped).erase main_v0_2).erase main_arg2 by decide)]

omit [FloatOps F] in
theorem restBufs_congr (d : Dev nD) (W W' : (b : Ref sig .tc) → Buf (Elt F) ((d.tc : Thread nD τ).loc b)) (h : ∀ b, b ≠ main_v1 → W' b = W b) :
    (restBufs d W : sProp 𝕄) = restBufs d W' := by
  unfold restBufs
  refine bigSep_congr fun b hb => ?_
  rw [h b (Finset.mem_erase.mp hb).1]

/-- One dense call of the program, from the TensorCore's side of the handshakes and the arrays at a valuation. -/
theorem tc_step (p : Fin 2) (pd : (p : Fin 2) → (c : Dev nD) → Pipeline.Dat τ (Elt F) (HIx 1) ℕ UU ℕ (Pipeline.pin (pcfgs (F := F)) adm p) c)
    (R : Pipeline.RegionSeg (pcfgs (F := F)) adm pd none defs₀ 𝒱₀ (K (F := F)).L (K (F := F)).lev p) (n : ℕ) (W W' : Vl F) (κ : GSem nD τ sig → ℕ) (d : Dev nD)
    (hpre : R.pre = stAt n (8 * n) (fun _ => iprop(emp)) W) (hpost : R.post = stAt n (8 * n) (fun _ => iprop(emp)) W') {Φ : PUnit → sProp 𝕄} :
    iprop((K (F := F)).ctx EH (P m) κ ∗ (K (F := F)).tcSt EH d n ∗ boundary (SparseCore.T d) ∗ unscopedBufs d (W d) ∗ (cG p d ∗ cT p d)
        ∗ (iprop((K (F := F)).tcSt EH d n ∗ boundary (SparseCore.T d) ∗ unscopedBufs d (W' d)) -∗ Φ ⟨⟩))
      ⊢ wp frame (wpE ((K (F := F)).defs (D (F := F))) 𝒱 (SparseCore.T d) none) Set.univ
          (Prog.lift (.customCall (SparseCore.inner (Pipeline.entry p)) ())) Φ := by
  have hreg := Pipeline.RegionSeg.wp (pcfgs (F := F)) adm pd none cellOf_inj EP defs₀ 𝒱₀ (K (F := F)).L (K (F := F)).lev R d none (by simp) Prog.ret Φ
  refine BIBase.Entails.trans ?_ ((K (F := F)).wp_liftProg (D (F := F)) 𝒱 (SparseCore.T d) Set.univ none (.op (.customCall (Pipeline.entry p) ()) .ret) Φ)
  refine BIBase.Entails.trans ?_ hreg
  rw [hpre, hpost]; unfold stAt SparseCore.Cfg.tcSt
  iintro ⟨#Hctx, ⟨HO, Hrest⟩, Hb, Hub, ⟨HcG, HcT⟩, Hk⟩
  ihave Hlev := (SparseCore.Cfg.ctx_levAts κ) $$ Hctx
  isplitl [Hk Hrest]
  · iintro ⟨Hb, Hub, -, HO⟩
    rw [wp_ret]; imodintro
    iapply Hk
    isplitl [HO Hrest]
    · isplitl [HO]; · iexact HO
      iexact Hrest
    isplitl [Hb] <;> iassumption
  isplitl [Hb]; · iexact Hb
  isplitl [Hub HO]
  · isplitl [Hub]; · iexact Hub
    isplitr; · iempintro
    iexact HO
  isplitl [Hlev]; · iexact Hlev
  isplitl [HcG] <;> iassumption

theorem C1_ne (c : Dev nD) (b : Ref sig .tc) (h0 : b ≠ main_v0_0) (h1 : b ≠ main_v0_1) (h2 : b ≠ main_v0_2) : C1 m c b = C0 m c b := by
  unfold C1; rw [Function.update_of_ne h2, Function.update_of_ne h1, Function.update_of_ne h0]
theorem C1_0 (c : Dev nD) : C1 m c main_v0_0 = encO14 (C0 m) c := by
  unfold C1; rw [Function.update_of_ne (by decide), Function.update_of_ne (by decide), Function.update_self]
theorem C1_1 (c : Dev nD) : C1 m c main_v0_1 = encO15 (C0 m) c := by
  unfold C1; rw [Function.update_of_ne (by decide), Function.update_self]
theorem C1_2 (c : Dev nD) : C1 m c main_v0_2 = Xb m c := by unfold C1; rw [Function.update_self]
theorem C2_ne (c : Dev nD) (b : Ref sig .tc) (h : b ≠ main_v1) : C2 m g c b = C1 m c b := by unfold C2; rw [Function.update_of_ne h]
theorem C2_1 (c : Dev nD) : C2 m g c main_v1 = g c := by unfold C2; rw [Function.update_self]
theorem C3_ne (c : Dev nD) (b : Ref sig .tc) (h : b ≠ main_v2) : C3 m g c b = C2 m g c b := by unfold C3; rw [Function.update_of_ne h]
theorem C3_2 (c : Dev nD) : C3 m g c main_v2 = tailO9 (C2 m g) c := by unfold C3; rw [Function.update_self]

/-- The program's result, from what the SparseCore call left. -/
def outOf (d : Dev nD) (mt : FVec F S128x10000 .f32) : FVec F S10000x1 .f32 :=
  Dense.tailOut (encO14 (C0 m) d) (encO15 (C0 m) d) mt (C0 m d main_arg16) (C0 m d main_arg17) (C0 m d main_arg18) (C0 m d main_arg19) (C0 m d main_arg20) (C0 m d main_arg21)

theorem tailO9_eq (d : Dev nD) : tailO9 (C2 m g) d = outOf m d (g d) := by
  unfold outOf tailO9
  rw [C2_ne m g d main_v0_0 (by decide), C2_ne m g d main_v0_1 (by decide), C2_1, C1_0, C1_1,
    C2_ne m g d main_arg16 (by decide), C2_ne m g d main_arg17 (by decide), C2_ne m g d main_arg18 (by decide), C2_ne m g d main_arg19 (by decide),
    C2_ne m g d main_arg20 (by decide), C2_ne m g d main_arg21 (by decide),
    C1_ne m d main_arg16 (by decide) (by decide) (by decide), C1_ne m d main_arg17 (by decide) (by decide) (by decide), C1_ne m d main_arg18 (by decide) (by decide) (by decide),
    C1_ne m d main_arg19 (by decide) (by decide) (by decide), C1_ne m d main_arg20 (by decide) (by decide) (by decide), C1_ne m d main_arg21 (by decide) (by decide) (by decide)]

abbrev FIN (d : Dev nD) : sProp 𝕄 :=
  iprop(∃ g : Buf (Elt F) (oLoc d), ⌜∀ j, Spec (F := F) (Xb m d) (m (eLoc d)) g j⌝ ∗ unscopedBufs d (C3 m (fun _ => g) d))

theorem hmain (κ : GSem nD τ sig → ℕ) (d : Dev nD) :
    iprop((K (F := F)).ctx EH (P m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd GG
  simp only [main, wp_bind, wp_pure]
  iintro ⟨#Hctx, Hst, ⟨Hb, Hub, Hts, -⟩, HG0, HG1⟩
  iapply (tc_step m 0 (encDats (C0 m) 0 (8 * 0))
    (encReg (C0 m) 0 (8 * 0) (fun _ => iprop(emp)) (C1 m) (C1_0 m) (C1_1 m) (C1_2 m) (C1_ne m)) 0 (C0 m) (C1 m) κ d rfl rfl) $$ [Hst Hb Hub HG0 HG1 Hts]
  isplitr; · iexact Hctx
  isplitl [Hst]; · iexact Hst
  isplitl [Hb]; · iexact Hb
  isplitl [Hub]; · iexact Hub
  isplitl [HG0]; · iexact HG0
  iintro ⟨Hst, Hb, Hub⟩
  ihave Hub := (Entails.of_eq (unscopedBufs_eq d (C1 m d))) $$ Hub
  icases Hub with ⟨Hx, He, Ho, Hrest⟩
  rw [C1_2, C1_ne m d main_arg2 (by decide) (by decide) (by decide), C1_ne m d main_v1 (by decide) (by decide) (by decide)]
  iapply ((K (F := F)).wp_run (D (F := F)) 𝒱 (EH := EH) (P := P m) κ d 0) $$ [Hst Hx He Ho Hrest Hb HG1 Hts]
  isplitr; · iexact Hctx
  isplitl [Hst]; · iexact Hst
  isplitl [Hx He Ho]
  · rw [st0_eq]
    isplitl [Hx]; · iexact Hx
    isplitl [He]; · iexact He
    iexact Ho
  iintro ⟨Hst, Hdn⟩
  ihave Hdn' := (dn0 m d) $$ Hdn
  unfold oDone
  icases Hdn' with ⟨Hx, He, %g, %hg, Ho⟩
  ihave Hub := (show iprop(xPts m d ∗ ePts m d ∗ (oLoc d ↦{fullShare} g) ∗ restBufs d (C1 m d)) ⊢ (unscopedBufs d (C2 m (fun _ => g) d) : sProp 𝕄) from by
    rw [unscopedBufs_eq, C2_1, C2_ne m _ d main_v0_2 (by decide), C2_ne m _ d main_arg2 (by decide), C1_2, C1_ne m d main_arg2 (by decide) (by decide) (by decide),
      restBufs_congr d (C1 m d) (C2 m (fun _ => g) d) (fun b h => C2_ne m _ d b h)]) $$ [Hx He Ho Hrest]
  · isplitl [Hx]; · iexact Hx
    isplitl [He]; · iexact He
    isplitl [Ho] <;> iassumption
  iapply (tc_step m 1 (tailDats (C2 m (fun _ => g)) 1 (8 * 1))
    (tailReg (C2 m (fun _ => g)) 1 (8 * 1) (fun _ => iprop(emp)) (C3 m (fun _ => g)) (C3_2 m _) (C3_ne m _)) 1 (C2 m (fun _ => g)) (C3 m (fun _ => g)) κ d rfl rfl) $$ [Hst Hb Hub HG1 Hts]
  isplitr; · iexact Hctx
  isplitl [Hst]; · iexact Hst
  isplitl [Hb]; · iexact Hb
  isplitl [Hub]; · iexact Hub
  isplitl [HG1]; · iexact HG1
  iintro ⟨Hst, Hb, Hub⟩
  imodintro
  isplitl [Hst]; · iexact Hst
  isplitl [Hub]
  · iexists g; isplitr; · ipureintro; exact hg
    iexact Hub
  isplitl [Hb] <;> iassumption

/-! ## The final memory -/

omit [FloatOps F] in
theorem bufs_agree (d : Dev nD) (W : (b : Ref sig .tc) → Buf (Elt F) ((d.tc : Thread nD τ).loc b)) (s' : Phys nD τ sig (Elt F)) (B : Finset (Ref sig .tc)) :
    iprop(SI s' ∗ bigSep B fun b => ((d.tc : Thread nD τ).loc b) ↦{fullShare} W b) ⊢ (⌜∀ b ∈ B, s'.mem.mem ((d.tc : Thread nD τ).loc b) = W b⌝ : sProp 𝕄) := by
  induction B using Finset.induction_on with
  | empty => iintro -; ipureintro; simp
  | insert b B hb ih =>
    rw [SparseCore.bigSep_insert' hb]
    iintro ⟨HSI, Hb, HB⟩
    ihave H := (persistent_entails_right (SI_pointsTo_agree (st := s') (ℓ := (d.tc : Thread nD τ).loc b) (I := Finset.univ) (q := fullShare) (f := W b))) $$ [HSI Hb]
    · isplitl [HSI] <;> iassumption
    icases H with ⟨%h1, HSI, -⟩
    ihave %hB := ih $$ [HSI HB]
    · isplitl [HSI] <;> iassumption
    ipureintro
    intro b' hb'
    rcases Finset.mem_insert.mp hb' with rfl | h
    · exact funext fun i => h1 i (Finset.mem_univ i)
    · exact hB b' h

/-- Every array but the program's results is as it was; the last is the tail's function of some running maxima. -/
def fq (d : Dev nD) (s' : Phys nD τ sig (Elt F)) : Prop :=
  (∀ b : Ref sig .tc, ¬ b.isScoped → b ≠ main_v0_0 → b ≠ main_v0_1 → b ≠ main_v0_2 → b ≠ main_v1 → b ≠ main_v2 →
      s'.mem.mem ((d.tc : Thread nD τ).loc b) = m ((d.tc : Thread nD τ).loc b))
    ∧ ∃ mt : FVec F S128x10000 .f32, (∀ j, Spec (F := F) (Xb m d) (m (eLoc d)) mt j) ∧ s'.mem.mem ((d.tc : Thread nD τ).loc main_v2) = outOf m d mt

theorem hfin (d : Dev nD) (s' : Phys nD τ sig (Elt F)) : iprop(FIN m d ∗ SI s') ⊢ (⌜fq m d s'⌝ : sProp 𝕄) := by
  unfold FIN unscopedBufs
  iintro ⟨⟨%g, %hg, Hub⟩, HSI⟩
  ihave %h := (bufs_agree d (C3 m (fun _ => g) d) s' (Finset.univ.filter fun b : Ref sig .tc => ¬ b.isScoped)) $$ [HSI Hub]
  · isplitl [HSI] <;> iassumption
  ipureintro
  refine ⟨fun b hb h0 h1 h2 h3 h4 => ?_, g, hg, ?_⟩
  · rw [h b (Finset.mem_filter.mpr ⟨Finset.mem_univ _, hb⟩), C3_ne m _ d b h4, C2_ne m _ d b h3, C1_ne m d b h0 h1 h2]
  · rw [h main_v2 (Finset.mem_filter.mpr ⟨Finset.mem_univ _, by decide⟩), C3_2, tailO9_eq]

/-! ## The program's run -/

def QC : PUnit × MemSt nD τ sig (Elt F) → Prop := fun r =>
  (∀ d : Dev nD, (∀ b : Ref sig .tc, ¬ b.isScoped → b ≠ main_v0_0 → b ≠ main_v0_1 → b ≠ main_v0_2 → b ≠ main_v1 → b ≠ main_v2 →
      r.2.mem ((d.tc : Thread nD τ).loc b) = m ((d.tc : Thread nD τ).loc b))
    ∧ ∃ mt : FVec F S128x10000 .f32, (∀ j, Spec (F := F) (Xb m d) (m (eLoc d)) mt j) ∧ r.2.mem ((d.tc : Thread nD τ).loc main_v2) = outOf m d mt)
  ∧ r.2.sem = fun _ => 0

/-- THE RUN: it ends, the arguments as they were, the result the tail's function of the running maxima of the edges into each node, the
    semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main GG (FIN m) (u₀ (F := F)) (sep_elim_left.trans (hu₀ m)) (hmain m ρ) (fq m) (hfin m) (QC m) (fun _ h hz => ⟨h, hz⟩)

/-- The precondition, evaluated: every word of the edge list is a node. -/
theorem lt_of_pre {x0 : FVec F S10000x8 .f32} {x1 : IVec S10000x2 32} {x2 : IVec S2x320000 32} {x3 : IVec S10000 32} {x4 : FVec F S3x32 .f32} {x5 : FVec F S7x32 .f32} {x6 : FVec F S8x64 .f32} {x7 : FVec F S64 .f32} {x8 : FVec F S64x64 .f32} {x9 : FVec F S64 .f32} {x10 : FVec F S128x128 .f32} {x11 : FVec F S128 .f32} {x12 : FVec F S128 .f32} {x13 : FVec F S128 .f32} {x14 : FVec F S256x128 .f32} {x15 : FVec F S128 .f32} {x16 : FVec F S128 .f32} {x17 : FVec F S128 .f32} {x18 : FVec F S128x64 .f32} {x19 : FVec F S64 .f32} {x20 : FVec F S64x1 .f32} {x21 : FVec F S1 .f32}
    (h : Cert.Pre_in_range.fn (F := F) x0 x1 x2 x3 x4 x5 x6 x7 x8 x9 x10 x11 x12 x13 x14 x15 x16 x17 x18 x19 x20 x21 = fun _ => 1#1) (j : S2x320000.Idx) : (x2 j).toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 10000#32) = 1#1 → v.toNat < 10000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have andi_one : ∀ {p q : BitVec 1}, IntOp.andi p q = 1#1 → p = 1#1 ∧ q = 1#1 := by decide
  haveI : Subsingleton Cert.Pre_in_range.S_.Idx := ⟨fun a b => funext fun k => k.elim0⟩
  have e := congrFun h (fun k => k.elim0)
  unfold Cert.Pre_in_range.fn at e
  exact key _ (Host.reduce_andi_all _ _ _ _ _ (andi_one e).1 j)

end Cert.Proof.Seg

end
-- ==== Proof.Alg.lean ====
/-
  Plain facts over the extended reals: which values are real numbers, and layout operations, products and row lookups read at an index. Shapes are general.
-/
module

public import Idealize.ShloMosaic.Lib.MatmulPlain
public import Idealize.ShloMosaic.Lib.IdealHost
public import Idealize.ShloMosaic.Lib.Pipeline.Value
public import Idealize.ShloMosaic.Lib.ValueIdxCore
public import Mathlib.Tactic.Ring
public import Mathlib.Tactic.Positivity

@[expose] public section

noncomputable section

namespace Cert.Proof.Alg

open Idealize.ShloMosaic Idealize.ShloMosaic.ValueIdx
open scoped BigOperators

/-- The extended real is a real number. -/
def IsR (x : EReal) : Prop := ∃ r : ℝ, x = (r : EReal)

theorem IsR.coe (r : ℝ) : IsR (r : EReal) := ⟨r, rfl⟩
theorem IsR.zero : IsR (0 : EReal) := ⟨0, rfl⟩
theorem IsR.one : IsR (1 : EReal) := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.exp {x : EReal} (hx : IsR x) : IsR (Ideal.exp x) := by
  obtain ⟨a, rfl⟩ := hx; exact ⟨Real.exp a, rfl⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩
theorem IsR.div {x : EReal} (hx : IsR x) (r : ℝ) (hr : r ≠ 0) : IsR (Ideal.div x (r : EReal)) := by
  obtain ⟨a, rfl⟩ := hx
  unfold Ideal.div
  rw [if_neg (by exact_mod_cast hr)]
  exact ⟨a * r⁻¹, by rw [EReal.coe_mul, EReal.coe_inv]⟩
theorem IsR.of_abs {x : EReal} (h : max x (-x) < ⊤) : IsR x := by
  have h' := max_lt_iff.1 h
  refine ⟨x.toReal, (EReal.coe_toReal h'.1.ne ?_).symm⟩
  rintro rfl
  exact absurd h'.2 (by simp)

/-- The activation at one number. -/
def eluS (x : EReal) : EReal := if 0 < x then x else Ideal.exp x - 1
theorem IsR.elu {x : EReal} (hx : IsR x) : IsR (eluS x) := by
  unfold eluS; split
  · exact hx
  · exact hx.exp.sub IsR.one

theorem cmp_ogt (x y : EReal) : Ideal.cmp .ogt x y = if y < x then 1#1 else 0#1 := by
  show BitVec.ofBool (decide (y < x)) = _
  by_cases h : y < x <;> simp [h]
theorem cmp_olt (x y : EReal) : Ideal.cmp .olt x y = if x < y then 1#1 else 0#1 := by
  show BitVec.ofBool (decide (x < y)) = _
  by_cases h : x < y <;> simp [h]
theorem sel_ite {α : Type} (p : Prop) [Decidable p] (a b : α) : Scalar.select (if p then 1#1 else 0#1) a b = if p then a else b := by
  by_cases h : p <;> simp [h, Scalar.select]

/-- Two matrices with the same entries are one. -/
theorem ext2 {α : Type} {M N : ℕ} {f g : (⟨2, ![M, N]⟩ : Shape).Idx → α} (h : ∀ (r : Fin M) (c : Fin N), f (ix2 r c) = g (ix2 r c)) : f = g := by
  funext j
  rw [eq_ix2 j]
  exact h _ _

/-- A row repeated along the first axis, the two ways it is written. -/
theorem bid_row {α : Type} {M N : ℕ} (b : (⟨1, ![N]⟩ : Shape).Idx → α)
    (h1 : (⟨2, ![1, N]⟩ : Shape).BroadcastsInDim ⟨2, ![M, N]⟩ ![0, 1]) (h2 : (⟨1, ![N]⟩ : Shape).BroadcastsInDim ⟨2, ![1, N]⟩ ![1])
    (r : Fin M) (c : Fin N) : broadcastInDim ⟨2, ![M, N]⟩ ![0, 1] h1 (broadcastInDim ⟨2, ![1, N]⟩ ![1] h2 b) (ix2 r c) = b (ix1 c) := by
  have hc : c.val = if N = 1 then 0 else c.val := by
    split
    · rename_i h; subst h; have := c.isLt; omega
    · rfl
  refine Eq.trans (broadcastInDim_apply (s := ⟨2, ![1, N]⟩) (t := ⟨2, ![M, N]⟩) _ _ _ _ (ix2 0 c) fun a => ?_)
    (broadcastInDim_apply (s := ⟨1, ![N]⟩) (t := ⟨2, ![1, N]⟩) _ _ _ _ (ix1 c) fun a => ?_)
  · match a with
    | ⟨0, _⟩ => rfl
    | ⟨1, _⟩ => exact hc
  · match a with
    | ⟨0, _⟩ => exact hc

theorem to_row {α : Type} {M N : ℕ} (b : (⟨1, ![N]⟩ : Shape).Idx → α) (h1 : (⟨2, ![1, N]⟩ : Shape).Broadcasts ⟨2, ![M, N]⟩)
    (h2 : (⟨1, ![N]⟩ : Shape).ShapeCasts ⟨2, ![1, N]⟩) (r : Fin M) (c : Fin N) :
    broadcastTo ⟨2, ![M, N]⟩ (shapeCast ⟨2, ![1, N]⟩ b h2) h1 (ix2 r c) = b (ix1 c) := by
  have hc : c.val = if N = 1 then 0 else c.val := by
    split
    · rename_i h; subst h; have := c.isLt; omega
    · rfl
  refine Eq.trans (broadcastTo_apply _ h1 _ (ix2 (0 : Fin 1) c) fun a => ?_) (shapeCast_apply _ h2 _ (ix1 c) ?_)
  · match a with
    | ⟨0, _⟩ => rfl
    | ⟨1, _⟩ => exact hc
  · rw [Shape.rowMajor_val_two, Shape.rowMajor_val_one]
    show c.val = 0 * N + c.val
    omega

/-- A column of a two-column array, its unit axis dropped. -/
theorem flat_col {α : Type} {M : ℕ} (v : (⟨2, ![M, 1]⟩ : Shape).Idx → α) (h : (⟨2, ![M, 1]⟩ : Shape).ShapeCasts ⟨1, ![M]⟩) (r : Fin M) :
    shapeCast ⟨1, ![M]⟩ v h (ix1 r) = v (ix2 r 0) := by
  refine shapeCast_apply v _ _ _ ?_
  rw [Shape.rowMajor_val_two, Shape.rowMajor_val_one]
  show r.val * 1 + 0 = r.val
  omega

/-- A row of a two-row array, its unit axis dropped. -/
theorem flat_row {α : Type} {M : ℕ} (v : (⟨2, ![1, M]⟩ : Shape).Idx → α) (h : (⟨2, ![1, M]⟩ : Shape).ShapeCasts ⟨1, ![M]⟩) (r : Fin M) :
    shapeCast ⟨1, ![M]⟩ v h (ix1 r) = v (ix2 0 r) := by
  refine shapeCast_apply v _ _ _ ?_
  rw [Shape.rowMajor_val_two, Shape.rowMajor_val_one]
  show 0 * M + r.val = r.val
  omega

/-- A slice of a matrix. -/
theorem slice2 {α : Type} {A B C D : ℕ} (o p : ℕ) (x : (⟨2, ![A, B]⟩ : Shape).Idx → α) (h : (⟨2, ![A, B]⟩ : Shape).Slices ![o, p] ⟨2, ![C, D]⟩)
    (r : Fin C) (c : Fin D) (hr : o + r.val < A) (hc : p + c.val < B) :
    extractStridedSlice ⟨2, ![C, D]⟩ ![o, p] x h (ix2 r c) = x (ix2 ⟨o + r.val, hr⟩ ⟨p + c.val, hc⟩) := by
  refine extractStridedSlice_apply _ _ _ _ _ fun a => ?_
  match a with
  | ⟨0, _⟩ => rfl
  | ⟨1, _⟩ => rfl

/-- A column given a unit axis. -/
theorem bid_col {α : Type} {M : ℕ} (b : (⟨1, ![M]⟩ : Shape).Idx → α) (h : (⟨1, ![M]⟩ : Shape).BroadcastsInDim ⟨2, ![M, 1]⟩ ![0])
    (r : Fin M) (c : Fin 1) : broadcastInDim ⟨2, ![M, 1]⟩ ![0] h b (ix2 r c) = b (ix1 r) := by
  refine broadcastInDim_apply (s := ⟨1, ![M]⟩) (t := ⟨2, ![M, 1]⟩) _ _ _ _ (ix1 r) fun a => ?_
  match a with
  | ⟨0, _⟩ =>
    show r.val = if M = 1 then 0 else r.val
    split
    · rename_i h; subst h; have := r.isLt; omega
    · rfl

/-- A product read at an index, the kernel's and the host's. -/
theorem mm_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (r : Fin M) (c : Fin N) :
    matmul d none x w (constant ⟨2, ![M, N]⟩ .f32 0x00000000#32) (ix2 r c) = ∑ k : Fin K, (x (ix2 r k) : EReal) * w (ix2 k c) := by
  subst hd
  refine (Ideal.matmul_plain_apply none x w _ r c).trans ?_
  show Ideal.ofBits .f32 0x00000000#32 + _ = _
  rw [Ideal.ofBits_zero_f32, zero_add]

theorem dg_eq {M K N : ℕ} (d d' : DotDims ⟨2, ![M, K]⟩ ⟨2, ![K, N]⟩ ⟨2, ![M, N]⟩) (hd : d = d')
    (x : FVec Ideal ⟨2, ![M, K]⟩ .f32) (w : FVec Ideal ⟨2, ![K, N]⟩ .f32) :
    Host.dotGeneral d none x w = matmul d' none x w (constant ⟨2, ![M, N]⟩ .f32 0x00000000#32) := by
  subst hd
  funext j
  refine (Ideal.dotGeneral_apply d none _ x w j).trans (Ideal.matmul_constant_zero_apply d none x w j).symm

theorem dg_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (r : Fin M) (c : Fin N) :
    Host.dotGeneral d none x w (ix2 r c) = ∑ k : Fin K, (x (ix2 r k) : EReal) * w (ix2 k c) :=
  (congrFun (dg_eq d d rfl x w) _).trans (mm_apply d hd x w r c)

/-- A product with two arrays side by side is the sum of the two products. -/
theorem dg_pair {M A B N : ℕ} (d : DotDims ⟨2, ![M, A + B]⟩ ⟨2, ![A + B, N]⟩ ⟨2, ![M, N]⟩) (hd : d = DotDims.plain M (A + B) N)
    (p : FVec Ideal ⟨2, ![M, A]⟩ .f32) (q : FVec Ideal ⟨2, ![M, B]⟩ .f32) (w : FVec Ideal ⟨2, ![A + B, N]⟩ .f32)
    (h : Shape.Concatenates [⟨2, ![M, A]⟩, ⟨2, ![M, B]⟩] ⟨2, ![M, A + B]⟩ 1) (r : Fin M) (c : Fin N) :
    Host.dotGeneral d none (concatenate ⟨2, ![M, A + B]⟩ 1 [⟨⟨2, ![M, A]⟩, p⟩, ⟨⟨2, ![M, B]⟩, q⟩] h : FVec Ideal ⟨2, ![M, A + B]⟩ .f32) w (ix2 r c)
      = ∑ k : Fin A, (p (ix2 r k) : EReal) * w (ix2 (Fin.castAdd B k) c) + ∑ k : Fin B, (q (ix2 r k) : EReal) * w (ix2 (Fin.natAdd A k) c) := by
  rw [dg_apply d hd, Fin.sum_univ_add]
  congr 1
  · refine Finset.sum_congr rfl fun k _ => ?_
    congr 1
    exact concatenate_pair_apply_left (t := ⟨2, ![M, A + B]⟩) (s₁ := ⟨2, ![M, A]⟩) (s₂ := ⟨2, ![M, B]⟩) (1 : Fin 2) p q h _ rfl (ix2 r k) fun b => by
      match b with
      | ⟨0, _⟩ => rfl
      | ⟨1, _⟩ => rfl
  · refine Finset.sum_congr rfl fun k _ => ?_
    congr 1
    refine concatenate_pair_apply_right (t := ⟨2, ![M, A + B]⟩) (s₁ := ⟨2, ![M, A]⟩) (s₂ := ⟨2, ![M, B]⟩) (1 : Fin 2) p q h _ rfl rfl (ix2 r k) (fun b hb => ?_) ?_
    · match b with
      | ⟨0, _⟩ => rfl
      | ⟨1, _⟩ => exact absurd rfl hb
    · show k.val + A = A + k.val
      omega

/-- A lookup of whole rows: the dimension numbers. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The row looked up, for an index in range. -/
theorem gather_rows {α : Type} {N C B : ℕ} (d : GatherDims ⟨2, ![N, C]⟩ ⟨2, ![B, 1]⟩ ⟨2, ![B, C]⟩)
    (wf : GatherDims.WF ⟨2, ![N, C]⟩ ⟨2, ![B, 1]⟩ ⟨2, ![B, C]⟩ [1] [0] [] [0] [] 1 ![1, C]) (hd : d = rowDims N C B wf)
    (x : (⟨2, ![N, C]⟩ : Shape).Idx → α) (idx : IVec ⟨2, ![B, 1]⟩ 32) (b : Fin B) (c : Fin C) (n : Fin N)
    (hn : (idx (ix2 b 0)).toNat = n.val) (hN : N < 2 ^ 31) : Host.gather d x idx (ix2 b c) = x (ix2 n c) := by
  subst hd
  unfold Host.gather
  congr 1
  funext a
  refine Fin.ext ?_
  show (rowDims N C B wf).start (ix2 b c) idx a + (rowDims N C B wf).batchCoord (ix2 b c) a + (rowDims N C B wf).offCoord (ix2 b c) a = _
  match a with
  | ⟨0, _⟩ =>
    show (rowDims N C B wf).start (ix2 b c) idx (0 : Fin 2) + (rowDims N C B wf).batchCoord (ix2 b c) (0 : Fin 2) + (rowDims N C B wf).offCoord (ix2 b c) (0 : Fin 2) = n.val
    rw [GatherDims.batchCoord_eq_zero _ _ _ List.not_mem_nil,
      GatherDims.offCoord_eq_zero _ _ _ (fun h => ((GatherDims.mem_sKept _ _).1 h).1 (List.mem_singleton.2 rfl))]
    unfold GatherDims.start
    rw [dif_pos (show (0 : Fin 2) ∈ (rowDims N C B wf).startIndexMap from List.mem_singleton.2 rfl)]
    have hsi : (rowDims N C B wf).siIdx (ix2 b c) ⟨List.idxOf (0 : Fin 2) (rowDims N C B wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi]
    show min (idx (ix2 b 0)).toInt.toNat (N - 1) + 0 + 0 = n.val
    have := n.isLt
    rw [BitVec.toInt_eq_toNat_of_lt (by omega)]
    omega
  | ⟨1, _⟩ =>
    show (rowDims N C B wf).start (ix2 b c) idx (1 : Fin 2) + (rowDims N C B wf).batchCoord (ix2 b c) (1 : Fin 2) + (rowDims N C B wf).offCoord (ix2 b c) (1 : Fin 2) = c.val
    have h1 : (rowDims N C B wf).start (ix2 b c) idx (1 : Fin 2) = 0 := by
      unfold GatherDims.start
      exact dif_neg (by simp)
    rw [h1, GatherDims.batchCoord_eq_zero _ _ _ List.not_mem_nil]
    unfold GatherDims.offCoord
    rw [dif_pos ((GatherDims.mem_sKept _ _).2 ⟨by simp, by simp⟩)]
    simp only [Nat.zero_add]
    rfl

/-- A column's sum, the host's and the kernel's. -/
theorem colsum_host {M N : ℕ} (x : FVec Ideal ⟨2, ![M, N]⟩ .f32) (h : (⟨2, ![M, N]⟩ : Shape).ReducesTo [0] ⟨1, ![N]⟩)
    (h' : (⟨2, ![M, N]⟩ : Shape).Reduces [0] ⟨1, ![N]⟩) (hu : 0 < (⟨0, ![]⟩ : Shape).numel) (j : (⟨1, ![N]⟩ : Shape).Idx) :
    Host.reduceAdd x (constant (F := Ideal) ⟨0, ![]⟩ .f32 0x00000000#32) h hu j
      = multiReduction .add [0] ⟨1, ![N]⟩ x 0x00000000#32 h' (.inl rfl) rfl j := by
  refine (hostReduceAdd_apply x _ h hu j).trans ((Ideal.hostReduceAdd_single h h' x _ j).trans (Eq.trans ?_ (Ideal.multiReduction_add_single x _ h' _ _ j).symm))
  show Ideal.ofBits .f32 0x00000000#32 + _ = _
  rw [Ideal.ofBits_zero_f32, zero_add]

/-- The two ways to split a message, in real numbers. -/
theorem msg_real {n : ℕ} (e s w v : Fin n → ℝ) (b : ℝ) :
    (∑ k, e k * w k + ∑ k, (s k - e k) * v k) + b = (∑ k, e k * (w k - v k) + b) + ∑ k, s k * v k := by
  simp only [mul_sub, sub_mul, Finset.sum_sub_distrib]
  ring

/-- … and in extended reals that are real numbers. -/
theorem msg_split {n : ℕ} (e s w v : Fin n → EReal) (b : EReal) (he : ∀ k, IsR (e k)) (hs : ∀ k, IsR (s k)) (hw : ∀ k, IsR (w k))
    (hv : ∀ k, IsR (v k)) (hb : IsR b) :
    (∑ k, e k * w k + ∑ k, (s k - e k) * v k) + b = (∑ k, e k * (w k - v k) + b) + ∑ k, s k * v k := by
  choose e' he using he
  choose s' hs using hs
  choose w' hw using hw
  choose v' hv using hv
  obtain ⟨b', rfl⟩ := hb
  obtain rfl : e = fun k => (e' k : EReal) := funext he
  obtain rfl : s = fun k => (s' k : EReal) := funext hs
  obtain rfl : w = fun k => (w' k : EReal) := funext hw
  obtain rfl : v = fun k => (v' k : EReal) := funext hv
  have := congrArg (fun x : ℝ => (x : EReal)) (msg_real e' s' w' v' b')
  simp only [EReal.coe_add, coe_sum, EReal.coe_mul, EReal.coe_sub] at this
  exact this

/-- Adding a real number is an order isomorphism. -/
theorem add_le_iff {a x z : EReal} (ha : IsR a) : a + x ≤ z ↔ x ≤ z - a := by
  obtain ⟨r, rfl⟩ := ha
  rw [add_comm]
  exact (EReal.le_sub_iff_add_le (.inl (EReal.coe_ne_bot r)) (.inl (EReal.coe_ne_top r))).symm

end Cert.Proof.Alg

end
-- ==== Proof.Emb.lean ====
/-
  The reference's node embeddings, over the extended reals, are the kernel's: layer by layer the same arrays. A product with two arrays side by side is the sum of
  two products, and a looked-up row is the one-hot sum.
-/
module

public import proofs.«01_k».proof.Proof.Gen.ReferenceIdeal.Run
public import proofs.«01_k».proof.Proof.Dense
public import proofs.«01_k».proof.Proof.Alg

@[expose] public section

noncomputable section

namespace Cert.Proof.Ref

open Cert.ReferenceIdeal Cert.ReferenceIdeal.Gen Cert.ReferenceIdeal.Value
open Idealize.ShloMosaic Idealize.ShloMosaic.ValueIdx Idealize.SL.Sem
open Cert.Proof.Alg
open scoped BigOperators

/-- The reference's activation is the kernel's. -/
theorem eluV_apply {s : Shape} (x : FVec Ideal s .f32) (i : s.Idx) : Dense.eluV x i = eluS (x i) := by
  show Scalar.select (Ideal.cmp .ogt (x i) (Ideal.ofBits .f32 0x00000000#32)) (x i)
    (Ideal.exp (min (x i) (Ideal.ofBits .f32 0x00000000#32)) - Ideal.ofBits .f32 0x3F800000#32) = _
  rw [Ideal.ofBits_zero_f32, Ideal.ofBits_one_f32, cmp_ogt, sel_ite]
  unfold eluS
  by_cases h : 0 < x i
  · rw [if_pos h, if_pos h]
  · rw [if_neg h, if_neg h, min_eq_left (not_lt.1 h)]

theorem elu_eq {s : Shape} (h : S_.BroadcastsInDim s ![]) (x : FVec Ideal s .f32) :
    select (cmpf .ogt x (broadcastInDim s ![] h (constant S_ .f32 0x00000000#32))) x
      (Host.expm1 (select (cmpf .ogt x (broadcastInDim s ![] h (constant S_ .f32 0x00000000#32)))
        (broadcastInDim s ![] h (id (constant S_ .f32 0x00000000#32))) x)) = Dense.eluV x := by
  funext i
  rw [eluV_apply]
  show Scalar.select (Ideal.cmp .ogt (x i) (Ideal.ofBits .f32 0x00000000#32)) (x i)
    (Ideal.exp (Scalar.select (Ideal.cmp .ogt (x i) (Ideal.ofBits .f32 0x00000000#32)) (Ideal.ofBits .f32 0x00000000#32) (x i)) - 1) = _
  rw [Ideal.ofBits_zero_f32, cmp_ogt, sel_ite, sel_ite]
  unfold eluS
  by_cases h : 0 < x i
  · rw [if_pos h, if_pos h]
  · rw [if_neg h, if_neg h, if_neg h]

theorem row64_apply (b : FVec Ideal S64 .f32) (r : Fin 10000) (c : Fin 64) : Dense.row64 b (ix2 r c) = b (ix1 c) := to_row (M := 10000) (N := 64) b _ _ r c
theorem row128_apply (b : FVec Ideal S128 .f32) (r : Fin 10000) (c : Fin 128) : Dense.row128 b (ix2 r c) = b (ix1 c) := to_row (M := 10000) (N := 128) b _ _ r c

theorem row64_eq (b : FVec Ideal S64 .f32) :
    broadcastInDim S10000x64 ![0, 1] bcast_S1x64_S10000x64_0_1 (broadcastInDim S1x64 ![1] bcast_S64_S1x64_1 b) = Dense.row64 b := by
  exact ext2 (M := 10000) (N := 64) fun r c => (bid_row (M := 10000) (N := 64) b _ _ r c).trans (row64_apply b r c).symm

theorem row128_eq (b : FVec Ideal S128 .f32) :
    broadcastInDim S10000x128 ![0, 1] bcast_S1x128_S10000x128_0_1 (broadcastInDim S1x128 ![1] bcast_S128_S1x128_1 b) = Dense.row128 b := by
  exact ext2 (M := 10000) (N := 128) fun r c => (bid_row (M := 10000) (N := 128) b _ _ r c).trans (row128_apply b r c).symm

theorem mean_eq (x : FVec Ideal S10000x128 .f32) :
    Host.divf (Host.reduceAdd x (constant S_ .f32 0x00000000#32) reducesTo_S10000x128_S128_d0 h_S_) (broadcastInDim S128 ![] bcast_S_S128 (constant S_ .f32 0x461C4000#32))
      = Dense.meanV x := by
  funext j
  show Ideal.div (Host.reduceAdd x (constant S_ .f32 0x00000000#32) reducesTo_S10000x128_S128_d0 h_S_ j) (Ideal.ofBits .f32 0x461C4000#32) = _
  rw [colsum_host (M := 10000) (N := 128) x _ Cert.KernelIdeal.Gen.reduces_S10000x128_S128]
  rfl

theorem bn_eq (x : FVec Ideal S10000x128 .f32) (g b : FVec Ideal S128 .f32) (mx : FVec Ideal S128 .f32) (hm : mx = Dense.meanV x)
    (cx : FVec Ideal S10000x128 .f32) (hc : cx = Dense.cenV x) :
    addf (mulf (mulf (broadcastInDim S10000x128 ![0, 1] bcast_S1x128_S10000x128_0_1 (broadcastInDim S1x128 ![1] bcast_S128_S1x128_1 g))
        (subf x (broadcastInDim S10000x128 ![0, 1] bcast_S1x128_S10000x128_0_1 (broadcastInDim S1x128 ![1] bcast_S128_S1x128_1 mx))))
        (broadcastInDim S10000x128 ![0, 1] bcast_S1x128_S10000x128_0_1 (broadcastInDim S1x128 ![1] bcast_S128_S1x128_1
          (Host.rsqrt (addf (Host.divf (Host.reduceAdd (mulf cx cx) (constant S_ .f32 0x00000000#32) reducesTo_S10000x128_S128_d0 h_S_)
            (broadcastInDim S128 ![] bcast_S_S128 (constant S_ .f32 0x461C4000#32))) (broadcastInDim S128 ![] bcast_S_S128 (constant S_ .f32 0x3727C5AC#32)))))))
      (broadcastInDim S10000x128 ![0, 1] bcast_S1x128_S10000x128_0_1 (broadcastInDim S1x128 ![1] bcast_S128_S1x128_1 b)) = Dense.bnV x g b := by
  subst hm hc
  rw [mean_eq, row128_eq, row128_eq, row128_eq, row128_eq]
  rfl

/-- The layer of the categorical features. -/
theorem cat_eq (p q : FVec Ideal S10000x32 .f32) (W : FVec Ideal S64x64 .f32) (b : FVec Ideal S64 .f32) :
    Dense.eluV (addf (Host.dotGeneral dot_S10000x64_S64x64_S10000x64_1_0_0_1_n_n none
      (concatenate S10000x64 1 [⟨S10000x32, p⟩, ⟨S10000x32, q⟩] concatenates_S10000x32_S10000x32_S10000x64_d1) W)
      (broadcastInDim S10000x64 ![0, 1] bcast_S1x64_S10000x64_0_1 (broadcastInDim S1x64 ![1] bcast_S64_S1x64_1 b))) = Dense.catV p q W b := by
  rw [row64_eq]
  unfold Dense.catV
  congr 2
  refine ext2 (M := 10000) (N := 64) fun r c => ?_
  refine (dg_pair (M := 10000) (A := 32) (B := 32) (N := 64) _ rfl p q W _ r c).trans (Eq.trans (congrArg₂ (fun x y : EReal => x + y) ?_ ?_)
    (congrArg₂ (fun x y : EReal => x + y) (mm_apply (M := 10000) (K := 32) (N := 64) _ rfl p _ r c) (mm_apply (M := 10000) (K := 32) (N := 64) _ rfl q _ r c)).symm)
  · refine Finset.sum_congr rfl fun k _ => congrArg ((p (ix2 r k) : EReal) * ·) ?_
    refine Eq.trans (congrArg W ?_) (slice2 (A := 64) (B := 64) (C := 32) (D := 64) 0 0 W _ k c (by have := k.isLt; omega) (by have := c.isLt; omega)).symm
    funext a; match a with
    | ⟨0, _⟩ => exact Fin.ext (Nat.zero_add _).symm
    | ⟨1, _⟩ => exact Fin.ext (Nat.zero_add _).symm
  · refine Finset.sum_congr rfl fun k _ => congrArg ((q (ix2 r k) : EReal) * ·) ?_
    refine Eq.trans (congrArg W ?_) (slice2 (A := 64) (B := 64) (C := 32) (D := 64) 32 0 W _ k c (by have := k.isLt; omega) (by have := c.isLt; omega)).symm
    funext a; match a with
    | ⟨0, _⟩ => rfl
    | ⟨1, _⟩ => exact Fin.ext (Nat.zero_add _).symm

/-- The joint layer. -/
theorem enc_eq (p q : FVec Ideal S10000x64 .f32) (W : FVec Ideal S128x128 .f32) (b : FVec Ideal S128 .f32) :
    Dense.eluV (addf (Host.dotGeneral dot_S10000x128_S128x128_S10000x128_1_0_0_1_n_n none
      (concatenate S10000x128 1 [⟨S10000x64, p⟩, ⟨S10000x64, q⟩] concatenates_S10000x64_S10000x64_S10000x128_d1) W)
      (broadcastInDim S10000x128 ![0, 1] bcast_S1x128_S10000x128_0_1 (broadcastInDim S1x128 ![1] bcast_S128_S1x128_1 b))) = Dense.encV p q W b := by
  rw [row128_eq]
  unfold Dense.encV
  congr 2
  refine ext2 (M := 10000) (N := 128) fun r c => ?_
  refine (dg_pair (M := 10000) (A := 64) (B := 64) (N := 128) _ rfl p q W _ r c).trans (Eq.trans (congrArg₂ (fun x y : EReal => x + y) ?_ ?_)
    (congrArg₂ (fun x y : EReal => x + y) (mm_apply (M := 10000) (K := 64) (N := 128) _ rfl p _ r c) (mm_apply (M := 10000) (K := 64) (N := 128) _ rfl q _ r c)).symm)
  · refine Finset.sum_congr rfl fun k _ => congrArg ((p (ix2 r k) : EReal) * ·) ?_
    refine Eq.trans (congrArg W ?_) (slice2 (A := 128) (B := 128) (C := 64) (D := 128) 0 0 W _ k c (by have := k.isLt; omega) (by have := c.isLt; omega)).symm
    funext a; match a with
    | ⟨0, _⟩ => exact Fin.ext (Nat.zero_add _).symm
    | ⟨1, _⟩ => exact Fin.ext (Nat.zero_add _).symm
  · refine Finset.sum_congr rfl fun k _ => congrArg ((q (ix2 r k) : EReal) * ·) ?_
    refine Eq.trans (congrArg W ?_) (slice2 (A := 128) (B := 128) (C := 64) (D := 128) 64 0 W _ k c (by have := k.isLt; omega) (by have := c.isLt; omega)).symm
    funext a; match a with
    | ⟨0, _⟩ => rfl
    | ⟨1, _⟩ => exact Fin.ext (Nat.zero_add _).symm

/-! ### The two lookups -/

theorem mk_slice {α : Type} (x : (⟨2, ![10000, 2]⟩ : Shape).Idx → α) (o : ℕ) (ho : o < 2) (h : (⟨2, ![10000, 2]⟩ : Shape).Slices ![0, o] ⟨2, ![10000, 1]⟩)
    (r : Fin 10000) : extractStridedSlice ⟨2, ![10000, 1]⟩ ![0, o] x h (ix2 r 0) = x (ix2 r ⟨o, ho⟩) := by
  refine (slice2 (A := 10000) (B := 2) (C := 10000) (D := 1) 0 o x h r 0 (by have := r.isLt; omega) ho).trans (congrArg x ?_)
  funext a; match a with
  | ⟨0, _⟩ => exact Fin.ext (Nat.zero_add _)
  | ⟨1, _⟩ => rfl

/-- A class's share of a one-hot sum at a place. -/
theorem hot_apply (p : IVec S10000x1 32) (k : BitVec 32) (row : FVec Ideal Cert.KernelIdeal.S1x32 .f32) (r : Fin 10000) (c : Fin 32) :
    (Dense.hot (F := Ideal) p k row (ix2 r c) : EReal) = if p (ix2 r 0) = k then (row (ix2 0 c) : EReal) else 0 := by
  have h1 : ∀ v : FVec Ideal S10000x1 .f32, broadcastTo S10000x32 v Cert.KernelIdeal.Gen.broadcasts_S10000x1_S10000x32 (ix2 r c) = v (ix2 r 0) := fun v =>
    broadcastTo_apply (s := S10000x1) (t := S10000x32) v _ _ (ix2 r 0) fun a => by
      match a with
      | ⟨0, _⟩ => rfl
      | ⟨1, _⟩ => rfl
  have h2 : broadcastTo S10000x32 (shapeCast Cert.KernelIdeal.S1x32 (shapeCast Cert.KernelIdeal.S32 row Cert.KernelIdeal.Gen.shapeCasts_S1x32_S32) Cert.KernelIdeal.Gen.shapeCasts_S32_S1x32)
      Cert.KernelIdeal.Gen.broadcasts_S1x32_S10000x32 (ix2 r c) = row (ix2 0 c) :=
    (to_row (M := 10000) (N := 32) _ _ _ r c).trans (flat_row (M := 32) row _ c)
  show (broadcastTo S10000x32 _ _ (ix2 r c) : EReal) * broadcastTo S10000x32 _ _ (ix2 r c) = _
  rw [h1, h2]
  show (Scalar.select (IntOp.cmpi .eq (p (ix2 r 0)) k) (Ideal.ofBits .f32 0x3F800000#32) (Ideal.ofBits .f32 0x00000000#32) : EReal) * _ = _
  rw [Ideal.ofBits_zero_f32, Ideal.ofBits_one_f32]
  by_cases h : p (ix2 r 0) = k
  · rw [if_pos h, h]
    have : IntOp.cmpi .eq k k = 1#1 := by simp [IntOp.cmpi]
    rw [this, select_one, one_mul]
  · rw [if_neg h]
    have : IntOp.cmpi .eq (p (ix2 r 0)) k = 0#1 := by
      show BitVec.ofBool (p (ix2 r 0) == k) = 0#1
      rw [beq_eq_false_iff_ne.2 h]; rfl
    rw [this, select_zero, zero_mul]

theorem rowOf3_apply (T : FVec Ideal S3x32 .f32) (k : ℕ) (hk : k < 3) (h) (c : Fin 32) : Dense.rowOf3 T k h (ix2 0 c) = T (ix2 ⟨k, hk⟩ c) := by
  refine congrArg T (funext fun a => Fin.ext ?_)
  match a with
  | ⟨0, _⟩ => rfl
  | ⟨1, _⟩ => show 0 + 1 * c.val = c.val; omega
theorem rowOf7_apply (T : FVec Ideal S7x32 .f32) (k : ℕ) (hk : k < 7) (h) (c : Fin 32) : Dense.rowOf7 T k h (ix2 0 c) = T (ix2 ⟨k, hk⟩ c) := by
  refine congrArg T (funext fun a => Fin.ext ?_)
  match a with
  | ⟨0, _⟩ => rfl
  | ⟨1, _⟩ => show 0 + 1 * c.val = c.val; omega

end Cert.Proof.Ref

end
-- ==== Proof.Lookup.lean ====
/-
  The reference's node embeddings are the kernel's, and are real numbers where the arguments are.
-/
module

public import proofs.«01_k».proof.Proof.Emb

@[expose] public section

noncomputable section

namespace Cert.Proof.Ref

open Cert.ReferenceIdeal Cert.ReferenceIdeal.Gen Cert.ReferenceIdeal.Value
open Idealize.ShloMosaic Idealize.ShloMosaic.ValueIdx Idealize.SL.Sem
open Cert.Proof.Alg
open scoped BigOperators

/-- A word below two is zero or one. -/
theorem two_cases (w : BitVec 32) (h : w.toNat < 2) : w = 0#32 ∨ w = 1#32 := by
  rcases (by omega : w.toNat = 0 ∨ w.toNat = 1) with h | h
  · exact .inl (BitVec.eq_of_toNat_eq h)
  · exact .inr (BitVec.eq_of_toNat_eq h)

/-- A start index, a negative one counted from the end, at a place. -/
theorem start_apply {B : ℕ} (v : IVec ⟨1, ![B]⟩ 32) (k : BitVec 32) (h1 h2 : S_.BroadcastsInDim ⟨1, ![B]⟩ ![])
    (h : (⟨1, ![B]⟩ : Shape).BroadcastsInDim ⟨2, ![B, 1]⟩ ![0]) (b : Fin B) :
    broadcastInDim ⟨2, ![B, 1]⟩ ![0] h (select (cmpi .slt v (broadcastInDim ⟨1, ![B]⟩ ![] h1 (constantI S_ 32 0#32)))
      (addi v (broadcastInDim ⟨1, ![B]⟩ ![] h2 (constantI S_ 32 k))) v) (ix2 b 0)
      = Scalar.select (IntOp.cmpi .slt (v (ix1 b)) 0#32) (v (ix1 b) + k) (v (ix1 b)) :=
  bid_col _ _ b 0

/-- A particle number replaced by its class, at one number. -/
def subS (P k w : BitVec 32) : BitVec 32 := Scalar.select (IntOp.cmpi .eq w P) k w
/-- The particle class of a word. -/
def pdgS (w : BitVec 32) : BitVec 32 := subS 211#32 6#32 (subS 130#32 5#32 (subS 22#32 4#32 (subS 13#32 3#32 (subS 11#32 2#32 (subS 2#32 1#32 (subS 1#32 0#32 w))))))

theorem sub1_apply (P k : BitVec 32) (p : IVec Cert.KernelIdeal.S10000x1 32) (j) : Dense.sub1 P k p j = subS P k (p j) := rfl

theorem pdgIx_apply (cat : IVec S10000x2 32) (r : Fin 10000) : Dense.pdgIx cat (ix2 r 0) = pdgS (IntOp.absi (cat (ix2 r 0))) := by
  have h := mk_slice cat 0 (by omega) Cert.KernelIdeal.Gen.slices_S10000x2_o0_0_S10000x1 r
  unfold Dense.pdgIx pdgS
  rw [sub1_apply, sub1_apply, sub1_apply, sub1_apply, sub1_apply, sub1_apply, sub1_apply]
  show subS _ _ (subS _ _ (subS _ _ (subS _ _ (subS _ _ (subS _ _ (subS _ _ (IntOp.absi (extractStridedSlice Cert.KernelIdeal.S10000x1 ![0, 0] cat _ (ix2 r 0))))))))) = _
  rw [h]
  rfl

theorem chrgIx_apply (cat : IVec S10000x2 32) (r : Fin 10000) : Dense.chrgIx cat (ix2 r 0) = cat (ix2 r 1) + 1#32 := by
  have h := mk_slice cat 1 (by omega) Cert.KernelIdeal.Gen.slices_S10000x2_o0_1_S10000x1 r
  show extractStridedSlice Cert.KernelIdeal.S10000x1 ![0, 1] cat _ (ix2 r 0) + 1#32 = _
  rw [h]
  rfl

/-- The charge rows looked up are the one-hot sum. -/
theorem chrg_eq (cat : IVec S10000x2 32) (hcat : ∀ j, (cat j).toNat < 2) (T : FVec Ideal S3x32 .f32) (v : IVec S10000 32)
    (hv : v = addi (shapeCast _ (extractStridedSlice S10000x1 ![0, 1] cat slices_S10000x2_S10000x1_0_1) shapeCasts_S10000x1_S10000) (broadcastInDim S10000 ![] bcast_S_S10000 (constantI S_ 32 1#32))) :
    Host.gather gather_S3x32_S10000x1_S10000x32_1_0_n_n_0_1_132 T (broadcastInDim S10000x1 ![0] bcast_S10000_S10000x1_0
      (select (cmpi .slt v (broadcastInDim S10000 ![] bcast_S_S10000 (constantI S_ 32 0#32))) (addi v (broadcastInDim S10000 ![] bcast_S_S10000 (constantI S_ 32 3#32))) v))
      = Dense.chrgEmb cat T := by
  refine ext2 (M := 10000) (N := 32) fun r c => ?_
  have hvr : v (ix1 r) = cat (ix2 r 1) + 1#32 := by
    rw [hv]
    show shapeCast S10000 _ shapeCasts_S10000x1_S10000 (ix1 r) + 1#32 = _
    rw [flat_col (M := 10000), mk_slice cat 1 (by omega)]
    rfl
  have hst := start_apply (B := 10000) v 3#32 bcast_S_S10000 bcast_S_S10000 bcast_S10000_S10000x1_0 r
  rw [hvr] at hst
  have hK : (Dense.chrgEmb cat T (ix2 r c) : EReal) = ((0 + (if cat (ix2 r 1) + 1#32 = 0#32 then (T (ix2 0 c) : EReal) else 0))
      + (if cat (ix2 r 1) + 1#32 = 1#32 then (T (ix2 1 c) : EReal) else 0)) + (if cat (ix2 r 1) + 1#32 = 2#32 then (T (ix2 2 c) : EReal) else 0) := by
    show ((Ideal.ofBits .f32 0x00000000#32 + (Dense.hot (F := Ideal) _ _ _ (ix2 r c) : EReal)) + (Dense.hot (F := Ideal) _ _ _ (ix2 r c) : EReal)) + (Dense.hot (F := Ideal) _ _ _ (ix2 r c) : EReal) = _
    rw [hot_apply, hot_apply, hot_apply, chrgIx_apply, rowOf3_apply T 0 (by omega), rowOf3_apply T 1 (by omega), rowOf3_apply T 2 (by omega), Ideal.ofBits_zero_f32]
    rfl
  refine Eq.trans ?_ hK.symm
  rcases two_cases _ (hcat (ix2 r 1)) with h | h
  · rw [h, if_neg (by decide), if_pos (by decide), if_neg (by decide)]
    simp only [add_zero, zero_add]
    exact gather_rows (N := 3) (C := 32) (B := 10000) _ _ rfl T _ r c 1 (by rw [hst, h]; decide) (by omega)
  · rw [h, if_neg (by decide), if_neg (by decide), if_pos (by decide)]
    simp only [add_zero, zero_add]
    exact gather_rows (N := 3) (C := 32) (B := 10000) _ _ rfl T _ r c 2 (by rw [hst, h]; decide) (by omega)

/-- The particle rows looked up are the one-hot sum. -/
theorem pdg_eq (cat : IVec S10000x2 32) (hcat : ∀ j, (cat j).toNat < 2) (T : FVec Ideal S7x32 .f32) (v : IVec S10000 32)
    (hv : ∀ r, v (ix1 r) = pdgS (IntOp.absi (cat (ix2 r 0)))) :
    Host.gather gather_S7x32_S10000x1_S10000x32_1_0_n_n_0_1_132 T (broadcastInDim S10000x1 ![0] bcast_S10000_S10000x1_0
      (select (cmpi .slt v (broadcastInDim S10000 ![] bcast_S_S10000 (constantI S_ 32 0#32))) (addi v (broadcastInDim S10000 ![] bcast_S_S10000 (constantI S_ 32 7#32))) v))
      = Dense.pdgEmb cat T := by
  refine ext2 (M := 10000) (N := 32) fun r c => ?_
  have hz : pdgS (IntOp.absi (cat (ix2 r 0))) = 0#32 := by
    rcases two_cases _ (hcat (ix2 r 0)) with h | h <;> rw [h] <;> decide
  have hst := start_apply (B := 10000) v 7#32 bcast_S_S10000 bcast_S_S10000 bcast_S10000_S10000x1_0 r
  rw [hv, hz] at hst
  have hh : ∀ (k : BitVec 32) (row : FVec Ideal Cert.KernelIdeal.S1x32 .f32), (Dense.hot (F := Ideal) (Dense.pdgIx cat) k row (ix2 r c) : EReal)
      = if (0#32 : BitVec 32) = k then (row (ix2 0 c) : EReal) else 0 := fun k row => by
    rw [hot_apply, pdgIx_apply, hz]
  have hK : (Dense.pdgEmb cat T (ix2 r c) : EReal) = T (ix2 0 c) := by
    show (((((((Ideal.ofBits .f32 0x00000000#32 + (Dense.hot (F := Ideal) _ _ _ (ix2 r c) : EReal)) + (Dense.hot (F := Ideal) _ _ _ (ix2 r c) : EReal)) + (Dense.hot (F := Ideal) _ _ _ (ix2 r c) : EReal))
      + (Dense.hot (F := Ideal) _ _ _ (ix2 r c) : EReal)) + (Dense.hot (F := Ideal) _ _ _ (ix2 r c) : EReal)) + (Dense.hot (F := Ideal) _ _ _ (ix2 r c) : EReal)) + (Dense.hot (F := Ideal) _ _ _ (ix2 r c) : EReal)) = _
    rw [hh, hh, hh, hh, hh, hh, hh, if_pos rfl, if_neg (by decide), if_neg (by decide), if_neg (by decide), if_neg (by decide), if_neg (by decide), if_neg (by decide),
      rowOf7_apply T 0 (by omega), Ideal.ofBits_zero_f32, zero_add, add_zero, add_zero, add_zero, add_zero, add_zero, add_zero]
    rfl
  exact (gather_rows (N := 7) (C := 32) (B := 10000) _ _ rfl T _ r c 0 (by rw [hst]; decide) (by omega)).trans hK.symm

/-! ### The values named in the reference's run -/

section Run
variable (V : Valuation τ sig (Elt Ideal))

theorem v52_apply (r : Fin 10000) : res_main_v52 V (ix1 r) = pdgS (IntOp.absi ((V (Proc.devRef .tc main_arg1) : IVec S10000x2 32) (ix2 r 0))) := by
  have h : res_main_v24 V (ix1 r) = IntOp.absi ((V (Proc.devRef .tc main_arg1) : IVec S10000x2 32) (ix2 r 0)) := by
    show IntOp.absi (shapeCast S10000 _ shapeCasts_S10000x1_S10000 (ix1 r)) = _
    rw [flat_col (M := 10000), mk_slice (V (Proc.devRef .tc main_arg1) : IVec S10000x2 32) 0 (by omega)]
    rfl
  have h1 : res_main_v28 V (ix1 r) = subS 1#32 0#32 (res_main_v24 V (ix1 r)) := rfl
  have h2 : res_main_v32 V (ix1 r) = subS 2#32 1#32 (res_main_v28 V (ix1 r)) := rfl
  have h3 : res_main_v36 V (ix1 r) = subS 11#32 2#32 (res_main_v32 V (ix1 r)) := rfl
  have h4 : res_main_v40 V (ix1 r) = subS 13#32 3#32 (res_main_v36 V (ix1 r)) := rfl
  have h5 : res_main_v44 V (ix1 r) = subS 22#32 4#32 (res_main_v40 V (ix1 r)) := rfl
  have h6 : res_main_v48 V (ix1 r) = subS 130#32 5#32 (res_main_v44 V (ix1 r)) := rfl
  have h7 : res_main_v52 V (ix1 r) = subS 211#32 6#32 (res_main_v48 V (ix1 r)) := rfl
  rw [h7, h6, h5, h4, h3, h2, h1, h]
  rfl

/-- The reference's node embeddings. -/
theorem emb_eq (hcat : ∀ j, ((V (Proc.devRef .tc main_arg1) : IVec S10000x2 32) j).toNat < 2) :
    res_main_v108 V = Dense.embOut (F := Ideal) (V (Proc.devRef .tc main_arg0)) (V (Proc.devRef .tc main_arg1)) (V (Proc.devRef .tc main_arg4)) (V (Proc.devRef .tc main_arg5))
      (V (Proc.devRef .tc main_arg6)) (V (Proc.devRef .tc main_arg7)) (V (Proc.devRef .tc main_arg8)) (V (Proc.devRef .tc main_arg9)) (V (Proc.devRef .tc main_arg10))
      (V (Proc.devRef .tc main_arg11)) (V (Proc.devRef .tc main_arg12)) (V (Proc.devRef .tc main_arg13)) := by
  have h3 : Dense.eluV (res_main_v3 V) = Dense.contV (F := Ideal) (V (Proc.devRef .tc main_arg0)) (V (Proc.devRef .tc main_arg6)) (V (Proc.devRef .tc main_arg7)) := by
    unfold res_main_v3 Dense.contV
    rw [row64_eq]
    exact congrArg Dense.eluV (congrArg (fun x => addf x _) (dg_eq (M := 10000) (K := 8) (N := 64) _ _ rfl _ _))
  have h64 : Dense.eluV (res_main_v64 V) = Dense.catV (F := Ideal) (Dense.chrgEmb (V (Proc.devRef .tc main_arg1)) (V (Proc.devRef .tc main_arg4)))
      (Dense.pdgEmb (V (Proc.devRef .tc main_arg1)) (V (Proc.devRef .tc main_arg5))) (V (Proc.devRef .tc main_arg8)) (V (Proc.devRef .tc main_arg9)) := by
    unfold res_main_v64
    rw [chrg_eq (V (Proc.devRef .tc main_arg1)) hcat (V (Proc.devRef .tc main_arg4)) (res_main_v14 V) rfl,
      pdg_eq (V (Proc.devRef .tc main_arg1)) hcat (V (Proc.devRef .tc main_arg5)) (res_main_v52 V) (v52_apply V)]
    exact cat_eq _ _ _ _
  have h83 : res_main_v83 V = Dense.encV (F := Ideal) (Dense.eluV (res_main_v64 V)) (Dense.eluV (res_main_v3 V)) (V (Proc.devRef .tc main_arg10)) (V (Proc.devRef .tc main_arg11)) := by
    refine (elu_eq (s := S10000x128) bcast_S_S10000x128 (res_main_v76 V)).trans ?_
    unfold res_main_v76
    rw [elu_eq, elu_eq]
    exact enc_eq _ _ _ _
  have h86 : res_main_v86 V = Dense.meanV (res_main_v83 V) := mean_eq _
  have h89 : res_main_v89 V = Dense.cenV (res_main_v83 V) := by
    unfold res_main_v89
    rw [row128_eq, h86]
    rfl
  have h108 : res_main_v108 V = Dense.bnV (F := Ideal) (res_main_v83 V) (V (Proc.devRef .tc main_arg12)) (V (Proc.devRef .tc main_arg13)) :=
    bn_eq _ _ _ _ h86 _ h89
  rw [h108, h83, h64, h3]
  rfl

end Run

end Cert.Proof.Ref

end
-- ==== Proof.Reals.lean ====
/-
  The batch normalization, one column at a time: a column with an infinite entry, or of zeros, comes out as the shift, and where
  the scale and the shift are real numbers every column comes out real. So the node embeddings are real numbers.
-/
module

public import proofs.«01_k».proof.Proof.Lookup
import Mathlib.Tactic.NormNum
import Mathlib.Tactic.Positivity

@[expose] public section

noncomputable section

namespace Cert.Proof.Ref

open Cert.ReferenceIdeal Cert.ReferenceIdeal.Gen
open Idealize.ShloMosaic Idealize.ShloMosaic.ValueIdx
open Cert.Proof.Alg
open scoped BigOperators

/-- Every entry is a real number. -/
def RV {s : Shape} (x : FVec Ideal s .f32) : Prop := ∀ i, IsR (x i)

theorem rv2 {M N : ℕ} {x : FVec Ideal ⟨2, ![M, N]⟩ .f32} (h : ∀ (r : Fin M) (c : Fin N), IsR (x (ix2 r c))) : RV x := fun i => by
  rw [eq_ix2 i]
  exact h _ _

theorem RV.add {s : Shape} {x y : FVec Ideal s .f32} (hx : RV x) (hy : RV y) : RV (addf x y) := fun i => (hx i).add (hy i)
theorem RV.sub {s : Shape} {x y : FVec Ideal s .f32} (hx : RV x) (hy : RV y) : RV (subf x y) := fun i => (hx i).sub (hy i)
theorem RV.mul {s : Shape} {x y : FVec Ideal s .f32} (hx : RV x) (hy : RV y) : RV (mulf x y) := fun i => (hx i).mul (hy i)
theorem RV.slice {s t : Shape} {x : FVec Ideal s .f32} (o) (h) (hx : RV x) : RV (extractStridedSlice t o x h) := fun _ => hx _
theorem RV.mm {sl sr so : Shape} (d : DotDims sl sr so) {x : FVec Ideal sl .f32} {w : FVec Ideal sr .f32} (hx : RV x) (hw : RV w) :
    RV (matmul d none x w (constant so .f32 0x00000000#32)) := fun j => by
  show IsR (FloatOps.matmul d none x w (constant so .f32 0x00000000#32) j)
  rw [Ideal.matmul_constant_zero_apply]
  exact IsR.sum _ _ fun k => (hx _).mul (hw _)

/-- The count of the nodes. -/
theorem ofBits_count : Ideal.ofBits .f32 0x461C4000#32 = ((10000 : ℝ) : EReal) := by
  simp [Ideal.ofBits, Ideal.ieee, -EReal.coe_mul]; norm_num

/-- The term added to a variance. -/
theorem ofBits_eps : ∃ r : ℝ, 0 < r ∧ Ideal.ofBits .f32 0x3727C5AC#32 = (r : EReal) := by
  refine ⟨_, ?_, by simp only [Ideal.ofBits, Ideal.ieee]; rfl⟩
  simp

/-- A sum over the rows, at a column. -/
theorem colsum_apply {M N : ℕ} (x : FVec Ideal ⟨2, ![M, N]⟩ .f32) (h : (⟨2, ![M, N]⟩ : Shape).Reduces [0] ⟨1, ![N]⟩) (c : Fin N) :
    multiReduction .add [0] ⟨1, ![N]⟩ x 0x00000000#32 h (.inl rfl) rfl (ix1 c) = ∑ k : Fin M, (x (ix2 k c) : EReal) := by
  refine (Ideal.multiReduction_add_single x _ h _ _ (ix1 c)).trans (Finset.sum_congr rfl fun k _ => congrArg x ?_)
  have h0 := h.drop_apply_val_of_eq (ix2 k c) (0 : Fin 1) (1 : Fin 2) Nat.zero_lt_one rfl
  have hd : h.drop (ix2 k c) = ix1 c := funext fun a => by
    match a with
    | ⟨0, _⟩ => exact Fin.ext h0
  rw [← hd]
  exact h.lift_drop (ix2 k c)

/-- The mean of a column. -/
def meanS (f : Fin 10000 → EReal) : EReal := Ideal.div (∑ k, f k) ((10000 : ℝ) : EReal)

/-- A column, normalized, scaled and shifted. -/
def bnS (f : Fin 10000 → EReal) (g b : EReal) (n : Fin 10000) : EReal :=
  (g * (f n - meanS f)) * Ideal.rsqrt (meanS (fun k => (f k - meanS f) * (f k - meanS f)) + Ideal.ofBits .f32 0x3727C5AC#32) + b

theorem mean_apply (x : FVec Ideal S10000x128 .f32) (c : Fin 128) : (Dense.meanV x (ix1 c) : EReal) = meanS fun k => x (ix2 k c) := by
  have h : Dense.meanV x (ix1 c) = Ideal.div (multiReduction .add [0] S128 x 0x00000000#32 Cert.KernelIdeal.Gen.reduces_S10000x128_S128 (.inl rfl) rfl (ix1 c)) (Ideal.ofBits .f32 0x461C4000#32) := rfl
  have hd : ∀ D : EReal, Ideal.div (multiReduction .add [0] S128 x 0x00000000#32 Cert.KernelIdeal.Gen.reduces_S10000x128_S128 (.inl rfl) rfl (ix1 c)) D
      = Ideal.div (∑ k : Fin 10000, (x (ix2 k c) : EReal)) D := fun D => congrArg (fun y : EReal => Ideal.div y D) (colsum_apply (M := 10000) (N := 128) x _ c)
  exact (h.trans (hd _)).trans (congrArg (fun D : EReal => Ideal.div (∑ k : Fin 10000, (x (ix2 k c) : EReal)) D) ofBits_count)

theorem cen_apply (x : FVec Ideal S10000x128 .f32) (n : Fin 10000) (c : Fin 128) :
    (Dense.cenV x (ix2 n c) : EReal) = (x (ix2 n c) : EReal) - meanS fun k => x (ix2 k c) := by
  have h := (row128_apply (Dense.meanV x) n c).trans (mean_apply x c)
  exact congrArg (fun y : EReal => (x (ix2 n c) : EReal) - y) h

/-- The batch normalization, one column at a time. -/
theorem bnV_apply (x : FVec Ideal S10000x128 .f32) (g b : FVec Ideal S128 .f32) (n : Fin 10000) (c : Fin 128) :
    (Dense.bnV x g b (ix2 n c) : EReal) = bnS (fun k => x (ix2 k c)) (g (ix1 c)) (b (ix1 c)) n := by
  have hv : (Dense.meanV (mulf (Dense.cenV x) (Dense.cenV x)) (ix1 c) : EReal)
      = meanS (fun k => ((x (ix2 k c) : EReal) - meanS fun k => x (ix2 k c)) * ((x (ix2 k c) : EReal) - meanS fun k => x (ix2 k c))) := by
    refine (mean_apply _ c).trans (congrArg meanS (funext fun k => ?_))
    exact congrArg₂ (fun y z : EReal => y * z) (cen_apply x k c) (cen_apply x k c)
  unfold Dense.bnV bnS
  refine congrArg₂ (fun y z : EReal => y + z) (congrArg₂ (fun y z : EReal => y * z) (congrArg₂ (fun y z : EReal => y * z) (row128_apply g n c) (cen_apply x n c)) ?_) (row128_apply b n c)
  refine (row128_apply _ n c).trans ?_
  exact congrArg (fun y : EReal => Ideal.rsqrt (y + Ideal.ofBits .f32 0x3727C5AC#32)) hv

/-! ### Sums that are real numbers -/

theorem isR_add {x y : EReal} (h : IsR (x + y)) : IsR x ∧ IsR y := by
  obtain ⟨r, hr⟩ := h
  induction x with
  | bot => rw [EReal.bot_add] at hr; exact absurd hr (EReal.bot_ne_coe r)
  | top =>
    induction y with
    | bot => rw [EReal.add_bot] at hr; exact absurd hr (EReal.bot_ne_coe r)
    | top => rw [EReal.top_add_top] at hr; exact absurd hr (EReal.top_ne_coe r)
    | coe y => rw [EReal.top_add_coe] at hr; exact absurd hr (EReal.top_ne_coe r)
  | coe x =>
    refine ⟨IsR.coe x, ?_⟩
    induction y with
    | bot => rw [EReal.add_bot] at hr; exact absurd hr (EReal.bot_ne_coe r)
    | top => rw [EReal.coe_add_top] at hr; exact absurd hr (EReal.top_ne_coe r)
    | coe y => exact IsR.coe y

theorem isR_neg {x : EReal} (h : IsR (-x)) : IsR x := by
  obtain ⟨r, hr⟩ := h
  exact ⟨-r, by rw [EReal.coe_neg, ← hr, neg_neg]⟩

theorem isR_sub {x y : EReal} (h : IsR (x - y)) : IsR x ∧ IsR y := by
  rw [sub_eq_add_neg] at h
  exact ⟨(isR_add h).1, isR_neg (isR_add h).2⟩

theorem isR_sum {ι : Type} (s : Finset ι) (f : ι → EReal) (h : IsR (∑ i ∈ s, f i)) : ∀ i ∈ s, IsR (f i) := by
  classical
  induction s using Finset.induction_on with
  | empty => exact fun i hi => absurd hi (Finset.notMem_empty i)
  | insert a s ha ih =>
    rw [Finset.sum_insert ha] at h
    intro i hi
    rcases Finset.mem_insert.1 hi with rfl | hi
    · exact (isR_add h).1
    · exact ih (isR_add h).2 i hi

/-- What is not a real number is infinite. -/
theorem not_isR {x : EReal} (h : ¬ IsR x) : x = ⊥ ∨ x = ⊤ := by
  induction x with
  | bot => exact .inl rfl
  | top => exact .inr rfl
  | coe r => exact absurd (IsR.coe r) h

theorem meanS_eq (f : Fin 10000 → EReal) : meanS f = (∑ k, f k) * (((10000 : ℝ)⁻¹ : ℝ) : EReal) := by
  unfold meanS Ideal.div
  rw [if_neg (by exact_mod_cast (by norm_num : (10000 : ℝ) ≠ 0))]
  rfl

/-- The mean of a column with an infinite entry is infinite. -/
theorem meanS_inf {f : Fin 10000 → EReal} (h : ∃ k, ¬ IsR (f k)) : ¬ IsR (meanS f) := by
  obtain ⟨k, hk⟩ := h
  have hs : ¬ IsR (∑ k, f k) := fun hs => hk (isR_sum _ _ hs k (Finset.mem_univ k))
  rw [meanS_eq]
  rintro ⟨r, hr⟩
  rcases not_isR hs with h | h
  · rw [h, EReal.bot_mul_coe_of_pos (by norm_num)] at hr; exact absurd hr (EReal.bot_ne_coe r)
  · rw [h, EReal.top_mul_coe_of_pos (by norm_num)] at hr; exact absurd hr (EReal.top_ne_coe r)

/-- A column with an infinite entry comes out as the shift. -/
theorem bnS_inf {f : Fin 10000 → EReal} (h : ∃ k, ¬ IsR (f k)) (g b : EReal) (n : Fin 10000) : bnS f g b n = b := by
  have hm := meanS_inf h
  have hc : ∀ k, (f k - meanS f) * (f k - meanS f) = ⊤ := fun k => by
    rcases not_isR (fun hk : IsR (f k - meanS f) => hm (isR_sub hk).2) with h | h
    · rw [h]; exact EReal.bot_mul_bot
    · rw [h]; exact EReal.top_mul_top
  have hs : meanS (fun k => (f k - meanS f) * (f k - meanS f)) = ⊤ := by
    rw [meanS_eq]
    have : (∑ k : Fin 10000, (f k - meanS f) * (f k - meanS f)) = ⊤ := by
      refine top_le_iff.1 (le_trans (le_of_eq (hc 0).symm) ?_)
      exact Finset.single_le_sum (f := fun k => (f k - meanS f) * (f k - meanS f)) (fun k _ => by rw [hc k]; exact le_top) (Finset.mem_univ 0)
    rw [this, EReal.top_mul_coe_of_pos (by norm_num)]
  obtain ⟨e, he, h'⟩ := ofBits_eps
  unfold bnS
  rw [hs, h', EReal.top_add_coe, Ideal.rsqrt_top, mul_zero, zero_add]

/-- A column of zeros comes out as the shift. -/
theorem bnS_zero {f : Fin 10000 → EReal} (h : ∀ k, f k = 0) (g b : EReal) (n : Fin 10000) : bnS f g b n = b := by
  have hm : meanS f = 0 := by
    rw [meanS_eq, Finset.sum_eq_zero fun k _ => h k, zero_mul]
  unfold bnS
  rw [hm, h n, sub_zero, mul_zero, zero_mul, zero_add]

theorem mean_real {f : Fin 10000 → EReal} (h : ∀ k, IsR (f k)) : IsR (meanS f) := (IsR.sum _ _ h).div _ (by norm_num)

/-- A normalized column is of real numbers, whatever the column. -/
theorem bnS_real (f : Fin 10000 → EReal) {g b : EReal} (hg : IsR g) (hb : IsR b) (n : Fin 10000) : IsR (bnS f g b n) := by
  by_cases hf : ∃ k, ¬ IsR (f k)
  · rw [bnS_inf hf]; exact hb
  have hf' : ∀ k, IsR (f k) := fun k => by_contra fun hk => hf ⟨k, hk⟩
  have hc : ∀ k, IsR (f k - meanS f) := fun k => (hf' k).sub (mean_real hf')
  choose y hy using hc
  have hs : meanS (fun k => (f k - meanS f) * (f k - meanS f)) = (((∑ k, y k * y k) * (10000 : ℝ)⁻¹ : ℝ) : EReal) := by
    have hq : ∀ k, (f k - meanS f) * (f k - meanS f) = ((y k * y k : ℝ) : EReal) := fun k => by rw [hy, EReal.coe_mul]
    rw [meanS_eq, EReal.coe_mul, coe_sum, Finset.sum_congr rfl fun k _ => hq k]
  have hv : 0 ≤ (∑ k, y k * y k) * (10000 : ℝ)⁻¹ := mul_nonneg (Finset.sum_nonneg fun k _ => mul_self_nonneg _) (by norm_num)
  obtain ⟨e, he, h'⟩ := ofBits_eps
  unfold bnS
  refine ((hg.mul ⟨_, hy n⟩).mul ?_).add hb
  rw [hs, h', ← EReal.coe_add, Ideal.rsqrt_coe, if_neg (by linarith), if_neg (by intro hh; linarith)]
  exact IsR.coe _

/-- The node embeddings are real numbers, where their scale and shift are. -/
theorem emb_real (xc : FVec Ideal S10000x8 .f32) (cat : IVec S10000x2 32) (T3 : FVec Ideal S3x32 .f32) (T7 : FVec Ideal S7x32 .f32) (Wc : FVec Ideal S8x64 .f32) (bc : FVec Ideal S64 .f32)
    (Wk : FVec Ideal S64x64 .f32) (bk : FVec Ideal S64 .f32) (We : FVec Ideal S128x128 .f32) (be g b : FVec Ideal S128 .f32) (hg : RV g) (hb : RV b) :
    RV (Dense.embOut xc cat T3 T7 Wc bc Wk bk We be g b) := by
  unfold Dense.embOut
  refine rv2 (M := 10000) (N := 128) fun n c => ?_
  rw [bnV_apply]
  exact bnS_real _ (hg _) (hb _) n

end Cert.Proof.Ref

end
-- ==== Proof.Msg.lean ====
/-
  The messages of the reference, over the extended reals: a message is the node's part and the neighbour's part, so the
  greatest message into a node is the node's part and the greatest neighbour's part.
-/
module

public import proofs.«01_k».proof.Proof.Reals
public import proofs.«01_k».proof.Proof.Tile
public import Idealize.ShloMosaic.PureOps.Reduce

@[expose] public section

noncomputable section

namespace Cert.Proof.Ref

open Cert.ReferenceIdeal Cert.ReferenceIdeal.Gen
open Idealize.ShloMosaic Idealize.ShloMosaic.ValueIdx
open Cert.Proof.Alg
open Cert.Proof.Seg (Reach ninf Spec eIdx xIdx srcOf dstOf)
open scoped BigOperators

/-! ### Running maxima -/

/-- An entry, as the extended real it is. -/
abbrev er (x : Ideal .f32) : EReal := x

theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]

/-- The kernel's minus infinity is the least extended real. -/
theorem ninf_eq : (ninf : Ideal .f32) = (⊥ : EReal) := ofBits_ninf

/-- A running maximum is the least upper bound of what it ran over, whatever the order and the repetitions. -/
theorem reach_le {val : ℕ → Ideal .f32} {S : Set ℕ} {x : Ideal .f32} (h : Reach val S x) (z : EReal) :
    (er <| x) ≤ z ↔ ∀ e ∈ S, (er <| val e) ≤ z := by
  induction h with
  | init => rw [ninf_eq]; exact ⟨fun _ e he => absurd he (Set.notMem_empty e), fun _ => bot_le⟩
  | step e _ ih =>
    refine ⟨fun h k hk => ?_, fun h => max_le (ih.2 fun k hk => h k (Set.mem_insert_of_mem e hk)) (h e (Set.mem_insert e _))⟩
    have h' := max_le_iff.1 h
    rcases Set.mem_insert_iff.1 hk with rfl | hk
    · exact h'.2
    · exact ih.1 h'.1 k hk

/-- A running maximum of real numbers is a real number, or minus infinity where nothing was met. -/
theorem reach_real {val : ℕ → Ideal .f32} {S : Set ℕ} {x : Ideal .f32} (h : Reach val S x) (hv : ∀ e, IsR (val e)) : (er <| x) = ⊥ ∨ IsR x := by
  induction h with
  | init => exact .inl ninf_eq
  | step e _ ih =>
    refine .inr ?_
    rename_i S' y _
    show IsR (max (er <| y) (er <| val e))
    rcases ih with h | h
    · rw [h, max_eq_right bot_le]; exact hv e
    · rcases max_choice (er <| y) (er <| val e) with k | k <;> rw [k]
      · exact h
      · exact hv e

/-! ### The edges -/

/-- A word below ten thousand is not negative. -/
theorem not_neg (w : BitVec 32) (h : w.toNat < 10000) : IntOp.cmpi .slt w 0#32 = 0#1 := by
  have : w.slt 0#32 = false := by
    simp only [BitVec.slt, BitVec.toInt_zero, decide_eq_false_iff_not, not_lt]
    rw [BitVec.toInt_eq_toNat_of_lt (by omega)]; omega
  simp [IntOp.cmpi, this]

/-- The edges' two rows, as the reference slices them. -/
def srcV (E : IVec S2x320000 32) : IVec S320000 32 :=
  shapeCast _ (extractStridedSlice S1x320000 ![0, 0] E slices_S2x320000_S1x320000_0_0) shapeCasts_S1x320000_S320000
def dstV (E : IVec S2x320000 32) : IVec S320000 32 :=
  shapeCast _ (extractStridedSlice S1x320000 ![1, 0] E slices_S2x320000_S1x320000_1_0) shapeCasts_S1x320000_S320000

theorem eIdx_ix2 (r : Fin 2) (e : Fin 320000) (o p : ℕ) (ho : o < 2) (hp : p < 320000) (h1 : o = r.val) (h2 : p = e.val) :
    (ix2 (⟨o, ho⟩ : Fin 2) (⟨p, hp⟩ : Fin 320000) : S2x320000.Idx) = eIdx r e.val := by
  subst h1 h2
  exact (Cert.Proof.Seg.eIdx_eq (ix2 r e) r rfl).symm

theorem srcV_apply (E : IVec S2x320000 32) (e : Fin 320000) : srcV E (ix1 e) = E (eIdx 0 e.val) := by
  unfold srcV
  rw [flat_row (M := 320000), slice2 (A := 2) (B := 320000) (C := 1) (D := 320000) 0 0 E _ 0 e (by show 0 + 0 < 2; omega) (by omega)]
  exact congrArg E (eIdx_ix2 0 e _ _ _ _ rfl (Nat.zero_add _))
theorem dstV_apply (E : IVec S2x320000 32) (e : Fin 320000) : dstV E (ix1 e) = E (eIdx 1 e.val) := by
  unfold dstV
  rw [flat_row (M := 320000), slice2 (A := 2) (B := 320000) (C := 1) (D := 320000) 1 0 E _ 0 e (by show 1 + 0 < 2; omega) (by omega)]
  exact congrArg E (eIdx_ix2 1 e _ _ _ _ rfl (Nat.zero_add _))

/-- The node embeddings at the nodes a row of the edges names. -/
def lookV (X : FVec Ideal S10000x128 .f32) (v : IVec S320000 32) : FVec Ideal S320000x128 .f32 :=
  Host.gather gather_S10000x128_S320000x1_S320000x128_1_0_n_n_0_1_1128 X (broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v))

theorem lookV_apply (X : FVec Ideal S10000x128 .f32) (v : IVec S320000 32) (e : Fin 320000) (c : Fin 128) (n : Fin 10000) (h : (v (ix1 e)).toNat = n.val) :
    lookV X v (ix2 e c) = X (ix2 n c) := by
  have hst := start_apply (B := 320000) v 10000#32 bcast_S_S320000 bcast_S_S320000 bcast_S320000_S320000x1_0 e
  rw [not_neg _ (h ▸ n.isLt)] at hst
  have hst' := hst.trans (rfl : Scalar.select 0#1 _ (v (ix1 e)) = v (ix1 e))
  exact gather_rows (N := 10000) (C := 128) (B := 320000) _ _ rfl X _ e c n ((congrArg BitVec.toNat hst').trans h) (by omega)

/-- The messages. -/
def msgV (X : FVec Ideal S10000x128 .f32) (W : FVec Ideal S256x128 .f32) (b : FVec Ideal S128 .f32) (s d : IVec S320000 32) : FVec Ideal S320000x128 .f32 :=
  addf (Host.dotGeneral dot_S320000x256_S256x128_S320000x128_1_0_0_1_n_n none
      (concatenate S320000x256 1 [⟨S320000x128, lookV X d⟩, ⟨S320000x128, subf (lookV X s) (lookV X d)⟩] concatenates_S320000x128_S320000x128_S320000x256_d1) W)
    (broadcastInDim S320000x128 ![0, 1] bcast_S1x128_S320000x128_0_1 (broadcastInDim S1x128 ![1] bcast_S128_S1x128_1 b))

theorem aOut_apply (X : FVec Ideal S10000x128 .f32) (W : FVec Ideal S256x128 .f32) (b : FVec Ideal S128 .f32) (n : Fin 10000) (c : Fin 128) :
    (Dense.aOut X W b (ix2 n c) : EReal) = ∑ k : Fin 128, (X (ix2 n k) : EReal) * ((W (ix2 (Fin.castAdd 128 k) c) : EReal) - W (ix2 (Fin.natAdd 128 k) c)) + b (ix1 c) := by
  unfold Dense.aOut
  refine congrArg₂ (fun x y : EReal => x + y) ((mm_apply (M := 10000) (K := 128) (N := 128) _ rfl X _ n c).trans (Finset.sum_congr rfl fun k _ => ?_)) (row128_apply b n c)
  refine congrArg (fun y : EReal => (X (ix2 n k) : EReal) * y) ?_
  refine congrArg₂ (fun x y : EReal => x - y) ((slice2 (A := 256) (B := 128) (C := 128) (D := 128) 0 0 W _ k c (by omega) (by omega)).trans ?_)
    ((slice2 (A := 256) (B := 128) (C := 128) (D := 128) 128 0 W _ k c (by omega) (by omega)).trans ?_)
  · exact congrArg W (congrArg₂ ix2 (Fin.ext (Nat.zero_add _)) (Fin.ext (Nat.zero_add _)))
  · exact congrArg W (congrArg₂ ix2 (Fin.ext rfl) (Fin.ext (Nat.zero_add _)))

theorem btOut_apply (X : FVec Ideal S10000x128 .f32) (W : FVec Ideal S256x128 .f32) (n : Fin 10000) (c : Fin 128) :
    (Dense.btOut X W (ix2 c n) : EReal) = ∑ k : Fin 128, (X (ix2 n k) : EReal) * W (ix2 (Fin.natAdd 128 k) c) := by
  unfold Dense.btOut
  refine (transpose_apply (s := S10000x128) (t := Cert.KernelIdeal.S128x10000) _ _ _ (ix2 c n) (ix2 n c) fun a => ?_).trans ?_
  · match a with
    | ⟨0, _⟩ => rfl
    | ⟨1, _⟩ => rfl
  refine (mm_apply (M := 10000) (K := 128) (N := 128) _ rfl X _ n c).trans (Finset.sum_congr rfl fun k _ => ?_)
  refine congrArg (fun y : EReal => (X (ix2 n k) : EReal) * y) ((slice2 (A := 256) (B := 128) (C := 128) (D := 128) 128 0 W _ k c (by omega) (by omega)).trans ?_)
  exact congrArg W (congrArg₂ ix2 (Fin.ext rfl) (Fin.ext (Nat.zero_add _)))

/-- A message, as the reference sums it. -/
theorem msgV_sum (X : FVec Ideal S10000x128 .f32) (W : FVec Ideal S256x128 .f32) (b : FVec Ideal S128 .f32) (s d : IVec S320000 32)
    (e : Fin 320000) (c : Fin 128) (n t : Fin 10000) (hn : (s (ix1 e)).toNat = n.val) (ht : (d (ix1 e)).toNat = t.val) :
    (msgV X W b s d (ix2 e c) : EReal) = (∑ k : Fin 128, (X (ix2 t k) : EReal) * W (ix2 (Fin.castAdd 128 k) c)
      + ∑ k : Fin 128, ((X (ix2 n k) : EReal) - X (ix2 t k)) * W (ix2 (Fin.natAdd 128 k) c)) + b (ix1 c) := by
  unfold msgV
  refine congrArg₂ (fun x y : EReal => x + y) ((dg_pair (M := 320000) (A := 128) (B := 128) (N := 128) _ rfl _ _ W _ e c).trans ?_) (bid_row (M := 320000) (N := 128) b _ _ e c)
  refine congrArg₂ (fun x y : EReal => x + y) (Finset.sum_congr rfl fun k _ => ?_) (Finset.sum_congr rfl fun k _ => ?_)
  · exact congrArg (fun y : EReal => y * _) (lookV_apply X d e k t ht)
  · exact congrArg (fun y : EReal => y * _) (congrArg₂ (fun x y : EReal => x - y) (lookV_apply X s e k n hn) (lookV_apply X d e k t ht))

/-- A message is the node's part and the neighbour's part. -/
theorem msgV_apply (X : FVec Ideal S10000x128 .f32) (W : FVec Ideal S256x128 .f32) (b : FVec Ideal S128 .f32) (s d : IVec S320000 32) (hX : RV X) (hW : RV W)
    (e : Fin 320000) (c : Fin 128) (hb : IsR (b (ix1 c))) (n t : Fin 10000) (hn : (s (ix1 e)).toNat = n.val) (ht : (d (ix1 e)).toNat = t.val) :
    (msgV X W b s d (ix2 e c) : EReal) = (Dense.aOut X W b (ix2 t c) : EReal) + Dense.btOut X W (ix2 c n) := by
  rw [aOut_apply, btOut_apply, msgV_sum X W b s d e c n t hn ht]
  exact msg_split (fun k => X (ix2 t k)) (fun k => X (ix2 n k)) (fun k : Fin 128 => W (ix2 (Fin.castAdd 128 k) c)) (fun k => W (ix2 (Fin.natAdd 128 k) c)) (b (ix1 c))
    (fun _ => hX _) (fun _ => hX _) (fun _ => hW _) (fun _ => hW _) hb

/-- A real number added to an infinite one leaves it. -/
theorem add_inf {x y : EReal} (hx : IsR x) (hy : ¬ IsR y) : x + y = y := by
  obtain ⟨r, rfl⟩ := hx
  rcases not_isR hy with h | h <;> rw [h]
  · exact EReal.add_bot _
  · exact EReal.coe_add_top r

/-- Where the bias is infinite, so is every message. -/
theorem msgV_inf (X : FVec Ideal S10000x128 .f32) (W : FVec Ideal S256x128 .f32) (b : FVec Ideal S128 .f32) (s d : IVec S320000 32) (hX : RV X) (hW : RV W)
    (e : Fin 320000) (c : Fin 128) (hb : ¬ IsR (b (ix1 c))) (n t : Fin 10000) (hn : (s (ix1 e)).toNat = n.val) (ht : (d (ix1 e)).toNat = t.val) :
    (msgV X W b s d (ix2 e c) : EReal) = b (ix1 c) := by
  rw [msgV_sum X W b s d e c n t hn ht]
  exact add_inf ((IsR.sum _ _ fun k => (hX _).mul (hW _)).add (IsR.sum _ _ fun k => ((hX _).sub (hX _)).mul (hW _))) hb

theorem aOut_real (X : FVec Ideal S10000x128 .f32) (W : FVec Ideal S256x128 .f32) (b : FVec Ideal S128 .f32) (hX : RV X) (hW : RV W) (n : Fin 10000) (c : Fin 128)
    (hb : IsR (b (ix1 c))) : IsR (Dense.aOut X W b (ix2 n c)) := by
  rw [aOut_apply]
  exact (IsR.sum _ _ fun k => (hX _).mul ((hW _).sub (hW _))).add hb

theorem aOut_inf (X : FVec Ideal S10000x128 .f32) (W : FVec Ideal S256x128 .f32) (b : FVec Ideal S128 .f32) (hX : RV X) (hW : RV W) (n : Fin 10000) (c : Fin 128)
    (hb : ¬ IsR (b (ix1 c))) : (Dense.aOut X W b (ix2 n c) : EReal) = b (ix1 c) := by
  rw [aOut_apply]
  exact add_inf (IsR.sum _ _ fun k => (hX _).mul ((hW _).sub (hW _))) hb

theorem btOut_real (X : FVec Ideal S10000x128 .f32) (W : FVec Ideal S256x128 .f32) (hX : RV X) (hW : RV W) : RV (Dense.btOut X W) :=
  rv2 (M := 128) (N := 10000) fun c n => by
    rw [btOut_apply]
    exact IsR.sum _ _ fun k => (hX _).mul (hW _)

/-! ### The greatest message into a node -/

/-- Which edges end in which node, as the reference marks them. -/
def intoV (d : IVec S320000 32) : IVec S10000x320000 1 :=
  cmpi .eq (broadcastInDim S10000x320000 ![0, 1] bcast_S1x320000_S10000x320000_0_1 (broadcastInDim S1x320000 ![1] bcast_S320000_S1x320000_1 d))
    (broadcastInDim S10000x320000 ![0, 1] bcast_S10000x1_S10000x320000_0_1 (broadcastInDim S10000x1 ![0] bcast_S10000_S10000x1_0 (iotaInDim S10000 32 0)))

/-- A value along the nodes, repeated for every edge. -/
theorem nodes_apply (v : IVec S10000 32) (n : Fin 10000) (e : Fin 320000) :
    broadcastInDim S10000x320000 ![0, 1] bcast_S10000x1_S10000x320000_0_1 (broadcastInDim S10000x1 ![0] bcast_S10000_S10000x1_0 v) (ix2 n e) = v (ix1 n) := by
  refine Eq.trans (broadcastInDim_apply (s := S10000x1) (t := S10000x320000) _ _ _ _ (ix2 n 0) fun a => ?_) (bid_col (M := 10000) v _ n 0)
  match a with
  | ⟨0, _⟩ => rfl
  | ⟨1, _⟩ => rfl

theorem intoV_apply (d : IVec S320000 32) (n : Fin 10000) (e : Fin 320000) :
    intoV d (ix2 n e) = IntOp.cmpi .eq (d (ix1 e)) (BitVec.ofNat 32 n.val) := by
  unfold intoV
  show IntOp.cmpi .eq (broadcastInDim S10000x320000 _ _ _ _) (broadcastInDim S10000x320000 _ _ _ _) = _
  rw [nodes_apply, bid_row (M := 10000) (N := 320000)]
  rfl

/-- Every message at every node it goes to, minus infinity elsewhere, as the reference masks them. -/
def maskV (g : FVec Ideal S320000x128 .f32) (d : IVec S320000 32) : FVec Ideal S10000x320000x128 .f32 :=
  select (broadcastInDim S10000x320000x128 ![0, 1, 2] bcast_S10000x320000x1_S10000x320000x128_0_1_2 (broadcastInDim S10000x320000x1 ![0, 1] bcast_S10000x320000_S10000x320000x1_0_1 (intoV d)))
    (broadcastInDim S10000x320000x128 ![0, 1, 2] bcast_S1x320000x128_S10000x320000x128_0_1_2 (broadcastInDim S1x320000x128 ![1, 2] bcast_S320000x128_S1x320000x128_1_2 g))
    (broadcastInDim S10000x320000x128 ![] bcast_S_S10000x320000x128 (id (constant (F := Ideal) S_ .f32 0xFF800000#32)))

/-- A mark for a node and an edge, repeated for every feature. -/
theorem marks_apply (v : IVec S10000x320000 1) (n : Fin 10000) (e : Fin 320000) (c : Fin 128) :
    broadcastInDim S10000x320000x128 ![0, 1, 2] bcast_S10000x320000x1_S10000x320000x128_0_1_2 (broadcastInDim S10000x320000x1 ![0, 1] bcast_S10000x320000_S10000x320000x1_0_1 v)
      (ix3 n e c) = v (ix2 n e) := by
  refine Eq.trans (broadcastInDim_apply (s := S10000x320000x1) (t := S10000x320000x128) _ _ _ _ (ix3 n e 0) fun a => ?_)
    (broadcastInDim_apply (s := S10000x320000) (t := S10000x320000x1) _ _ _ _ (ix2 n e) fun a => ?_)
  · match a with
    | ⟨0, _⟩ => rfl
    | ⟨1, _⟩ => rfl
    | ⟨2, _⟩ => rfl
  · match a with
    | ⟨0, _⟩ => rfl
    | ⟨1, _⟩ => rfl

/-- A value for an edge and a feature, repeated for every node. -/
theorem feats_apply (v : FVec Ideal S320000x128 .f32) (n : Fin 10000) (e : Fin 320000) (c : Fin 128) :
    broadcastInDim S10000x320000x128 ![0, 1, 2] bcast_S1x320000x128_S10000x320000x128_0_1_2 (broadcastInDim S1x320000x128 ![1, 2] bcast_S320000x128_S1x320000x128_1_2 v)
      (ix3 n e c) = v (ix2 e c) := by
  refine Eq.trans (broadcastInDim_apply (s := S1x320000x128) (t := S10000x320000x128) _ _ _ _ (ix3 0 e c) fun a => ?_)
    (broadcastInDim_apply (s := S320000x128) (t := S1x320000x128) _ _ _ _ (ix2 e c) fun a => ?_)
  · match a with
    | ⟨0, _⟩ => rfl
    | ⟨1, _⟩ => rfl
    | ⟨2, _⟩ => rfl
  · match a with
    | ⟨0, _⟩ => rfl
    | ⟨1, _⟩ => rfl

theorem maskV_apply (g : FVec Ideal S320000x128 .f32) (d : IVec S320000 32) (n : Fin 10000) (e : Fin 320000) (c : Fin 128) (hd : (d (ix1 e)).toNat < 10000) :
    (maskV g d (ix3 n e c) : EReal) = if (d (ix1 e)).toNat = n.val then (g (ix2 e c) : EReal) else ⊥ := by
  unfold maskV
  show Scalar.select (broadcastInDim S10000x320000x128 _ _ _ _) (broadcastInDim S10000x320000x128 _ _ _ _ : EReal) (Ideal.ofBits .f32 0xFF800000#32) = _
  rw [marks_apply, feats_apply, intoV_apply, ofBits_ninf]
  by_cases h : (d (ix1 e)).toNat = n.val
  · rw [if_pos h, show d (ix1 e) = BitVec.ofNat 32 n.val from BitVec.eq_of_toNat_eq (by
      rw [BitVec.toNat_ofNat, Nat.mod_eq_of_lt (by omega)]; exact h)]
    have : IntOp.cmpi .eq (BitVec.ofNat 32 n.val) (BitVec.ofNat 32 n.val) = 1#1 := by simp [IntOp.cmpi]
    rw [this]
    rfl
  · rw [if_neg h]
    have h' : d (ix1 e) ≠ BitVec.ofNat 32 n.val := fun k => h (by
      rw [k, BitVec.toNat_ofNat, Nat.mod_eq_of_lt (by omega)])
    have : IntOp.cmpi .eq (d (ix1 e)) (BitVec.ofNat 32 n.val) = 0#1 := by
      show BitVec.ofBool (d (ix1 e) == BitVec.ofNat 32 n.val) = 0#1
      rw [beq_eq_false_iff_ne.2 h']; rfl
    rw [this]
    rfl

/-- The greatest message into every node. -/
def maxV (g : FVec Ideal S320000x128 .f32) (d : IVec S320000 32) : FVec Ideal S10000x128 .f32 :=
  Host.reduce (FloatOps.maximumf (F := Ideal) (φ := .f32)) (maskV g d) (constant (F := Ideal) S_ .f32 0xFF800000#32) reducesTo_S10000x320000x128_S10000x128_d1 h_S_

theorem drop_eq (n m : Fin 10000) (e : Fin 320000) (c k : Fin 128) :
    reducesTo_S10000x320000x128_S10000x128_d1.drop (ix3 n e c) = ix2 m k ↔ n.val = m.val ∧ c.val = k.val := by
  have h0 := reducesTo_S10000x320000x128_S10000x128_d1.drop_apply_val_of_eq (ix3 n e c) (0 : Fin 2) (0 : Fin 3)
  have h1 := reducesTo_S10000x320000x128_S10000x128_d1.drop_apply_val_of_eq (ix3 n e c) (1 : Fin 2) (2 : Fin 3)
  constructor
  · intro h; rw [h] at h0 h1; exact ⟨h0.symm, h1.symm⟩
  · rintro ⟨e0, e1⟩
    funext a
    match a with
    | ⟨0, _⟩ => exact Fin.ext (h0.trans e0)
    | ⟨1, _⟩ => exact Fin.ext (h1.trans e1)

theorem maxV_le (g : FVec Ideal S320000x128 .f32) (d : IVec S320000 32) (hd : ∀ e : Fin 320000, (d (ix1 e)).toNat < 10000) (n : Fin 10000) (c : Fin 128) (z : EReal) :
    (er <| maxV g d (ix2 n c)) ≤ z ↔ ∀ e : Fin 320000, (d (ix1 e)).toNat = n.val → (er <| g (ix2 e c)) ≤ z := by
  unfold maxV
  rw [Host.reduce_eq_fold]
  have hb : (constant (F := Ideal) S_ .f32 0xFF800000#32 (Shape.Idx.first h_S_) : Ideal .f32) = (⊥ : EReal) := ninf_eq
  rw [hb]
  have key := Finset.fold_max_le (s := Finset.univ.filter fun i => reducesTo_S10000x320000x128_S10000x128_d1.drop i = ix2 n c) (f := fun i => (er <| maskV g d i)) (b := (⊥ : EReal)) z
  refine Iff.trans key ?_
  constructor
  · rintro ⟨_, h⟩ e he
    have := h (ix3 n e c) (Finset.mem_filter.2 ⟨Finset.mem_univ _, (drop_eq _ _ _ _ _).2 ⟨rfl, rfl⟩⟩)
    have hm := maskV_apply g d n e c (hd e)
    rw [if_pos he] at hm
    exact (le_of_eq hm.symm).trans this
  · intro h
    refine ⟨bot_le, fun i hi => ?_⟩
    have hi' := (Finset.mem_filter.1 hi).2
    obtain ⟨n', e', c', rfl⟩ : ∃ (n' : Fin 10000) (e' : Fin 320000) (c' : Fin 128), i = ix3 n' e' c' := ⟨_, _, _, eq_ix3 i⟩
    obtain ⟨e0, e1⟩ := (drop_eq _ _ _ _ _).1 hi'
    obtain rfl := Fin.ext e0
    obtain rfl := Fin.ext e1
    refine (le_of_eq (maskV_apply g d n' e' c' (hd e'))).trans ?_
    split
    · rename_i he
      exact h _ he
    · exact bot_le

theorem xIdx_ix2 (c : Fin 128) (n : Fin 10000) : (xIdx c.val n.val : Cert.KernelIdeal.S128x10000.Idx) = ix2 c n :=
  Cert.Proof.Seg.xIdx_eq (ix2 c n) rfl rfl

/-- The greatest message into a node is the node's part and the greatest neighbour's part. -/
theorem maxV_eq (X : FVec Ideal S10000x128 .f32) (W : FVec Ideal S256x128 .f32) (b : FVec Ideal S128 .f32) (E : IVec S2x320000 32) (hX : RV X) (hW : RV W)
    (hE : ∀ j, (E j).toNat < 10000) (mt : FVec Ideal Cert.KernelIdeal.S128x10000 .f32) (hmt : ∀ j, Spec (Dense.btOut X W) E mt j)
    (n : Fin 10000) (c : Fin 128) (hb : IsR (b (ix1 c))) :
    (maxV (msgV X W b (srcV E) (dstV E)) (dstV E) (ix2 n c) : EReal) = (Dense.aOut X W b (ix2 n c) : EReal) + mt (ix2 c n) := by
  have ha : IsR (Dense.aOut X W b (ix2 n c)) := aOut_real X W b hX hW n c hb
  have hs : ∀ e : Fin 320000, (srcV E (ix1 e)).toNat < 10000 := fun e => by rw [srcV_apply]; exact hE _
  have hd : ∀ e : Fin 320000, (dstV E (ix1 e)).toNat < 10000 := fun e => by rw [dstV_apply]; exact hE _
  have key : ∀ z : EReal, (er <| maxV (msgV X W b (srcV E) (dstV E)) (dstV E) (ix2 n c)) ≤ z ↔ ((Dense.aOut X W b (ix2 n c) : EReal) + mt (ix2 c n)) ≤ z := by
    intro z
    rw [maxV_le _ _ hd, add_le_iff ha]
    refine Iff.trans ?_ (reach_le (hmt (ix2 c n)) _).symm
    have hmsg : ∀ e : Fin 320000, (dstV E (ix1 e)).toNat = n.val → ((er <| msgV X W b (srcV E) (dstV E) (ix2 e c)) ≤ z
        ↔ (er <| Dense.btOut X W (xIdx c.val (srcOf E e.val))) ≤ z - Dense.aOut X W b (ix2 n c)) := fun e he => by
      rw [show er (msgV X W b (srcV E) (dstV E) (ix2 e c)) = _ from msgV_apply X W b (srcV E) (dstV E) hX hW e c hb ⟨_, hs e⟩ n rfl he, add_le_iff ha]
      have hx : (xIdx c.val (srcOf E e.val) : Cert.KernelIdeal.S128x10000.Idx) = ix2 c ⟨_, hs e⟩ := by
        refine Eq.trans ?_ (xIdx_ix2 c ⟨_, hs e⟩)
        show xIdx c.val (srcOf E e.val) = xIdx c.val (srcV E (ix1 e)).toNat
        rw [srcV_apply]
        rfl
      rw [hx]
    constructor
    · rintro h e ⟨he, hde⟩
      have hde' : (dstV E (ix1 ⟨e, he⟩)).toNat = n.val := by rw [dstV_apply]; exact hde
      exact (hmsg ⟨e, he⟩ hde').1 (h ⟨e, he⟩ hde')
    · intro h e he
      refine (hmsg e he).2 (h e.val ⟨e.isLt, ?_⟩)
      rw [dstV_apply] at he
      exact he
  exact le_antisymm ((key _).2 le_rfl) ((key _).1 le_rfl)

/-! ### What is normalized after the maxima -/

/-- A maximum, zero where it is infinite. -/
def finS (v : EReal) : EReal := if max v (-v) < ⊤ then v else 0
/-- The two parts' sum, zero where no edge ends. -/
def sumS (a m : EReal) : EReal := if ⊥ < m then a + m else 0

theorem finS_inf {v : EReal} (h : ¬ IsR v) : finS v = 0 := if_neg fun k => h (IsR.of_abs k)

theorem finS_sum {a m : EReal} (ha : IsR a) (hm : m = ⊥ ∨ IsR m) : finS (a + m) = sumS a m := by
  rcases hm with rfl | hm
  · rw [EReal.add_bot, finS_inf fun ⟨r, hr⟩ => EReal.bot_ne_coe r hr]
    exact (if_neg (lt_irrefl _)).symm
  · obtain ⟨r, hr⟩ := ha.add hm
    obtain ⟨q, rfl⟩ := hm
    unfold finS sumS
    rw [if_pos (EReal.bot_lt_coe q), hr, if_pos]
    rw [← EReal.coe_neg]
    exact max_lt (EReal.coe_lt_top r) (EReal.coe_lt_top (-r))

/-- Normalized, the reference's maxima and the kernel's are one, whatever the messages' bias. -/
theorem agg_eq (X : FVec Ideal S10000x128 .f32) (W : FVec Ideal S256x128 .f32) (b : FVec Ideal S128 .f32) (E : IVec S2x320000 32) (hX : RV X) (hW : RV W)
    (hE : ∀ j, (E j).toNat < 10000) (mt : FVec Ideal Cert.KernelIdeal.S128x10000 .f32) (hmt : ∀ j, Spec (Dense.btOut X W) E mt j)
    (g h : EReal) (n : Fin 10000) (c : Fin 128) :
    bnS (fun k => finS (maxV (msgV X W b (srcV E) (dstV E)) (dstV E) (ix2 k c))) g h n = bnS (fun k => sumS (Dense.aOut X W b (ix2 k c)) (mt (ix2 c k))) g h n := by
  have hm : ∀ k : Fin 10000, (er <| mt (ix2 c k)) = ⊥ ∨ IsR (mt (ix2 c k)) := fun k => reach_real (hmt (ix2 c k)) fun _ => btOut_real X W hX hW _
  by_cases hb : IsR (b (ix1 c))
  · refine congrArg (fun f => bnS f g h n) (funext fun k => ?_)
    rw [maxV_eq X W b E hX hW hE mt hmt k c hb]
    exact finS_sum (aOut_real X W b hX hW k c hb) (hm k)
  · have hs : ∀ e : Fin 320000, (srcV E (ix1 e)).toNat < 10000 := fun e => by rw [srcV_apply]; exact hE _
    have hd : ∀ e : Fin 320000, (dstV E (ix1 e)).toNat < 10000 := fun e => by rw [dstV_apply]; exact hE _
    have hmsg : ∀ e : Fin 320000, (er <| msgV X W b (srcV E) (dstV E) (ix2 e c)) = b (ix1 c) := fun e =>
      msgV_inf X W b (srcV E) (dstV E) hX hW e c hb ⟨_, hs e⟩ ⟨_, hd e⟩ rfl rfl
    have hmax : ∀ k : Fin 10000, ¬ IsR (maxV (msgV X W b (srcV E) (dstV E)) (dstV E) (ix2 k c)) := by
      rintro k ⟨r, hr⟩
      have h1 := maxV_le (msgV X W b (srcV E) (dstV E)) (dstV E) hd k c
      by_cases he : ∃ e : Fin 320000, (dstV E (ix1 e)).toNat = k.val
      · obtain ⟨e, he⟩ := he
        have h2 : (b (ix1 c) : EReal) ≤ er (maxV (msgV X W b (srcV E) (dstV E)) (dstV E) (ix2 k c)) := (le_of_eq (hmsg e).symm).trans ((h1 _).1 le_rfl e he)
        have h3 : er (maxV (msgV X W b (srcV E) (dstV E)) (dstV E) (ix2 k c)) ≤ (b (ix1 c) : EReal) := (h1 _).2 fun e _ => le_of_eq (hmsg e)
        exact hb ⟨r, (le_antisymm h2 h3).trans hr⟩
      · have h3 : er (maxV (msgV X W b (srcV E) (dstV E)) (dstV E) (ix2 k c)) ≤ ⊥ := (h1 _).2 fun e h => absurd ⟨e, h⟩ he
        exact EReal.bot_ne_coe r ((le_bot_iff.1 h3).symm.trans hr)
    rw [bnS_zero fun k => finS_inf (hmax k)]
    symm
    by_cases hk : ∃ k : Fin 10000, ⊥ < er (mt (ix2 c k))
    · refine bnS_inf ?_ g h n
      obtain ⟨k, hk⟩ := hk
      refine ⟨k, ?_⟩
      unfold sumS
      rw [if_pos hk, aOut_inf X W b hX hW k c hb]
      exact fun h => hb (isR_add h).1
    · refine bnS_zero (fun k => ?_) g h n
      exact if_neg fun h => hk ⟨k, h⟩

end Cert.Proof.Ref

end
-- ==== Proof.Ref.lean ====
/-
  The reference's result, over the extended reals, is the kernel's: the node embeddings are one, the normalized maxima are one,
  and the last layers are the same functions of them.
-/
module

public import proofs.«01_k».proof.Proof.Gen.ReferenceIdeal.Run
public import proofs.«01_k».proof.Proof.Msg

@[expose] public section

noncomputable section

namespace Cert.Proof.Ref

open Cert.ReferenceIdeal Cert.ReferenceIdeal.Gen Cert.ReferenceIdeal.Value
open Idealize.ShloMosaic Idealize.ShloMosaic.ValueIdx Idealize.SL.Sem
open Cert.Proof.Alg
open Cert.Proof.Seg (Spec)

/-- A recast to the same shape is nothing. -/
theorem cast_id {α : Type} {s : Shape} (v : s.Idx → α) (h : s.ShapeCasts s) : shapeCast s v h = v :=
  funext fun j => shapeCast_apply v h j j rfl

/-- The maxima as the kernel leaves them, zero where no edge ends. -/
def aggV (a : FVec Ideal S10000x128 .f32) (mt : FVec Ideal Cert.KernelIdeal.S128x10000 .f32) : FVec Ideal S10000x128 .f32 :=
  select (cmpf .ogt (transpose S10000x128 [1, 0] mt Cert.KernelIdeal.Gen.transposes_S128x10000_p1_0_S10000x128) (Dense.cst S10000x128 0xFF800000#32))
    (addf a (transpose S10000x128 [1, 0] mt Cert.KernelIdeal.Gen.transposes_S128x10000_p1_0_S10000x128)) (Dense.cst S10000x128 0x00000000#32)

theorem aggV_apply (a : FVec Ideal S10000x128 .f32) (mt : FVec Ideal Cert.KernelIdeal.S128x10000 .f32) (n : Fin 10000) (c : Fin 128) :
    (aggV a mt (ix2 n c) : EReal) = sumS (a (ix2 n c)) (mt (ix2 c n)) := by
  have h : transpose S10000x128 [1, 0] mt Cert.KernelIdeal.Gen.transposes_S128x10000_p1_0_S10000x128 (ix2 n c) = mt (ix2 c n) :=
    transpose_apply (s := Cert.KernelIdeal.S128x10000) (t := S10000x128) _ _ _ (ix2 n c) (ix2 c n) fun k => by
      match k with
      | ⟨0, _⟩ => rfl
      | ⟨1, _⟩ => rfl
  unfold aggV
  show Scalar.select (Ideal.cmp .ogt (transpose S10000x128 [1, 0] mt _ (ix2 n c)) (Ideal.ofBits .f32 0xFF800000#32))
    ((a (ix2 n c) : EReal) + transpose S10000x128 [1, 0] mt _ (ix2 n c)) (Ideal.ofBits .f32 0x00000000#32) = _
  rw [h, ofBits_ninf, Ideal.ofBits_zero_f32, cmp_ogt, sel_ite]
  rfl

/-- The kernel's last layers, without the recasts. -/
theorem tail_eq (emb a : FVec Ideal S10000x128 .f32) (mt : FVec Ideal Cert.KernelIdeal.S128x10000 .f32) (g1 b1 : FVec Ideal S128 .f32) (W1 : FVec Ideal S128x64 .f32)
    (c1 : FVec Ideal S64 .f32) (W2 : FVec Ideal S64x1 .f32) (c2 : FVec Ideal S1 .f32) :
    Dense.tailOut emb a mt g1 b1 W1 c1 W2 c2
      = addf (matmul Cert.KernelIdeal.dot_S10000x64_S64x1_S10000x1_1_0_0_1_n_n none
          (Dense.eluV (addf (matmul Cert.KernelIdeal.dot_S10000x128_S128x64_S10000x64_1_0_0_1_n_n none (addf emb (Dense.bnV (aggV a mt) g1 b1)) W1 (constant S10000x64 .f32 0x00000000#32)) (Dense.row64 c1)))
          W2 (constant S10000x1 .f32 0x00000000#32))
        (broadcastTo S10000x1 (shapeCast S1x1 c2 Cert.KernelIdeal.Gen.shapeCasts_S1_S1x1) Cert.KernelIdeal.Gen.broadcasts_S1x1_S10000x1) := by
  unfold Dense.tailOut
  simp only [cast_id]
  rfl

/-- A maximum, zero where it is infinite, as the reference selects it. -/
theorem fin_apply (v : FVec Ideal S10000x128 .f32) (n : Fin 10000) (c : Fin 128) :
    er ((select (cmpf .olt (Host.absf v) (broadcastInDim S10000x128 ![] bcast_S_S10000x128 (constant S_ .f32 0x7F800000#32))) v
      (broadcastInDim S10000x128 ![] bcast_S_S10000x128 (id (constant S_ .f32 0x00000000#32))) : FVec Ideal S10000x128 .f32) (ix2 n c)) = finS (v (ix2 n c)) := by
  show Scalar.select (Ideal.cmp .olt (max (er (v (ix2 n c))) (-(er (v (ix2 n c))))) (Ideal.ofBits .f32 0x7F800000#32)) (er (v (ix2 n c))) (Ideal.ofBits .f32 0x00000000#32) = _
  rw [ofBits_inf, Ideal.ofBits_zero_f32, cmp_olt, sel_ite]
  rfl

section Run
variable (V : Valuation τ sig (Elt Ideal))

/-- The reference's result, of the arguments. -/
def refOut : FVec Ideal S10000x1 .f32 :=
  addf (Host.dotGeneral (φ₂ := .f32) dot_S10000x64_S64x1_S10000x1_1_0_0_1_n_n none (select (cmpf .ogt (res_main_v176 V) (broadcastInDim S10000x64 ![] bcast_S_S10000x64 (constant S_ .f32 0x00000000#32))) (res_main_v176 V)
      (Host.expm1 (select (cmpf .ogt (res_main_v176 V) (broadcastInDim S10000x64 ![] bcast_S_S10000x64 (constant S_ .f32 0x00000000#32)))
        (broadcastInDim S10000x64 ![] bcast_S_S10000x64 (id (constant S_ .f32 0x00000000#32))) (res_main_v176 V)))) (V (Proc.devRef .tc main_arg20) : FVec Ideal S64x1 .f32))
    (broadcastInDim S10000x1 ![0, 1] bcast_S1x1_S10000x1_0_1 (broadcastInDim S1x1 ![1] bcast_S1_S1x1_1 (V (Proc.devRef .tc main_arg21))))

theorem v142_eq : res_main_v142 V = maxV (msgV (res_main_v108 V) (V (Proc.devRef .tc main_arg14)) (V (Proc.devRef .tc main_arg15)) (srcV (V (Proc.devRef .tc main_arg2))) (dstV (V (Proc.devRef .tc main_arg2))))
    (dstV (V (Proc.devRef .tc main_arg2))) := rfl

theorem v146_apply (n : Fin 10000) (c : Fin 128) : (res_main_v146 V (ix2 n c) : EReal) = finS (res_main_v142 V (ix2 n c)) := by
  unfold res_main_v146
  exact fin_apply _ n c

/-- What the kernel's run leaves is the reference's result. -/
theorem refOut_eq (hcat : ∀ j, ((V (Proc.devRef .tc main_arg1) : IVec S10000x2 32) j).toNat < 2) (hE : ∀ j, ((V (Proc.devRef .tc main_arg2) : IVec S2x320000 32) j).toNat < 10000)
    (hg : RV (V (Proc.devRef .tc main_arg12) : FVec Ideal S128 .f32)) (hb : RV (V (Proc.devRef .tc main_arg13) : FVec Ideal S128 .f32)) (hW : RV (V (Proc.devRef .tc main_arg14) : FVec Ideal S256x128 .f32))
    (X : FVec Ideal S10000x128 .f32)
    (hX : X = Dense.embOut (F := Ideal) (V (Proc.devRef .tc main_arg0)) (V (Proc.devRef .tc main_arg1)) (V (Proc.devRef .tc main_arg4)) (V (Proc.devRef .tc main_arg5))
      (V (Proc.devRef .tc main_arg6)) (V (Proc.devRef .tc main_arg7)) (V (Proc.devRef .tc main_arg8)) (V (Proc.devRef .tc main_arg9)) (V (Proc.devRef .tc main_arg10))
      (V (Proc.devRef .tc main_arg11)) (V (Proc.devRef .tc main_arg12)) (V (Proc.devRef .tc main_arg13)))
    (mt : FVec Ideal Cert.KernelIdeal.S128x10000 .f32) (hmt : ∀ j, Spec (Dense.btOut X (V (Proc.devRef .tc main_arg14))) (V (Proc.devRef .tc main_arg2)) mt j) :
    Dense.tailOut X (Dense.aOut X (V (Proc.devRef .tc main_arg14)) (V (Proc.devRef .tc main_arg15))) mt (V (Proc.devRef .tc main_arg16)) (V (Proc.devRef .tc main_arg17))
      (V (Proc.devRef .tc main_arg18)) (V (Proc.devRef .tc main_arg19)) (V (Proc.devRef .tc main_arg20)) (V (Proc.devRef .tc main_arg21)) = refOut V := by
  have hemb : res_main_v108 V = X := (emb_eq V hcat).trans hX.symm
  have hRX : RV X := by rw [hX]; exact emb_real _ _ _ _ _ _ _ _ _ _ _ _ hg hb
  have h149 : res_main_v149 V = Dense.meanV (res_main_v146 V) := mean_eq _
  have h152 : res_main_v152 V = Dense.cenV (res_main_v146 V) := by
    unfold res_main_v152
    rw [row128_eq, h149]
    rfl
  have hbn : Dense.bnV (res_main_v146 V) (V (Proc.devRef .tc main_arg16)) (V (Proc.devRef .tc main_arg17))
      = Dense.bnV (aggV (Dense.aOut X (V (Proc.devRef .tc main_arg14)) (V (Proc.devRef .tc main_arg15))) mt) (V (Proc.devRef .tc main_arg16)) (V (Proc.devRef .tc main_arg17)) := by
    refine ext2 (M := 10000) (N := 128) fun n c => ?_
    refine (bnV_apply _ _ _ n c).trans (Eq.trans ?_ (bnV_apply _ _ _ n c).symm)
    refine Eq.trans (congrArg (fun f => bnS f _ _ n) (funext fun k => (v146_apply V k c).trans (congrArg finS (congrFun ((v142_eq V).trans (by rw [hemb])) (ix2 k c))))) ?_
    refine (agg_eq X (V (Proc.devRef .tc main_arg14)) (V (Proc.devRef .tc main_arg15)) (V (Proc.devRef .tc main_arg2)) hRX hW hE mt hmt _ _ n c).trans ?_
    exact congrArg (fun f => bnS f _ _ n) (funext fun k => (aggV_apply _ mt k c).symm)
  have h176 : res_main_v176 V = addf (matmul (φ₂ := .f32) Cert.KernelIdeal.dot_S10000x128_S128x64_S10000x64_1_0_0_1_n_n none
      (addf X (Dense.bnV (aggV (Dense.aOut X (V (Proc.devRef .tc main_arg14)) (V (Proc.devRef .tc main_arg15))) mt) (V (Proc.devRef .tc main_arg16)) (V (Proc.devRef .tc main_arg17))))
      (V (Proc.devRef .tc main_arg18)) (constant S10000x64 .f32 0x00000000#32)) (Dense.row64 (V (Proc.devRef .tc main_arg19))) := by
    unfold res_main_v176
    rw [bn_eq (res_main_v146 V) _ _ _ h149 _ h152, hbn, row64_eq, hemb]
    exact congrArg (fun x => addf x _) (dg_eq (M := 10000) (K := 128) (N := 64) _ _ rfl _ _)
  rw [tail_eq]
  unfold refOut
  rw [elu_eq, h176]
  refine congrArg₂ addf (dg_eq (M := 10000) (K := 64) (N := 1) _ _ rfl _ _).symm ?_
  exact ext2 (M := 10000) (N := 1) fun n c => (to_row (M := 10000) (N := 1) _ _ _ n c).trans (bid_row (M := 10000) (N := 1) _ _ _ n c).symm

end Run

end Cert.Proof.Ref

end
-- ==== Proof.Pre.lean ====
/-
  The precondition of the value claim, evaluated: the edges are nodes, the categories zero or one, and the embeddings' scale and shift
  and the messages' weights real numbers.
-/
module

public import proofs.«01_k».proof.Defs
public import proofs.«01_k».proof.Proof.Gen.Pre_in_range_finite
public import proofs.«01_k».proof.Proof.Msg
public import Idealize.ShloMosaic.Lib.ReduceAll

@[expose] public section

noncomputable section

namespace Cert.Proof.Pre

open Cert.KernelIdeal Cert.KernelIdeal.Gen
open Idealize.ShloMosaic
open Cert.Proof.Alg Cert.Proof.Ref

theorem andi_one : ∀ {p q : BitVec 1}, IntOp.andi p q = 1#1 → p = 1#1 ∧ q = 1#1 := by decide

/-- A word that is not negative and below `n`, both signed, is below `n`. -/
theorem lt_of_word (n : BitVec 32) (hn : n.toNat < 2 ^ 31) (v : BitVec 32)
    (e : IntOp.andi (IntOp.cmpi .sge v 0#32) (IntOp.cmpi .slt v n) = 1#1) : v.toNat < n.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- An entry whose magnitude is below the greatest extended real is real. -/
theorem real_of_word {x : EReal} (e : Ideal.cmp .olt (max x (-x)) (Ideal.ofBits .f32 0x7F800000#32) = 1#1) : IsR x := by
  rw [cmp_olt, ofBits_inf] at e
  refine IsR.of_abs ?_
  by_contra k
  rw [if_neg k] at e
  exact absurd e (by decide)

theorem of_finite {x0 : FVec Ideal S10000x8 .f32} {x1 : IVec S10000x2 32} {x2 : IVec S2x320000 32} {x3 : IVec S10000 32} {x4 : FVec Ideal S3x32 .f32} {x5 : FVec Ideal S7x32 .f32} {x6 : FVec Ideal S8x64 .f32} {x7 : FVec Ideal S64 .f32} {x8 : FVec Ideal S64x64 .f32} {x9 : FVec Ideal S64 .f32} {x10 : FVec Ideal S128x128 .f32} {x11 : FVec Ideal S128 .f32} {x12 : FVec Ideal S128 .f32} {x13 : FVec Ideal S128 .f32} {x14 : FVec Ideal S256x128 .f32} {x15 : FVec Ideal S128 .f32} {x16 : FVec Ideal S128 .f32} {x17 : FVec Ideal S128 .f32} {x18 : FVec Ideal S128x64 .f32} {x19 : FVec Ideal S64 .f32} {x20 : FVec Ideal S64x1 .f32} {x21 : FVec Ideal S1 .f32}
    (h : Cert.Pre_in_range_finite.fn (F := Ideal) x0 x1 x2 x3 x4 x5 x6 x7 x8 x9 x10 x11 x12 x13 x14 x15 x16 x17 x18 x19 x20 x21 = fun _ => 1#1) :
    (∀ j, (x2 j).toNat < 10000) ∧ (∀ j, (x1 j).toNat < 2) ∧ RV x12 ∧ RV x13 ∧ RV x14 := by
  haveI : Subsingleton Cert.Pre_in_range_finite.S_.Idx := ⟨fun a b => funext fun k => k.elim0⟩
  have e := congrFun h (fun k => k.elim0)
  unfold Cert.Pre_in_range_finite.fn Cert.Pre_in_range_finite.fn_part1 at e
  have e4 := andi_one e
  have e3 := andi_one e4.1
  have e2 := andi_one e3.1
  have e1 := andi_one e2.1
  exact ⟨fun j => lt_of_word 10000#32 (by decide) _ (Host.reduce_andi_all _ _ _ _ _ e1.1 j),
    fun j => lt_of_word 2#32 (by decide) _ (Host.reduce_andi_all _ _ _ _ _ e1.2 j),
    fun j => real_of_word (Host.reduce_andi_all _ _ _ _ _ e2.2 j),
    fun j => real_of_word (Host.reduce_andi_all _ _ _ _ _ e3.2 j),
    fun j => real_of_word (Host.reduce_andi_all _ _ _ _ _ e4.2 j)⟩

end Cert.Proof.Pre

end
-- ==== Proof.lean ====
/-
  The certificate's proof: the kernel, its two TensorCore calls and its SparseCore segment maximum, runs and leaves its arguments as
  they were, whatever the floats, and over the extended reals its result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range_finite
public import proofs.«01_k».proof.Proof.Gen.ReferenceIdeal.Run
public import proofs.«01_k».proof.Proof.Gen.Pre_in_range
public import proofs.«01_k».proof.Proof.Launch
public import proofs.«01_k».proof.Proof.Ref
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The arguments are none of the five arrays the program writes. -/
theorem args {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (hr : Seg.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21) := by
  have h := hr.1 c
  exact ⟨h.1 Cert.KernelIdeal.main_arg0 (by decide) (by decide) (by decide) (by decide) (by decide) (by decide),
    h.1 Cert.KernelIdeal.main_arg1 (by decide) (by decide) (by decide) (by decide) (by decide) (by decide),
    h.1 Cert.KernelIdeal.main_arg2 (by decide) (by decide) (by decide) (by decide) (by decide) (by decide),
    h.1 Cert.KernelIdeal.main_arg3 (by decide) (by decide) (by decide) (by decide) (by decide) (by decide),
    h.1 Cert.KernelIdeal.main_arg4 (by decide) (by decide) (by decide) (by decide) (by decide) (by decide),
    h.1 Cert.KernelIdeal.main_arg5 (by decide) (by decide) (by decide) (by decide) (by decide) (by decide),
    h.1 Cert.KernelIdeal.main_arg6 (by decide) (by decide) (by decide) (by decide) (by decide) (by decide),
    h.1 Cert.KernelIdeal.main_arg7 (by decide) (by decide) (by decide) (by decide) (by decide) (by decide),
    h.1 Cert.KernelIdeal.main_arg8 (by decide) (by decide) (by decide) (by decide) (by decide) (by decide),
    h.1 Cert.KernelIdeal.main_arg9 (by decide) (by decide) (by decide) (by decide) (by decide) (by decide),
    h.1 Cert.KernelIdeal.main_arg10 (by decide) (by decide) (by decide) (by decide) (by decide) (by decide),
    h.1 Cert.KernelIdeal.main_arg11 (by decide) (by decide) (by decide) (by decide) (by decide) (by decide),
    h.1 Cert.KernelIdeal.main_arg12 (by decide) (by decide) (by decide) (by decide) (by decide) (by decide),
    h.1 Cert.KernelIdeal.main_arg13 (by decide) (by decide) (by decide) (by decide) (by decide) (by decide),
    h.1 Cert.KernelIdeal.main_arg14 (by decide) (by decide) (by decide) (by decide) (by decide) (by decide),
    h.1 Cert.KernelIdeal.main_arg15 (by decide) (by decide) (by decide) (by decide) (by decide) (by decide),
    h.1 Cert.KernelIdeal.main_arg16 (by decide) (by decide) (by decide) (by decide) (by decide) (by decide),
    h.1 Cert.KernelIdeal.main_arg17 (by decide) (by decide) (by decide) (by decide) (by decide) (by decide),
    h.1 Cert.KernelIdeal.main_arg18 (by decide) (by decide) (by decide) (by decide) (by decide) (by decide),
    h.1 Cert.KernelIdeal.main_arg19 (by decide) (by decide) (by decide) (by decide) (by decide) (by decide),
    h.1 Cert.KernelIdeal.main_arg20 (by decide) (by decide) (by decide) (by decide) (by decide) (by decide),
    h.1 Cert.KernelIdeal.main_arg21 (by decide) (by decide) (by decide) (by decide) (by decide) (by decide)⟩

set_option maxHeartbeats 4000000 in
set_option smartUnfolding false in
/-- The run at the hardware's floats. -/
theorem frame_kernel : Cert.quiescent_Kernel := by
  intro m ρ hpre
  have h := (θ_run Cert.KernelIdeal.defs _ _).mono (fun _ h => And.intro (args h) h.2) (Seg.run_main (F := Bits) m ρ fun d j => Seg.lt_of_pre (hpre d) j)
  exact h

/-- The same run over the extended reals. -/
theorem frame_kernelIdeal : Cert.quiescent_KernelIdeal := fun m ρ hpre =>
  (θ_run Cert.KernelIdeal.defs _ _).mono (fun _ h => ⟨args h, h.2⟩) (Seg.run_main (F := Ideal) m ρ fun d j => Seg.lt_of_pre (hpre d) j)

theorem frame_kernelIdeal_finite : Cert.quiescent_KernelIdeal_pre_in_range_finite := fun m ρ hpre =>
  (θ_run Cert.KernelIdeal.defs _ _).mono (fun _ h => ⟨args h, h.2⟩) (Seg.run_main (F := Ideal) m ρ fun d j => (Pre.of_finite (hpre d)).1 j)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run m ρ)

/-- The two results are one. -/
theorem algebraic : Cert.algebraic_KernelIdeal_ReferenceIdeal_pre_in_range_finite := by
  intro m ρ m' ρ' hpre hagree
  have hP := fun c => Pre.of_finite (hpre c)
  refine ⟨fun c => Ref.refOut (StableHlo.launchContents m' c), ?_, ?_⟩
  · refine (θ_run Cert.KernelIdeal.defs _ _).mono (fun r h c => ⟨?_, args h c⟩) (Seg.run_main (F := Ideal) m ρ fun d j => (hP d).1 j)
    obtain ⟨mt, hmt, hout⟩ := (h.1 c).2
    refine hout.trans ?_
    obtain ⟨a0, a1, a2, a3, a4, a5, a6, a7, a8, a9, a10, a11, a12, a13, a14, a15, a16, a17, a18, a19, a20, a21⟩ := hagree c
    obtain ⟨hE, hcat, hg, hb, hW⟩ := hP c
    have hX : Seg.encO14 (Seg.C0 m) c = Dense.embOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
      rw [a0, a1, a4, a5, a6, a7, a8, a9, a10, a11, a12, a13]
    have hm : ∀ j, Seg.Spec (Dense.btOut (Seg.encO14 (Seg.C0 m) c) (m' ((c.tc : Thread Cert.ReferenceIdeal.nD Cert.ReferenceIdeal.τ).loc Cert.ReferenceIdeal.main_arg14)))
        (m' ((c.tc : Thread Cert.ReferenceIdeal.nD Cert.ReferenceIdeal.τ).loc Cert.ReferenceIdeal.main_arg2)) mt j := by
      rw [a14, a2]
      exact hmt
    refine Eq.trans ?_ (Ref.refOut_eq (StableHlo.launchContents m' c) (fun j => ?_) (fun j => ?_) (fun j => ?_) (fun j => ?_) (fun j => ?_)
      (Seg.encO14 (Seg.C0 m) c) hX mt hm)
    · show _ = Dense.tailOut (F := Ideal) (Seg.encO14 (Seg.C0 m) c) (Dense.aOut (Seg.encO14 (Seg.C0 m) c) (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))) mt
        (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))
      rw [a14, a15, a16, a17, a18, a19, a20, a21]
      rfl
    · exact (congrArg (fun x : IVec Cert.KernelIdeal.S10000x2 32 => (x j).toNat < 2) a1).mpr (hcat j)
    · exact (congrArg (fun x : IVec Cert.KernelIdeal.S2x320000 32 => (x j).toNat < 10000) a2).mpr (hE j)
    · exact (congrArg (fun x : FVec Ideal Cert.KernelIdeal.S128 .f32 => Alg.IsR (x j)) a12).mpr (hg j)
    · exact (congrArg (fun x : FVec Ideal Cert.KernelIdeal.S128 .f32 => Alg.IsR (x j)) a13).mpr (hb j)
    · exact (congrArg (fun x : FVec Ideal Cert.KernelIdeal.S256x128 .f32 => Alg.IsR (x j)) a14).mpr (hW j)
  · exact (θ_run Cert.ReferenceIdeal.defs _ _).mono (fun r h c => h c) (Cert.ReferenceIdeal.Value.run m' ρ')

theorem claim : Cert.Claim :=
  ⟨Cert.Kernel.Gen.facts, Cert.KernelIdeal.Gen.facts, Cert.ReferenceIdeal.Gen.facts, Cert.Pre_in_range.Gen.facts,
    Cert.Pre_in_range_finite.Gen.facts, frame_kernel, frame_kernelIdeal, frame_kernelIdeal_finite, frame_reference,
    frame_reference_finite, trivial, algebraic⟩

end Cert.Proof

end
